-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite_mlstm [hPre_finite_mlstm : Cert.Pre_finite_mlstm.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite_mlstm.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2))) = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_finite_mlstm [hPre_finite_mlstm : Cert.Pre_finite_mlstm.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_finite_mlstm.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).2.1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_post [hPre_finite_post : Cert.Pre_finite_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11))).1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11))).2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11))).2.2 = (fun _ => 1#1)

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnIdeal_finite_ln [hPre_finite_ln : Cert.Pre_finite_ln.Facts] (m : (ℓ : Loc Cert.LnIdeal.nD Cert.LnIdeal.τ Cert.LnIdeal.sig) → Buf (Elt Ideal) ℓ) : Prop :=
  ∀ c : Dev Cert.LnIdeal.nD,
    (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).2.1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).2.2 = (fun _ => 1#1)

def Pre_LnRefIdeal (m : (ℓ : Loc Cert.LnRefIdeal.nD Cert.LnRefIdeal.τ Cert.LnRefIdeal.sig) → Buf (Elt Ideal) ℓ) : Prop :=
  True

def Pre_LnRefIdeal_finite_ln [hPre_finite_ln : Cert.Pre_finite_ln.Facts] (m : (ℓ : Loc Cert.LnRefIdeal.nD Cert.LnRefIdeal.τ Cert.LnRefIdeal.sig) → Buf (Elt Ideal) ℓ) : Prop :=
  ∀ c : Dev Cert.LnRefIdeal.nD,
    (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_positive_hgrn [hPre_positive_hgrn : Cert.Pre_positive_hgrn.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_positive_hgrn.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1))).1 = (fun _ => 1#1)
    ∧ (Cert.Pre_positive_hgrn.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1))).2 = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_positive_hgrn [hPre_positive_hgrn : Cert.Pre_positive_hgrn.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_positive_hgrn.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1))).1 = (fun _ => 1#1)
    ∧ (Cert.Pre_positive_hgrn.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1))).2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2))
      ∧ r.2.sem = fun _ => 0)

def quiescent_MlstmIdeal_pre_finite_mlstm [hMlstmIdeal : Cert.MlstmIdeal.Facts] [hPre_finite_mlstm : Cert.Pre_finite_mlstm.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite_mlstm m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2))
      ∧ r.2.sem = fun _ => 0)

def quiescent_MlstmRefIdeal_pre_finite_mlstm [hMlstmRefIdeal : Cert.MlstmRefIdeal.Facts] [hPre_finite_mlstm : Cert.Pre_finite_mlstm.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_finite_mlstm m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11))
      ∧ r.2.sem = fun _ => 0)

def quiescent_PostRefIdeal_pre_finite_post [hPostRefIdeal : Cert.PostRefIdeal.Facts] [hPre_finite_post : Cert.Pre_finite_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_post m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ r.2.sem = fun _ => 0)

def quiescent_LnIdeal_pre_finite_ln [hLnIdeal : Cert.LnIdeal.Facts] [hPre_finite_ln : Cert.Pre_finite_ln.Facts] : Prop :=
  ∀ (m : (ℓ : Loc Cert.LnIdeal.nD Cert.LnIdeal.τ Cert.LnIdeal.sig) → Buf (Elt Ideal) ℓ) (g : Dev Cert.LnIdeal.nD → PrngReg), Pre_LnIdeal_finite_ln m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4))
      ∧ r.2.sem = fun _ => 0)

def quiescent_LnRefIdeal_pre_finite_ln [hLnRefIdeal : Cert.LnRefIdeal.Facts] [hPre_finite_ln : Cert.Pre_finite_ln.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal_finite_ln m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1))
      ∧ r.2.sem = fun _ => 0)

def quiescent_HgrnIdeal_pre_positive_hgrn [hHgrnIdeal : Cert.HgrnIdeal.Facts] [hPre_positive_hgrn : Cert.Pre_positive_hgrn.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_positive_hgrn m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1))
      ∧ r.2.sem = fun _ => 0)

def quiescent_HgrnRefIdeal_pre_positive_hgrn [hHgrnRefIdeal : Cert.HgrnRefIdeal.Facts] [hPre_positive_hgrn : Cert.Pre_positive_hgrn.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_positive_hgrn m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v14) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v8) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v9) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Mlstm_MlstmIdeal : Prop :=
  True

def algebraic_MlstmIdeal_MlstmRefIdeal_pre_finite_mlstm [hMlstmIdeal : Cert.MlstmIdeal.Facts] [hMlstmRefIdeal : Cert.MlstmRefIdeal.Facts] [hPre_finite_mlstm : Cert.Pre_finite_mlstm.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_finite_mlstm m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)) →
    ∃ (v0 : (c : Dev Cert.MlstmIdeal.nD) → Buf (Elt Ideal) ((c.tc : Thread Cert.MlstmIdeal.nD Cert.MlstmIdeal.τ).loc Cert.MlstmIdeal.main_v21)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v21) = v0 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v60) = v0 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2))

def preserves_Post_PostIdeal : Prop :=
  True

def algebraic_PostIdeal_PostRefIdeal_pre_finite_post [hPostIdeal : Cert.PostIdeal.Facts] [hPostRefIdeal : Cert.PostRefIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_post m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v20_0)) (v1 : (c : Dev Cert.PostIdeal.nD) → Buf (Elt Ideal) ((c.tc : Thread Cert.PostIdeal.nD Cert.PostIdeal.τ).loc Cert.PostIdeal.main_v20_1)) (v2 : (c : Dev Cert.PostIdeal.nD) → Buf (Elt Ideal) ((c.tc : Thread Cert.PostIdeal.nD Cert.PostIdeal.τ).loc Cert.PostIdeal.main_v20_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v20_0) = v0 c
          ∧ r.2.mem ((c.tc : Thread Cert.PostIdeal.nD Cert.PostIdeal.τ).loc Cert.PostIdeal.main_v20_1) = v1 c
          ∧ r.2.mem ((c.tc : Thread Cert.PostIdeal.nD Cert.PostIdeal.τ).loc Cert.PostIdeal.main_v20_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v106) = v0 c
          ∧ r.2.mem ((c.tc : Thread Cert.PostRefIdeal.nD Cert.PostRefIdeal.τ).loc Cert.PostRefIdeal.main_v120) = v1 c
          ∧ r.2.mem ((c.tc : Thread Cert.PostRefIdeal.nD Cert.PostRefIdeal.τ).loc Cert.PostRefIdeal.main_v121) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11))

def preserves_Ln_LnIdeal : Prop :=
  True

def algebraic_LnIdeal_LnRefIdeal_pre_finite_ln [hLnIdeal : Cert.LnIdeal.Facts] [hLnRefIdeal : Cert.LnRefIdeal.Facts] [hPre_finite_ln : Cert.Pre_finite_ln.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal_finite_ln m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)) →
    ∃ (v0 : (c : Dev Cert.LnIdeal.nD) → Buf (Elt Ideal) ((c.tc : Thread Cert.LnIdeal.nD Cert.LnIdeal.τ).loc Cert.LnIdeal.main_v15_0)) (v1 : (c : Dev Cert.LnIdeal.nD) → Buf (Elt Ideal) ((c.tc : Thread Cert.LnIdeal.nD Cert.LnIdeal.τ).loc Cert.LnIdeal.main_v15_1)) (v2 : (c : Dev Cert.LnIdeal.nD) → Buf (Elt Ideal) ((c.tc : Thread Cert.LnIdeal.nD Cert.LnIdeal.τ).loc Cert.LnIdeal.main_v15_2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v15_0) = v0 c
          ∧ r.2.mem ((c.tc : Thread Cert.LnIdeal.nD Cert.LnIdeal.τ).loc Cert.LnIdeal.main_v15_1) = v1 c
          ∧ r.2.mem ((c.tc : Thread Cert.LnIdeal.nD Cert.LnIdeal.τ).loc Cert.LnIdeal.main_v15_2) = v2 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v32) = v0 c
          ∧ r.2.mem ((c.tc : Thread Cert.LnRefIdeal.nD Cert.LnRefIdeal.τ).loc Cert.LnRefIdeal.main_v34) = v1 c
          ∧ r.2.mem ((c.tc : Thread Cert.LnRefIdeal.nD Cert.LnRefIdeal.τ).loc Cert.LnRefIdeal.main_v35) = v2 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v46) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Hgrn_HgrnIdeal : Prop :=
  True

def algebraic_HgrnIdeal_HgrnRefIdeal_pre_positive_hgrn [hHgrnIdeal : Cert.HgrnIdeal.Facts] [hHgrnRefIdeal : Cert.HgrnRefIdeal.Facts] [hPre_positive_hgrn : Cert.Pre_positive_hgrn.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_positive_hgrn m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)) →
    ∃ (v0 : (c : Dev Cert.HgrnIdeal.nD) → Buf (Elt Ideal) ((c.tc : Thread Cert.HgrnIdeal.nD Cert.HgrnIdeal.τ).loc Cert.HgrnIdeal.main_v65)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v65) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v55) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1))

def Claim : Prop :=
  ∃ (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMlstm : Cert.Mlstm.Facts) (hMlstmIdeal : Cert.MlstmIdeal.Facts) (hMlstmRefIdeal : Cert.MlstmRefIdeal.Facts) (hPost : Cert.Post.Facts) (hPostIdeal : Cert.PostIdeal.Facts) (hPostRefIdeal : Cert.PostRefIdeal.Facts) (hLn : Cert.Ln.Facts) (hLnIdeal : Cert.LnIdeal.Facts) (hLnRefIdeal : Cert.LnRefIdeal.Facts) (hConv : Cert.Conv.Facts) (hConvIdeal : Cert.ConvIdeal.Facts) (hConvRefIdeal : Cert.ConvRefIdeal.Facts) (hHgrn : Cert.Hgrn.Facts) (hHgrnIdeal : Cert.HgrnIdeal.Facts) (hHgrnRefIdeal : Cert.HgrnRefIdeal.Facts) (hPre_finite_mlstm : Cert.Pre_finite_mlstm.Facts) (hPre_finite_post : Cert.Pre_finite_post.Facts) (hPre_finite_ln : Cert.Pre_finite_ln.Facts) (hPre_positive_hgrn : Cert.Pre_positive_hgrn.Facts),
    quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Mlstm (hMlstm := hMlstm)
    ∧ quiescent_MlstmIdeal (hMlstmIdeal := hMlstmIdeal)
    ∧ quiescent_MlstmIdeal_pre_finite_mlstm (hMlstmIdeal := hMlstmIdeal) (hPre_finite_mlstm := hPre_finite_mlstm)
    ∧ quiescent_MlstmRefIdeal (hMlstmRefIdeal := hMlstmRefIdeal)
    ∧ quiescent_MlstmRefIdeal_pre_finite_mlstm (hMlstmRefIdeal := hMlstmRefIdeal) (hPre_finite_mlstm := hPre_finite_mlstm)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_PostRefIdeal (hPostRefIdeal := hPostRefIdeal)
    ∧ quiescent_PostRefIdeal_pre_finite_post (hPostRefIdeal := hPostRefIdeal) (hPre_finite_post := hPre_finite_post)
    ∧ quiescent_Ln (hLn := hLn)
    ∧ quiescent_LnIdeal (hLnIdeal := hLnIdeal)
    ∧ quiescent_LnIdeal_pre_finite_ln (hLnIdeal := hLnIdeal) (hPre_finite_ln := hPre_finite_ln)
    ∧ quiescent_LnRefIdeal (hLnRefIdeal := hLnRefIdeal)
    ∧ quiescent_LnRefIdeal_pre_finite_ln (hLnRefIdeal := hLnRefIdeal) (hPre_finite_ln := hPre_finite_ln)
    ∧ quiescent_Conv (hConv := hConv)
    ∧ quiescent_ConvIdeal (hConvIdeal := hConvIdeal)
    ∧ quiescent_ConvRefIdeal (hConvRefIdeal := hConvRefIdeal)
    ∧ quiescent_Hgrn (hHgrn := hHgrn)
    ∧ quiescent_HgrnIdeal (hHgrnIdeal := hHgrnIdeal)
    ∧ quiescent_HgrnIdeal_pre_positive_hgrn (hHgrnIdeal := hHgrnIdeal) (hPre_positive_hgrn := hPre_positive_hgrn)
    ∧ quiescent_HgrnRefIdeal (hHgrnRefIdeal := hHgrnRefIdeal)
    ∧ quiescent_HgrnRefIdeal_pre_positive_hgrn (hHgrnRefIdeal := hHgrnRefIdeal) (hPre_positive_hgrn := hPre_positive_hgrn)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Mlstm_MlstmIdeal
    ∧ algebraic_MlstmIdeal_MlstmRefIdeal_pre_finite_mlstm (hMlstmIdeal := hMlstmIdeal) (hMlstmRefIdeal := hMlstmRefIdeal) (hPre_finite_mlstm := hPre_finite_mlstm)
    ∧ preserves_Post_PostIdeal
    ∧ algebraic_PostIdeal_PostRefIdeal_pre_finite_post (hPostIdeal := hPostIdeal) (hPostRefIdeal := hPostRefIdeal) (hPre_finite_post := hPre_finite_post)
    ∧ preserves_Ln_LnIdeal
    ∧ algebraic_LnIdeal_LnRefIdeal_pre_finite_ln (hLnIdeal := hLnIdeal) (hLnRefIdeal := hLnRefIdeal) (hPre_finite_ln := hPre_finite_ln)
    ∧ preserves_Conv_ConvIdeal
    ∧ algebraic_ConvIdeal_ConvRefIdeal (hConvIdeal := hConvIdeal) (hConvRefIdeal := hConvRefIdeal)
    ∧ preserves_Hgrn_HgrnIdeal
    ∧ algebraic_HgrnIdeal_HgrnRefIdeal_pre_positive_hgrn (hHgrnIdeal := hHgrnIdeal) (hHgrnRefIdeal := hHgrnRefIdeal) (hPre_positive_hgrn := hPre_positive_hgrn)
-- ==== Pre_finite_ln.lean ====
abbrev S2x8192x2048 : Shape := ⟨3, ![2, 8192, 2048]⟩
abbrev S2048 : Shape := ⟨1, ![2048]⟩
abbrev S1x2048x12304 : Shape := ⟨3, ![1, 2048, 12304]⟩
abbrev S1x12304 : Shape := ⟨2, ![1, 12304]⟩
abbrev S1x2048x16 : Shape := ⟨3, ![1, 2048, 16]⟩
abbrev S_ : Shape := ⟨0, ![]⟩

class Facts : Prop where
  slices_S1x2048x12304_S1x2048x16_0_0_3072 : S1x2048x12304.Slices ![0, 0, 3072] S1x2048x16
  bcast_S_S2048 : S_.BroadcastsInDim S2048 (![] : Fin 0 → Fin S2048.rank)
  bcast_S_S1x2048x16 : S_.BroadcastsInDim S1x2048x16 (![] : Fin 0 → Fin S1x2048x16.rank)

variable [Facts]

def fn {F : FTy → Type} [FloatOps F] (main_arg0 : FVec F S2x8192x2048 .f32) (main_arg1 : FVec F S2048 .f32) (main_arg2 : FVec F S2048 .f32) (main_arg3 : FVec F S1x2048x12304 .f32) (main_arg4 : FVec F S1x12304 .f32) : IVec S2048 1 × IVec S2048 1 × IVec S1x2048x16 1 :=
  let main_v0 : FVec F S1x2048x16 .f32 := (extractStridedSlice S1x2048x16 ![0, 0, 3072] · slices_S1x2048x12304_S1x2048x16_0_0_3072) main_arg3
  let main_v1 : FVec F S2048 .f32 := Host.absf main_arg1
  let main_cst : FVec F S_ .f32 := constant S_ .f32 0x7F800000#32
  let main_v2 : FVec F S2048 .f32 := broadcastInDim S2048 ![] bcast_S_S2048 main_cst
  let main_v3 : IVec S2048 1 := cmpf .olt main_v1 main_v2
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_v7 : FVec F S1x2048x16 .f32 := Host.absf main_v0
  let main_cst_1 : FVec F S_ .f32 := constant S_ .f32 0x7F800000#32
  let main_v8 : FVec F S1x2048x16 .f32 := broadcastInDim S1x2048x16 ![] bcast_S_S1x2048x16 main_cst_1
  let main_v9 : IVec S1x2048x16 1 := cmpf .olt main_v7 main_v8
  (main_v3, main_v6, main_v9)
-- ==== Pre_finite_mlstm.lean ====
abbrev S16384x1024 : Shape := ⟨2, ![16384, 1024]⟩
abbrev S16384x12288 : Shape := ⟨2, ![16384, 12288]⟩
abbrev S16384x128 : Shape := ⟨2, ![16384, 128]⟩
abbrev S16384x16 : Shape := ⟨2, ![16384, 16]⟩
abbrev S16384x2064 : Shape := ⟨2, ![16384, 2064]⟩
abbrev S_ : Shape := ⟨0, ![]⟩

class Facts : Prop where
  slices_S16384x12288_S16384x1024_0_1024 : S16384x12288.Slices ![0, 1024] S16384x1024
  slices_S16384x128_S16384x16_0_0 : S16384x128.Slices ![0, 0] S16384x16
  concatenates_S16384x1024_S16384x1024_S16384x16_S16384x2064_d1 : Shape.Concatenates [S16384x1024, S16384x1024, S16384x16] S16384x2064 1
  bcast_S_S16384x2064 : S_.BroadcastsInDim S16384x2064 (![] : Fin 0 → Fin S16384x2064.rank)

variable [Facts]

def fn {F : FTy → Type} [FloatOps F] (main_arg0 : FVec F S16384x1024 .f32) (main_arg1 : FVec F S16384x12288 .f32) (main_arg2 : FVec F S16384x128 .f32) : IVec S16384x2064 1 :=
  let main_v0 : FVec F S16384x1024 .f32 := (extractStridedSlice S16384x1024 ![0, 1024] · slices_S16384x12288_S16384x1024_0_1024) main_arg1
  let main_v1 : FVec F S16384x16 .f32 := (extractStridedSlice S16384x16 ![0, 0] · slices_S16384x128_S16384x16_0_0) main_arg2
  let main_v2 : FVec F S16384x2064 .f32 := concatenate S16384x2064 1 [⟨S16384x1024, main_arg0⟩, ⟨S16384x1024, main_v0⟩, ⟨S16384x16, main_v1⟩] concatenates_S16384x1024_S16384x1024_S16384x16_S16384x2064_d1
  let main_v3 : FVec F S16384x2064 .f32 := Host.absf main_v2
  let main_cst : FVec F S_ .f32 := constant S_ .f32 0x7F800000#32
  let main_v4 : FVec F S16384x2064 .f32 := broadcastInDim S16384x2064 ![] bcast_S_S16384x2064 main_cst
  let main_v5 : IVec S16384x2064 1 := cmpf .olt main_v3 main_v4
  main_v5
-- ==== Pre_finite_post.lean ====
abbrev S2x16384x1024 : Shape := ⟨3, ![2, 16384, 1024]⟩
abbrev S16384x12288 : Shape := ⟨2, ![16384, 12288]⟩
abbrev S16384x2048 : Shape := ⟨2, ![16384, 2048]⟩
abbrev S1x4x256 : Shape := ⟨3, ![1, 4, 256]⟩
abbrev S1x8x128 : Shape := ⟨3, ![1, 8, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x16 : Shape := ⟨3, ![1, 2048, 16]⟩
abbrev S_ : Shape := ⟨0, ![]⟩

class Facts : Prop where
  bcast_S_S1x2048 : S_.BroadcastsInDim S1x2048 (![] : Fin 0 → Fin S1x2048.rank)
  bcast_S_S1x2048x16 : S_.BroadcastsInDim S1x2048x16 (![] : Fin 0 → Fin S1x2048x16.rank)

variable [Facts]

def fn {F : FTy → Type} [FloatOps F] (main_arg0 : FVec F S2x16384x1024 .f32) (main_arg1 : FVec F S2x16384x1024 .f32) (main_arg2 : FVec F S16384x12288 .f32) (main_arg3 : FVec F S16384x2048 .f32) (main_arg4 : FVec F S1x4x256 .f32) (main_arg5 : FVec F S1x8x128 .f32) (main_arg6 : FVec F S1x1024x2048 .f32) (main_arg7 : FVec F S1x1024x2048 .f32) (main_arg8 : FVec F S1x2048x2048 .f32) (main_arg9 : FVec F S1x2048 .f32) (main_arg10 : FVec F S1x2048 .f32) (main_arg11 : FVec F S1x2048x16 .f32) : IVec S1x2048 1 × IVec S1x2048 1 × IVec S1x2048x16 1 :=
  let main_v0 : FVec F S1x2048 .f32 := Host.absf main_arg9
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048 .f32 := Host.absf main_arg10
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x16 .f32 := Host.absf main_arg11
  let main_cst_1 : FVec F S_ .f32 := constant S_ .f32 0x7F800000#32
  let main_v7 : FVec F S1x2048x16 .f32 := broadcastInDim S1x2048x16 ![] bcast_S_S1x2048x16 main_cst_1
  let main_v8 : IVec S1x2048x16 1 := cmpf .olt main_v6 main_v7
  (main_v2, main_v5, main_v8)
-- ==== Pre_positive_hgrn.lean ====
abbrev S16384x12288 : Shape := ⟨2, ![16384, 12288]⟩
abbrev S2x1x1024 : Shape := ⟨3, ![2, 1, 1024]⟩
abbrev S16384x4096 : Shape := ⟨2, ![16384, 4096]⟩
abbrev S_ : Shape := ⟨0, ![]⟩

class Facts : Prop where
  slices_S16384x12288_S16384x4096_0_3072 : S16384x12288.Slices ![0, 3072] S16384x4096
  bcast_S_S16384x4096 : S_.BroadcastsInDim S16384x4096 (![] : Fin 0 → Fin S16384x4096.rank)
  bcast_S_S2x1x1024 : S_.BroadcastsInDim S2x1x1024 (![] : Fin 0 → Fin S2x1x1024.rank)

variable [Facts]

def fn {F : FTy → Type} [FloatOps F] (main_arg0 : FVec F S16384x12288 .f32) (main_arg1 : FVec F S2x1x1024 .f32) : IVec S16384x4096 1 × IVec S2x1x1024 1 :=
  let main_v0 : FVec F S16384x4096 .f32 := (extractStridedSlice S16384x4096 ![0, 3072] · slices_S16384x12288_S16384x4096_0_3072) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_cst_0 : FVec F S_ .f32 := constant S_ .f32 0x00000000#32
  let main_v4 : FVec F S2x1x1024 .f32 := broadcastInDim S2x1x1024 ![] bcast_S_S2x1x1024 main_cst_0
  let main_v5 : IVec S2x1x1024 1 := cmpf .oge main_arg1 main_v4
  let main_cst_1 : FVec F S_ .f32 := constant S_ .f32 0x7F800000#32
  let main_v6 : FVec F S2x1x1024 .f32 := broadcastInDim S2x1x1024 ![] bcast_S_S2x1x1024 main_cst_1
  let main_v7 : IVec S2x1x1024 1 := cmpf .olt main_arg1 main_v6
  let main_v8 : IVec S2x1x1024 1 := andi main_v5 main_v7
  (main_v3, main_v8)
-- ==== Ffn.lean ====
abbrev S2x16x1024x2048 : Shape := ⟨4, ![2, 16, 1024, 2048]⟩
abbrev S2x16x1024x1 : Shape := ⟨4, ![2, 16, 1024, 1]⟩
abbrev S1x16x2048x5632 : Shape := ⟨4, ![1, 16, 2048, 5632]⟩
abbrev S1x16x5632x2048 : Shape := ⟨4, ![1, 16, 5632, 2048]⟩
abbrev S16x2048x5632 : Shape := ⟨3, ![16, 2048, 5632]⟩
abbrev S16x5632x2048 : Shape := ⟨3, ![16, 5632, 2048]⟩
abbrev S1x1x1024x2048 : Shape := ⟨4, ![1, 1, 1024, 2048]⟩
abbrev S1x2048x256 : Shape := ⟨3, ![1, 2048, 256]⟩
abbrev S1x256x2048 : Shape := ⟨3, ![1, 256, 2048]⟩
abbrev S1x1x1024x1 : Shape := ⟨4, ![1, 1, 1024, 1]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x16x1024x2048, .bf16⟩
  | .hbm, ⟨1, _⟩ => ⟨S2x16x1024x1, .f32⟩
  | .hbm, ⟨2, _⟩ => ⟨S1x16x2048x5632, .f32⟩
  | .hbm, ⟨3, _⟩ => ⟨S1x16x2048x5632, .f32⟩
  | .hbm, ⟨4, _⟩ => ⟨S1x16x5632x2048, .f32⟩
  | .hbm, ⟨5, _⟩ => ⟨S16x2048x5632, .f32⟩
  | .hbm, ⟨6, _⟩ => ⟨S16x2048x5632, .f32⟩
  | .hbm, ⟨7, _⟩ => ⟨S16x5632x2048, .f32⟩
  | .hbm, ⟨8, _⟩ => ⟨S2x16x1024x2048, .bf16⟩
  | .local _ .vmem, ⟨0, _⟩ => ⟨S1x1x1024x2048, .bf16⟩
  | .local _ .vmem, ⟨1, _⟩ => ⟨S1x1x1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1x1024x1, .f32⟩
  | .local _ .vmem, ⟨9, _⟩ => ⟨S1x1x1024x1, .f32⟩
  | .local _ .vmem, ⟨10, _⟩ => ⟨S1x1x1024x2048, .bf16⟩
  | .local _ .vmem, ⟨11, _⟩ => ⟨S1x1x1024x2048, .bf16⟩
  | .local _ .vmem, ⟨12, _⟩ => ⟨S1024x2048, .f32⟩
  | _, _ => ⟨S2x16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 22], ![false, false, false]⟩

def k0_cond2 (i : grid0.Coords) : BitVec 1 :=
  let arg2 : BitVec 32 := BitVec.ofNat 32 (i 2).val
  let c21_i32 : BitVec 32 := 21#32
  let v26 : BitVec 1 := Scalar.cmpi .eq arg2 c21_i32
  let v27 : BitVec 32 := Scalar.extui v26
  let c0_i32_19 : BitVec 32 := 0#32
  let v28 : BitVec 1 := Scalar.cmpi .ne v27 c0_i32_19
  v28

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnRefIdeal.lean ====
abbrev S2x16x1024x2048 : Shape := ⟨4, ![2, 16, 1024, 2048]⟩
abbrev S2x16x1024x1 : Shape := ⟨4, ![2, 16, 1024, 1]⟩
abbrev S1x16x2048x5632 : Shape := ⟨4, ![1, 16, 2048, 5632]⟩
abbrev S1x16x5632x2048 : Shape := ⟨4, ![1, 16, 5632, 2048]⟩
abbrev S16x2048x5632 : Shape := ⟨3, ![16, 2048, 5632]⟩
abbrev S16x5632x2048 : Shape := ⟨3, ![16, 5632, 2048]⟩
abbrev S16x5632x2x1024 : Shape := ⟨4, ![16, 5632, 2, 1024]⟩
abbrev S2x16x1024x5632 : Shape := ⟨4, ![2, 16, 1024, 5632]⟩
abbrev S_ : Shape := ⟨0, ![]⟩
abbrev S16x2048x2x1024 : Shape := ⟨4, ![16, 2048, 2, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2x16x1024x2048, .bf16⟩
  | .hbm, ⟨1, _⟩ => ⟨S2x16x1024x1, .f32⟩
  | .hbm, ⟨2, _⟩ => ⟨S1x16x2048x5632, .f32⟩
  | .hbm, ⟨3, _⟩ => ⟨S1x16x2048x5632, .f32⟩
  | .hbm, ⟨4, _⟩ => ⟨S1x16x5632x2048, .f32⟩
  | .hbm, ⟨5, _⟩ => ⟨S2x16x1024x2048, .f32⟩
  | .hbm, ⟨6, _⟩ => ⟨S16x2048x5632, .f32⟩
  | .hbm, ⟨7, _⟩ => ⟨S16x2048x5632, .f32⟩
  | .hbm, ⟨8, _⟩ => ⟨S16x5632x2048, .f32⟩
  | .hbm, ⟨9, _⟩ => ⟨S16x5632x2x1024, .f32⟩
  | .hbm, ⟨10, _⟩ => ⟨S2x16x1024x5632, .f32⟩
  | .hbm, ⟨11, _⟩ => ⟨S2x16x1024x5632, .f32⟩
  | .hbm, ⟨12, _⟩ => ⟨S2x16x1024x5632, .f32⟩
  | .hbm, ⟨13, _⟩ => ⟨S_, .f32⟩
  | .hbm, ⟨14, _⟩ => ⟨S2x16x1024x5632, .f32⟩
  | .hbm, ⟨15, _⟩ => ⟨S2x16x1024x5632, .f32⟩
  | .hbm, ⟨16, _⟩ => ⟨S_, .f32⟩
  | .hbm, ⟨17, _⟩ => ⟨S2x16x1024x5632, .f32⟩
  | .hbm, ⟨18, _⟩ => ⟨S2x16x1024x5632, .f32⟩
  | .hbm, ⟨19, _⟩ => ⟨S2x16x1024x5632, .f32⟩
  | .hbm, ⟨20, _⟩ => ⟨S16x5632x2x1024, .f32⟩
  | .hbm, ⟨21, _⟩ => ⟨S2x16x1024x5632, .f32⟩
  | .hbm, ⟨22, _⟩ => ⟨S2x16x1024x5632, .f32⟩
  | .hbm, ⟨23, _⟩ => ⟨S16x2048x2x1024, .f32⟩
  | .hbm, ⟨24, _⟩ => ⟨S2x16x1024x2048, .f32⟩
  | .hbm, ⟨25, _⟩ => ⟨S2x16x1024x2048, .f32⟩
  | .hbm, ⟨26, _⟩ => ⟨S2x16x1024x2048, .f32⟩
  | .hbm, ⟨27, _⟩ => ⟨S2x16x1024x2048, .bf16⟩
  | _, _ => ⟨S2x16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Inproj.lean ====
abbrev S16384x2048 : Shape := ⟨2, ![16384, 2048]⟩
abbrev S1x2048x12304 : Shape := ⟨3, ![1, 2048, 12304]⟩
abbrev S1x12304 : Shape := ⟨2, ![1, 12304]⟩
abbrev S2048x12304 : Shape := ⟨2, ![2048, 12304]⟩
abbrev S12304x2048 : Shape := ⟨2, ![12304, 2048]⟩
abbrev S1x3072 : Shape := ⟨2, ![1, 3072]⟩
abbrev S3072 : Shape := ⟨1, ![3072]⟩
abbrev S1x9216 : Shape := ⟨2, ![1, 9216]⟩
abbrev S9216 : Shape := ⟨1, ![9216]⟩
abbrev S12288 : Shape := ⟨1, ![12288]⟩
abbrev S1x12288 : Shape := ⟨2, ![1, 12288]⟩
abbrev S16384x12288 : Shape := ⟨2, ![16384, 12288]⟩
abbrev S2048x2048 : Shape := ⟨2, ![2048, 2048]⟩
abbrev S512x2048 : Shape := ⟨2, ![512, 2048]⟩
abbrev S1x512 : Shape := ⟨2, ![1, 512]⟩
abbrev S2048x512 : Shape := ⟨2, ![2048, 512]⟩

abbrev nBuf : Space → Nat
  | .hbm => 12
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x12304, .f32⟩
  | .hbm, ⟨2, _⟩ => ⟨S1x12304, .f32⟩
  | .hbm, ⟨3, _⟩ => ⟨S2048x12304, .f32⟩
  | .hbm, ⟨4, _⟩ => ⟨S12304x2048, .f32⟩
  | .hbm, ⟨5, _⟩ => ⟨S1x3072, .f32⟩
  | .hbm, ⟨6, _⟩ => ⟨S3072, .f32⟩
  | .hbm, ⟨7, _⟩ => ⟨S1x9216, .f32⟩
  | .hbm, ⟨8, _⟩ => ⟨S9216, .f32⟩
  | .hbm, ⟨9, _⟩ => ⟨S12288, .f32⟩
  | .hbm, ⟨10, _⟩ => ⟨S1x12288, .f32⟩
  | .hbm, ⟨11, _⟩ => ⟨S16384x12288, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c6_i32 : BitVec 32 := 6#32
  let v1 : BitVec 1 := Scalar.cmpi .sge arg1 c6_i32
  let c2_i32 : BitVec 32 := 2#32
  let c0_i32 : BitVec 32 := 0#32
  let v2 : BitVec 32 := Scalar.select v1 c2_i32 c0_i32
  let v3 : BitVec 32 := Scalar.addi v0 v2
  let c8_i32 : BitVec 32 := 8#32
  let v4 : BitVec 32 := Scalar.muli v3 c8_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S16384x2048 : Shape := ⟨2, ![16384, 2048]⟩
abbrev S1x2048x12304 : Shape := ⟨3, ![1, 2048, 12304]⟩
abbrev S1x12304 : Shape := ⟨2, ![1, 12304]⟩
abbrev S2048x12304 : Shape := ⟨2, ![2048, 12304]⟩
abbrev S16384x12304 : Shape := ⟨2, ![16384, 12304]⟩
abbrev S12304 : Shape := ⟨1, ![12304]⟩
abbrev S16384x3072 : Shape := ⟨2, ![16384, 3072]⟩
abbrev S16384x9216 : Shape := ⟨2, ![16384, 9216]⟩
abbrev S16384x12288 : Shape := ⟨2, ![16384, 12288]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x12304, .f32⟩
  | .hbm, ⟨2, _⟩ => ⟨S1x12304, .f32⟩
  | .hbm, ⟨3, _⟩ => ⟨S16384x2048, .f32⟩
  | .hbm, ⟨4, _⟩ => ⟨S2048x12304, .f32⟩
  | .hbm, ⟨5, _⟩ => ⟨S16384x12304, .f32⟩
  | .hbm, ⟨6, _⟩ => ⟨S12304, .f32⟩
  | .hbm, ⟨7, _⟩ => ⟨S1x12304, .f32⟩
  | .hbm, ⟨8, _⟩ => ⟨S16384x12304, .f32⟩
  | .hbm, ⟨9, _⟩ => ⟨S16384x12304, .f32⟩
  | .hbm, ⟨10, _⟩ => ⟨S16384x3072, .f32⟩
  | .hbm, ⟨11, _⟩ => ⟨S16384x9216, .f32⟩
  | .hbm, ⟨12, _⟩ => ⟨S16384x12288, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Mlstm.lean ====
abbrev S16384x1024 : Shape := ⟨2, ![16384, 1024]⟩
abbrev S16384x12288 : Shape := ⟨2, ![16384, 12288]⟩
abbrev S16384x128 : Shape := ⟨2, ![16384, 128]⟩
abbrev S16384x16 : Shape := ⟨2, ![16384, 16]⟩
abbrev S16384x2x2x4 : Shape := ⟨4, ![16384, 2, 2, 4]⟩
abbrev S2x16384x2x4 : Shape := ⟨4, ![2, 16384, 2, 4]⟩
abbrev S2x16384x8 : Shape := ⟨3, ![2, 16384, 8]⟩
abbrev S2x2x8192x8 : Shape := ⟨4, ![2, 2, 8192, 8]⟩
abbrev S2x2x8x8192 : Shape := ⟨4, ![2, 2, 8, 8192]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x256x256 : Shape := ⟨3, ![1, 256, 256]⟩
abbrev S2x256x256 : Shape := ⟨3, ![2, 256, 256]⟩
abbrev S2x16384x1024 : Shape := ⟨3, ![2, 16384, 1024]⟩
abbrev S256x1024 : Shape := ⟨2, ![256, 1024]⟩
abbrev S1x256x8 : Shape := ⟨3, ![1, 256, 8]⟩
abbrev S1x1x8x256 : Shape := ⟨4, ![1, 1, 8, 256]⟩
abbrev S1x256x1024 : Shape := ⟨3, ![1, 256, 1024]⟩
abbrev S4x128x256 : Shape := ⟨3, ![4, 128, 256]⟩
abbrev S4x1x128 : Shape := ⟨3, ![4, 1, 128]⟩
abbrev S256x8 : Shape := ⟨2, ![256, 8]⟩
abbrev S8x256 : Shape := ⟨2, ![8, 256]⟩
abbrev S8 : Shape := ⟨1, ![8]⟩
abbrev S1x8 : Shape := ⟨2, ![1, 8]⟩
abbrev S256x128 : Shape := ⟨2, ![256, 128]⟩
abbrev S1x1 : Shape := ⟨2, ![1, 1]⟩
abbrev S1x128 : Shape := ⟨2, ![1, 128]⟩
abbrev S1x1x128 : Shape := ⟨3, ![1, 1, 128]⟩
abbrev S1x128x256 : Shape := ⟨3, ![1, 128, 256]⟩
abbrev S128x256 : Shape := ⟨2, ![128, 256]⟩
abbrev S128 : Shape := ⟨1, ![128]⟩

abbrev nBuf : Space → Nat
  | .hbm => 25
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x12288, .f32⟩
  | .hbm, ⟨2, _⟩ => ⟨S16384x128, .f32⟩
  | .hbm, ⟨3, _⟩ => ⟨S16384x16, .f32⟩
  | .hbm, ⟨4, _⟩ => ⟨S16384x2x2x4, .f32⟩
  | .hbm, ⟨5, _⟩ => ⟨S2x16384x2x4, .f32⟩
  | .hbm, ⟨6, _⟩ => ⟨S2x16384x8, .f32⟩
  | .hbm, ⟨7, _⟩ => ⟨S2x2x8192x8, .f32⟩
  | .hbm, ⟨8, _⟩ => ⟨S2x2x8x8192, .f32⟩
  | .hbm, ⟨9, _⟩ => ⟨S256, .i32⟩
  | .hbm, ⟨10, _⟩ => ⟨S1x256, .i32⟩
  | .hbm, ⟨11, _⟩ => ⟨S256x1, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S1x256, .i32⟩
  | .hbm, ⟨16, _⟩ => ⟨S256x1, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S1x256x256, .i1⟩
  | .hbm, ⟨21, _⟩ => ⟨S1x256x256, .i1⟩
  | .hbm, ⟨22, _⟩ => ⟨S2x256x256, .i1⟩
  | .hbm, ⟨23, _⟩ => ⟨S2x256x256, .f32⟩
  | .hbm, ⟨24, _⟩ => ⟨S2x16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x256x8, .f32⟩
  | .local _ .vmem, ⟨5, _⟩ => ⟨S1x256x8, .f32⟩
  | .local _ .vmem, ⟨6, _⟩ => ⟨S1x1x8x256, .f32⟩
  | .local _ .vmem, ⟨7, _⟩ => ⟨S1x1x8x256, .f32⟩
  | .local _ .vmem, ⟨8, _⟩ => ⟨S1x256x256, .f32⟩
  | .local _ .vmem, ⟨9, _⟩ => ⟨S1x256x256, .f32⟩
  | .local _ .vmem, ⟨10, _⟩ => ⟨S1x256x1024, .f32⟩
  | .local _ .vmem, ⟨11, _⟩ => ⟨S1x256x1024, .f32⟩
  | .local _ .vmem, ⟨12, _⟩ => ⟨S4x128x256, .f32⟩
  | .local _ .vmem, ⟨13, _⟩ => ⟨S4x1x128, .f32⟩
  | .local _ .vmem, ⟨14, _⟩ => ⟨S4x1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c2_i32 : BitVec 32 := 2#32
  let v1 : BitVec 32 := Scalar.muli c2_i32 arg2
  let c31_i32 : BitVec 32 := 31#32
  let v2 : BitVec 32 := Scalar.subi c31_i32 v1
  let v3 : BitVec 32 := Scalar.muli arg0 v2
  let v4 : BitVec 32 := Scalar.addi arg2 v3
  let v5 : BitVec 32 := Scalar.addi v0 v4
  let c0_i32 : BitVec 32 := 0#32
  let c0_i32_0 : BitVec 32 := 0#32
  ![v5.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c2_i32 : BitVec 32 := 2#32
  let v1 : BitVec 32 := Scalar.muli c2_i32 arg2
  let c31_i32 : BitVec 32 := 31#32
  let v2 : BitVec 32 := Scalar.subi c31_i32 v1
  let v3 : BitVec 32 := Scalar.muli arg0 v2
  let v4 : BitVec 32 := Scalar.addi arg2 v3
  let v5 : BitVec 32 := Scalar.addi v0 v4
  let c1_i32 : BitVec 32 := 1#32
  let c0_i32 : BitVec 32 := 0#32
  ![v5.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c2_i32 : BitVec 32 := 2#32
  let v1 : BitVec 32 := Scalar.muli c2_i32 arg2
  let c31_i32 : BitVec 32 := 31#32
  let v2 : BitVec 32 := Scalar.subi c31_i32 v1
  let v3 : BitVec 32 := Scalar.muli arg0 v2
  let v4 : BitVec 32 := Scalar.addi arg2 v3
  let v5 : BitVec 32 := Scalar.addi v0 v4
  let c0_i32 : BitVec 32 := 0#32
  let c0_i32_0 : BitVec 32 := 0#32
  ![arg0.toNat, v5.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, c0_i32.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c2_i32 : BitVec 32 := 2#32
  let v1 : BitVec 32 := Scalar.muli c2_i32 arg2
  let c31_i32 : BitVec 32 := 31#32
  let v2 : BitVec 32 := Scalar.subi c31_i32 v1
  let v3 : BitVec 32 := Scalar.muli arg0 v2
  let v4 : BitVec 32 := Scalar.addi arg2 v3
  let v5 : BitVec 32 := Scalar.addi v0 v4
  let c0_i32 : BitVec 32 := 0#32
  let c0_i32_0 : BitVec 32 := 0#32
  ![arg0.toNat, v5.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlstmRefIdeal.lean ====
abbrev S16384x1024 : Shape := ⟨2, ![16384, 1024]⟩
abbrev S16384x12288 : Shape := ⟨2, ![16384, 12288]⟩
abbrev S16384x128 : Shape := ⟨2, ![16384, 128]⟩
abbrev S16384x512 : Shape := ⟨2, ![16384, 512]⟩
abbrev S2x8192x4x128 : Shape := ⟨4, ![2, 8192, 4, 128]⟩
abbrev S2x8192x4x256 : Shape := ⟨4, ![2, 8192, 4, 256]⟩
abbrev S16384x8 : Shape := ⟨2, ![16384, 8]⟩
abbrev S2x8192x2x4 : Shape := ⟨4, ![2, 8192, 2, 4]⟩
abbrev S_ : Shape := ⟨0, ![]⟩
abbrev S4x8192x4x128 : Shape := ⟨4, ![4, 8192, 4, 128]⟩
abbrev S4x8192x4x256 : Shape := ⟨4, ![4, 8192, 4, 256]⟩
abbrev S2x8192x1x4 : Shape := ⟨4, ![2, 8192, 1, 4]⟩
abbrev S2x8192x4 : Shape := ⟨3, ![2, 8192, 4]⟩
abbrev S4x8192x4 : Shape := ⟨3, ![4, 8192, 4]⟩
abbrev S4x128x64x4x128 : Shape := ⟨5, ![4, 128, 64, 4, 128]⟩
abbrev S128x4x64x4x128 : Shape := ⟨5, ![128, 4, 64, 4, 128]⟩
abbrev S128x4x4x64x128 : Shape := ⟨5, ![128, 4, 4, 64, 128]⟩
abbrev S4x128x64x4x256 : Shape := ⟨5, ![4, 128, 64, 4, 256]⟩
abbrev S128x4x64x4x256 : Shape := ⟨5, ![128, 4, 64, 4, 256]⟩
abbrev S128x4x4x64x256 : Shape := ⟨5, ![128, 4, 4, 64, 256]⟩
abbrev S4x128x64x4 : Shape := ⟨4, ![4, 128, 64, 4]⟩
abbrev S128x4x64x4 : Shape := ⟨4, ![128, 4, 64, 4]⟩
abbrev S128x4x4x64 : Shape := ⟨4, ![128, 4, 4, 64]⟩
abbrev S64x64 : Shape := ⟨2, ![64, 64]⟩
abbrev S4x4x128x256 : Shape := ⟨4, ![4, 4, 128, 256]⟩
abbrev S4x4x128 : Shape := ⟨3, ![4, 4, 128]⟩
abbrev S4x4 : Shape := ⟨2, ![4, 4]⟩
abbrev S1x4x4x64x128 : Shape := ⟨5, ![1, 4, 4, 64, 128]⟩
abbrev S4x4x64x128 : Shape := ⟨4, ![4, 4, 64, 128]⟩
abbrev S1x4x4x64x256 : Shape := ⟨5, ![1, 4, 4, 64, 256]⟩
abbrev S4x4x64x256 : Shape := ⟨4, ![4, 4, 64, 256]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1 : Shape := ⟨3, ![4, 4, 1]⟩
abbrev S4x4x1x1 : Shape := ⟨4, ![4, 4, 1, 1]⟩
abbrev S1x2x8192x4x256 : Shape := ⟨5, ![1, 2, 8192, 4, 256]⟩
abbrev S2x2x8192x4x256 : Shape := ⟨5, ![2, 2, 8192, 4, 256]⟩
abbrev S2x16384x1024 : Shape := ⟨3, ![2, 16384, 1024]⟩

abbrev nBuf : Space → Nat
  | .hbm => 217
  | .vmem => 0
  | .smem => 0
  | _ => 0

abbrev hbmTy0_0 (i : Nat) : BufTy := match i % 128 with
  | 0 => ⟨S16384x1024, .f32⟩
  | 1 => ⟨S16384x12288, .f32⟩
  | 2 => ⟨S16384x128, .f32⟩
  | 3 => ⟨S16384x512, .f32⟩
  | 4 => ⟨S2x8192x4x128, .f32⟩
  | 5 => ⟨S16384x512, .f32⟩
  | 6 => ⟨S2x8192x4x128, .f32⟩
  | 7 => ⟨S16384x1024, .f32⟩
  | 8 => ⟨S2x8192x4x256, .f32⟩
  | 9 => ⟨S16384x8, .f32⟩
  | 10 => ⟨S2x8192x2x4, .f32⟩
  | 11 => ⟨S16384x8, .f32⟩
  | 12 => ⟨S2x8192x2x4, .f32⟩
  | 13 => ⟨S2x8192x2x4, .f32⟩
  | 14 => ⟨S_, .f32⟩
  | 15 => ⟨S2x8192x2x4, .f32⟩
  | 16 => ⟨S2x8192x2x4, .f32⟩
  | 17 => ⟨S2x8192x2x4, .f32⟩
  | 18 => ⟨S2x8192x2x4, .f32⟩
  | 19 => ⟨S2x8192x2x4, .i1⟩
  | 20 => ⟨S2x8192x2x4, .f32⟩
  | 21 => ⟨S2x8192x2x4, .f32⟩
  | 22 => ⟨S2x8192x2x4, .f32⟩
  | 23 => ⟨S2x8192x2x4, .f32⟩
  | 24 => ⟨S2x8192x2x4, .f32⟩
  | 25 => ⟨S2x8192x2x4, .f32⟩
  | 26 => ⟨S2x8192x2x4, .f32⟩
  | 27 => ⟨S2x8192x2x4, .f32⟩
  | 28 => ⟨S2x8192x2x4, .f32⟩
  | 29 => ⟨S2x8192x4x128, .f32⟩
  | 30 => ⟨S4x8192x4x128, .f32⟩
  | 31 => ⟨S2x8192x4x128, .f32⟩
  | 32 => ⟨S4x8192x4x128, .f32⟩
  | 33 => ⟨S2x8192x4x256, .f32⟩
  | 34 => ⟨S4x8192x4x256, .f32⟩
  | 35 => ⟨S2x8192x1x4, .f32⟩
  | 36 => ⟨S2x8192x4, .f32⟩
  | 37 => ⟨S2x8192x1x4, .f32⟩
  | 38 => ⟨S2x8192x4, .f32⟩
  | 39 => ⟨S2x8192x4, .f32⟩
  | 40 => ⟨S4x8192x4, .f32⟩
  | 41 => ⟨S2x8192x1x4, .f32⟩
  | 42 => ⟨S2x8192x4, .f32⟩
  | 43 => ⟨S2x8192x1x4, .f32⟩
  | 44 => ⟨S2x8192x4, .f32⟩
  | 45 => ⟨S2x8192x4, .f32⟩
  | 46 => ⟨S4x8192x4, .f32⟩
  | 47 => ⟨S4x128x64x4x128, .f32⟩
  | 48 => ⟨S128x4x64x4x128, .f32⟩
  | 49 => ⟨S128x4x4x64x128, .f32⟩
  | 50 => ⟨S4x128x64x4x128, .f32⟩
  | 51 => ⟨S128x4x64x4x128, .f32⟩
  | 52 => ⟨S128x4x4x64x128, .f32⟩
  | 53 => ⟨S4x128x64x4x256, .f32⟩
  | 54 => ⟨S128x4x64x4x256, .f32⟩
  | 55 => ⟨S128x4x4x64x256, .f32⟩
  | 56 => ⟨S4x128x64x4, .f32⟩
  | 57 => ⟨S128x4x64x4, .f32⟩
  | 58 => ⟨S128x4x4x64, .f32⟩
  | 59 => ⟨S4x128x64x4, .f32⟩
  | 60 => ⟨S128x4x64x4, .f32⟩
  | 61 => ⟨S128x4x4x64, .f32⟩
  | 62 => ⟨S_, .i1⟩
  | 63 => ⟨S64x64, .i1⟩
  | 64 => ⟨S64x64, .i32⟩
  | 65 => ⟨S_, .i32⟩
  | 66 => ⟨S64x64, .i32⟩
  | 67 => ⟨S64x64, .i32⟩
  | 68 => ⟨S64x64, .i32⟩
  | 69 => ⟨S64x64, .i1⟩
  | 70 => ⟨S_, .i1⟩
  | 71 => ⟨S64x64, .i1⟩
  | 72 => ⟨S64x64, .i1⟩
  | 73 => ⟨S_, .f32⟩
  | 74 => ⟨S4x4x128x256, .f32⟩
  | 75 => ⟨S_, .f32⟩
  | 76 => ⟨S4x4x128, .f32⟩
  | 77 => ⟨S_, .f32⟩
  | 78 => ⟨S4x4, .f32⟩
  | 79 => ⟨S_, .f32⟩
  | 80 => ⟨S128x4x4x64x256, .f32⟩
  | 81 => ⟨S_, .i32⟩
  | 82 => ⟨S128x4x4x64x128, .f32⟩
  | 83 => ⟨S128x4x4x64x128, .f32⟩
  | 84 => ⟨S128x4x4x64x256, .f32⟩
  | 85 => ⟨S128x4x4x64, .f32⟩
  | 86 => ⟨S128x4x4x64, .f32⟩
  | 87 => ⟨S64x64, .i1⟩
  | 88 => ⟨S_, .i32⟩
  | 89 => ⟨S4x4x128x256, .f32⟩
  | 90 => ⟨S4x4x128, .f32⟩
  | 91 => ⟨S4x4, .f32⟩
  | 92 => ⟨S128x4x4x64x256, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x4x4x64x128, .f32⟩
  | 100 => ⟨S4x4x64x128, .f32⟩
  | 101 => ⟨S_, .i32⟩
  | 102 => ⟨S_, .i32⟩
  | 103 => ⟨S_, .i32⟩
  | 104 => ⟨S_, .i32⟩
  | 105 => ⟨S1x4x4x64x128, .f32⟩
  | 106 => ⟨S4x4x64x128, .f32⟩
  | 107 => ⟨S_, .i32⟩
  | 108 => ⟨S_, .i32⟩
  | 109 => ⟨S_, .i32⟩
  | 110 => ⟨S_, .i32⟩
  | 111 => ⟨S1x4x4x64x256, .f32⟩
  | 112 => ⟨S4x4x64x256, .f32⟩
  | 113 => ⟨S_, .i32⟩
  | 114 => ⟨S_, .i32⟩
  | 115 => ⟨S_, .i32⟩
  | 116 => ⟨S1x4x4x64, .f32⟩
  | 117 => ⟨S4x4x64, .f32⟩
  | 118 => ⟨S_, .i32⟩
  | 119 => ⟨S_, .i32⟩
  | 120 => ⟨S_, .i32⟩
  | 121 => ⟨S1x4x4x64, .f32⟩
  | 122 => ⟨S4x4x64, .f32⟩
  | 123 => ⟨S_, .f32⟩
  | 124 => ⟨S_, .f32⟩
  | 125 => ⟨S4x4x64, .f32⟩
  | 126 => ⟨S4x4x64x1, .f32⟩
  | 127 => ⟨S4x4x1x64, .f32⟩
  | _ => ⟨S16384x1024, .f32⟩

abbrev hbmTy0_1 (i : Nat) : BufTy := match i % 128 with
  | 0 => ⟨S4x4x64x64, .f32⟩
  | 1 => ⟨S4x4x64x64, .f32⟩
  | 2 => ⟨S4x4x64x64, .f32⟩
  | 3 => ⟨S4x4x1x64, .f32⟩
  | 4 => ⟨S4x4x64x64, .f32⟩
  | 5 => ⟨S4x4x64x64, .f32⟩
  | 6 => ⟨S_, .f32⟩
  | 7 => ⟨S_, .f32⟩
  | 8 => ⟨S4x4x64x64, .i1⟩
  | 9 => ⟨S4x4x64x64, .f32⟩
  | 10 => ⟨S4x4x64x64, .f32⟩
  | 11 => ⟨S4x4x1, .f32⟩
  | 12 => ⟨S4x4x64, .f32⟩
  | 13 => ⟨S4x4x64, .f32⟩
  | 14 => ⟨S_, .f32⟩
  | 15 => ⟨S4x4x64, .f32⟩
  | 16 => ⟨S4x4x64, .f32⟩
  | 17 => ⟨S4x4x64x1, .f32⟩
  | 18 => ⟨S4x4x64x64, .f32⟩
  | 19 => ⟨S4x4x64x64, .f32⟩
  | 20 => ⟨S4x4x64x64, .f32⟩
  | 21 => ⟨S4x4x64x64, .f32⟩
  | 22 => ⟨S4x4x64x64, .f32⟩
  | 23 => ⟨S4x4x64, .f32⟩
  | 24 => ⟨S4x4x64, .f32⟩
  | 25 => ⟨S4x4x64x256, .f32⟩
  | 26 => ⟨S4x4x64x1, .f32⟩
  | 27 => ⟨S4x4x64x256, .f32⟩
  | 28 => ⟨S4x4x64x256, .f32⟩
  | 29 => ⟨S4x4x64x256, .f32⟩
  | 30 => ⟨S4x4x64x256, .f32⟩
  | 31 => ⟨S_, .f32⟩
  | 32 => ⟨S4x4x64, .f32⟩
  | 33 => ⟨S4x4x64, .f32⟩
  | 34 => ⟨S4x4x64, .f32⟩
  | 35 => ⟨S4x4x64, .f32⟩
  | 36 => ⟨S4x4x64, .f32⟩
  | 37 => ⟨S4x4x64, .f32⟩
  | 38 => ⟨S4x4x64, .f32⟩
  | 39 => ⟨S4x4x64, .f32⟩
  | 40 => ⟨S4x4x64x1, .f32⟩
  | 41 => ⟨S4x4x64x256, .f32⟩
  | 42 => ⟨S4x4x64x256, .f32⟩
  | 43 => ⟨S4x4x1, .f32⟩
  | 44 => ⟨S4x4, .f32⟩
  | 45 => ⟨S4x4x1, .f32⟩
  | 46 => ⟨S4x4x64, .f32⟩
  | 47 => ⟨S4x4x64, .f32⟩
  | 48 => ⟨S4x4x64, .f32⟩
  | 49 => ⟨S4x4x1, .f32⟩
  | 50 => ⟨S4x4x64, .f32⟩
  | 51 => ⟨S4x4x64, .f32⟩
  | 52 => ⟨S4x4x64, .f32⟩
  | 53 => ⟨S4x4x1, .f32⟩
  | 54 => ⟨S4x4, .f32⟩
  | 55 => ⟨S4x4, .f32⟩
  | 56 => ⟨S4x4, .f32⟩
  | 57 => ⟨S4x4, .f32⟩
  | 58 => ⟨S4x4x1x1, .f32⟩
  | 59 => ⟨S4x4x128x256, .f32⟩
  | 60 => ⟨S4x4x128x256, .f32⟩
  | 61 => ⟨S4x4x64x1, .f32⟩
  | 62 => ⟨S4x4x64x128, .f32⟩
  | 63 => ⟨S4x4x64x128, .f32⟩
  | 64 => ⟨S4x4x128x256, .f32⟩
  | 65 => ⟨S4x4x128x256, .f32⟩
  | 66 => ⟨S4x4x1, .f32⟩
  | 67 => ⟨S4x4x128, .f32⟩
  | 68 => ⟨S4x4x128, .f32⟩
  | 69 => ⟨S4x4x128, .f32⟩
  | 70 => ⟨S4x4x128, .f32⟩
  | 71 => ⟨S1x4x4x64x256, .f32⟩
  | 72 => ⟨S_, .i32⟩
  | 73 => ⟨S_, .i32⟩
  | 74 => ⟨S_, .i32⟩
  | 75 => ⟨S_, .i32⟩
  | 76 => ⟨S128x4x4x64x256, .f32⟩
  | 77 => ⟨S_, .i32⟩
  | 78 => ⟨S_, .i32⟩
  | 79 => ⟨S128x4x64x4x256, .f32⟩
  | 80 => ⟨S4x128x64x4x256, .f32⟩
  | 81 => ⟨S4x8192x4x256, .f32⟩
  | 82 => ⟨S2x8192x4x256, .f32⟩
  | 83 => ⟨S2x8192x4x256, .f32⟩
  | 84 => ⟨S2x8192x4x256, .f32⟩
  | 85 => ⟨S1x2x8192x4x256, .f32⟩
  | 86 => ⟨S1x2x8192x4x256, .f32⟩
  | 87 => ⟨S2x2x8192x4x256, .f32⟩
  | 88 => ⟨S2x16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c : Ref sig .tc := ⟨.hbm, 62, rfl⟩
abbrev main_v44 : Ref sig .tc := ⟨.hbm, 63, rfl⟩
abbrev main_call6_v0 : Ref sig .tc := ⟨.hbm, 64, rfl⟩
abbrev main_call6_c : Ref sig .tc := ⟨.hbm, 65, rfl⟩
abbrev main_call6_v1 : Ref sig .tc := ⟨.hbm, 66, rfl⟩
abbrev main_call6_v2 : Ref sig .tc := ⟨.hbm, 67, rfl⟩
abbrev main_call6_v3 : Ref sig .tc := ⟨.hbm, 68, rfl⟩
abbrev main_call6_v4 : Ref sig .tc := ⟨.hbm, 69, rfl⟩
abbrev main_call6_c_0 : Ref sig .tc := ⟨.hbm, 70, rfl⟩
abbrev main_call6_v5 : Ref sig .tc := ⟨.hbm, 71, rfl⟩
abbrev main_v45 : Ref sig .tc := ⟨.hbm, 72, rfl⟩
abbrev main_cst : Ref sig .tc := ⟨.hbm, 73, rfl⟩
abbrev main_v46 : Ref sig .tc := ⟨.hbm, 74, rfl⟩
abbrev main_cst_0 : Ref sig .tc := ⟨.hbm, 75, rfl⟩
abbrev main_v47 : Ref sig .tc := ⟨.hbm, 76, rfl⟩
abbrev main_cst_1 : Ref sig .tc := ⟨.hbm, 77, rfl⟩
abbrev main_v48 : Ref sig .tc := ⟨.hbm, 78, rfl⟩
abbrev main_cst_2 : Ref sig .tc := ⟨.hbm, 79, rfl⟩
abbrev main_v49 : Ref sig .tc := ⟨.hbm, 80, rfl⟩
abbrev main_c_3 : Ref sig .tc := ⟨.hbm, 81, rfl⟩
abbrev main_v50_0 : Ref sig .tc := ⟨.hbm, 82, rfl⟩
abbrev main_v50_1 : Ref sig .tc := ⟨.hbm, 83, rfl⟩
abbrev main_v50_2 : Ref sig .tc := ⟨.hbm, 84, rfl⟩
abbrev main_v50_3 : Ref sig .tc := ⟨.hbm, 85, rfl⟩
abbrev main_v50_4 : Ref sig .tc := ⟨.hbm, 86, rfl⟩
abbrev main_v50_5 : Ref sig .tc := ⟨.hbm, 87, rfl⟩
abbrev main_v50_6 : Ref sig .tc := ⟨.hbm, 88, rfl⟩
abbrev main_v50_7 : Ref sig .tc := ⟨.hbm, 89, rfl⟩
abbrev main_v50_8 : Ref sig .tc := ⟨.hbm, 90, rfl⟩
abbrev main_v50_9 : Ref sig .tc := ⟨.hbm, 91, rfl⟩
abbrev main_v50_10 : Ref sig .tc := ⟨.hbm, 92, rfl⟩
abbrev main_while0c_c_14 : Ref sig .tc := ⟨.hbm, 93, rfl⟩
abbrev main_while0c_v61 : Ref sig .tc := ⟨.hbm, 94, rfl⟩
abbrev main_while0b_call7_c : Ref sig .tc := ⟨.hbm, 95, rfl⟩
abbrev main_while0b_call7_c_0 : Ref sig .tc := ⟨.hbm, 96, rfl⟩
abbrev main_while0b_call7_c_1 : Ref sig .tc := ⟨.hbm, 97, rfl⟩
abbrev main_while0b_call7_c_2 : Ref sig .tc := ⟨.hbm, 98, rfl⟩
abbrev main_while0b_call7_v0 : Ref sig .tc := ⟨.hbm, 99, rfl⟩
abbrev main_while0b_v61 : Ref sig .tc := ⟨.hbm, 100, rfl⟩
abbrev main_while0b_call8_c : Ref sig .tc := ⟨.hbm, 101, rfl⟩
abbrev main_while0b_call8_c_0 : Ref sig .tc := ⟨.hbm, 102, rfl⟩
abbrev main_while0b_call8_c_1 : Ref sig .tc := ⟨.hbm, 103, rfl⟩
abbrev main_while0b_call8_c_2 : Ref sig .tc := ⟨.hbm, 104, rfl⟩
abbrev main_while0b_call8_v0 : Ref sig .tc := ⟨.hbm, 105, rfl⟩
abbrev main_while0b_v62 : Ref sig .tc := ⟨.hbm, 106, rfl⟩
abbrev main_while0b_call9_c : Ref sig .tc := ⟨.hbm, 107, rfl⟩
abbrev main_while0b_call9_c_0 : Ref sig .tc := ⟨.hbm, 108, rfl⟩
abbrev main_while0b_call9_c_1 : Ref sig .tc := ⟨.hbm, 109, rfl⟩
abbrev main_while0b_call9_c_2 : Ref sig .tc := ⟨.hbm, 110, rfl⟩
abbrev main_while0b_call9_v0 : Ref sig .tc := ⟨.hbm, 111, rfl⟩
abbrev main_while0b_v63 : Ref sig .tc := ⟨.hbm, 112, rfl⟩
abbrev main_while0b_call10_c : Ref sig .tc := ⟨.hbm, 113, rfl⟩
abbrev main_while0b_call10_c_0 : Ref sig .tc := ⟨.hbm, 114, rfl⟩
abbrev main_while0b_call10_c_1 : Ref sig .tc := ⟨.hbm, 115, rfl⟩
abbrev main_while0b_call10_v0 : Ref sig .tc := ⟨.hbm, 116, rfl⟩
abbrev main_while0b_v64 : Ref sig .tc := ⟨.hbm, 117, rfl⟩
abbrev main_while0b_call11_c : Ref sig .tc := ⟨.hbm, 118, rfl⟩
abbrev main_while0b_call11_c_0 : Ref sig .tc := ⟨.hbm, 119, rfl⟩
abbrev main_while0b_call11_c_1 : Ref sig .tc := ⟨.hbm, 120, rfl⟩
abbrev main_while0b_call11_v0 : Ref sig .tc := ⟨.hbm, 121, rfl⟩
abbrev main_while0b_v65 : Ref sig .tc := ⟨.hbm, 122, rfl⟩
abbrev main_while0b_call12_call0_cst : Ref sig .tc := ⟨.hbm, 123, rfl⟩
abbrev main_while0b_call12_call0_v0 : Ref sig .tc := ⟨.hbm, 124, rfl⟩
abbrev main_while0b_v66 : Ref sig .tc := ⟨.hbm, 125, rfl⟩
abbrev main_while0b_v67 : Ref sig .tc := ⟨.hbm, 126, rfl⟩
abbrev main_while0b_v68 : Ref sig .tc := ⟨.hbm, 127, rfl⟩
abbrev main_while0b_v69 : Ref sig .tc := ⟨.hbm, 128, rfl⟩
abbrev main_while0b_v70 : Ref sig .tc := ⟨.hbm, 129, rfl⟩
abbrev main_while0b_v71 : Ref sig .tc := ⟨.hbm, 130, rfl⟩
abbrev main_while0b_v72 : Ref sig .tc := ⟨.hbm, 131, rfl⟩
abbrev main_while0b_v73 : Ref sig .tc := ⟨.hbm, 132, rfl⟩
abbrev main_while0b_v74 : Ref sig .tc := ⟨.hbm, 133, rfl⟩
abbrev main_while0b_cst_14 : Ref sig .tc := ⟨.hbm, 134, rfl⟩
abbrev main_while0b_call13_v0 : Ref sig .tc := ⟨.hbm, 135, rfl⟩
abbrev main_while0b_call13_v1 : Ref sig .tc := ⟨.hbm, 136, rfl⟩
abbrev main_while0b_call13_v2 : Ref sig .tc := ⟨.hbm, 137, rfl⟩
abbrev main_while0b_v75 : Ref sig .tc := ⟨.hbm, 138, rfl⟩
abbrev main_while0b_v76 : Ref sig .tc := ⟨.hbm, 139, rfl⟩
abbrev main_while0b_v77 : Ref sig .tc := ⟨.hbm, 140, rfl⟩
abbrev main_while0b_v78 : Ref sig .tc := ⟨.hbm, 141, rfl⟩
abbrev main_while0b_cst_15 : Ref sig .tc := ⟨.hbm, 142, rfl⟩
abbrev main_while0b_v79 : Ref sig .tc := ⟨.hbm, 143, rfl⟩
abbrev main_while0b_v80 : Ref sig .tc := ⟨.hbm, 144, rfl⟩
abbrev main_while0b_v81 : Ref sig .tc := ⟨.hbm, 145, rfl⟩
abbrev main_while0b_v82 : Ref sig .tc := ⟨.hbm, 146, rfl⟩
abbrev main_while0b_v83 : Ref sig .tc := ⟨.hbm, 147, rfl⟩
abbrev main_while0b_v84 : Ref sig .tc := ⟨.hbm, 148, rfl⟩
abbrev main_while0b_v85 : Ref sig .tc := ⟨.hbm, 149, rfl⟩
abbrev main_while0b_v86 : Ref sig .tc := ⟨.hbm, 150, rfl⟩
abbrev main_while0b_v87 : Ref sig .tc := ⟨.hbm, 151, rfl⟩
abbrev main_while0b_v88 : Ref sig .tc := ⟨.hbm, 152, rfl⟩
abbrev main_while0b_v89 : Ref sig .tc := ⟨.hbm, 153, rfl⟩
abbrev main_while0b_v90 : Ref sig .tc := ⟨.hbm, 154, rfl⟩
abbrev main_while0b_v91 : Ref sig .tc := ⟨.hbm, 155, rfl⟩
abbrev main_while0b_v92 : Ref sig .tc := ⟨.hbm, 156, rfl⟩
abbrev main_while0b_v93 : Ref sig .tc := ⟨.hbm, 157, rfl⟩
abbrev main_while0b_v94 : Ref sig .tc := ⟨.hbm, 158, rfl⟩
abbrev main_while0b_cst_16 : Ref sig .tc := ⟨.hbm, 159, rfl⟩
abbrev main_while0b_v95 : Ref sig .tc := ⟨.hbm, 160, rfl⟩
abbrev main_while0b_v96 : Ref sig .tc := ⟨.hbm, 161, rfl⟩
abbrev main_while0b_v97 : Ref sig .tc := ⟨.hbm, 162, rfl⟩
abbrev main_while0b_v98 : Ref sig .tc := ⟨.hbm, 163, rfl⟩
abbrev main_while0b_v99 : Ref sig .tc := ⟨.hbm, 164, rfl⟩
abbrev main_while0b_v100 : Ref sig .tc := ⟨.hbm, 165, rfl⟩
abbrev main_while0b_v101 : Ref sig .tc := ⟨.hbm, 166, rfl⟩
abbrev main_while0b_v102 : Ref sig .tc := ⟨.hbm, 167, rfl⟩
abbrev main_while0b_v103 : Ref sig .tc := ⟨.hbm, 168, rfl⟩
abbrev main_while0b_v104 : Ref sig .tc := ⟨.hbm, 169, rfl⟩
abbrev main_while0b_v105 : Ref sig .tc := ⟨.hbm, 170, rfl⟩
abbrev main_while0b_v106 : Ref sig .tc := ⟨.hbm, 171, rfl⟩
abbrev main_while0b_v107 : Ref sig .tc := ⟨.hbm, 172, rfl⟩
abbrev main_while0b_v108 : Ref sig .tc := ⟨.hbm, 173, rfl⟩
abbrev main_while0b_v109 : Ref sig .tc := ⟨.hbm, 174, rfl⟩
abbrev main_while0b_v110 : Ref sig .tc := ⟨.hbm, 175, rfl⟩
abbrev main_while0b_v111 : Ref sig .tc := ⟨.hbm, 176, rfl⟩
abbrev main_while0b_v112 : Ref sig .tc := ⟨.hbm, 177, rfl⟩
abbrev main_while0b_v113 : Ref sig .tc := ⟨.hbm, 178, rfl⟩
abbrev main_while0b_v114 : Ref sig .tc := ⟨.hbm, 179, rfl⟩
abbrev main_while0b_v115 : Ref sig .tc := ⟨.hbm, 180, rfl⟩
abbrev main_while0b_v116 : Ref sig .tc := ⟨.hbm, 181, rfl⟩
abbrev main_while0b_v117 : Ref sig .tc := ⟨.hbm, 182, rfl⟩
abbrev main_while0b_v118 : Ref sig .tc := ⟨.hbm, 183, rfl⟩
abbrev main_while0b_v119 : Ref sig .tc := ⟨.hbm, 184, rfl⟩
abbrev main_while0b_v120 : Ref sig .tc := ⟨.hbm, 185, rfl⟩
abbrev main_while0b_v121 : Ref sig .tc := ⟨.hbm, 186, rfl⟩
abbrev main_while0b_v122 : Ref sig .tc := ⟨.hbm, 187, rfl⟩
abbrev main_while0b_v123 : Ref sig .tc := ⟨.hbm, 188, rfl⟩
abbrev main_while0b_v124 : Ref sig .tc := ⟨.hbm, 189, rfl⟩
abbrev main_while0b_v125 : Ref sig .tc := ⟨.hbm, 190, rfl⟩
abbrev main_while0b_v126 : Ref sig .tc := ⟨.hbm, 191, rfl⟩
abbrev main_while0b_v127 : Ref sig .tc := ⟨.hbm, 192, rfl⟩
abbrev main_while0b_v128 : Ref sig .tc := ⟨.hbm, 193, rfl⟩
abbrev main_while0b_v129 : Ref sig .tc := ⟨.hbm, 194, rfl⟩
abbrev main_while0b_v130 : Ref sig .tc := ⟨.hbm, 195, rfl⟩
abbrev main_while0b_v131 : Ref sig .tc := ⟨.hbm, 196, rfl⟩
abbrev main_while0b_v132 : Ref sig .tc := ⟨.hbm, 197, rfl⟩
abbrev main_while0b_v133 : Ref sig .tc := ⟨.hbm, 198, rfl⟩
abbrev main_while0b_call14_v0 : Ref sig .tc := ⟨.hbm, 199, rfl⟩
abbrev main_while0b_call14_c : Ref sig .tc := ⟨.hbm, 200, rfl⟩
abbrev main_while0b_call14_c_0 : Ref sig .tc := ⟨.hbm, 201, rfl⟩
abbrev main_while0b_call14_c_1 : Ref sig .tc := ⟨.hbm, 202, rfl⟩
abbrev main_while0b_call14_c_2 : Ref sig .tc := ⟨.hbm, 203, rfl⟩
abbrev main_while0b_v134 : Ref sig .tc := ⟨.hbm, 204, rfl⟩
abbrev main_while0b_c_17 : Ref sig .tc := ⟨.hbm, 205, rfl⟩
abbrev main_while0b_v135 : Ref sig .tc := ⟨.hbm, 206, rfl⟩
abbrev main_v51 : Ref sig .tc := ⟨.hbm, 207, rfl⟩
abbrev main_v52 : Ref sig .tc := ⟨.hbm, 208, rfl⟩
abbrev main_v53 : Ref sig .tc := ⟨.hbm, 209, rfl⟩
abbrev main_v54 : Ref sig .tc := ⟨.hbm, 210, rfl⟩
abbrev main_v55 : Ref sig .tc := ⟨.hbm, 211, rfl⟩
abbrev main_v56 : Ref sig .tc := ⟨.hbm, 212, rfl⟩
abbrev main_v57 : Ref sig .tc := ⟨.hbm, 213, rfl⟩
abbrev main_v58 : Ref sig .tc := ⟨.hbm, 214, rfl⟩
abbrev main_v59 : Ref sig .tc := ⟨.hbm, 215, rfl⟩
abbrev main_v60 : Ref sig .tc := ⟨.hbm, 216, rfl⟩

abbrev nD : Nat := 1
abbrev τ : Topo := Topo.v7x

variable {F : FTy → Type} [FloatOps F]

abbrev main_while0_count : Scf.Loop 32 := ⟨0#32, 128#32, 1#32⟩
-- ==== Post.lean ====
abbrev S2x16384x1024 : Shape := ⟨3, ![2, 16384, 1024]⟩
abbrev S16384x12288 : Shape := ⟨2, ![16384, 12288]⟩
abbrev S16384x2048 : Shape := ⟨2, ![16384, 2048]⟩
abbrev S1x4x256 : Shape := ⟨3, ![1, 4, 256]⟩
abbrev S1x8x128 : Shape := ⟨3, ![1, 8, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x16 : Shape := ⟨3, ![1, 2048, 16]⟩
abbrev S2048x16 : Shape := ⟨2, ![2048, 16]⟩
abbrev S_ : Shape := ⟨0, ![]⟩
abbrev S2048x128 : Shape := ⟨2, ![2048, 128]⟩
abbrev S4x256 : Shape := ⟨2, ![4, 256]⟩
abbrev S1x1024 : Shape := ⟨2, ![1, 1024]⟩
abbrev S8x128 : Shape := ⟨2, ![8, 128]⟩
abbrev S1024x2048 : Shape := ⟨2, ![1024, 2048]⟩
abbrev S2048x2048 : Shape := ⟨2, ![2048, 2048]⟩
abbrev S2048 : Shape := ⟨1, ![2048]⟩
abbrev S16384x128 : Shape := ⟨2, ![16384, 128]⟩
abbrev S2x256x1024 : Shape := ⟨3, ![2, 256, 1024]⟩
abbrev S256x1024 : Shape := ⟨2, ![256, 1024]⟩
abbrev S256x2048 : Shape := ⟨2, ![256, 2048]⟩
abbrev S256x128 : Shape := ⟨2, ![256, 128]⟩
abbrev S1x256x1024 : Shape := ⟨3, ![1, 256, 1024]⟩
abbrev S256x256 : Shape := ⟨2, ![256, 256]⟩
abbrev S256 : Shape := ⟨1, ![256]⟩
abbrev S256x1 : Shape := ⟨2, ![256, 1]⟩

abbrev nBuf : Space → Nat
  | .hbm => 37
  | .vmem => 29
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S16384x12288, .f32⟩
  | .hbm, ⟨3, _⟩ => ⟨S16384x2048, .f32⟩
  | .hbm, ⟨4, _⟩ => ⟨S1x4x256, .f32⟩
  | .hbm, ⟨5, _⟩ => ⟨S1x8x128, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S1x2048, .f32⟩
  | .hbm, ⟨10, _⟩ => ⟨S1x2048, .f32⟩
  | .hbm, ⟨11, _⟩ => ⟨S1x2048x16, .f32⟩
  | .hbm, ⟨12, _⟩ => ⟨S2048x16, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x128, .bf16⟩
  | .hbm, ⟨17, _⟩ => ⟨S2048x128, .f32⟩
  | .hbm, ⟨18, _⟩ => ⟨S2048x128, .f32⟩
  | .hbm, ⟨19, _⟩ => ⟨S2048x128, .bf16⟩
  | .hbm, ⟨20, _⟩ => ⟨S4x256, .f32⟩
  | .hbm, ⟨21, _⟩ => ⟨S1x1024, .f32⟩
  | .hbm, ⟨22, _⟩ => ⟨S8x128, .f32⟩
  | .hbm, ⟨23, _⟩ => ⟨S1x1024, .f32⟩
  | .hbm, ⟨24, _⟩ => ⟨S1024x2048, .f32⟩
  | .hbm, ⟨25, _⟩ => ⟨S1024x2048, .bf16⟩
  | .hbm, ⟨26, _⟩ => ⟨S1024x2048, .f32⟩
  | .hbm, ⟨27, _⟩ => ⟨S1024x2048, .bf16⟩
  | .hbm, ⟨28, _⟩ => ⟨S2048x2048, .f32⟩
  | .hbm, ⟨29, _⟩ => ⟨S2048x2048, .bf16⟩
  | .hbm, ⟨30, _⟩ => ⟨S2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S16384x2048, .f32⟩
  | .hbm, ⟨35, _⟩ => ⟨S16384x2048, .bf16⟩
  | .hbm, ⟨36, _⟩ => ⟨S16384x128, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S1x1024, .f32⟩
  | .local _ .vmem, ⟨15, _⟩ => ⟨S1x1024, .f32⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S1x2048, .f32⟩
  | .local _ .vmem, ⟨20, _⟩ => ⟨S1x2048, .f32⟩
  | .local _ .vmem, ⟨21, _⟩ => ⟨S2048x128, .bf16⟩
  | .local _ .vmem, ⟨22, _⟩ => ⟨S2048x128, .bf16⟩
  | .local _ .vmem, ⟨23, _⟩ => ⟨S256x2048, .f32⟩
  | .local _ .vmem, ⟨24, _⟩ => ⟨S256x2048, .f32⟩
  | .local _ .vmem, ⟨25, _⟩ => ⟨S256x2048, .bf16⟩
  | .local _ .vmem, ⟨26, _⟩ => ⟨S256x2048, .bf16⟩
  | .local _ .vmem, ⟨27, _⟩ => ⟨S256x128, .f32⟩
  | .local _ .vmem, ⟨28, _⟩ => ⟨S256x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== PostRefIdeal.lean ====
abbrev S2x16384x1024 : Shape := ⟨3, ![2, 16384, 1024]⟩
abbrev S16384x12288 : Shape := ⟨2, ![16384, 12288]⟩
abbrev S16384x2048 : Shape := ⟨2, ![16384, 2048]⟩
abbrev S1x4x256 : Shape := ⟨3, ![1, 4, 256]⟩
abbrev S1x8x128 : Shape := ⟨3, ![1, 8, 128]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x16 : Shape := ⟨3, ![1, 2048, 16]⟩
abbrev S16384x1024 : Shape := ⟨2, ![16384, 1024]⟩
abbrev S1x16384x1024 : Shape := ⟨3, ![1, 16384, 1024]⟩
abbrev S16384x4x256 : Shape := ⟨3, ![16384, 4, 256]⟩
abbrev S4x256 : Shape := ⟨2, ![4, 256]⟩
abbrev S_ : Shape := ⟨0, ![]⟩
abbrev S16384x4 : Shape := ⟨2, ![16384, 4]⟩
abbrev S16384x4x1 : Shape := ⟨3, ![16384, 4, 1]⟩
abbrev S1024x2048 : Shape := ⟨2, ![1024, 2048]⟩
abbrev S4x256x2048 : Shape := ⟨3, ![4, 256, 2048]⟩
abbrev S16384x8x128 : Shape := ⟨3, ![16384, 8, 128]⟩
abbrev S8x128 : Shape := ⟨2, ![8, 128]⟩
abbrev S16384x8 : Shape := ⟨2, ![16384, 8]⟩
abbrev S16384x8x1 : Shape := ⟨3, ![16384, 8, 1]⟩
abbrev S8x128x2048 : Shape := ⟨3, ![8, 128, 2048]⟩
abbrev S2048x2048 : Shape := ⟨2, ![2048, 2048]⟩
abbrev S2048 : Shape := ⟨1, ![2048]⟩
abbrev S16384 : Shape := ⟨1, ![16384]⟩
abbrev S16384x1 : Shape := ⟨2, ![16384, 1]⟩
abbrev S2048x16 : Shape := ⟨2, ![2048, 16]⟩
abbrev S16384x16 : Shape := ⟨2, ![16384, 16]⟩
abbrev S16384x128 : Shape := ⟨2, ![16384, 128]⟩

abbrev nBuf : Space → Nat
  | .hbm => 165
  | .vmem => 0
  | .smem => 0
  | _ => 0

abbrev hbmTy0_0 (i : Nat) : BufTy := match i % 128 with
  | 0 => ⟨S2x16384x1024, .f32⟩
  | 1 => ⟨S2x16384x1024, .f32⟩
  | 2 => ⟨S16384x12288, .f32⟩
  | 3 => ⟨S16384x2048, .f32⟩
  | 4 => ⟨S1x4x256, .f32⟩
  | 5 => ⟨S1x8x128, .f32⟩
  | 6 => ⟨S1x1024x2048, .f32⟩
  | 7 => ⟨S1x1024x2048, .f32⟩
  | 8 => ⟨S1x2048x2048, .f32⟩
  | 9 => ⟨S1x2048, .f32⟩
  | 10 => ⟨S1x2048, .f32⟩
  | 11 => ⟨S1x2048x16, .f32⟩
  | 12 => ⟨S16384x1024, .f32⟩
  | 13 => ⟨S16384x1024, .f32⟩
  | 14 => ⟨S16384x2048, .f32⟩
  | 15 => ⟨S16384x2048, .f32⟩
  | 16 => ⟨S1x16384x1024, .f32⟩
  | 17 => ⟨S16384x1024, .f32⟩
  | 18 => ⟨S1x16384x1024, .f32⟩
  | 19 => ⟨S16384x1024, .f32⟩
  | 20 => ⟨S16384x1024, .f32⟩
  | 21 => ⟨S16384x4x256, .f32⟩
  | 22 => ⟨S4x256, .f32⟩
  | 23 => ⟨S16384x4x256, .f32⟩
  | 24 => ⟨S_, .f32⟩
  | 25 => ⟨S16384x4, .f32⟩
  | 26 => ⟨S16384x4x1, .f32⟩
  | 27 => ⟨S_, .f32⟩
  | 28 => ⟨S16384x4x1, .f32⟩
  | 29 => ⟨S16384x4x1, .f32⟩
  | 30 => ⟨S_, .f32⟩
  | 31 => ⟨S16384x4x1, .f32⟩
  | 32 => ⟨S16384x4x1, .f32⟩
  | 33 => ⟨S16384x4x1, .f32⟩
  | 34 => ⟨S16384x4x256, .f32⟩
  | 35 => ⟨S16384x4x256, .f32⟩
  | 36 => ⟨S1x4x256, .f32⟩
  | 37 => ⟨S16384x4x256, .f32⟩
  | 38 => ⟨S16384x4x256, .f32⟩
  | 39 => ⟨S16384x4x256, .f32⟩
  | 40 => ⟨S16384x4x256, .f32⟩
  | 41 => ⟨S16384x4x256, .f32⟩
  | 42 => ⟨S_, .f32⟩
  | 43 => ⟨S16384x4x256, .f32⟩
  | 44 => ⟨S16384x4x256, .f32⟩
  | 45 => ⟨S_, .f32⟩
  | 46 => ⟨S16384x4x256, .f32⟩
  | 47 => ⟨S16384x4x256, .f32⟩
  | 48 => ⟨S16384x4x256, .f32⟩
  | 49 => ⟨S1024x2048, .f32⟩
  | 50 => ⟨S4x256x2048, .f32⟩
  | 51 => ⟨S16384x2048, .f32⟩
  | 52 => ⟨S1x16384x1024, .f32⟩
  | 53 => ⟨S16384x1024, .f32⟩
  | 54 => ⟨S1x16384x1024, .f32⟩
  | 55 => ⟨S16384x1024, .f32⟩
  | 56 => ⟨S16384x1024, .f32⟩
  | 57 => ⟨S16384x8x128, .f32⟩
  | 58 => ⟨S8x128, .f32⟩
  | 59 => ⟨S16384x8x128, .f32⟩
  | 60 => ⟨S_, .f32⟩
  | 61 => ⟨S16384x8, .f32⟩
  | 62 => ⟨S16384x8x1, .f32⟩
  | 63 => ⟨S_, .f32⟩
  | 64 => ⟨S16384x8x1, .f32⟩
  | 65 => ⟨S16384x8x1, .f32⟩
  | 66 => ⟨S_, .f32⟩
  | 67 => ⟨S16384x8x1, .f32⟩
  | 68 => ⟨S16384x8x1, .f32⟩
  | 69 => ⟨S16384x8x1, .f32⟩
  | 70 => ⟨S16384x8x128, .f32⟩
  | 71 => ⟨S16384x8x128, .f32⟩
  | 72 => ⟨S1x8x128, .f32⟩
  | 73 => ⟨S16384x8x128, .f32⟩
  | 74 => ⟨S16384x8x128, .f32⟩
  | 75 => ⟨S16384x8x128, .f32⟩
  | 76 => ⟨S16384x8x128, .f32⟩
  | 77 => ⟨S16384x8x128, .f32⟩
  | 78 => ⟨S_, .f32⟩
  | 79 => ⟨S16384x8x128, .f32⟩
  | 80 => ⟨S16384x8x128, .f32⟩
  | 81 => ⟨S_, .f32⟩
  | 82 => ⟨S16384x8x128, .f32⟩
  | 83 => ⟨S16384x8x128, .f32⟩
  | 84 => ⟨S16384x8x128, .f32⟩
  | 85 => ⟨S16384x8x128, .f32⟩
  | 86 => ⟨S1024x2048, .f32⟩
  | 87 => ⟨S8x128x2048, .f32⟩
  | 88 => ⟨S16384x2048, .f32⟩
  | 89 => ⟨S16384x2048, .f32⟩
  | 90 => ⟨S16384x2048, .f32⟩
  | 91 => ⟨S_, .f32⟩
  | 92 => ⟨S16384x2048, .f32⟩
  | 93 => ⟨S16384x2048, .f32⟩
  | 94 => ⟨S_, .f32⟩
  | 95 => ⟨S16384x2048, .f32⟩
  | 96 => ⟨S16384x2048, .f32⟩
  | 97 => ⟨S16384x2048, .f32⟩
  | 98 => ⟨S16384x2048, .f32⟩
  | 99 => ⟨S16384x2048, .f32⟩
  | 100 => ⟨S_, .f32⟩
  | 101 => ⟨S16384x2048, .f32⟩
  | 102 => ⟨S16384x2048, .f32⟩
  | 103 => ⟨S_, .f32⟩
  | 104 => ⟨S16384x2048, .f32⟩
  | 105 => ⟨S16384x2048, .f32⟩
  | 106 => ⟨S16384x2048, .f32⟩
  | 107 => ⟨S16384x2048, .f32⟩
  | 108 => ⟨S2048x2048, .f32⟩
  | 109 => ⟨S16384x2048, .f32⟩
  | 110 => ⟨S_, .f32⟩
  | 111 => ⟨S16384x2048, .f32⟩
  | 112 => ⟨S16384x2048, .f32⟩
  | 113 => ⟨S16384x2048, .f32⟩
  | 114 => ⟨S2048, .f32⟩
  | 115 => ⟨S2048, .f32⟩
  | 116 => ⟨S_, .f32⟩
  | 117 => ⟨S16384, .f32⟩
  | 118 => ⟨S16384x1, .f32⟩
  | 119 => ⟨S_, .f32⟩
  | 120 => ⟨S16384x1, .f32⟩
  | 121 => ⟨S16384x1, .f32⟩
  | 122 => ⟨S16384x2048, .f32⟩
  | 123 => ⟨S16384x2048, .f32⟩
  | 124 => ⟨S16384x2048, .f32⟩
  | 125 => ⟨S_, .f32⟩
  | 126 => ⟨S16384, .f32⟩
  | 127 => ⟨S16384x1, .f32⟩
  | _ => ⟨S2x16384x1024, .f32⟩

abbrev hbmTy0_1 (i : Nat) : BufTy := match i % 128 with
  | 0 => ⟨S_, .f32⟩
  | 1 => ⟨S16384x1, .f32⟩
  | 2 => ⟨S16384x1, .f32⟩
  | 3 => ⟨S16384x2048, .f32⟩
  | 4 => ⟨S16384x2048, .f32⟩
  | 5 => ⟨S_, .f32⟩
  | 6 => ⟨S16384x1, .f32⟩
  | 7 => ⟨S16384x1, .f32⟩
  | 8 => ⟨S16384x1, .f32⟩
  | 9 => ⟨S16384x2048, .f32⟩
  | 10 => ⟨S16384x2048, .f32⟩
  | 11 => ⟨S1x2048, .f32⟩
  | 12 => ⟨S16384x2048, .f32⟩
  | 13 => ⟨S16384x2048, .f32⟩
  | 14 => ⟨S1x2048, .f32⟩
  | 15 => ⟨S16384x2048, .f32⟩
  | 16 => ⟨S16384x2048, .f32⟩
  | 17 => ⟨S2048x16, .f32⟩
  | 18 => ⟨S16384x16, .f32⟩
  | 19 => ⟨S_, .f32⟩
  | 20 => ⟨S16384, .f32⟩
  | 21 => ⟨S_, .f32⟩
  | 22 => ⟨S16384, .f32⟩
  | 23 => ⟨S16384, .f32⟩
  | 24 => ⟨S16384x1, .f32⟩
  | 25 => ⟨S16384x16, .f32⟩
  | 26 => ⟨S16384x16, .f32⟩
  | 27 => ⟨S16384x16, .f32⟩
  | 28 => ⟨S_, .f32⟩
  | 29 => ⟨S16384, .f32⟩
  | 30 => ⟨S16384x1, .f32⟩
  | 31 => ⟨S16384x16, .f32⟩
  | 32 => ⟨S16384x16, .f32⟩
  | 33 => ⟨S16384x2048, .bf16⟩
  | 34 => ⟨S_, .i32⟩
  | 35 => ⟨S_, .f32⟩
  | 36 => ⟨S16384x128, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_7 : Ref sig .tc := ⟨.hbm, 91, rfl⟩
abbrev main_v63 : Ref sig .tc := ⟨.hbm, 92, rfl⟩
abbrev main_v64 : Ref sig .tc := ⟨.hbm, 93, rfl⟩
abbrev main_cst_8 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_9 : Ref sig .tc := ⟨.hbm, 100, rfl⟩
abbrev main_v70 : Ref sig .tc := ⟨.hbm, 101, rfl⟩
abbrev main_v71 : Ref sig .tc := ⟨.hbm, 102, rfl⟩
abbrev main_cst_10 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_11 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_12 : Ref sig .tc := ⟨.hbm, 116, rfl⟩
abbrev main_v83 : Ref sig .tc := ⟨.hbm, 117, rfl⟩
abbrev main_v84 : Ref sig .tc := ⟨.hbm, 118, rfl⟩
abbrev main_cst_13 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_14 : Ref sig .tc := ⟨.hbm, 125, rfl⟩
abbrev main_v90 : Ref sig .tc := ⟨.hbm, 126, rfl⟩
abbrev main_v91 : Ref sig .tc := ⟨.hbm, 127, rfl⟩
abbrev main_cst_15 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_16 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_17 : Ref sig .tc := ⟨.hbm, 147, rfl⟩
abbrev main_v109 : Ref sig .tc := ⟨.hbm, 148, rfl⟩
abbrev main_cst_18 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_19 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_c : Ref sig .tc := ⟨.hbm, 162, rfl⟩
abbrev main_call1_v0 : Ref sig .tc := ⟨.hbm, 163, rfl⟩
abbrev main_v121 : Ref sig .tc := ⟨.hbm, 164, rfl⟩

abbrev nD : Nat := 1
abbrev τ : Topo := Topo.v7x

variable {F : FTy → Type} [FloatOps F]
-- ==== Ln.lean ====
abbrev S2x8192x2048 : Shape := ⟨3, ![2, 8192, 2048]⟩
abbrev S2048 : Shape := ⟨1, ![2048]⟩
abbrev S1x2048x12304 : Shape := ⟨3, ![1, 2048, 12304]⟩
abbrev S1x12304 : Shape := ⟨2, ![1, 12304]⟩
abbrev S2048x12304 : Shape := ⟨2, ![2048, 12304]⟩
abbrev S12304x2048 : Shape := ⟨2, ![12304, 2048]⟩
abbrev S16x2048 : Shape := ⟨2, ![16, 2048]⟩
abbrev S_ : Shape := ⟨0, ![]⟩
abbrev S128x2048 : Shape := ⟨2, ![128, 2048]⟩
abbrev S1x16 : Shape := ⟨2, ![1, 16]⟩
abbrev S16 : Shape := ⟨1, ![16]⟩
abbrev S128 : Shape := ⟨1, ![128]⟩
abbrev S1x128 : Shape := ⟨2, ![1, 128]⟩
abbrev S16384x2048 : Shape := ⟨2, ![16384, 2048]⟩
abbrev S1x2048 : Shape := ⟨2, ![1, 2048]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 27
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048, .f32⟩
  | .hbm, ⟨3, _⟩ => ⟨S1x2048x12304, .f32⟩
  | .hbm, ⟨4, _⟩ => ⟨S1x12304, .f32⟩
  | .hbm, ⟨5, _⟩ => ⟨S2048x12304, .f32⟩
  | .hbm, ⟨6, _⟩ => ⟨S12304x2048, .f32⟩
  | .hbm, ⟨7, _⟩ => ⟨S16x2048, .f32⟩
  | .hbm, ⟨8, _⟩ => ⟨S_, .i32⟩
  | .hbm, ⟨9, _⟩ => ⟨S_, .f32⟩
  | .hbm, ⟨10, _⟩ => ⟨S128x2048, .f32⟩
  | .hbm, ⟨11, _⟩ => ⟨S128x2048, .bf16⟩
  | .hbm, ⟨12, _⟩ => ⟨S128x2048, .f32⟩
  | .hbm, ⟨13, _⟩ => ⟨S128x2048, .f32⟩
  | .hbm, ⟨14, _⟩ => ⟨S128x2048, .bf16⟩
  | .hbm, ⟨15, _⟩ => ⟨S1x16, .f32⟩
  | .hbm, ⟨16, _⟩ => ⟨S16, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S16384x2048, .f32⟩
  | .hbm, ⟨22, _⟩ => ⟨S1x2048, .f32⟩
  | .hbm, ⟨23, _⟩ => ⟨S1x2048, .f32⟩
  | .hbm, ⟨24, _⟩ => ⟨S16384x2048, .f32⟩
  | .hbm, ⟨25, _⟩ => ⟨S16384x2048, .bf16⟩
  | .hbm, ⟨26, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S128x2048, .bf16⟩
  | .local _ .vmem, ⟨5, _⟩ => ⟨S128x2048, .bf16⟩
  | .local _ .vmem, ⟨6, _⟩ => ⟨S1x128, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x128, .f32⟩
  | .local _ .vmem, ⟨12, _⟩ => ⟨S512x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LnRefIdeal.lean ====
abbrev S2x8192x2048 : Shape := ⟨3, ![2, 8192, 2048]⟩
abbrev S2048 : Shape := ⟨1, ![2048]⟩
abbrev S1x2048x12304 : Shape := ⟨3, ![1, 2048, 12304]⟩
abbrev S1x12304 : Shape := ⟨2, ![1, 12304]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x12304 : Shape := ⟨2, ![2048, 12304]⟩
abbrev S2x8192x12304 : Shape := ⟨3, ![2, 8192, 12304]⟩
abbrev S12304 : Shape := ⟨1, ![12304]⟩
abbrev S1x1x12304 : Shape := ⟨3, ![1, 1, 12304]⟩
abbrev S2x8192x16 : Shape := ⟨3, ![2, 8192, 16]⟩
abbrev S2x8192x128 : Shape := ⟨3, ![2, 8192, 128]⟩
abbrev S16384x2048 : Shape := ⟨2, ![16384, 2048]⟩
abbrev S16384x128 : Shape := ⟨2, ![16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048, .f32⟩
  | .hbm, ⟨3, _⟩ => ⟨S1x2048x12304, .f32⟩
  | .hbm, ⟨4, _⟩ => ⟨S1x12304, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x2048, .f32⟩
  | .hbm, ⟨21, _⟩ => ⟨S2x8192x2048, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x2048, .f32⟩
  | .hbm, ⟨27, _⟩ => ⟨S2x8192x2048, .f32⟩
  | .hbm, ⟨28, _⟩ => ⟨S1x1x2048, .f32⟩
  | .hbm, ⟨29, _⟩ => ⟨S2x8192x2048, .f32⟩
  | .hbm, ⟨30, _⟩ => ⟨S2x8192x2048, .f32⟩
  | .hbm, ⟨31, _⟩ => ⟨S1x1x2048, .f32⟩
  | .hbm, ⟨32, _⟩ => ⟨S2x8192x2048, .f32⟩
  | .hbm, ⟨33, _⟩ => ⟨S2x8192x2048, .f32⟩
  | .hbm, ⟨34, _⟩ => ⟨S2048x12304, .f32⟩
  | .hbm, ⟨35, _⟩ => ⟨S2x8192x12304, .f32⟩
  | .hbm, ⟨36, _⟩ => ⟨S12304, .f32⟩
  | .hbm, ⟨37, _⟩ => ⟨S1x1x12304, .f32⟩
  | .hbm, ⟨38, _⟩ => ⟨S2x8192x12304, .f32⟩
  | .hbm, ⟨39, _⟩ => ⟨S2x8192x12304, .f32⟩
  | .hbm, ⟨40, _⟩ => ⟨S2x8192x16, .f32⟩
  | .hbm, ⟨41, _⟩ => ⟨S_, .i32⟩
  | .hbm, ⟨42, _⟩ => ⟨S_, .f32⟩
  | .hbm, ⟨43, _⟩ => ⟨S2x8192x128, .f32⟩
  | .hbm, ⟨44, _⟩ => ⟨S16384x2048, .f32⟩
  | .hbm, ⟨45, _⟩ => ⟨S16384x2048, .f32⟩
  | .hbm, ⟨46, _⟩ => ⟨S16384x2048, .bf16⟩
  | .hbm, ⟨47, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_call0_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Conv.lean ====
abbrev S16384x12288 : Shape := ⟨2, ![16384, 12288]⟩
abbrev S1x5x1024 : Shape := ⟨3, ![1, 5, 1024]⟩
abbrev S_ : Shape := ⟨0, ![]⟩
abbrev S512 : Shape := ⟨1, ![512]⟩
abbrev S1024 : Shape := ⟨1, ![1024]⟩
abbrev S1x1024 : Shape := ⟨2, ![1, 1024]⟩
abbrev S5x1024 : Shape := ⟨2, ![5, 1024]⟩
abbrev S16384x1024 : Shape := ⟨2, ![16384, 1024]⟩
abbrev S8x1024 : Shape := ⟨2, ![8, 1024]⟩
abbrev S512x1024 : Shape := ⟨2, ![512, 1024]⟩
abbrev S528x1024 : Shape := ⟨2, ![528, 1024]⟩

abbrev nBuf : Space → Nat
  | .hbm => 10
  | .vmem => 10
  | .smem => 0
  | _ => 0

abbrev bufTy : (tb : Table) → Fin (tcTables nBuf tb) → BufTy
  | .hbm, ⟨0, _⟩ => ⟨S16384x12288, .f32⟩
  | .hbm, ⟨1, _⟩ => ⟨S1x5x1024, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S1024, .f32⟩
  | .hbm, ⟨7, _⟩ => ⟨S1x1024, .f32⟩
  | .hbm, ⟨8, _⟩ => ⟨S5x1024, .f32⟩
  | .hbm, ⟨9, _⟩ => ⟨S16384x1024, .f32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S5x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c64_i32 : BitVec 32 := 64#32
  let v3 : BitVec 32 := Scalar.muli v2 c64_i32
  let c2047_i32 : BitVec 32 := 2047#32
  let v4 : BitVec 32 := Scalar.minsi v3 c2047_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S5x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S16384x12288 : Shape := ⟨2, ![16384, 12288]⟩
abbrev S1x5x1024 : Shape := ⟨3, ![1, 5, 1024]⟩
abbrev S2x8192x12288 : Shape := ⟨3, ![2, 8192, 12288]⟩
abbrev S2x8192x1024 : Shape := ⟨3, ![2, 8192, 1024]⟩
abbrev S5x1024 : Shape := ⟨2, ![5, 1024]⟩
abbrev S_ : Shape := ⟨0, ![]⟩
abbrev S2x8196x1024 : Shape := ⟨3, ![2, 8196, 1024]⟩
abbrev S1x1024 : Shape := ⟨2, ![1, 1024]⟩
abbrev S1024 : Shape := ⟨1, ![1024]⟩
abbrev S1x1x1024 : Shape := ⟨3, ![1, 1, 1024]⟩
abbrev S2x8192x512 : Shape := ⟨3, ![2, 8192, 512]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S1x5x1024, .f32⟩
  | .hbm, ⟨2, _⟩ => ⟨S2x8192x12288, .f32⟩
  | .hbm, ⟨3, _⟩ => ⟨S2x8192x1024, .f32⟩
  | .hbm, ⟨4, _⟩ => ⟨S5x1024, .f32⟩
  | .hbm, ⟨5, _⟩ => ⟨S_, .i32⟩
  | .hbm, ⟨6, _⟩ => ⟨S_, .f32⟩
  | .hbm, ⟨7, _⟩ => ⟨S2x8196x1024, .f32⟩
  | .hbm, ⟨8, _⟩ => ⟨S1x1024, .f32⟩
  | .hbm, ⟨9, _⟩ => ⟨S1024, .f32⟩
  | .hbm, ⟨10, _⟩ => ⟨S2x8192x1024, .f32⟩
  | .hbm, ⟨11, _⟩ => ⟨S1x1x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S1x1024, .f32⟩
  | .hbm, ⟨18, _⟩ => ⟨S1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S1x1024, .f32⟩
  | .hbm, ⟨25, _⟩ => ⟨S1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S1x1024, .f32⟩
  | .hbm, ⟨32, _⟩ => ⟨S1024, .f32⟩
  | .hbm, ⟨33, _⟩ => ⟨S2x8192x1024, .f32⟩
  | .hbm, ⟨34, _⟩ => ⟨S1x1x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S1x1024, .f32⟩
  | .hbm, ⟨39, _⟩ => ⟨S1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S_, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x512, .f32⟩
  | .hbm, ⟨55, _⟩ => ⟨S2x8192x512, .f32⟩
  | .hbm, ⟨56, _⟩ => ⟨S_, .f32⟩
  | .hbm, ⟨57, _⟩ => ⟨S2x8192x512, .f32⟩
  | .hbm, ⟨58, _⟩ => ⟨S2x8192x512, .f32⟩
  | .hbm, ⟨59, _⟩ => ⟨S2x8192x1024, .f32⟩
  | .hbm, ⟨60, _⟩ => ⟨S16384x1024, .f32⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Hgrn.lean ====
abbrev S16384x12288 : Shape := ⟨2, ![16384, 12288]⟩
abbrev S2x1x1024 : Shape := ⟨3, ![2, 1, 1024]⟩
abbrev S128 : Shape := ⟨1, ![128]⟩
abbrev S_ : Shape := ⟨0, ![]⟩
abbrev S1x128 : Shape := ⟨2, ![1, 128]⟩
abbrev S2x128 : Shape := ⟨2, ![2, 128]⟩
abbrev S2x1x128x1 : Shape := ⟨4, ![2, 1, 128, 1]⟩
abbrev S2x1x1x128 : Shape := ⟨4, ![2, 1, 1, 128]⟩
abbrev S7 : Shape := ⟨1, ![7]⟩
abbrev S1x7x1x1 : Shape := ⟨4, ![1, 7, 1, 1]⟩
abbrev S2x1x128x128 : Shape := ⟨4, ![2, 1, 128, 128]⟩
abbrev S2x7x128x1 : Shape := ⟨4, ![2, 7, 128, 1]⟩
abbrev S2x7x1x128 : Shape := ⟨4, ![2, 7, 1, 128]⟩
abbrev S2x7x128x128 : Shape := ⟨4, ![2, 7, 128, 128]⟩
abbrev S2x6x128x128 : Shape := ⟨4, ![2, 6, 128, 128]⟩
abbrev S2x896x128 : Shape := ⟨3, ![2, 896, 128]⟩
abbrev S2x896x256 : Shape := ⟨3, ![2, 896, 256]⟩
abbrev S2x8x128x128 : Shape := ⟨4, ![2, 8, 128, 128]⟩
abbrev S2x16384x1024 : Shape := ⟨3, ![2, 16384, 1024]⟩
abbrev S128x1024 : Shape := ⟨2, ![128, 1024]⟩
abbrev S1x1x1024 : Shape := ⟨3, ![1, 1, 1024]⟩
abbrev S1x896x256 : Shape := ⟨3, ![1, 896, 256]⟩
abbrev S1x8x128x128 : Shape := ⟨4, ![1, 8, 128, 128]⟩
abbrev S1x7x128x128 : Shape := ⟨4, ![1, 7, 128, 128]⟩
abbrev S1x128x1024 : Shape := ⟨3, ![1, 128, 1024]⟩
abbrev S8x128x128 : Shape := ⟨3, ![8, 128, 128]⟩
abbrev S1x1024 : Shape := ⟨2, ![1, 1024]⟩
abbrev S896x256 : Shape := ⟨2, ![896, 256]⟩
abbrev S256x1024 : Shape := ⟨2, ![256, 1024]⟩
abbrev S896x1024 : Shape := ⟨2, ![896, 1024]⟩
abbrev S1024 : Shape := ⟨1, ![1024]⟩
abbrev S1x1x128x128 : Shape := ⟨4, ![1, 1, 128, 128]⟩
abbrev S128x128 : Shape := ⟨2, ![128, 128]⟩
abbrev S8x1024 : Shape := ⟨2, ![8, 1024]⟩
abbrev S1024x8 : Shape := ⟨2, ![1024, 8]⟩
abbrev S1024x1 : Shape := ⟨2, ![1024, 1]⟩
abbrev S1x128x128 : Shape := ⟨3, ![1, 128, 128]⟩
abbrev S128x256 : Shape := ⟨2, ![128, 256]⟩
abbrev S256x128 : Shape := ⟨2, ![256, 128]⟩
abbrev S128x1 : Shape := ⟨2, ![128, 1]⟩

abbrev nBuf : Space → Nat
  | .hbm => 74
  | .vmem => 17
  | .smem => 0
  | _ => 0

abbrev bufTy : (tb : Table) → Fin (tcTables nBuf tb) → BufTy
  | .hbm, ⟨0, _⟩ => ⟨S16384x12288, .f32⟩
  | .hbm, ⟨1, _⟩ => ⟨S2x1x1024, .f32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i32⟩
  | .hbm, ⟨6, _⟩ => ⟨S1x128, .i32⟩
  | .hbm, ⟨7, _⟩ => ⟨S1x128, .i32⟩
  | .hbm, ⟨8, _⟩ => ⟨S2x128, .i32⟩
  | .hbm, ⟨9, _⟩ => ⟨S2x1x128x1, .i32⟩
  | .hbm, ⟨10, _⟩ => ⟨S2x1x1x128, .i32⟩
  | .hbm, ⟨11, _⟩ => ⟨S7, .i32⟩
  | .hbm, ⟨12, _⟩ => ⟨S_, .i32⟩
  | .hbm, ⟨13, _⟩ => ⟨S7, .i32⟩
  | .hbm, ⟨14, _⟩ => ⟨S7, .i32⟩
  | .hbm, ⟨15, _⟩ => ⟨S1x7x1x1, .i32⟩
  | .hbm, ⟨16, _⟩ => ⟨S2x1x128x128, .i32⟩
  | .hbm, ⟨17, _⟩ => ⟨S2x1x128x128, .i32⟩
  | .hbm, ⟨18, _⟩ => ⟨S2x1x128x128, .i1⟩
  | .hbm, ⟨19, _⟩ => ⟨S2x7x128x1, .i32⟩
  | .hbm, ⟨20, _⟩ => ⟨S2x7x128x1, .i32⟩
  | .hbm, ⟨21, _⟩ => ⟨S2x7x128x1, .i32⟩
  | .hbm, ⟨22, _⟩ => ⟨S_, .i32⟩
  | .hbm, ⟨23, _⟩ => ⟨S2x7x128x1, .i32⟩
  | .hbm, ⟨24, _⟩ => ⟨S2x7x128x1, .i1⟩
  | .hbm, ⟨25, _⟩ => ⟨S2x7x1x128, .i32⟩
  | .hbm, ⟨26, _⟩ => ⟨S2x7x1x128, .i32⟩
  | .hbm, ⟨27, _⟩ => ⟨S2x7x1x128, .i32⟩
  | .hbm, ⟨28, _⟩ => ⟨S_, .i32⟩
  | .hbm, ⟨29, _⟩ => ⟨S2x7x1x128, .i32⟩
  | .hbm, ⟨30, _⟩ => ⟨S2x7x1x128, .i1⟩
  | .hbm, ⟨31, _⟩ => ⟨S2x1x128x128, .i32⟩
  | .hbm, ⟨32, _⟩ => ⟨S2x1x128x128, .i32⟩
  | .hbm, ⟨33, _⟩ => ⟨S2x1x128x128, .i32⟩
  | .hbm, ⟨34, _⟩ => ⟨S1x7x1x1, .i32⟩
  | .hbm, ⟨35, _⟩ => ⟨S2x7x128x128, .i32⟩
  | .hbm, ⟨36, _⟩ => ⟨S2x7x128x128, .i32⟩
  | .hbm, ⟨37, _⟩ => ⟨S2x7x128x128, .i32⟩
  | .hbm, ⟨38, _⟩ => ⟨S_, .i32⟩
  | .hbm, ⟨39, _⟩ => ⟨S2x7x128x128, .i32⟩
  | .hbm, ⟨40, _⟩ => ⟨S2x7x128x128, .i1⟩
  | .hbm, ⟨41, _⟩ => ⟨S2x1x128x128, .i32⟩
  | .hbm, ⟨42, _⟩ => ⟨S2x1x128x128, .i32⟩
  | .hbm, ⟨43, _⟩ => ⟨S2x1x128x128, .i32⟩
  | .hbm, ⟨44, _⟩ => ⟨S1x7x1x1, .i32⟩
  | .hbm, ⟨45, _⟩ => ⟨S1x7x1x1, .i32⟩
  | .hbm, ⟨46, _⟩ => ⟨S2x7x128x128, .i32⟩
  | .hbm, ⟨47, _⟩ => ⟨S2x7x128x128, .i32⟩
  | .hbm, ⟨48, _⟩ => ⟨S2x7x128x128, .i32⟩
  | .hbm, ⟨49, _⟩ => ⟨S_, .i32⟩
  | .hbm, ⟨50, _⟩ => ⟨S2x7x128x128, .i32⟩
  | .hbm, ⟨51, _⟩ => ⟨S2x7x128x128, .i1⟩
  | .hbm, ⟨52, _⟩ => ⟨S2x7x128x128, .i1⟩
  | .hbm, ⟨53, _⟩ => ⟨S2x7x128x128, .i1⟩
  | .hbm, ⟨54, _⟩ => ⟨S2x7x128x128, .i1⟩
  | .hbm, ⟨55, _⟩ => ⟨S2x7x128x128, .i1⟩
  | .hbm, ⟨56, _⟩ => ⟨S2x6x128x128, .i1⟩
  | .hbm, ⟨57, _⟩ => ⟨S2x7x128x128, .i1⟩
  | .hbm, ⟨58, _⟩ => ⟨S2x896x128, .i1⟩
  | .hbm, ⟨59, _⟩ => ⟨S2x896x256, .i1⟩
  | .hbm, ⟨60, _⟩ => ⟨S2x1x128x128, .i32⟩
  | .hbm, ⟨61, _⟩ => ⟨S2x1x128x128, .i32⟩
  | .hbm, ⟨62, _⟩ => ⟨S2x1x128x128, .i1⟩
  | .hbm, ⟨63, _⟩ => ⟨S2x7x128x128, .i1⟩
  | .hbm, ⟨64, _⟩ => ⟨S2x7x128x128, .i1⟩
  | .hbm, ⟨65, _⟩ => ⟨S2x7x1x128, .i1⟩
  | .hbm, ⟨66, _⟩ => ⟨S2x7x128x128, .i1⟩
  | .hbm, ⟨67, _⟩ => ⟨S2x7x128x128, .i1⟩
  | .hbm, ⟨68, _⟩ => ⟨S2x8x128x128, .i1⟩
  | .hbm, ⟨69, _⟩ => ⟨S2x7x128x128, .i1⟩
  | .hbm, ⟨70, _⟩ => ⟨S2x896x256, .bf16⟩
  | .hbm, ⟨71, _⟩ => ⟨S2x8x128x128, .f32⟩
  | .hbm, ⟨72, _⟩ => ⟨S2x7x128x128, .f32⟩
  | .hbm, ⟨73, _⟩ => ⟨S2x16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x896x256, .bf16⟩
  | .local _ .vmem, ⟨9, _⟩ => ⟨S1x896x256, .bf16⟩
  | .local _ .vmem, ⟨10, _⟩ => ⟨S1x8x128x128, .f32⟩
  | .local _ .vmem, ⟨11, _⟩ => ⟨S1x8x128x128, .f32⟩
  | .local _ .vmem, ⟨12, _⟩ => ⟨S1x7x128x128, .f32⟩
  | .local _ .vmem, ⟨13, _⟩ => ⟨S1x7x128x128, .f32⟩
  | .local _ .vmem, ⟨14, _⟩ => ⟨S1x128x1024, .f32⟩
  | .local _ .vmem, ⟨15, _⟩ => ⟨S1x128x1024, .f32⟩
  | .local _ .vmem, ⟨16, _⟩ => ⟨S8x128x128, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 2, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c2_i32 : BitVec 32 := 2#32
  let v1 : BitVec 32 := Scalar.muli c2_i32 arg2
  let c63_i32 : BitVec 32 := 63#32
  let v2 : BitVec 32 := Scalar.subi c63_i32 v1
  let v3 : BitVec 32 := Scalar.muli arg0 v2
  let v4 : BitVec 32 := Scalar.addi arg2 v3
  let v5 : BitVec 32 := Scalar.addi v0 v4
  let c3_i32 : BitVec 32 := 3#32
  let c0_i32 : BitVec 32 := 0#32
  ![v5.toNat, c3_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c2_i32 : BitVec 32 := 2#32
  let v1 : BitVec 32 := Scalar.muli c2_i32 arg2
  let c63_i32 : BitVec 32 := 63#32
  let v2 : BitVec 32 := Scalar.subi c63_i32 v1
  let v3 : BitVec 32 := Scalar.muli arg0 v2
  let v4 : BitVec 32 := Scalar.addi arg2 v3
  let v5 : BitVec 32 := Scalar.addi v0 v4
  let c4_i32 : BitVec 32 := 4#32
  let v6 : BitVec 32 := Scalar.addi c4_i32 arg0
  let c0_i32 : BitVec 32 := 0#32
  ![v5.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c2_i32 : BitVec 32 := 2#32
  let v1 : BitVec 32 := Scalar.muli c2_i32 arg2
  let c63_i32 : BitVec 32 := 63#32
  let v2 : BitVec 32 := Scalar.subi c63_i32 v1
  let v3 : BitVec 32 := Scalar.muli arg0 v2
  let v4 : BitVec 32 := Scalar.addi arg2 v3
  let v5 : BitVec 32 := Scalar.addi v0 v4
  let c6_i32 : BitVec 32 := 6#32
  let c0_i32 : BitVec 32 := 0#32
  ![v5.toNat, c6_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c2_i32 : BitVec 32 := 2#32
  let v1 : BitVec 32 := Scalar.muli c2_i32 arg2
  let c63_i32 : BitVec 32 := 63#32
  let v2 : BitVec 32 := Scalar.subi c63_i32 v1
  let v3 : BitVec 32 := Scalar.muli arg0 v2
  let v4 : BitVec 32 := Scalar.addi arg2 v3
  let v5 : BitVec 32 := Scalar.addi v0 v4
  let c0_i32 : BitVec 32 := 0#32
  let c0_i32_0 : BitVec 32 := 0#32
  ![arg0.toNat, v5.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x896x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x7x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== HgrnRefIdeal.lean ====
abbrev S16384x12288 : Shape := ⟨2, ![16384, 12288]⟩
abbrev S2x1x1024 : Shape := ⟨3, ![2, 1, 1024]⟩
abbrev S16384x1024 : Shape := ⟨2, ![16384, 1024]⟩
abbrev S2x8192x8x128 : Shape := ⟨4, ![2, 8192, 8, 128]⟩
abbrev S16384x2048 : Shape := ⟨2, ![16384, 2048]⟩
abbrev S2x8192x2x8x128 : Shape := ⟨5, ![2, 8192, 2, 8, 128]⟩
abbrev S2x8x128 : Shape := ⟨3, ![2, 8, 128]⟩
abbrev S_ : Shape := ⟨0, ![]⟩
abbrev S1x1x2x8x128 : Shape := ⟨5, ![1, 1, 2, 8, 128]⟩
abbrev S4x8192x8x128 : Shape := ⟨4, ![4, 8192, 8, 128]⟩
abbrev S2x8192x1x8x128 : Shape := ⟨5, ![2, 8192, 1, 8, 128]⟩
abbrev S4x128x64x8x128 : Shape := ⟨5, ![4, 128, 64, 8, 128]⟩
abbrev S128x4x64x8x128 : Shape := ⟨5, ![128, 4, 64, 8, 128]⟩
abbrev S128x4x8x64x128 : Shape := ⟨5, ![128, 4, 8, 64, 128]⟩
abbrev S64x64 : Shape := ⟨2, ![64, 64]⟩
abbrev S64x64x1 : Shape := ⟨3, ![64, 64, 1]⟩
abbrev S4x8x128x128 : Shape := ⟨4, ![4, 8, 128, 128]⟩
abbrev S1x4x8x64x128 : Shape := ⟨5, ![1, 4, 8, 64, 128]⟩
abbrev S4x8x64x128 : Shape := ⟨4, ![4, 8, 64, 128]⟩
abbrev S4x8x64x1x128 : Shape := ⟨5, ![4, 8, 64, 1, 128]⟩
abbrev S4x8x1x64x128 : Shape := ⟨5, ![4, 8, 1, 64, 128]⟩
abbrev S4x8x64x64x128 : Shape := ⟨5, ![4, 8, 64, 64, 128]⟩
abbrev S4x8x64x64 : Shape := ⟨4, ![4, 8, 64, 64]⟩
abbrev S4x8x1x128 : Shape := ⟨4, ![4, 8, 1, 128]⟩
abbrev S4x8x128 : Shape := ⟨3, ![4, 8, 128]⟩
abbrev S4x8x128x1 : Shape := ⟨4, ![4, 8, 128, 1]⟩
abbrev S1x2x8192x8x128 : Shape := ⟨5, ![1, 2, 8192, 8, 128]⟩
abbrev S2x2x8192x8x128 : Shape := ⟨5, ![2, 2, 8192, 8, 128]⟩
abbrev S2x16384x1024 : Shape := ⟨3, ![2, 16384, 1024]⟩

abbrev nBuf : Space → Nat
  | .hbm => 150
  | .vmem => 0
  | .smem => 0
  | _ => 0

abbrev hbmTy0_0 (i : Nat) : BufTy := match i % 128 with
  | 0 => ⟨S16384x12288, .f32⟩
  | 1 => ⟨S2x1x1024, .f32⟩
  | 2 => ⟨S16384x1024, .f32⟩
  | 3 => ⟨S2x8192x8x128, .f32⟩
  | 4 => ⟨S16384x2048, .f32⟩
  | 5 => ⟨S2x8192x2x8x128, .f32⟩
  | 6 => ⟨S16384x1024, .f32⟩
  | 7 => ⟨S2x8192x8x128, .f32⟩
  | 8 => ⟨S2x8x128, .f32⟩
  | 9 => ⟨S_, .f32⟩
  | 10 => ⟨S2x8x128, .f32⟩
  | 11 => ⟨S2x8x128, .f32⟩
  | 12 => ⟨S2x8192x2x8x128, .f32⟩
  | 13 => ⟨S2x8192x2x8x128, .f32⟩
  | 14 => ⟨S_, .f32⟩
  | 15 => ⟨S2x8192x2x8x128, .f32⟩
  | 16 => ⟨S2x8192x2x8x128, .f32⟩
  | 17 => ⟨S_, .f32⟩
  | 18 => ⟨S2x8192x2x8x128, .f32⟩
  | 19 => ⟨S2x8192x2x8x128, .f32⟩
  | 20 => ⟨S1x1x2x8x128, .f32⟩
  | 21 => ⟨S2x8192x2x8x128, .f32⟩
  | 22 => ⟨S2x8192x2x8x128, .f32⟩
  | 23 => ⟨S1x1x2x8x128, .f32⟩
  | 24 => ⟨S2x8192x2x8x128, .f32⟩
  | 25 => ⟨S2x8192x2x8x128, .f32⟩
  | 26 => ⟨S2x8192x8x128, .f32⟩
  | 27 => ⟨S4x8192x8x128, .f32⟩
  | 28 => ⟨S2x8192x8x128, .f32⟩
  | 29 => ⟨S4x8192x8x128, .f32⟩
  | 30 => ⟨S2x8192x1x8x128, .f32⟩
  | 31 => ⟨S2x8192x8x128, .f32⟩
  | 32 => ⟨S2x8192x1x8x128, .f32⟩
  | 33 => ⟨S2x8192x8x128, .f32⟩
  | 34 => ⟨S2x8192x8x128, .f32⟩
  | 35 => ⟨S4x8192x8x128, .f32⟩
  | 36 => ⟨S4x128x64x8x128, .f32⟩
  | 37 => ⟨S128x4x64x8x128, .f32⟩
  | 38 => ⟨S128x4x8x64x128, .f32⟩
  | 39 => ⟨S4x128x64x8x128, .f32⟩
  | 40 => ⟨S128x4x64x8x128, .f32⟩
  | 41 => ⟨S128x4x8x64x128, .f32⟩
  | 42 => ⟨S4x128x64x8x128, .f32⟩
  | 43 => ⟨S128x4x64x8x128, .f32⟩
  | 44 => ⟨S128x4x8x64x128, .f32⟩
  | 45 => ⟨S_, .i1⟩
  | 46 => ⟨S64x64, .i1⟩
  | 47 => ⟨S64x64, .i32⟩
  | 48 => ⟨S_, .i32⟩
  | 49 => ⟨S64x64, .i32⟩
  | 50 => ⟨S64x64, .i32⟩
  | 51 => ⟨S64x64, .i32⟩
  | 52 => ⟨S64x64, .i1⟩
  | 53 => ⟨S_, .i1⟩
  | 54 => ⟨S64x64, .i1⟩
  | 55 => ⟨S64x64, .i1⟩
  | 56 => ⟨S64x64x1, .i1⟩
  | 57 => ⟨S_, .f32⟩
  | 58 => ⟨S4x8x128x128, .f32⟩
  | 59 => ⟨S_, .f32⟩
  | 60 => ⟨S128x4x8x64x128, .f32⟩
  | 61 => ⟨S_, .i32⟩
  | 62 => ⟨S128x4x8x64x128, .f32⟩
  | 63 => ⟨S128x4x8x64x128, .f32⟩
  | 64 => ⟨S128x4x8x64x128, .f32⟩
  | 65 => ⟨S64x64x1, .i1⟩
  | 66 => ⟨S_, .i32⟩
  | 67 => ⟨S4x8x128x128, .f32⟩
  | 68 => ⟨S128x4x8x64x128, .f32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S1x4x8x64x128, .f32⟩
  | 76 => ⟨S4x8x64x128, .f32⟩
  | 77 => ⟨S_, .i32⟩
  | 78 => ⟨S_, .i32⟩
  | 79 => ⟨S_, .i32⟩
  | 80 => ⟨S_, .i32⟩
  | 81 => ⟨S1x4x8x64x128, .f32⟩
  | 82 => ⟨S4x8x64x128, .f32⟩
  | 83 => ⟨S_, .i32⟩
  | 84 => ⟨S_, .i32⟩
  | 85 => ⟨S_, .i32⟩
  | 86 => ⟨S_, .i32⟩
  | 87 => ⟨S1x4x8x64x128, .f32⟩
  | 88 => ⟨S4x8x64x128, .f32⟩
  | 89 => ⟨S_, .f32⟩
  | 90 => ⟨S4x8x64x128, .f32⟩
  | 91 => ⟨S4x8x64x128, .f32⟩
  | 92 => ⟨S4x8x64x128, .f32⟩
  | 93 => ⟨S_, .f32⟩
  | 94 => ⟨S_, .f32⟩
  | 95 => ⟨S4x8x64x128, .f32⟩
  | 96 => ⟨S4x8x64x1x128, .f32⟩
  | 97 => ⟨S4x8x1x64x128, .f32⟩
  | 98 => ⟨S4x8x64x64x128, .f32⟩
  | 99 => ⟨S4x8x64x64x128, .f32⟩
  | 100 => ⟨S4x8x64x64x128, .f32⟩
  | 101 => ⟨S_, .f32⟩
  | 102 => ⟨S_, .f32⟩
  | 103 => ⟨S4x8x64x64x128, .i1⟩
  | 104 => ⟨S4x8x64x64x128, .f32⟩
  | 105 => ⟨S4x8x64x64x128, .f32⟩
  | 106 => ⟨S4x8x64x64x128, .f32⟩
  | 107 => ⟨S4x8x64x1x128, .f32⟩
  | 108 => ⟨S4x8x1x64x128, .f32⟩
  | 109 => ⟨S4x8x64x64x128, .f32⟩
  | 110 => ⟨S4x8x64x64x128, .f32⟩
  | 111 => ⟨S4x8x64x64x128, .f32⟩
  | 112 => ⟨S4x8x64x64x128, .f32⟩
  | 113 => ⟨S_, .f32⟩
  | 114 => ⟨S4x8x64x64, .f32⟩
  | 115 => ⟨S4x8x64x128, .f32⟩
  | 116 => ⟨S4x8x64x128, .f32⟩
  | 117 => ⟨S4x8x64x128, .f32⟩
  | 118 => ⟨S4x8x64x128, .f32⟩
  | 119 => ⟨S4x8x64x128, .f32⟩
  | 120 => ⟨S4x8x1x128, .f32⟩
  | 121 => ⟨S4x8x128, .f32⟩
  | 122 => ⟨S4x8x128, .f32⟩
  | 123 => ⟨S4x8x128x1, .f32⟩
  | 124 => ⟨S4x8x128x128, .f32⟩
  | 125 => ⟨S4x8x128x128, .f32⟩
  | 126 => ⟨S4x8x64x128, .f32⟩
  | 127 => ⟨S4x8x64x128, .f32⟩
  | _ => ⟨S16384x12288, .f32⟩

abbrev hbmTy0_1 (i : Nat) : BufTy := match i % 128 with
  | 0 => ⟨S4x8x64x128, .f32⟩
  | 1 => ⟨S4x8x64x128, .f32⟩
  | 2 => ⟨S4x8x128x128, .f32⟩
  | 3 => ⟨S4x8x128x128, .f32⟩
  | 4 => ⟨S1x4x8x64x128, .f32⟩
  | 5 => ⟨S_, .i32⟩
  | 6 => ⟨S_, .i32⟩
  | 7 => ⟨S_, .i32⟩
  | 8 => ⟨S_, .i32⟩
  | 9 => ⟨S128x4x8x64x128, .f32⟩
  | 10 => ⟨S_, .i32⟩
  | 11 => ⟨S_, .i32⟩
  | 12 => ⟨S128x4x64x8x128, .f32⟩
  | 13 => ⟨S4x128x64x8x128, .f32⟩
  | 14 => ⟨S4x8192x8x128, .f32⟩
  | 15 => ⟨S2x8192x8x128, .f32⟩
  | 16 => ⟨S2x8192x8x128, .f32⟩
  | 17 => ⟨S2x8192x8x128, .f32⟩
  | 18 => ⟨S1x2x8192x8x128, .f32⟩
  | 19 => ⟨S1x2x8192x8x128, .f32⟩
  | 20 => ⟨S2x2x8192x8x128, .f32⟩
  | 21 => ⟨S2x16384x1024, .f32⟩
  | _ => ⟨S16384x12288, .f32⟩

abbrev hbmTy (i : Nat) : BufTy := match i / 128 with
  | 0 => hbmTy0_0 i
  | 1 => hbmTy0_1 i
  | _ => ⟨S16384x12288, .f32⟩

abbrev bufTy : (tb : Table) → Fin (tcTables nBuf tb) → BufTy
  | .hbm, ⟨i, _⟩ => hbmTy i
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_c : Ref sig .tc := ⟨.hbm, 45, rfl⟩
abbrev main_v40 : Ref sig .tc := ⟨.hbm, 46, rfl⟩
abbrev main_call3_v0 : Ref sig .tc := ⟨.hbm, 47, rfl⟩
abbrev main_call3_c : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_c_0 : Ref sig .tc := ⟨.hbm, 53, rfl⟩
abbrev main_call3_v5 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_c_4 : Ref sig .tc := ⟨.hbm, 61, rfl⟩
abbrev main_v45_0 : Ref sig .tc := ⟨.hbm, 62, rfl⟩
abbrev main_v45_1 : Ref sig .tc := ⟨.hbm, 63, rfl⟩
abbrev main_v45_2 : Ref sig .tc := ⟨.hbm, 64, rfl⟩
abbrev main_v45_3 : Ref sig .tc := ⟨.hbm, 65, rfl⟩
abbrev main_v45_4 : Ref sig .tc := ⟨.hbm, 66, rfl⟩
abbrev main_v45_5 : Ref sig .tc := ⟨.hbm, 67, rfl⟩
abbrev main_v45_6 : Ref sig .tc := ⟨.hbm, 68, rfl⟩
abbrev main_while0c_c_11 : Ref sig .tc := ⟨.hbm, 69, rfl⟩
abbrev main_while0c_v56 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_call4_c_1 : Ref sig .tc := ⟨.hbm, 73, rfl⟩
abbrev main_while0b_call4_c_2 : Ref sig .tc := ⟨.hbm, 74, rfl⟩
abbrev main_while0b_call4_v0 : Ref sig .tc := ⟨.hbm, 75, rfl⟩
abbrev main_while0b_v56 : Ref sig .tc := ⟨.hbm, 76, rfl⟩
abbrev main_while0b_call5_c : Ref sig .tc := ⟨.hbm, 77, rfl⟩
abbrev main_while0b_call5_c_0 : Ref sig .tc := ⟨.hbm, 78, rfl⟩
abbrev main_while0b_call5_c_1 : Ref sig .tc := ⟨.hbm, 79, rfl⟩
abbrev main_while0b_call5_c_2 : Ref sig .tc := ⟨.hbm, 80, rfl⟩
abbrev main_while0b_call5_v0 : Ref sig .tc := ⟨.hbm, 81, rfl⟩
abbrev main_while0b_v57 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_call6_c_2 : Ref sig .tc := ⟨.hbm, 86, rfl⟩
abbrev main_while0b_call6_v0 : Ref sig .tc := ⟨.hbm, 87, rfl⟩
abbrev main_while0b_v58 : Ref sig .tc := ⟨.hbm, 88, rfl⟩
abbrev main_while0b_cst_11 : Ref sig .tc := ⟨.hbm, 89, rfl⟩
abbrev main_while0b_v59 : Ref sig .tc := ⟨.hbm, 90, rfl⟩
abbrev main_while0b_v60 : Ref sig .tc := ⟨.hbm, 91, rfl⟩
abbrev main_while0b_v61 : Ref sig .tc := ⟨.hbm, 92, rfl⟩
abbrev main_while0b_call7_call0_cst : Ref sig .tc := ⟨.hbm, 93, rfl⟩
abbrev main_while0b_call7_call0_v0 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_cst_12 : Ref sig .tc := ⟨.hbm, 101, rfl⟩
abbrev main_while0b_call8_v0 : Ref sig .tc := ⟨.hbm, 102, rfl⟩
abbrev main_while0b_call8_v1 : Ref sig .tc := ⟨.hbm, 103, rfl⟩
abbrev main_while0b_call8_v2 : Ref sig .tc := ⟨.hbm, 104, rfl⟩
abbrev main_while0b_v68 : Ref sig .tc := ⟨.hbm, 105, rfl⟩
abbrev main_while0b_v69 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_v75 : Ref sig .tc := ⟨.hbm, 112, rfl⟩
abbrev main_while0b_cst_13 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_v79 : Ref sig .tc := ⟨.hbm, 117, rfl⟩
abbrev main_while0b_v80 : Ref sig .tc := ⟨.hbm, 118, rfl⟩
abbrev main_while0b_v81 : Ref sig .tc := ⟨.hbm, 119, rfl⟩
abbrev main_while0b_v82 : Ref sig .tc := ⟨.hbm, 120, rfl⟩
abbrev main_while0b_v83 : Ref sig .tc := ⟨.hbm, 121, rfl⟩
abbrev main_while0b_v84 : Ref sig .tc := ⟨.hbm, 122, rfl⟩
abbrev main_while0b_v85 : Ref sig .tc := ⟨.hbm, 123, rfl⟩
abbrev main_while0b_v86 : Ref sig .tc := ⟨.hbm, 124, rfl⟩
abbrev main_while0b_v87 : Ref sig .tc := ⟨.hbm, 125, rfl⟩
abbrev main_while0b_v88 : Ref sig .tc := ⟨.hbm, 126, rfl⟩
abbrev main_while0b_v89 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_v93 : Ref sig .tc := ⟨.hbm, 131, rfl⟩
abbrev main_while0b_call9_v0 : Ref sig .tc := ⟨.hbm, 132, rfl⟩
abbrev main_while0b_call9_c : Ref sig .tc := ⟨.hbm, 133, rfl⟩
abbrev main_while0b_call9_c_0 : Ref sig .tc := ⟨.hbm, 134, rfl⟩
abbrev main_while0b_call9_c_1 : Ref sig .tc := ⟨.hbm, 135, rfl⟩
abbrev main_while0b_call9_c_2 : Ref sig .tc := ⟨.hbm, 136, rfl⟩
abbrev main_while0b_v94 : Ref sig .tc := ⟨.hbm, 137, rfl⟩
abbrev main_while0b_c_14 : Ref sig .tc := ⟨.hbm, 138, rfl⟩
abbrev main_while0b_v95 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩

abbrev nD : Nat := 1
abbrev τ : Topo := Topo.v7x

variable {F : FTy → Type} [FloatOps F]

abbrev main_while0_count : Scf.Loop 32 := ⟨0#32, 128#32, 1#32⟩
-- ==== Proof.InprojValue.lean ====
/-
  The input projection: what the kernel leaves in its result array, and what the reference computes, at an index.
-/
module

public import proofs.«01_k».proof.Proof.Gen.InprojIdeal.Value
public import Idealize.ShloMosaic.Lib.Pipeline.ValueKit
public import Idealize.ShloMosaic.Lib.Claim
public import Idealize.ShloMosaic.Lib.Tactic
public import Idealize.ShloMosaic.Lib.Pointwise

@[expose] public section

set_option maxRecDepth 16384

noncomputable section

/-! ## The projection as plain sums -/

namespace Cert.InprojMath

open Idealize.ShloMosaic

/-- Which column of the weights a result column is: the sixteen gate columns after column 3072 are skipped. -/
def col (e : Fin 12288) : Fin 12304 := ⟨if e.val < 3072 then e.val else e.val + 16, by split <;> omega⟩

/-- A row of the normalised input against that column, plus its bias. -/
def proj (h : Fin 16384 → Fin 2048 → EReal) (w : Fin 2048 → Fin 12304 → EReal) (b : Fin 12304 → EReal) (r : Fin 16384) (e : Fin 12288) : EReal :=
  (∑ d : Fin 2048, h r d * w d (col e)) + b (col e)

end Cert.InprojMath

/-! ## The kernel -/

namespace Cert.InprojIdeal.Value

open Cert.InprojIdeal Cert.InprojIdeal.Gen Idealize.ShloMosaic Idealize.ShloMosaic.TcCoe Idealize.SL.Sem Cert.InprojMath

variable (m : (ℓ : Loc nD τ sig) → Buf (Elt Ideal) ℓ) (c : Dev nD)

/-- The stored block at a place of it. -/
theorem pay1_apply (v0 : Vec Ideal S2048x2048 .bf16) (v1 : Vec Ideal S512x2048 .f32) (v5 : Vec Ideal S1x512 .f32) (r : Fin 2048) (e : Fin 512) :
    k0_pay1 v0 v1 v5 (ix2 r e) = (∑ d : Fin 2048, v0 (ix2 r d) * v1 (ix2 e d)) + v5 (ix2 0 e) := by
  unfold k0_pay1
  pointwise

/-- The windows' places at a point: row block `t / 24`, column block `t % 24`; the weights' rows from column block 6 on
    are sixteen further. -/
theorem idx : ∀ t : Fin cfg0.N, win0_0.index t = ![t.val / 24, 0]
    ∧ win0_1.index t = ![t.val % 24 * 512 + (if t.val % 24 < 6 then 0 else 16), 0]
    ∧ win0_2.index t = ![0, t.val % 24] ∧ win0_3.index t = ![t.val / 24, t.val % 24] :=
  (by decide +kernel : ∀ t : Fin grid0.N, _)

/-- A grid point's number lies inside the grid. -/
theorem lt_N (t : Fin cfg0.N) : t.val < 192 := lt_of_lt_of_eq t.isLt N_0

/-- The row of a grid point's block at an offset. -/
abbrev rowOf (t : Fin cfg0.N) (r : Fin 2048) : Fin 16384 := ⟨t.val / 24 * 2048 + r.val, by have := lt_N t; omega⟩
/-- The column of a grid point's block at an offset. -/
abbrev colOf (t : Fin cfg0.N) (e : Fin 512) : Fin 12288 := ⟨t.val % 24 * 512 + e.val, by omega⟩

/-- The block of the input. -/
theorem iblk0 (t : Fin cfg0.N) (r d : Fin 2048) :
    iblk m c 0 t (ix2 r d) = m ((c : Thread nD τ).loc main_arg0) (ix2 (rowOf t r) d) := by
  have h1 := lt_N t
  blk_ext! [iblk, V, idx t]

/-- The column of the weights that a result column reads. -/
theorem col_val (t : Fin cfg0.N) (e : Fin 512) :
    (col (colOf t e)).val = t.val % 24 * 512 + (if t.val % 24 < 6 then 0 else 16) + e.val := by
  show (if t.val % 24 * 512 + e.val < 3072 then t.val % 24 * 512 + e.val else t.val % 24 * 512 + e.val + 16) = _
  split <;> split <;> omega

/-- The block of the weights. -/
theorem iblk1 (t : Fin cfg0.N) (e : Fin 512) (d : Fin 2048) :
    iblk m c 1 t (ix2 e d) = m ((c : Thread nD τ).loc main_arg1) (ix3 0 d (col (colOf t e))) := by
  have h1 := lt_N t
  have h2 := col_val t e
  obtain ⟨-, h3, -, -⟩ := idx t
  blk_ext! [iblk, V, idx t]
  · show win0_1.index t 1 + 1 * d.val = d.val
    rw [h3]
    show 0 + 1 * d.val = d.val
    omega
  · show win0_1.index t 0 + 1 * e.val = (col (colOf t e)).val
    rw [h3, h2]
    rw [one_mul]
    rfl

/-- The block of the bias. -/
theorem iblk2 (t : Fin cfg0.N) (e : Fin 512) :
    iblk m c 2 t (ix2 0 e) = m ((c : Thread nD τ).loc main_arg2) (ix2 0 (col (colOf t e))) := by
  have h1 := lt_N t
  have h2 := col_val t e
  blk_simp [iblk, V, idx t]
  entry_read
  have hv : (((View.whole main_v7).slice (win0_2.rect t)).emb (ix2 0 e) 1).val = t.val % 24 * 512 + e.val := by
    show win0_2.index t 1 * 512 + 1 * e.val = t.val % 24 * 512 + e.val
    rw [(idx t).2.2.1]
    show t.val % 24 * 512 + 1 * e.val = t.val % 24 * 512 + e.val
    omega
  pointwise
  split
  · congr 2
    apply Fin.ext
    show (((View.whole main_v7).slice (win0_2.rect t)).emb (ix2 0 e) 1).val = _
    rw [h2, hv]
    split <;> omega
  · congr 2
    apply Fin.ext
    show 3088 + ((((View.whole main_v7).slice (win0_2.rect t)).emb (ix2 0 e) 1).val - 3072) = _
    rw [h2, hv]
    split <;> omega

/-- The result array at an index. -/
def G (i : S16384x12288.Idx) : EReal :=
  proj (fun r d => m ((c : Thread nD τ).loc main_arg0) (ix2 r d)) (fun d e => m ((c : Thread nD τ).loc main_arg1) (ix3 0 d e))
    (fun e => m ((c : Thread nD τ).loc main_arg2) (ix2 0 e)) (i 0) (i 1)

/-- The result array after the run. -/
theorem final : (dats m 0 c).arrAt 3 cfg0.N = G m c := by
  refine (dats m 0 c).arrAt_eq_of_covers 3 _ (by decide +kernel) fun t hf y => ?_
  blk_simp
  rw [after0_3]
  frame_out
  obtain ⟨r, e, rfl⟩ : ∃ (r : Fin 2048) (e : Fin 512), y = ix2 r e := ⟨y 0, y 1, eq_ix2 y⟩
  obtain ⟨-, -, -, h3⟩ := idx t
  have hr : ((View.whole main_v8).slice (win0_3.rect t)).emb (ix2 r e) = ix2 (rowOf t r) (colOf t e) := by
    funext a
    apply Fin.ext
    match a with
    | ⟨0, _⟩ =>
      show win0_3.index t 0 * 2048 + 1 * r.val = t.val / 24 * 2048 + r.val
      rw [h3]
      show t.val / 24 * 2048 + 1 * r.val = t.val / 24 * 2048 + r.val
      omega
    | ⟨1, _⟩ =>
      show win0_3.index t 1 * 512 + 1 * e.val = t.val % 24 * 512 + e.val
      rw [h3]
      show t.val % 24 * 512 + 1 * e.val = t.val % 24 * 512 + e.val
      omega
  rw [hr]
  refine (pay1_apply _ _ _ r e).trans ?_
  simp only [iblk0, iblk1, iblk2]
  rfl

end Cert.InprojIdeal.Value

end
-- ==== Proof.InprojRef.lean ====
/-
  What the reference of the input projection computes, at an index.
-/
module

public import proofs.«01_k».proof.Proof.Gen.InprojRefIdeal.Run
public import proofs.«01_k».proof.Proof.InprojValue

@[expose] public section

set_option maxRecDepth 16384

noncomputable section

namespace Cert.InprojRefIdeal.Value

open Cert.InprojRefIdeal Cert.InprojRefIdeal.Gen Idealize.ShloMosaic Idealize.ShloMosaic.TcCoe Idealize.SL.Sem Cert.InprojMath

variable (h : FVec Ideal S16384x2048 .bf16) (w : FVec Ideal S1x2048x12304 .f32) (b : FVec Ideal S1x12304 .f32)

/-- The whole projection, gate columns included. -/
abbrev full : FVec Ideal S16384x12304 .f32 :=
  addf (Host.dotGeneral dot_S16384x2048_S2048x12304_S16384x12304_1_0_0_1_n_n none (extf .f32 h bitsLt_bf16_f32)
    (shapeCast _ w shapeCasts_S1x2048x12304_S2048x12304))
    (broadcastInDim S16384x12304 ![0, 1] bcast_S1x12304_S16384x12304_0_1 (broadcastInDim S1x12304 ![1] bcast_S12304_S1x12304_1
      (shapeCast _ b shapeCasts_S1x12304_S12304)))

/-- The product with its bias at an index. -/
theorem full_apply (r : Fin 16384) (e : Fin 12304) :
    full h w b (ix2 r e) = (∑ d : Fin 2048, h (ix2 r d) * w (ix3 0 d e)) + b (ix2 0 e) := by
  unfold full
  pointwise

/-- A concatenation of two column ranges of an array that leaves out the sixteen columns between them. -/
theorem cut_apply (f : FVec Ideal S16384x12304 .f32) (r : Fin 16384) (e : Fin 12288) :
    (concatenate S16384x12288 1 [⟨S16384x3072, (extractStridedSlice S16384x3072 ![0, 0] f slices_S16384x12304_S16384x3072_0_0)⟩,
      ⟨S16384x9216, (extractStridedSlice S16384x9216 ![0, 3088] f slices_S16384x12304_S16384x9216_0_3088)⟩]
      concatenates_S16384x3072_S16384x9216_S16384x12288_d1 : FVec Ideal S16384x12288 .f32) (ix2 r e) = f (ix2 r (col e)) := by
  have h2 : (col e).val = if e.val < 3072 then e.val else e.val + 16 := rfl
  pointwise
  split
  · congr 2
    apply Fin.ext
    rw [h2]
    split <;> first | rfl | omega
  · congr 2
    apply Fin.ext
    rw [h2]
    show 3088 + (e.val - 3072) = _
    split <;> omega

end Cert.InprojRefIdeal.Value

end
-- ==== Proof.FfnStep.lean ====
/-
  What one grid point of the expert feed-forward kernel leaves in its carried accumulator and in its output block,
  as the payloads of the kernel's own stores.
-/
module

public import proofs.«01_k».proof.Proof.Gen.FfnIdeal.Value
public import Idealize.ShloMosaic.Lib.Tactic
public import Idealize.ShloMosaic.Lib.Pointwise

@[expose] public section

noncomputable section

namespace Cert.FfnIdeal.Value

open Cert.FfnIdeal Cert.FfnIdeal.Gen Idealize.ShloMosaic Idealize.ShloMosaic.TcCoe Idealize.SL.Sem
open Idealize.ShloMosaic.Tactic

variable {F : FTy → Type} [FloatOps F]

/-- An offset of two zeros. -/
theorem hz2 : (![0, 0] : Fin 2 → Nat) = fun _ => 0 := funext fun a => by fin_cases a <;> rfl
/-- An offset of three zeros. -/
theorem hz3 : (![0, 0, 0] : Fin 3 → Nat) = fun _ => 0 := funext fun a => by fin_cases a <;> rfl
/-- An offset of four zeros. -/
theorem hz4 : (![0, 0, 0, 0] : Fin 4 → Nat) = fun _ => 0 := funext fun a => by fin_cases a <;> rfl

section
variable (c : Dev nD) (i : grid0.Coords) (a3 : Memref sig .tc .vmem S1x1x1024x2048 .bf16) (h3 : a3.IsWhole)
  (a4 : Memref sig .tc .vmem S1x2048x256 .f32) (h4 : a4.IsWhole) (a5 : Memref sig .tc .vmem S1x2048x256 .f32) (h5 : a5.IsWhole)
  (a6 : Memref sig .tc .vmem S1x256x2048 .f32) (h6 : a6.IsWhole) (a7 : Memref sig .tc .vmem S1x1x1024x1 .f32) (h7 : a7.IsWhole)
  (a8 : Memref sig .tc .vmem S1x1x1024x2048 .bf16) (h8 : a8.IsWhole) (a9 : Memref sig .tc .vmem S1024x2048 .f32) (h9 : a9.IsWhole)
  (x0 : Vec F S1x1x1024x2048 .bf16) (x1 : Vec F S1x2048x256 .f32) (x2 : Vec F S1x2048x256 .f32)
  (x3 : Vec F S1x256x2048 .f32) (x4 : Vec F S1x1x1024x1 .f32) (xs : Vec F S1024x2048 .f32)

/-- A middle point adds its block's product to the accumulator. -/
theorem sout_B (hc0 : ¬cond0_0 i) (hc1 : ¬cond0_1 i) :
    sout0_B_0 c i a3 h3 a4 h4 a5 h5 a6 h6 a7 h7 a8 h8 a9 h9 hc0 hc1 x0 x1 x2 x3 x4 xs = k0_pay2 x0 x1 x2 xs x3 := by
  unfold sout0_B_0
  rw [View.read_writes_eq_canon _ _ _ (scover0_B_0 c i a3 h3 a4 h4 a5 h5 a6 h6 a7 h7 a8 h8 a9 h9 hc0 hc1 x0 x1 x2 x3 x4 xs)]
  unfold kernelRun0_B
  dsimp only
  sl_unfold_words
  rw [View.canon_unit_zero hz2]
  simp only [View.readAt_eq_ld, h3.read_unread, h4.read_unread, h5.read_unread, h6.read_unread, h9.read_unread,
    View.ld_unit_zero (S := S1024x2048) hz2, View.ld_unit_zero (S := S1x2048x256) hz3,
    View.ld_unit_zero (S := S1x256x2048) hz3, View.ld_unit_zero (S := S1x1x1024x2048) hz4]

/-- The first point of a sweep starts the accumulator at zero and adds its block's product. -/
theorem sout_A (hc0 : cond0_0 i) (hc1 : ¬cond0_1 i) :
    sout0_A_0 c i a3 h3 a4 h4 a5 h5 a6 h6 a7 h7 a8 h8 a9 h9 hc0 hc1 x0 x1 x2 x3 x4 = k0_pay2 x0 x1 x2 k0_pay1 x3 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x2048) hz2, View.readCov_unit_zero (S := S1024x2048) _ hz2]
  simp only [View.readAt_eq_ld, h3.read_unread, h4.read_unread, h5.read_unread, h6.read_unread, h9.read_unread,
    View.ld_unit_zero (S := S1024x2048) hz2, View.ld_unit_zero (S := S1x2048x256) hz3,
    View.ld_unit_zero (S := S1x256x2048) hz3, View.ld_unit_zero (S := S1x1x1024x2048) hz4]

/-- The last point of a sweep adds its block's product to the accumulator too … -/
theorem sout_C (hc0 : ¬cond0_0 i) (hc1 : cond0_1 i) :
    sout0_C_0 c i a3 h3 a4 h4 a5 h5 a6 h6 a7 h7 a8 h8 a9 h9 hc0 hc1 x0 x1 x2 x3 x4 xs = k0_pay2 x0 x1 x2 xs x3 := by
  unfold sout0_C_0
  rw [View.read_writes_eq_canon _ _ _ (scover0_C_0 c i a3 h3 a4 h4 a5 h5 a6 h6 a7 h7 a8 h8 a9 h9 hc0 hc1 x0 x1 x2 x3 x4 xs)]
  unfold kernelRun0_C
  dsimp only
  sl_unfold_words
  rw [View.canon_unit_zero hz2]
  simp only [View.readAt_eq_ld, h3.read_unread, h4.read_unread, h5.read_unread, h6.read_unread, h9.read_unread,
    View.ld_unit_zero (S := S1024x2048) hz2, View.ld_unit_zero (S := S1x2048x256) hz3,
    View.ld_unit_zero (S := S1x256x2048) hz3, View.ld_unit_zero (S := S1x1x1024x2048) hz4]

/-- … and stores the accumulator, scaled by the row's gate, to the output block. -/
theorem out_C (hc0 : ¬cond0_0 i) (hc1 : cond0_1 i) :
    out0_C_5 c i a3 h3 a4 h4 a5 h5 a6 h6 a7 h7 a8 h8 a9 h9 hc0 hc1 x0 x1 x2 x3 x4 xs = k0_pay3 (k0_pay2 x0 x1 x2 xs x3) x4 := by
  unfold out0_C_5
  rw [View.read_writes_eq_canon _ _ _ (cover0_C_5 c i a3 h3 a4 h4 a5 h5 a6 h6 a7 h7 a8 h8 a9 h9 hc0 hc1 x0 x1 x2 x3 x4 xs)]
  unfold kernelRun0_C
  dsimp only
  sl_unfold_words
  rw [View.canon_unit_zero hz4]
  try rw [View.readCov_unit_zero (S := S1024x2048) _ hz2]
  simp only [View.readAt_eq_ld, h3.read_unread, h4.read_unread, h5.read_unread, h6.read_unread, h7.read_unread, h9.read_unread,
    View.ld_unit_zero (S := S1024x2048) hz2, View.ld_unit_zero (S := S1x2048x256) hz3,
    View.ld_unit_zero (S := S1x256x2048) hz3, View.ld_unit_zero (S := S1x1x1024x2048) hz4, View.ld_unit_zero (S := S1x1x1024x1) hz4]

end

end Cert.FfnIdeal.Value

end
-- ==== Proof.FfnBlocks.lean ====
/-
  The blocks the expert feed-forward kernel stages at a grid point, read at an index: each is the argument array at
  the point's expert, batch row and slice of the hidden axis.
-/
module

public import proofs.«01_k».proof.Proof.Gen.FfnIdeal.Value
public import Idealize.ShloMosaic.Lib.Pipeline.ValueKit
public import Idealize.ShloMosaic.Lib.Claim
public import Idealize.ShloMosaic.Lib.Pointwise

@[expose] public section

set_option maxRecDepth 16384

noncomputable section

namespace Cert.FfnIdeal.Value

open Cert.FfnIdeal Cert.FfnIdeal.Gen Idealize.ShloMosaic Idealize.ShloMosaic.TcCoe Idealize.SL.Sem

variable (m : (ℓ : Loc nD τ sig) → Buf (Elt Ideal) ℓ)

/-- Every input window's block index at a point: expert `t / 44`, batch row `t / 22 % 2`, hidden slice `t % 22`. -/
theorem idx : ∀ t : Fin cfg0.N, win0_0.index t = ![t.val / 22 % 2, t.val / 44, 0, 0] ∧ win0_1.index t = ![t.val / 44, 0, t.val % 22]
    ∧ win0_2.index t = ![t.val / 44, 0, t.val % 22] ∧ win0_3.index t = ![t.val / 44, t.val % 22, 0]
    ∧ win0_4.index t = ![t.val / 22 % 2, t.val / 44, 0, 0] :=
  (by decide +kernel : ∀ t : Fin grid0.N, _)

/-- A grid point's number lies inside the grid. -/
theorem lt_N (t : Fin cfg0.N) : t.val < 704 := lt_of_lt_of_eq t.isLt N_0

/-- The expert, the batch row and the hidden position of a point's block. -/
abbrev expertOf (t : Fin cfg0.N) : Fin 16 := ⟨t.val / 22 / 2 % 16, by omega⟩
/-- The batch row of a grid point. -/
abbrev rowOf (t : Fin cfg0.N) : Fin 2 := ⟨t.val / 22 % 2, by omega⟩
/-- The first hidden unit of a grid point's slice. -/
abbrev hidOf (t : Fin cfg0.N) (k : Fin 256) : Fin 5632 := ⟨t.val % 22 * 256 + k.val, by omega⟩

/-- The expert by division of the grid point's number. -/
theorem expert_eq (t : Fin cfg0.N) : (expertOf t).val = t.val / 44 := by
  have := lt_N t
  show t.val / 22 / 2 % 16 = t.val / 44
  omega

/-- The dispatched tokens' block is that expert's tokens in that batch row. -/
theorem iblk0 (c : Dev nD) (t : Fin cfg0.N) (r : Fin 1024) (d : Fin 2048) :
    iblk m c 0 t (ix4 0 0 r d) = m ((c : Thread nD τ).loc main_arg0) (ix4 (rowOf t) (expertOf t) r d) := by
  have h1 := lt_N t
  have h2 := expert_eq t
  blk_ext! [iblk, V, idx t]

/-- The gate weights' block is a slice of the expert's columns. -/
theorem iblk1 (c : Dev nD) (t : Fin cfg0.N) (d : Fin 2048) (k : Fin 256) :
    iblk m c 1 t (ix3 0 d k) = m ((c : Thread nD τ).loc main_arg2) (ix4 0 (expertOf t) d (hidOf t k)) := by
  have h1 := lt_N t
  have h2 := expert_eq t
  blk_ext! [iblk, V, idx t]

/-- The up weights' block is the same slice of the expert's columns. -/
theorem iblk2 (c : Dev nD) (t : Fin cfg0.N) (d : Fin 2048) (k : Fin 256) :
    iblk m c 2 t (ix3 0 d k) = m ((c : Thread nD τ).loc main_arg3) (ix4 0 (expertOf t) d (hidOf t k)) := by
  have h1 := lt_N t
  have h2 := expert_eq t
  blk_ext! [iblk, V, idx t]

/-- The down weights' block is the same slice of the expert's rows. -/
theorem iblk3 (c : Dev nD) (t : Fin cfg0.N) (k : Fin 256) (d : Fin 2048) :
    iblk m c 3 t (ix3 0 k d) = m ((c : Thread nD τ).loc main_arg4) (ix4 0 (expertOf t) (hidOf t k) d) := by
  have h1 := lt_N t
  have h2 := expert_eq t
  blk_ext! [iblk, V, idx t]

/-- The gates' block is that expert's gates in that batch row. -/
theorem iblk4 (c : Dev nD) (t : Fin cfg0.N) (r : Fin 1024) :
    iblk m c 4 t (ix4 0 0 r 0) = m ((c : Thread nD τ).loc main_arg1) (ix4 (rowOf t) (expertOf t) r 0) := by
  have h1 := lt_N t
  have h2 := expert_eq t
  blk_ext! [iblk, V, idx t]

end Cert.FfnIdeal.Value

end
-- ==== Proof.FfnMath.lean ====
/-
  The expert feed-forward as plain sums: a hidden unit is silu of a gate product times an up product, an output is the
  hidden units against the down weights, scaled by the token's gate.
-/
module

public import Idealize.ShloMosaic.Lib.Pointwise
public import Idealize.ShloMosaic.Lib.Pointwise.Sums

@[expose] public section

noncomputable section

namespace Cert.FfnMath

open Idealize.ShloMosaic

variable (x : Fin 2 → Fin 16 → Fin 1024 → Fin 2048 → EReal) (gs : Fin 2 → Fin 16 → Fin 1024 → EReal)
  (wg wu : Fin 16 → Fin 2048 → Fin 5632 → EReal) (wd : Fin 16 → Fin 5632 → Fin 2048 → EReal)

/-- A token against one column of an expert's weights. -/
def pre (w : Fin 16 → Fin 2048 → Fin 5632 → EReal) (b : Fin 2) (e : Fin 16) (r : Fin 1024) (j : Fin 5632) : EReal :=
  ∑ d : Fin 2048, x b e r d * w e d j

/-- A hidden unit: silu of the gate product, times the up product. -/
def hid (b : Fin 2) (e : Fin 16) (r : Fin 1024) (j : Fin 5632) : EReal :=
  pre x wg b e r j * Ideal.logistic (pre x wg b e r j) * pre x wu b e r j

/-- The hidden units of slice `f` (256 of them) against the down weights. -/
def part (b : Fin 2) (e : Fin 16) (r : Fin 1024) (d : Fin 2048) (f : Fin 22) : EReal :=
  ∑ k : Fin 256, hid x wg wu b e r ⟨f.val * 256 + k.val, by omega⟩ * wd e ⟨f.val * 256 + k.val, by omega⟩ d

/-- The feed-forward's output: every hidden unit against the down weights, scaled by the gate. -/
def ffn (b : Fin 2) (e : Fin 16) (r : Fin 1024) (d : Fin 2048) : EReal :=
  (∑ j : Fin 5632, hid x wg wu b e r j * wd e j d) * gs b e r

/-- The 22 slices add up to the whole hidden axis. -/
theorem sum_part (b : Fin 2) (e : Fin 16) (r : Fin 1024) (d : Fin 2048) :
    ∑ f : Fin 22, part x wg wu wd b e r d f = ∑ j : Fin 5632, hid x wg wu b e r j * wd e j d := by
  rw [Fin.sum_univ_tiles 22 256 rfl]
  rfl

end Cert.FfnMath

end
-- ==== Proof.FfnValue.lean ====
/-
  What the expert feed-forward kernel leaves in its result array, at an index.
-/
module

public import proofs.«01_k».proof.Proof.FfnStep
public import proofs.«01_k».proof.Proof.FfnBlocks
public import proofs.«01_k».proof.Proof.FfnMath

@[expose] public section

set_option maxRecDepth 16384

noncomputable section

namespace Cert.FfnIdeal.Value

open Cert.FfnIdeal Cert.FfnIdeal.Gen Idealize.ShloMosaic Idealize.ShloMosaic.TcCoe Idealize.SL.Sem Cert.FfnMath

/-- One point's contribution to the accumulator at a place of it, from the point's blocks. -/
theorem pay2_apply (v3 : Vec Ideal S1x1x1024x2048 .bf16) (v5 v9 : Vec Ideal S1x2048x256 .f32) (v17 : Vec Ideal S1024x2048 .f32)
    (v18 : Vec Ideal S1x256x2048 .f32) (r : Fin 1024) (d : Fin 2048) :
    k0_pay2 v3 v5 v9 v17 v18 (ix2 r d) = v17 (ix2 r d) +
      ∑ k : Fin 256, ((∑ e : Fin 2048, v3 (ix4 0 0 r e) * v5 (ix3 0 e k)) * Ideal.logistic (∑ e : Fin 2048, v3 (ix4 0 0 r e) * v5 (ix3 0 e k))
        * ∑ e : Fin 2048, v3 (ix4 0 0 r e) * v9 (ix3 0 e k)) * v18 (ix3 0 k d) := by
  unfold k0_pay2
  pointwise

/-- The accumulator's start. -/
theorem pay1_apply (r : Fin 1024) (d : Fin 2048) : (k0_pay1 (F := Ideal)) (ix2 r d) = 0 := by
  unfold k0_pay1
  pointwise

/-- The stored output block: the accumulator, each row scaled by its gate. -/
theorem pay3_apply (acc : Vec Ideal S1024x2048 .f32) (gs : Vec Ideal S1x1x1024x1 .f32) (a b : Fin 1) (r : Fin 1024) (d : Fin 2048) :
    k0_pay3 acc gs (ix4 a b r d) = acc (ix2 r d) * gs (ix4 0 0 r 0) := by
  unfold k0_pay3
  pointwise

variable (m : (ℓ : Loc nD τ sig) → Buf (Elt Ideal) ℓ) (c : Dev nD)

/-- The arguments by their own coordinates. -/
abbrev xa (b : Fin 2) (e : Fin 16) (r : Fin 1024) (d : Fin 2048) : EReal := m ((c : Thread nD τ).loc main_arg0) (ix4 b e r d)
/-- The gates by coordinates. -/
abbrev ga (b : Fin 2) (e : Fin 16) (r : Fin 1024) : EReal := m ((c : Thread nD τ).loc main_arg1) (ix4 b e r 0)
/-- The gate weights by coordinates. -/
abbrev wga (e : Fin 16) (d : Fin 2048) (j : Fin 5632) : EReal := m ((c : Thread nD τ).loc main_arg2) (ix4 0 e d j)
/-- The up weights by coordinates. -/
abbrev wua (e : Fin 16) (d : Fin 2048) (j : Fin 5632) : EReal := m ((c : Thread nD τ).loc main_arg3) (ix4 0 e d j)
/-- The down weights by coordinates. -/
abbrev wda (e : Fin 16) (j : Fin 5632) (d : Fin 2048) : EReal := m ((c : Thread nD τ).loc main_arg4) (ix4 0 e j d)

/-- A point adds the product of its own slice of the hidden axis. -/
theorem step_apply (t : Fin cfg0.N) (acc : Vec Ideal S1024x2048 .f32) (r : Fin 1024) (d : Fin 2048) :
    k0_pay2 (iblk m c 0 t) (iblk m c 1 t) (iblk m c 2 t) acc (iblk m c 3 t) (ix2 r d)
      = acc (ix2 r d) + part (xa m c) (wga m c) (wua m c) (wda m c) (rowOf t) (expertOf t) r d ⟨t.val % 22, by omega⟩ := by
  rw [pay2_apply]
  simp only [iblk0, iblk1, iblk2, iblk3]
  rfl

/-- What a run of points adds: the slice `f` of run `q`. -/
def term (q f : ℕ) (i : S1024x2048.Idx) : EReal :=
  part (xa m c) (wga m c) (wua m c) (wda m c) ⟨q % 2, by omega⟩ ⟨q / 2 % 16, by omega⟩ (i 0) (i 1) ⟨f % 22, by omega⟩

/-- One grid point adds its slice of the sum. -/
theorem step_term (t : Fin cfg0.N) (acc : Vec Ideal S1024x2048 .f32) (i : S1024x2048.Idx) :
    k0_pay2 (iblk m c 0 t) (iblk m c 1 t) (iblk m c 2 t) acc (iblk m c 3 t) i = acc i + term m c (t.val / 22) (t.val % 22) i := by
  obtain ⟨r, d, rfl⟩ : ∃ (r : Fin 1024) (d : Fin 2048), i = ix2 r d := ⟨i 0, i 1, eq_ix2 i⟩
  rw [step_apply]
  unfold term
  simp only [Nat.mod_mod]
  rfl

/-- The accumulator after a point: the slices up to it. -/
theorem acc_apply (t : Fin cfg0.N) (i : S1024x2048.Idx) :
    (outsAt0 m c t.val t.isLt).2 i = 0 + ∑ f ∈ Finset.range (t.val % 22 + 1), term m c (t.val / 22) f i := by
  refine Pipeline.eq_sum_of_reset_step_apply_divmod (fun n h => (outsAt0 m c n h).2) 22 (fun _ => 0) (term m c) ?_ ?_ t i
  · intro t h0 i
    have h1 : ¬ t.val % 22 = 21 := by omega
    rw [outsAt0_A m c t h0 h1]
    dsimp only
    obtain ⟨r, d, rfl⟩ : ∃ (r : Fin 1024) (d : Fin 2048), i = ix2 r d := ⟨i 0, i 1, eq_ix2 i⟩
    rw [sout_A, step_term, pay1_apply]
  · intro t h0 i
    by_cases h1 : t.val % 22 = 21
    · rw [outsAt0_C m c t h0 h1]
      dsimp only
      rw [sout_C, step_term]
    · rw [outsAt0_B m c t h0 h1]
      dsimp only
      rw [sout_B, step_term]

/-- The accumulator after the last point of a run: every slice. -/
theorem acc_last (t : Fin cfg0.N) (h : t.val % 22 = 21) (r : Fin 1024) (d : Fin 2048) :
    (outsAt0 m c t.val t.isLt).2 (ix2 r d)
      = ∑ j : Fin 5632, hid (xa m c) (wga m c) (wua m c) (rowOf t) (expertOf t) r j * wda m c (expertOf t) j d := by
  rw [acc_apply, h, zero_add, Finset.sum_range, ← sum_part]
  refine Finset.sum_congr rfl fun f _ => ?_
  unfold term
  simp only [Nat.mod_eq_of_lt f.isLt]
  rfl

/-- The output block after the last point of a run: the feed-forward of its tokens. -/
theorem out_last (t : Fin cfg0.N) (h : t.val % 22 = 21) (a b : Fin 1) (r : Fin 1024) (d : Fin 2048) :
    (outsAt0 m c t.val t.isLt).1 (ix4 a b r d)
      = ffn (xa m c) (ga m c) (wga m c) (wua m c) (wda m c) (rowOf t) (expertOf t) r d := by
  have h0 : ¬ t.val % 22 = 0 := by omega
  have hs := acc_last m c t h r d
  rw [outsAt0_C m c t h0 h] at hs ⊢
  dsimp only at hs ⊢
  rw [sout_C] at hs
  rw [out_C, pay3_apply, hs, iblk4]
  rfl

/-- The result array: the feed-forward, at every index. -/
theorem G5_apply (b : Fin 2) (e : Fin 16) (r : Fin 1024) (d : Fin 2048) :
    G5 m c (ix4 b e r d) = ffn (xa m c) (ga m c) (wga m c) (wua m c) (wda m c) b e r d := by
  have hp : pt5Of (ix4 b e r d) = 22 * (b.val + 2 * e.val) + 21 := by
    show 22 * (1 * (b.val / 1 - 0) + 2 * (e.val / 1 - 0) + 32 * (r.val / 1024 - 0) + 32 * (d.val / 2048 - 0)) + 21 = _
    omega
  have hN : pt5Of (ix4 b e r d) < cfg0.N := by rw [hp]; exact lt_of_lt_of_eq (by omega) N_0.symm
  unfold G5
  rw [dif_pos hN, ← outsAt0_sweep m c _ hN]
  have hl : loc5Of (ix4 b e r d) = ix4 0 0 r d := by
    funext a
    apply Fin.ext
    match a with
    | ⟨0, _⟩ => show b.val % 1 = 0; omega
    | ⟨1, _⟩ => show e.val % 1 = 0; omega
    | ⟨2, _⟩ => show r.val % 1024 = r.val; omega
    | ⟨3, _⟩ => show d.val % 2048 = d.val; omega
  rw [hl]
  have := out_last m c ⟨pt5Of (ix4 b e r d), hN⟩ (by show pt5Of (ix4 b e r d) % 22 = 21; omega) 0 0 r d
  rw [this]
  congr 1
  · apply Fin.ext; show pt5Of (ix4 b e r d) / 22 % 2 = b.val; omega
  · apply Fin.ext; show pt5Of (ix4 b e r d) / 22 / 2 % 16 = e.val; omega

end Cert.FfnIdeal.Value

end
-- ==== Proof.FfnRef.lean ====
/-
  What the reference of the expert feed-forward computes, at an index.
-/
module

public import proofs.«01_k».proof.Proof.Gen.FfnRefIdeal.Run
public import proofs.«01_k».proof.Proof.FfnMath

@[expose] public section

set_option maxRecDepth 16384

noncomputable section

namespace Cert.FfnRefIdeal.Value

open Cert.FfnRefIdeal Cert.FfnRefIdeal.Gen Idealize.ShloMosaic Idealize.ShloMosaic.TcCoe Idealize.SL.Sem Cert.FfnMath

section
variable (x : FVec Ideal S2x16x1024x2048 .bf16) (w : FVec Ideal S1x16x2048x5632 .f32)

/-- The reference's projection of the tokens by one weight array. -/
abbrev proj : FVec Ideal S2x16x1024x5632 .f32 :=
  transpose S2x16x1024x5632 [2, 0, 3, 1] (Host.dotGeneral dot_S16x2048x5632_S2x16x1024x2048_S16x5632x2x1024_1_3_2_02_0_1 none
    (shapeCast _ w shapeCasts_S1x16x2048x5632_S16x2048x5632) (extf .f32 x bitsLt_bf16_f32)) transposes_S16x5632x2x1024_S2x16x1024x5632_2_0_3_1

/-- It is each token against the expert's column. -/
theorem proj_apply (b : Fin 2) (e : Fin 16) (r : Fin 1024) (j : Fin 5632) :
    proj x w (ix4 b e r j) = pre (fun b e r d => x (ix4 b e r d)) (fun e d j => w (ix4 0 e d j)) b e r j := by
  unfold proj pre
  pointwise
  exact Finset.sum_congr rfl fun _ _ => mul_comm _ _

/-- silu as the reference spells it. -/
abbrev silu (g : FVec Ideal S2x16x1024x5632 .f32) : FVec Ideal S2x16x1024x5632 .f32 :=
  mulf g (Host.divf (broadcastInDim S2x16x1024x5632 ![] bcast_S_S2x16x1024x5632 (constant S_ .f32 0x3F800000#32))
    (addf (broadcastInDim S2x16x1024x5632 ![] bcast_S_S2x16x1024x5632 (constant S_ .f32 0x3F800000#32)) (Host.exp (Host.negf g))))

/-- The activation at an index. -/
theorem silu_apply (g : FVec Ideal S2x16x1024x5632 .f32) (i : S2x16x1024x5632.Idx) : silu g i = g i * Ideal.logistic (g i) := by
  unfold silu Ideal.logistic
  pointwise

end

/-- The reference's last product and its scaling, at an index. -/
theorem down_apply (hd : FVec Ideal S2x16x1024x5632 .f32) (gs : FVec Ideal S2x16x1024x1 .f32) (wd : FVec Ideal S1x16x5632x2048 .f32)
    (b : Fin 2) (e : Fin 16) (r : Fin 1024) (d : Fin 2048) :
    (truncf .bf16 (mulf (transpose S2x16x1024x2048 [2, 0, 3, 1] (Host.dotGeneral dot_S16x5632x2048_S2x16x1024x5632_S16x2048x2x1024_1_3_2_02_0_1 none
      (shapeCast _ wd shapeCasts_S1x16x5632x2048_S16x5632x2048) hd) transposes_S16x2048x2x1024_S2x16x1024x2048_2_0_3_1)
      (broadcastInDim S2x16x1024x2048 ![0, 1, 2, 3] bcast_S2x16x1024x1_S2x16x1024x2048_0_1_2_3 gs)) bitsLt_bf16_f32 : FVec Ideal S2x16x1024x2048 .bf16) (ix4 b e r d)
      = (∑ j : Fin 5632, hd (ix4 b e r j) * wd (ix4 0 e j d)) * gs (ix4 b e r 0) := by
  pointwise
  congr 1
  exact Finset.sum_congr rfl fun _ _ => mul_comm _ _

/-- The reference's result is the feed-forward, at every index. -/
theorem ref_apply (x : FVec Ideal S2x16x1024x2048 .bf16) (gs : FVec Ideal S2x16x1024x1 .f32) (wg wu : FVec Ideal S1x16x2048x5632 .f32)
    (wd : FVec Ideal S1x16x5632x2048 .f32) (b : Fin 2) (e : Fin 16) (r : Fin 1024) (d : Fin 2048) :
    (truncf .bf16 (mulf (transpose S2x16x1024x2048 [2, 0, 3, 1] (Host.dotGeneral dot_S16x5632x2048_S2x16x1024x5632_S16x2048x2x1024_1_3_2_02_0_1 none
      (shapeCast _ wd shapeCasts_S1x16x5632x2048_S16x5632x2048) (mulf (silu (proj x wg)) (proj x wu))) transposes_S16x2048x2x1024_S2x16x1024x2048_2_0_3_1)
      (broadcastInDim S2x16x1024x2048 ![0, 1, 2, 3] bcast_S2x16x1024x1_S2x16x1024x2048_0_1_2_3 gs)) bitsLt_bf16_f32 : FVec Ideal S2x16x1024x2048 .bf16) (ix4 b e r d)
      = ffn (fun b e r d => x (ix4 b e r d)) (fun b e r => gs (ix4 b e r 0)) (fun e d j => wg (ix4 0 e d j)) (fun e d j => wu (ix4 0 e d j))
          (fun e j d => wd (ix4 0 e j d)) b e r d := by
  rw [down_apply]
  unfold ffn
  congr 1
  refine Finset.sum_congr rfl fun j _ => ?_
  congr 1
  show silu (proj x wg) (ix4 b e r j) * proj x wu (ix4 b e r j) = _
  rw [silu_apply, proj_apply, proj_apply]
  rfl

end Cert.FfnRefIdeal.Value

end
-- ==== Proof.MlstmMath.lean ====
module
public import Idealize.ShloMosaic.Lib.Tactic
public import Idealize.ShloMosaic.Lib.Pointwise
/-! The stabilised gated recurrence on real numbers: one head's positions in the order in which the recurrence
runs through them, the running sum of the forget gates' logarithms, the running maximum that keeps every
exponential at most one, and the weighted sums that the state and the output are. The last part splits each of
them at the start of a chunk of any length, whose rows may lie in any order. -/
@[expose] public section
noncomputable section
namespace Cert.MlstmMath
open Finset

variable (lf li : ℕ → ℝ)

/-- The sum of the first `p` forget gates' logarithms. -/
def F (p : ℕ) : ℝ := ∑ s ∈ range p, lf s

/-- The running maximum after `p` positions. -/
def M : ℕ → ℝ
  | 0 => 0
  | p + 1 => max (lf p + M p) (li p)

/-- The weight with which position `s` stands in the state after `p` positions. -/
def wt (p s : ℕ) : ℝ := Real.exp (F lf p - F lf (s + 1) + li s - M lf li p)

/-- The weighted sum of a sequence over the first `p` positions. -/
def T (p : ℕ) (f : ℕ → ℝ) : ℝ := ∑ s ∈ range p, wt lf li p s * f s

/-- The matrix state after `p` positions. -/
def Cst {a b : ℕ} (k : ℕ → Fin a → ℝ) (v : ℕ → Fin b → ℝ) (p : ℕ) (e : Fin a) (j : Fin b) : ℝ :=
  T lf li p fun s => k s e * v s j

/-- The vector state after `p` positions. -/
def Nst {a : ℕ} (k : ℕ → Fin a → ℝ) (p : ℕ) (e : Fin a) : ℝ := T lf li p fun s => k s e

/-- The numerator of the output at position `t`. -/
def Num {a b : ℕ} (q k : ℕ → Fin a → ℝ) (v : ℕ → Fin b → ℝ) (t : ℕ) (j : Fin b) : ℝ :=
  T lf li (t + 1) fun s => (∑ e, q t e * k s e) * v s j

/-- The denominator of the output at position `t`, before its absolute value and its floor. -/
def Den {a : ℕ} (q k : ℕ → Fin a → ℝ) (t : ℕ) : ℝ := T lf li (t + 1) fun s => ∑ e, q t e * k s e

/-- The output at position `t`. -/
def H {a b : ℕ} (q k : ℕ → Fin a → ℝ) (v : ℕ → Fin b → ℝ) (t : ℕ) (j : Fin b) : ℝ :=
  Num lf li q k v t j / max |Den lf li q k t| (Real.exp (-M lf li (t + 1)))

/-- One more position in the running sum. -/
theorem F_succ (p : ℕ) : F lf (p + 1) = F lf p + lf p := Finset.sum_range_succ _ _

/-- One more position in the running maximum. -/
theorem M_succ (p : ℕ) : M lf li (p + 1) = max (lf p + M lf li p) (li p) := rfl

/-- What the state carries into the chunk is a lower bound of the maximum. -/
theorem M_ge_carry (p n : ℕ) : F lf (p + n) - F lf p + M lf li p ≤ M lf li (p + n) := by
  induction n with
  | zero => simp
  | succ n ih =>
    rw [← Nat.add_assoc, F_succ, M_succ]
    exact le_trans (by linarith) (le_max_left _ _)

/-- So is each position of the chunk. -/
theorem M_ge_pos (p n s : ℕ) (h : s < n) :
    F lf (p + n) - F lf (p + s + 1) + li (p + s) ≤ M lf li (p + n) := by
  induction n with
  | zero => omega
  | succ n ih =>
    rcases Nat.lt_succ_iff_lt_or_eq.mp h with h | rfl
    · have := ih h
      rw [← Nat.add_assoc, F_succ, M_succ]
      exact le_trans (by linarith) (le_max_left _ _)
    · rw [← Nat.add_assoc, M_succ]
      exact le_trans (by linarith) (le_max_right _ _)

/-- One of these bounds is attained. -/
theorem M_attained (p n : ℕ) : M lf li (p + n) = F lf (p + n) - F lf p + M lf li p ∨
    ∃ s, s < n ∧ M lf li (p + n) = F lf (p + n) - F lf (p + s + 1) + li (p + s) := by
  induction n with
  | zero => left; simp
  | succ n ih =>
    rw [← Nat.add_assoc, F_succ]
    rcases le_total (li (p + n)) (lf (p + n) + M lf li (p + n)) with h | h
    · have e : M lf li (p + n + 1) = lf (p + n) + M lf li (p + n) := max_eq_left h
      rcases ih with ih | ⟨s, hs, ih⟩
      · left; rw [e, ih]; ring
      · right; exact ⟨s, by omega, by rw [e, ih]; ring⟩
    · have e : M lf li (p + n + 1) = li (p + n) := max_eq_right h
      right; exact ⟨n, by omega, by rw [e, F_succ]; ring⟩

/-- The weighted sum is additive. -/
theorem T_add_fun (p : ℕ) (f g : ℕ → ℝ) : T lf li p (fun s => f s + g s) = T lf li p f + T lf li p g := by
  simp only [T, mul_add, Finset.sum_add_distrib]

/-- The weighted sum of a combination. -/
theorem T_sum {ι : Type*} (A : Finset ι) (p : ℕ) (c : ι → ℝ) (f : ι → ℕ → ℝ) :
    T lf li p (fun s => ∑ e ∈ A, c e * f e s) = ∑ e ∈ A, c e * T lf li p (f e) := by
  simp only [T, Finset.mul_sum]
  rw [Finset.sum_comm]
  exact Finset.sum_congr rfl fun _ _ => Finset.sum_congr rfl fun _ _ => by ring

section Chunk
variable {L : ℕ} (σ : Equiv.Perm (Fin L))

/-- A sum over a chunk's visible positions, in the order of its rows. -/
theorem sum_chunk (n : ℕ) (hn : n ≤ L) (g : ℕ → ℝ) :
    ∑ s ∈ range n, g s = ∑ r : Fin L, if (σ r).val < n then g (σ r).val else 0 := by
  rw [Equiv.sum_comp σ fun r : Fin L => if r.val < n then g r.val else 0,
    Fin.sum_univ_eq_sum_range (fun s => if s < n then g s else 0) L, ← Finset.sum_filter]
  refine Finset.sum_congr ?_ fun _ _ => rfl
  ext s
  simp only [mem_range, mem_filter]
  omega

/-- The running sum within a chunk, in the order of its rows. -/
theorem F_chunk (p n : ℕ) (hn : n ≤ L) :
    ∑ r : Fin L, (if (σ r).val < n then lf (p + (σ r).val) else 0) = F lf (p + n) - F lf p := by
  rw [← sum_chunk σ n hn fun s => lf (p + s), F, F, Finset.sum_range_add, add_sub_cancel_left]

/-- The weighted sum at a position of a chunk: the decayed state and the chunk's visible positions. -/
theorem T_chunk (p n : ℕ) (hn : n ≤ L) (f : ℕ → ℝ) :
    T lf li (p + n) f = Real.exp (F lf (p + n) - F lf p + M lf li p - M lf li (p + n)) * T lf li p f +
      ∑ r : Fin L, (if (σ r).val < n then wt lf li (p + n) (p + (σ r).val) else 0) * f (p + (σ r).val) := by
  rw [T, Finset.sum_range_add]
  congr 1
  · rw [T, Finset.mul_sum]
    refine Finset.sum_congr rfl fun s _ => ?_
    rw [← mul_assoc, wt, wt, ← Real.exp_add]
    congr 2
    ring
  · rw [sum_chunk σ n hn]
    exact Finset.sum_congr rfl fun r _ => by split <;> simp

/-- The running maximum at a position of a chunk, on the extended reals as the programs take it. -/
theorem M_chunk (p n : ℕ) (hn : n ≤ L) (d : Fin L → EReal)
    (hd : ∀ r, d r = if (σ r).val < n then
      ((F lf (p + n) - F lf (p + (σ r).val + 1) + li (p + (σ r).val) : ℝ) : EReal) else ⊥) :
    max (Finset.univ.fold max ⊥ d) ((F lf (p + n) - F lf p + M lf li p : ℝ) : EReal) = (M lf li (p + n) : ℝ) := by
  refine le_antisymm (max_le ?_ ?_) ?_
  · rw [Finset.fold_max_le]
    refine ⟨bot_le, fun r _ => ?_⟩
    rw [hd]
    split
    · exact EReal.coe_le_coe_iff.mpr (M_ge_pos lf li p n _ ‹_›)
    · exact bot_le
  · exact EReal.coe_le_coe_iff.mpr (M_ge_carry lf li p n)
  · rcases M_attained lf li p n with h | ⟨s, hs, h⟩
    · rw [h]; exact le_max_right _ _
    · refine le_trans ?_ (le_max_left _ _)
      rw [Finset.le_fold_max]
      refine Or.inr ⟨σ.symm ⟨s, by omega⟩, Finset.mem_univ _, ?_⟩
      rw [hd, Equiv.apply_symm_apply, if_pos hs, h]

variable {a b : ℕ} (q k : ℕ → Fin a → ℝ) (v : ℕ → Fin b → ℝ)

/-- The numerator from the state at the chunk's start and the chunk's visible positions. -/
theorem Num_chunk (p n : ℕ) (hn : n < L) (j : Fin b) :
    (∑ r : Fin L, (if (σ r).val < n + 1 then wt lf li (p + n + 1) (p + (σ r).val) else 0) *
        (∑ e, q (p + n) e * k (p + (σ r).val) e) * v (p + (σ r).val) j) +
      Real.exp (F lf (p + n + 1) - F lf p + M lf li p - M lf li (p + n + 1)) *
        ∑ e, q (p + n) e * Cst lf li k v p e j = Num lf li q k v (p + n) j := by
  have h := T_chunk lf li σ p (n + 1) hn fun s => (∑ e, q (p + n) e * k s e) * v s j
  rw [Num, show p + n + 1 = p + (n + 1) from rfl, h, add_comm]
  congr 1
  · simp only [Cst, Finset.sum_mul, mul_assoc]
    rw [T_sum lf li Finset.univ p (fun e => q (p + n) e) fun e s => k s e * v s j]
  · exact Finset.sum_congr rfl fun _ _ => by ring

/-- The denominator likewise. -/
theorem Den_chunk (p n : ℕ) (hn : n < L) :
    (∑ r : Fin L, (if (σ r).val < n + 1 then wt lf li (p + n + 1) (p + (σ r).val) else 0) *
        (∑ e, q (p + n) e * k (p + (σ r).val) e)) +
      Real.exp (F lf (p + n + 1) - F lf p + M lf li p - M lf li (p + n + 1)) *
        ∑ e, q (p + n) e * Nst lf li k p e = Den lf li q k (p + n) := by
  have h := T_chunk lf li σ p (n + 1) hn fun s => (∑ e, q (p + n) e * k s e)
  rw [Den, show p + n + 1 = p + (n + 1) from rfl, h, add_comm]
  congr 1
  simp only [Nst]
  rw [T_sum lf li Finset.univ p (fun e => q (p + n) e) fun e s => k s e]

/-- The matrix state after the chunk. -/
theorem Cst_chunk (p : ℕ) (e : Fin a) (j : Fin b) :
    Real.exp (F lf (p + L) - F lf p + M lf li p - M lf li (p + L)) * Cst lf li k v p e j +
      ∑ r : Fin L, k (p + (σ r).val) e * wt lf li (p + L) (p + (σ r).val) * v (p + (σ r).val) j =
      Cst lf li k v (p + L) e j := by
  rw [Cst, Cst, T_chunk lf li σ p L le_rfl]
  congr 1
  exact Finset.sum_congr rfl fun r _ => by rw [if_pos (σ r).isLt]; ring

/-- The vector state after the chunk. -/
theorem Nst_chunk (p : ℕ) (e : Fin a) :
    Real.exp (F lf (p + L) - F lf p + M lf li p - M lf li (p + L)) * Nst lf li k p e +
      ∑ r : Fin L, k (p + (σ r).val) e * wt lf li (p + L) (p + (σ r).val) = Nst lf li k (p + L) e := by
  rw [Nst, Nst, T_chunk lf li σ p L le_rfl]
  congr 1
  exact Finset.sum_congr rfl fun r _ => by rw [if_pos (σ r).isLt]; ring

end Chunk

/-- A finite sum of real numbers, taken on the extended reals. -/
theorem coe_sum {ι : Type*} (A : Finset ι) (f : ι → ℝ) : ∑ i ∈ A, (f i : EReal) = ((∑ i ∈ A, f i : ℝ) : EReal) := by
  induction A using Finset.cons_induction with
  | empty => simp
  | cons i A h ih => rw [Finset.sum_cons, Finset.sum_cons, ih, EReal.coe_add]

/-- The maximum of two real numbers. -/
theorem coe_max (x y : ℝ) : max (x : EReal) (y : EReal) = ((max x y : ℝ) : EReal) :=
  (EReal.coe_strictMono.monotone.map_max).symm

/-- The absolute value as the programs take it. -/
theorem coe_abs (x : ℝ) : max (x : EReal) (-(x : EReal)) = ((|x| : ℝ) : EReal) := by
  rw [← EReal.coe_neg, coe_max, abs_eq_max_neg]

/-- The state at the start is zero. -/
theorem T_zero (f : ℕ → ℝ) : T lf li 0 f = 0 := by simp [T]

/-- The floored denominator is positive. -/
theorem floor_pos (x y : ℝ) : 0 < max |x| (Real.exp y) := lt_of_lt_of_le (Real.exp_pos _) (le_max_right _ _)

/-- The logarithm of the sigmoid. -/
def logSig (x : ℝ) : ℝ := min x 0 - Real.log (1 + Real.exp (-|x|))

/-- The logarithm of the sigmoid as the kernel takes it. -/
theorem coe_logSig (x : ℝ) : min (x : EReal) 0 - Idealize.ShloMosaic.Ideal.log
    (1 + Idealize.ShloMosaic.Ideal.exp (0 - max (x : EReal) (-(x : EReal)))) = (logSig x : ℝ) := by
  have h : (0 : ℝ) < 1 + Real.exp (-|x|) := by positivity
  rw [coe_abs, ← EReal.coe_zero, ← EReal.coe_one, ← EReal.coe_sub, Idealize.ShloMosaic.Ideal.exp_coe,
    ← EReal.coe_add, Idealize.ShloMosaic.Ideal.log_coe, if_neg (not_le.mpr (by simpa using h)),
    ← EReal.coe_strictMono.monotone.map_min, ← EReal.coe_sub, logSig, zero_sub]

/-- The word of minus infinity. -/
theorem neg_inf : Idealize.ShloMosaic.Ideal.ofBits .f32 0xFF800000#32 = ⊥ := by
  simp [Idealize.ShloMosaic.Ideal.ofBits, Idealize.ShloMosaic.Ideal.ieee]

end Cert.MlstmMath
-- ==== Proof.MlstmGates.lean ====
module
public import proofs.«01_k».proof.Proof.Gen.MlstmIdeal.Skeleton
public import proofs.«01_k».proof.Proof.MlstmMath
/-! The gates of one chunk on real inputs: their logarithms, running sums and mask. -/
@[expose] public section
noncomputable section
namespace Cert.MlstmIdeal.Head
open Cert.MlstmIdeal Cert.MlstmIdeal.Gen Idealize.ShloMosaic Idealize.ShloMosaic.TcCoe Idealize.SL.Sem
open Idealize.ShloMosaic.Tactic Cert.MlstmMath

/-- The column block's forget gate, as a logarithm. -/
theorem lsc (v8 : FVec Ideal S1x256x8 .f32) (r : Fin 256) (j : Fin 8) (x : ℝ) (h : v8 (ix3 0 r j) = x) :
    k0_pay11 (F := Ideal) v8 (ix2 r j) = ((logSig x : ℝ) : EReal) := by
  unfold k0_pay11 k0_pay9
  pointwise
  simp only [Ideal.subf_def, Ideal.addf_def, Ideal.exp_def, Ideal.log_def, Ideal.absf_def, Ideal.minimumf_eq_min, Ideal.ofBits_def,
    Ideal.ofBits_zero_f32, Ideal.ofBits_one_f32]
  rw [h]; exact coe_logSig x

/-- The row block's. -/
theorem lsr (v10 : FVec Ideal S1x1x8x256 .f32) (r : Fin 256) (j : Fin 8) (x : ℝ) (h : v10 (ix4 0 0 j r) = x) :
    k0_pay12 (F := Ideal) v10 (ix2 j r) = ((logSig x : ℝ) : EReal) := by
  unfold k0_pay12 k0_pay10
  pointwise
  simp only [Ideal.subf_def, Ideal.addf_def, Ideal.exp_def, Ideal.log_def, Ideal.absf_def, Ideal.minimumf_eq_min, Ideal.ofBits_def,
    Ideal.ofBits_zero_f32, Ideal.ofBits_one_f32]
  rw [h]; exact coe_logSig x

variable (σ : Equiv.Perm (Fin 256)) (p : ℕ)
variable (v3 : FVec Ideal S1x256x256 .f32)
variable (hmask : ∀ r r', v3 (ix3 0 r r') = if σ r' ≤ σ r then (1 : EReal) else 0)
include hmask

/-- The mask, as the products read it. -/
theorem mask_at (r r' : Fin 256) : k0_pay7 (F := Ideal) v3 (ix2 r r') = if σ r' ≤ σ r then (1 : EReal) else 0 := by
  unfold k0_pay7 k0_pay6
  pointwise
  exact hmask r r'

/-- The mask, as the selection reads it. -/
theorem vis (r r' : Fin 256) : k0_pay8 (F := Ideal) v3 (ix2 r r') = if σ r' ≤ σ r then 1#1 else 0#1 := by
  unfold k0_pay8 k0_pay6
  pointwise
  rw [hmask]
  by_cases h : σ r' ≤ σ r
  · rw [if_pos h, if_pos h]; simp
  · rw [if_neg h, if_neg h]; simp

omit hmask in
/-- A masked sum of real numbers. -/
theorem sum_mask (f : Fin 256 → ℝ) (r : Fin 256) :
    ∑ r', (if σ r' ≤ σ r then (1 : EReal) else 0) * (f r' : EReal) = ((∑ r', if (σ r').val < (σ r).val + 1 then f r' else 0 : ℝ) : EReal) := by
  rw [← coe_sum]
  refine Finset.sum_congr rfl fun r' _ => ?_
  by_cases h : σ r' ≤ σ r
  · rw [if_pos h, one_mul, if_pos (by rw [Fin.le_def] at h; omega)]
  · rw [if_neg h, zero_mul, if_neg (by rw [Fin.le_def] at h; omega), EReal.coe_zero]

/-- The running sum of the forget gates' logarithms, in a column: the mask times the logarithms in three parts,
of which the ideal reading leaves the first. -/
theorem gcum_c (v8 : FVec Ideal S1x256x8 .f32) (j : Fin 8) (x : ℕ → ℝ) (h : ∀ r, v8 (ix3 0 r j) = x (p + (σ r).val)) (r : Fin 256) :
    k0_pay17 (F := Ideal) (k0_pay7 (F := Ideal) v3) (k0_pay13 (F := Ideal) v8) (k0_pay14 (F := Ideal) v8) (k0_pay15 (F := Ideal) v8) (k0_pay16 (F := Ideal) v8) (ix2 r j) =
      ((F (fun s => logSig (x s)) (p + (σ r).val + 1) - F (fun s => logSig (x s)) p : ℝ) : EReal) := by
  have h13 : ∀ r, k0_pay13 (F := Ideal) v8 (ix2 r j) = ((logSig (x (p + (σ r).val)) : ℝ) : EReal) := fun r => by
    unfold k0_pay13; pointwise; exact lsc v8 r j _ (h r)
  have h14 : ∀ r, k0_pay14 (F := Ideal) v8 (ix2 r j) = ((0 : ℝ) : EReal) := fun r => by
    unfold k0_pay14; pointwise; rw [lsc v8 r j _ (h r), h13, ← EReal.coe_sub, sub_self]
  have h15 : ∀ r, k0_pay15 (F := Ideal) v8 (ix2 r j) = ((0 : ℝ) : EReal) := fun r => by
    unfold k0_pay15; pointwise; exact h14 r
  have h16 : ∀ r, k0_pay16 (F := Ideal) v8 (ix2 r j) = ((0 : ℝ) : EReal) := fun r => by
    unfold k0_pay16; pointwise; exact h15 r
  unfold k0_pay17
  pointwise
  simp only [h13, h14, h15, h16, mask_at σ v3 hmask, ← EReal.coe_sub, sub_self, sum_mask, ite_self, Finset.sum_const_zero, EReal.coe_zero, add_zero, sub_zero, mul_zero, zero_mul]
  rw [F_chunk (fun s => logSig (x s)) σ p ((σ r).val + 1) (σ r).isLt]; rfl

/-- The same, in a row. -/
theorem gcum_r (v10 : FVec Ideal S1x1x8x256 .f32) (j : Fin 8) (x : ℕ → ℝ) (h : ∀ r, v10 (ix4 0 0 j r) = x (p + (σ r).val)) (r : Fin 256) :
    k0_pay18 (F := Ideal) (k0_pay7 (F := Ideal) v3) (k0_pay12 (F := Ideal) v10) (ix2 j r) =
      ((F (fun s => logSig (x s)) (p + (σ r).val + 1) - F (fun s => logSig (x s)) p : ℝ) : EReal) := by
  unfold k0_pay18
  pointwise
  simp only [fun r => lsr v10 r j _ (h r), mask_at σ v3 hmask, ← EReal.coe_sub, sub_self, mul_comm _ (ite _ _ _), sum_mask, ite_self, Finset.sum_const_zero, EReal.coe_zero, add_zero, sub_zero, mul_zero, zero_mul]
  rw [F_chunk (fun s => logSig (x s)) σ p ((σ r).val + 1) (σ r).isLt]; rfl

omit hmask in
/-- The sum of the whole chunk's logarithms. -/
theorem gtot (v8 : FVec Ideal S1x256x8 .f32) (j : Fin 8) (x : ℕ → ℝ) (h : ∀ r, v8 (ix3 0 r j) = x (p + (σ r).val)) :
    k0_pay19 (F := Ideal) (k0_pay11 (F := Ideal) v8) (ix2 0 j) =
      ((F (fun s => logSig (x s)) (p + 256) - F (fun s => logSig (x s)) p : ℝ) : EReal) := by
  unfold k0_pay19
  pointwise
  simp only [fun r => lsc v8 r j _ (h r)]
  rw [coe_sum, ← F_chunk _ σ p 256 le_rfl]
  exact congrArg _ (Finset.sum_congr rfl fun r _ => by rw [if_pos (σ r).isLt])

end Cert.MlstmIdeal.Head
-- ==== Proof.MlstmHead.lean ====
module
public import proofs.«01_k».proof.Proof.MlstmGates
/-! What one head of one chunk computes, on real inputs. -/
@[expose] public section
noncomputable section
namespace Cert.MlstmIdeal.Head
open Cert.MlstmIdeal Cert.MlstmIdeal.Gen Idealize.ShloMosaic Idealize.ShloMosaic.TcCoe Idealize.SL.Sem
open Idealize.ShloMosaic.Tactic Cert.MlstmMath

/-- The running maximum of each row. -/
def mtOf (d : FVec Ideal S256x256 .f32) (g : FVec Ideal S256x128 .f32) (mp : FVec Ideal S1x128 .f32) : FVec Ideal S256x128 .f32 :=
  maximumf (broadcastTo S256x128 (shapeCast S256x1 (multiReduction .maximumf [1] S256 d 0xFF800000#32 reduces_S256x256_S256 (.inl rfl) rfl) shapeCasts_S256_S256x1) broadcasts_S256x1_S256x128) (k0_pay61 g mp)

section Names
variable (v7 : IVec S256x256 1) (g li : FVec Ideal S256x128 .f32) (gt mp : FVec Ideal S1x128 .f32)
  (r8 c8 : FVec Ideal S8x256 .f32) (x : FVec Ideal S256x256 .f32) (c : Ideal .f32)
/-- The maxima of the first head, under one name. -/
theorem mt0 : k0_pay65 v7 g mp x c = mtOf (k0_pay57 v7 x c) g mp := rfl
/-- The maxima of the second head, under one name. -/
theorem mt1 : k0_pay66 v7 r8 c8 g mp = mtOf (k0_pay58 v7 r8 c8 g) g mp := rfl
/-- The maxima of the third head, under one name. -/
theorem mt2 : k0_pay67 v7 r8 c8 g mp = mtOf (k0_pay59 v7 r8 c8 g) g mp := rfl
/-- The maxima of the fourth head, under one name. -/
theorem mt3 : k0_pay68 v7 r8 c8 g mp = mtOf (k0_pay60 v7 r8 c8 g) g mp := rfl
/-- The carried bound of the second head is written as the first head's. -/
theorem in1 : k0_pay62 (F := Ideal) = k0_pay61 := rfl
/-- The carried bound of the third head is written as the first head's. -/
theorem in2 : k0_pay63 (F := Ideal) = k0_pay61 := rfl
/-- The carried bound of the fourth head is written as the first head's. -/
theorem in3 : k0_pay64 (F := Ideal) = k0_pay61 := rfl
/-- The weights of the second head are written as the first head's. -/
theorem w1 : k0_pay70 (F := Ideal) = k0_pay69 := rfl
/-- The weights of the third head are written as the first head's. -/
theorem w2 : k0_pay71 (F := Ideal) = k0_pay69 := rfl
/-- The weights of the fourth head are written as the first head's. -/
theorem w3 : k0_pay72 (F := Ideal) = k0_pay69 := rfl
/-- The factor of the state of the second head is written as the first head's. -/
theorem sc1 : k0_pay74 (F := Ideal) = k0_pay73 := rfl
/-- The factor of the state of the third head is written as the first head's. -/
theorem sc2 : k0_pay75 (F := Ideal) = k0_pay73 := rfl
/-- The factor of the state of the fourth head is written as the first head's. -/
theorem sc3 : k0_pay76 (F := Ideal) = k0_pay73 := rfl
/-- The numerators of the second head are written as the first head's. -/
theorem num1 : k0_pay78 (F := Ideal) = k0_pay77 := rfl
/-- The numerators of the third head are written as the first head's. -/
theorem num2 : k0_pay79 (F := Ideal) = k0_pay77 := rfl
/-- The denominators of the third head are written as the second head's. -/
theorem den2 : k0_pay83 (F := Ideal) = k0_pay82 := rfl
/-- The denominators of the fourth head are written as the second head's. -/
theorem den3 : k0_pay84 (F := Ideal) = k0_pay82 := rfl
/-- The quotients of the third head, under one name. -/
theorem out2 : k0_pay89 (F := Ideal) = k0_pay88 := rfl
/-- The exponents at the chunk's end of the second head are written as the first head's. -/
theorem a1 : k0_pay93 (F := Ideal) = k0_pay92 := rfl
/-- The exponents at the chunk's end of the third head are written as the first head's. -/
theorem a2 : k0_pay94 (F := Ideal) = k0_pay92 := rfl
/-- The exponents at the chunk's end of the fourth head are written as the first head's. -/
theorem a3 : k0_pay95 (F := Ideal) = k0_pay92 := rfl
/-- The maximum at the chunk's end of the second head is written as the first head's. -/
theorem mn1 : k0_pay97 (F := Ideal) = k0_pay96 := rfl
/-- The maximum at the chunk's end of the third head is written as the first head's. -/
theorem mn2 : k0_pay98 (F := Ideal) = k0_pay96 := rfl
/-- The maximum at the chunk's end of the fourth head is written as the first head's. -/
theorem mn3 : k0_pay99 (F := Ideal) = k0_pay96 := rfl
/-- The weighted keys of the second head are written as the first head's. -/
theorem kw1 : k0_pay101 (F := Ideal) = k0_pay100 := rfl
/-- The weighted keys of the third head are written as the first head's. -/
theorem kw2 : k0_pay102 (F := Ideal) = k0_pay100 := rfl
/-- The weighted keys of the fourth head are written as the first head's. -/
theorem kw3 : k0_pay103 (F := Ideal) = k0_pay100 := rfl
/-- The numerators of the fourth head are written as the first head's. -/
theorem num3 (q k : FVec Ideal S256x128 .bf16) (v : FVec Ideal S256x256 .bf16) (C : FVec Ideal S128x256 .f32) (d mt i) :
  k0_pay81 q v C (k0_pay73 i mt) (k0_pay80 q k d mt) = k0_pay77 q k v C d i mt := rfl
/-- The quotients of the first head, under one name. -/
theorem out0 (num : FVec Ideal S256x256 .f32) (q n w sc mt) : k0_pay87 num (k0_pay85 q n w sc) (k0_pay86 mt) = k0_pay88 mt num (k0_pay82 q n w sc) := rfl
/-- The quotients of the fourth head, under one name. -/
theorem out3 (num : FVec Ideal S256x256 .f32) (den mt) : k0_pay91 num (k0_pay90 mt den) = k0_pay88 mt num den := rfl
/-- The decay of the second head, under one name. -/
theorem dec1 : k0_pay106 (k0_pay96 g li gt mp) (k0_pay105 gt mp) = k0_pay104 g li gt mp := rfl
/-- The decay of the third head, under one name. -/
theorem dec2 : k0_pay107 gt mp (k0_pay96 g li gt mp) = k0_pay104 g li gt mp := rfl
/-- The decay of the fourth head, under one name. -/
theorem dec3 : k0_pay108 gt mp (k0_pay96 g li gt mp) = k0_pay104 g li gt mp := rfl
/-- The next matrix state of the second head, under one name. -/
theorem c1 (v : FVec Ideal S256x256 .bf16) (C : FVec Ideal S128x256 .f32) (kw) : k0_pay112 v C (k0_pay96 g li gt mp) kw (k0_pay105 gt mp) = k0_pay109 v C kw (k0_pay104 g li gt mp) := rfl
/-- The next matrix state of the third head, under one name. -/
theorem c2 : k0_pay116 (F := Ideal) = k0_pay109 := rfl
/-- The next matrix state of the fourth head, under one name. -/
theorem c3 : k0_pay119 (F := Ideal) = k0_pay109 := rfl
/-- The next vector state of the second head, under one name. -/
theorem n1 (n : FVec Ideal S1x128 .f32) (kw) : k0_pay114 (k0_pay113 n (k0_pay96 g li gt mp) kw (k0_pay105 gt mp)) = k0_pay110 n kw (k0_pay104 g li gt mp) := rfl
/-- The next vector state of the third head, under one name. -/
theorem n2 : k0_pay117 (F := Ideal) = k0_pay110 := rfl
/-- The next vector state of the fourth head, under one name. -/
theorem n3 (n : FVec Ideal S1x128 .f32) (kw d) : k0_pay1 n kw d = k0_pay110 n kw d := rfl
/-- The stored maximum of the second head, under one name. -/
theorem m1 : k0_pay115 (F := Ideal) = k0_pay111 := rfl
/-- The stored maximum of the third head, under one name. -/
theorem m2 : k0_pay118 (F := Ideal) = k0_pay111 := rfl
/-- The stored maximum of the fourth head, under one name. -/
theorem m3 : k0_pay2 (F := Ideal) = k0_pay111 := rfl
end Names

variable (σ : Equiv.Perm (Fin 256)) (p : ℕ) (lf li : ℕ → ℝ) (q k : ℕ → Fin 128 → ℝ) (v : ℕ → Fin 256 → ℝ)

/-- Every column-like vector: row `r` holds the running sum since the chunk's start. -/
def IsG (g : FVec Ideal S256x128 .f32) : Prop := ∀ r l, g (ix2 r l) = ((F lf (p + (σ r).val + 1) - F lf p : ℝ) : EReal)
/-- Every row holds its position's input gate. -/
def IsLi (g : FVec Ideal S256x128 .f32) : Prop := ∀ r l, g (ix2 r l) = ((li (p + (σ r).val) : ℝ) : EReal)
/-- The chunk's whole sum of the forget gates' logarithms. -/
def IsGt (g : FVec Ideal S1x128 .f32) : Prop := ∀ l, g (ix2 0 l) = ((F lf (p + 256) - F lf p : ℝ) : EReal)
/-- The carried maximum. -/
def IsM (g : FVec Ideal S1x128 .f32) : Prop := ∀ l, g (ix2 0 l) = ((M lf li p : ℝ) : EReal)
/-- The masked exponents: row, then position of the chunk. -/
def IsD (d : FVec Ideal S256x256 .f32) : Prop := ∀ r r', d (ix2 r r') = if σ r' ≤ σ r then
  ((F lf (p + (σ r).val + 1) - F lf (p + (σ r').val + 1) + li (p + (σ r').val) : ℝ) : EReal) else ⊥
/-- Each row's bound from the carried state. -/
def IsIn (g : FVec Ideal S256x128 .f32) : Prop := ∀ r l, g (ix2 r l) = ((F lf (p + (σ r).val + 1) - F lf p + M lf li p : ℝ) : EReal)
/-- Each row's maximum. -/
def IsMt (g : FVec Ideal S256x128 .f32) : Prop := ∀ r l, g (ix2 r l) = ((M lf li (p + (σ r).val + 1) : ℝ) : EReal)
/-- Each row's factor of the carried state. -/
def IsSc (g : FVec Ideal S256x128 .f32) : Prop := ∀ r l, g (ix2 r l) = ((Real.exp (F lf (p + (σ r).val + 1) - F lf p + M lf li p - M lf li (p + (σ r).val + 1)) : ℝ) : EReal)
/-- The weights times the products of the queries with the keys. -/
def IsW (w : FVec Ideal S256x256 .f32) : Prop := ∀ r r', w (ix2 r r') = (((if (σ r').val < (σ r).val + 1 then wt lf li (p + (σ r).val + 1) (p + (σ r').val) else 0) *
        (∑ e, q (p + (σ r).val) e * k (p + (σ r').val) e) : ℝ) : EReal)
/-- The rows of a sequence of 128 entries. -/
def IsRows {φ} (x : FVec Ideal S256x128 φ) (f : ℕ → Fin 128 → ℝ) : Prop := ∀ r e, x (ix2 r e) = ((f (p + (σ r).val) e : ℝ) : EReal)

/-- The rows of the values. -/
def IsV (x : FVec Ideal S256x256 .bf16) : Prop := ∀ r j, x (ix2 r j) = ((v (p + (σ r).val) j : ℝ) : EReal)
/-- The carried matrix state. -/
def IsC (x : FVec Ideal S128x256 .f32) : Prop := ∀ e j, x (ix2 e j) = ((Cst lf li k v p e j : ℝ) : EReal)
/-- The carried vector state. -/
def IsN (x : FVec Ideal S1x128 .f32) : Prop := ∀ e, x (ix2 0 e) = ((Nst lf li k p e : ℝ) : EReal)
/-- Each row's numerator. -/
def IsNum (x : FVec Ideal S256x256 .f32) : Prop := ∀ r j, x (ix2 r j) = ((Num lf li q k v (p + (σ r).val) j : ℝ) : EReal)
/-- Each row's denominator. -/
def IsDen (x : FVec Ideal S256x128 .f32) : Prop := ∀ r l, x (ix2 r l) = ((Den lf li q k (p + (σ r).val) : ℝ) : EReal)
/-- Each row's exponent at the chunk's end. -/
def IsA (x : FVec Ideal S256x128 .f32) : Prop := ∀ r l, x (ix2 r l) = ((F lf (p + 256) - F lf (p + (σ r).val + 1) + li (p + (σ r).val) : ℝ) : EReal)
/-- Each row's key, weighted for the next state. -/
def IsKw (x : FVec Ideal S256x128 .f32) : Prop := ∀ r e, x (ix2 r e) = ((k (p + (σ r).val) e * wt lf li (p + 256) (p + (σ r).val) : ℝ) : EReal)
/-- The factor of the carried state in the next one. -/
def IsDec (x : FVec Ideal S1x128 .f32) : Prop := ∀ l, x (ix2 0 l) = ((Real.exp (F lf (p + 256) - F lf p + M lf li p - M lf li (p + 256)) : ℝ) : EReal)

/-- A choice between two equal values. -/
theorem dite_same {c : Prop} [Decidable c] {a : c → EReal} {b : ¬c → EReal} {x : EReal} (ha : ∀ h, a h = x)
    (hb : ∀ h, b h = x) : dite c a b = x := by
  split
  · exact ha _
  · exact hb _

/-- A sum of products of real numbers. -/
theorem sum_mul_coe {n : ℕ} {x y : Fin n → EReal} {f g : Fin n → ℝ} (hx : ∀ e, x e = (f e : EReal)) (hy : ∀ e, y e = (g e : EReal)) :
    ∑ e, x e * y e = ((∑ e, f e * g e : ℝ) : EReal) := by
  rw [← coe_sum]
  exact Finset.sum_congr rfl fun e _ => by rw [hx, hy, EReal.coe_mul]

section
variable {σ p lf li q k v}
variable {v7 : IVec S256x256 1} (hv : ∀ r r', v7 (ix2 r r') = if σ r' ≤ σ r then 1#1 else 0#1)
variable {g lic inn mt sc : FVec Ideal S256x128 .f32} {gt mp : FVec Ideal S1x128 .f32} {r8 c8 : FVec Ideal S8x256 .f32}
variable {d w : FVec Ideal S256x256 .f32} {qb kb : FVec Ideal S256x128 .bf16}
include hv in
/-- The masked exponents of the first head are right. -/
theorem dm0 (hg : IsG σ p lf g) (h8 : ∀ r, c8 (ix2 4 r) = ((F lf (p + (σ r).val + 1) - F lf p : ℝ) : EReal))
    (hi : ∀ r, r8 (ix2 0 r) = ((li (p + (σ r).val) : ℝ) : EReal)) :
    IsD σ p lf li (k0_pay57 v7 (k0_pay56 r8 c8 g) (Scalar.ofBits .f32 0xFF800000#32)) := by
  intro r r'
  unfold k0_pay57 k0_pay56
  pointwise
  rw [hv, h8, hi, dite_same (fun _ => hg _ _) fun _ => hg _ _, neg_inf]
  by_cases h : σ r' ≤ σ r
  · rw [if_pos h, if_pos h, Scalar.select, if_pos (by decide), ← EReal.coe_sub, ← EReal.coe_add]
    congr 1; ring
  · rw [if_neg h, if_neg h, Scalar.select, if_neg (by decide)]
include hv in
/-- The masked exponents of the second head are right. -/
theorem dm1 (hg : IsG σ p lf g) (h8 : ∀ r, c8 (ix2 5 r) = ((F lf (p + (σ r).val + 1) - F lf p : ℝ) : EReal))
    (hi : ∀ r, r8 (ix2 1 r) = ((li (p + (σ r).val) : ℝ) : EReal)) :
    IsD σ p lf li (k0_pay58 v7 r8 c8 g) := by
  intro r r'
  unfold k0_pay58
  pointwise
  rw [hv, h8, hi, dite_same (fun _ => hg _ _) fun _ => hg _ _, neg_inf]
  by_cases h : σ r' ≤ σ r
  · rw [if_pos h, if_pos h, Scalar.select, if_pos (by decide), ← EReal.coe_sub, ← EReal.coe_add]
    congr 1; ring
  · rw [if_neg h, if_neg h, Scalar.select, if_neg (by decide)]
include hv in
/-- The masked exponents of the third head are right. -/
theorem dm2 (hg : IsG σ p lf g) (h8 : ∀ r, c8 (ix2 6 r) = ((F lf (p + (σ r).val + 1) - F lf p : ℝ) : EReal))
    (hi : ∀ r, r8 (ix2 2 r) = ((li (p + (σ r).val) : ℝ) : EReal)) :
    IsD σ p lf li (k0_pay59 v7 r8 c8 g) := by
  intro r r'
  unfold k0_pay59
  pointwise
  rw [hv, h8, hi, dite_same (fun _ => hg _ _) fun _ => hg _ _, neg_inf]
  by_cases h : σ r' ≤ σ r
  · rw [if_pos h, if_pos h, Scalar.select, if_pos (by decide), ← EReal.coe_sub, ← EReal.coe_add]
    congr 1; ring
  · rw [if_neg h, if_neg h, Scalar.select, if_neg (by decide)]
include hv in
/-- The masked exponents of the fourth head are right. -/
theorem dm3 (hg : IsG σ p lf g) (h8 : ∀ r, c8 (ix2 7 r) = ((F lf (p + (σ r).val + 1) - F lf p : ℝ) : EReal))
    (hi : ∀ r, r8 (ix2 3 r) = ((li (p + (σ r).val) : ℝ) : EReal)) :
    IsD σ p lf li (k0_pay60 v7 r8 c8 g) := by
  intro r r'
  unfold k0_pay60
  pointwise
  rw [hv, h8, hi, dite_same (fun _ => hg _ _) fun _ => hg _ _, neg_inf]
  by_cases h : σ r' ≤ σ r
  · rw [if_pos h, if_pos h, Scalar.select, if_pos (by decide), ← EReal.coe_sub, ← EReal.coe_add]
    congr 1; ring
  · rw [if_neg h, if_neg h, Scalar.select, if_neg (by decide)]
/-- The carried bounds are right. -/
theorem inn_ok (hg : IsG σ p lf g) (hm : IsM p lf li mp) : IsIn σ p lf li (k0_pay61 g mp) := by
  intro r l
  unfold k0_pay61
  pointwise
  rw [hg, hm, ← EReal.coe_add]
/-- The maxima are right. -/
theorem mt_ok (hd : IsD σ p lf li d) (hg : IsG σ p lf g) (hm : IsM p lf li mp) : IsMt σ p lf li (mtOf d g mp) := by
  intro r l
  unfold mtOf
  pointwise
  rw [inn_ok hg hm r l, neg_inf]
  exact M_chunk lf li σ p ((σ r).val + 1) (σ r).isLt _ fun r' => by
    rw [hd]; exact if_congr (by rw [Fin.le_def]; omega) rfl rfl
/-- The weights are right. -/
theorem w_ok (hq : IsRows σ p qb q) (hk : IsRows σ p kb k) (hd : IsD σ p lf li d) (hm : IsMt σ p lf li mt) : IsW σ p lf li q k (k0_pay69 qb kb d mt) := by
  intro r l
  unfold k0_pay69
  pointwise
  rw [hd, dite_same (fun _ => hm _ _) fun _ => hm _ _]
  rw [sum_mul_coe (fun e => hq r e) fun e => hk l e]
  by_cases h : σ l ≤ σ r
  · rw [if_pos h, if_pos (by rw [Fin.le_def] at h; omega), ← EReal.coe_sub, Ideal.exp_coe, ← EReal.coe_mul]
    rfl
  · rw [if_neg h, if_neg (by rw [Fin.le_def] at h; omega), EReal.bot_sub, Ideal.exp_bot]
    simp
/-- The factors of the carried state are right. -/
theorem sc_ok (hi : IsIn σ p lf li inn) (hm : IsMt σ p lf li mt) : IsSc σ p lf li (k0_pay73 inn mt) := by
  intro r l
  unfold k0_pay73
  pointwise
  rw [hi, hm, ← EReal.coe_sub, Ideal.exp_coe]

variable {num : FVec Ideal S256x256 .f32} {den : FVec Ideal S256x128 .f32} {qf kf kw : FVec Ideal S256x128 .f32} {vb : FVec Ideal S256x256 .bf16}
  {C : FVec Ideal S128x256 .f32} {nn dec mn : FVec Ideal S1x128 .f32}
/-- The numerators are right. -/
theorem num_ok (hq : IsRows σ p qb q) (hk : IsRows σ p kb k) (hv : IsV σ p v vb) (hC : IsC p lf li k v C)
    (hd : IsD σ p lf li d) (hi : IsIn σ p lf li inn) (hm : IsMt σ p lf li mt) : IsNum σ p lf li q k v (k0_pay77 qb kb vb C d inn mt) := by
  intro r j
  have hw := w_ok hq hk hd hm
  have hs := sc_ok hi hm
  unfold k0_pay77
  pointwise
  rw [dite_same (fun _ => hs _ _) fun _ => hs _ _, sum_mul_coe (fun r' => hw r r') fun r' => hv r' j,
    sum_mul_coe (fun e => hq r e) fun e => hC e j, ← EReal.coe_mul, ← EReal.coe_add]
  exact congrArg _ (Num_chunk lf li σ q k v p (σ r).val (σ r).isLt j)
/-- The denominators are right. -/
theorem den_ok (hq : IsRows σ p qf q) (hn : IsN p lf li k nn) (hw : IsW σ p lf li q k w) (hs : IsSc σ p lf li sc) :
    IsDen σ p lf li q k (k0_pay82 qf nn w sc) := by
  intro r l
  unfold k0_pay82
  pointwise
  rw [hs, sum_mul_coe (fun e => hq r e) fun e => hn e]
  simp only [hw _ _]
  rw [coe_sum, ← EReal.coe_mul, ← EReal.coe_add]
  exact congrArg _ (Den_chunk lf li σ q k p (σ r).val (σ r).isLt)
/-- The written quotient is the recurrence's output. -/
theorem out_ok (hn : IsNum σ p lf li q k v num) (hd : IsDen σ p lf li q k den) (hm : IsMt σ p lf li mt) (r : Fin 256) (j : Fin 256) :
    k0_pay88 mt num den (ix3 0 r j) = ((H lf li q k v (p + (σ r).val) j : ℝ) : EReal) := by
  have h : ∀ l, Ideal.div 1 (max (FloatOps.absf (F := Ideal) (φ := .f32) (den (ix2 r l))) (Ideal.exp (0 - mt (ix2 r l)))) =
      ((1 / max |Den lf li q k (p + (σ r).val)| (Real.exp (-M lf li (p + (σ r).val + 1))) : ℝ) : EReal) := fun l => by
    rw [hd, hm, Ideal.absf_def, coe_abs, ← EReal.coe_zero, ← EReal.coe_sub, zero_sub, Ideal.exp_coe, coe_max,
      Ideal.div_coe (ne_of_gt (floor_pos _ _)), one_mul]
  unfold k0_pay88
  pointwise
  rw [dite_same (fun _ => h _) fun _ => h _, hn, ← EReal.coe_mul, H, mul_one_div]
/-- The exponents at the chunk's end are right. -/
theorem a_ok (hg : IsG σ p lf g) (hl : IsLi σ p li lic) (ht : IsGt p lf gt) : IsA σ p lf li (k0_pay92 g lic gt) := by
  intro r l
  unfold k0_pay92
  pointwise
  rw [hg, hl, ht, ← EReal.coe_sub, ← EReal.coe_add]
  congr 1; ring
/-- The maximum at the chunk's end is right. -/
theorem mn_ok (hg : IsG σ p lf g) (hl : IsLi σ p li lic) (ht : IsGt p lf gt) (hm : IsM p lf li mp) : IsM (p + 256) lf li (k0_pay96 g lic gt mp) := by
  intro l
  unfold k0_pay96
  pointwise
  rw [ht, hm, ← EReal.coe_add, neg_inf]
  exact M_chunk lf li σ p 256 le_rfl _ fun r' => by
    rw [a_ok hg hl ht r', if_pos (σ r').isLt]
/-- The weighted keys are right. -/
theorem kw_ok (hk : IsRows σ p kf k) (hg : IsG σ p lf g) (hl : IsLi σ p li lic) (ht : IsGt p lf gt) (hm : IsM p lf li mp) : IsKw σ p lf li k (k0_pay100 kf g lic gt mp) := by
  intro r e
  unfold k0_pay100
  pointwise
  rw [hk, a_ok hg hl ht, mn_ok hg hl ht hm, ← EReal.coe_sub, Ideal.exp_coe, ← EReal.coe_mul]
  rfl
/-- The decay is right. -/
theorem dec_ok (hg : IsG σ p lf g) (hl : IsLi σ p li lic) (ht : IsGt p lf gt) (hm : IsM p lf li mp) : IsDec p lf li (k0_pay104 g lic gt mp) := by
  intro l
  unfold k0_pay104
  pointwise
  rw [ht, hm, mn_ok hg hl ht hm, ← EReal.coe_add, ← EReal.coe_sub, Ideal.exp_coe]
/-- The next matrix state is right. -/
theorem c_ok (hv : IsV σ p v vb) (hC : IsC p lf li k v C) (hk : IsKw σ p lf li k kw) (hd : IsDec p lf li dec) (e : Fin 128) (j : Fin 256) :
    k0_pay109 vb C kw dec (ix3 0 e j) = ((Cst lf li k v (p + 256) e j : ℝ) : EReal) := by
  unfold k0_pay109
  pointwise
  rw [hd, hC, sum_mul_coe (fun r' => hk r' e) fun r' => hv r' j, ← EReal.coe_mul, ← EReal.coe_add]
  exact congrArg _ (Cst_chunk lf li σ k v p e j)
/-- The next vector state is right. -/
theorem n_ok (hC : IsN p lf li k nn) (hk : IsKw σ p lf li k kw) (hd : IsDec p lf li dec) (e : Fin 128) :
    k0_pay110 nn kw dec (ix3 0 0 e) = ((Nst lf li k (p + 256) e : ℝ) : EReal) := by
  unfold k0_pay110
  pointwise
  rw [hd, hC]
  simp only [hk _ _]
  rw [coe_sum, ← EReal.coe_mul, ← EReal.coe_add]
  exact congrArg _ (Nst_chunk lf li σ k p e)
/-- The stored maximum is the computed one. -/
theorem m_ok (hm : IsM p lf li mn) (l : Fin 128) : k0_pay111 mn (ix3 0 0 l) = ((M lf li p : ℝ) : EReal) := by
  unfold k0_pay111
  pointwise
  exact hm l
end
end Cert.MlstmIdeal.Head
-- ==== Proof.MlstmChunk.lean ====
module
public import proofs.«01_k».proof.Proof.MlstmHead
public import Idealize.ShloMosaic.Lib.Pipeline.ValueKit
/-! What one chunk computes, head by head, from the five input blocks and the state that the chunk before left. -/
@[expose] public section
noncomputable section
namespace Cert.MlstmIdeal.Head
open Cert.MlstmIdeal Cert.MlstmIdeal.Gen Idealize.ShloMosaic Idealize.ShloMosaic.TcCoe Idealize.SL.Sem
open Idealize.ShloMosaic.Tactic Cert.MlstmMath

/-- The five input blocks hold, row by row, the positions `p + σ r` of real sequences, one family per head. -/
structure Blocks (σ : Equiv.Perm (Fin 256)) (p : ℕ) (lg li : Fin 4 → ℕ → ℝ) (q k : Fin 4 → ℕ → Fin 128 → ℝ)
    (v : Fin 4 → ℕ → Fin 256 → ℝ) (b0 b1 : FVec Ideal S256x1024 .f32) (b2 : FVec Ideal S1x256x8 .f32)
    (b3 : FVec Ideal S1x1x8x256 .f32) (b4 : FVec Ideal S1x256x256 .f32) : Prop where
  q : ∀ (h : Fin 4) r e (c : Fin 1024), c.val = 128 * h.val + e.val → b0 (ix2 r c) = ((q h (p + (σ r).val) e : ℝ) : EReal)
  k : ∀ (h : Fin 4) r e (c : Fin 1024), c.val = 512 + 128 * h.val + e.val → b0 (ix2 r c) = ((k h (p + (σ r).val) e : ℝ) : EReal)
  v : ∀ (h : Fin 4) r j (c : Fin 1024), c.val = 256 * h.val + j.val → b1 (ix2 r c) = ((v h (p + (σ r).val) j : ℝ) : EReal)
  fc : ∀ (h : Fin 4) r (c : Fin 8), c.val = 4 + h.val → b2 (ix3 0 r c) = ((lg h (p + (σ r).val) : ℝ) : EReal)
  ic : ∀ (h : Fin 4) r (c : Fin 8), c.val = h.val → b2 (ix3 0 r c) = ((li h (p + (σ r).val) : ℝ) : EReal)
  fr : ∀ (h : Fin 4) r (c : Fin 8), c.val = 4 + h.val → b3 (ix4 0 0 c r) = ((lg h (p + (σ r).val) : ℝ) : EReal)
  ir : ∀ (h : Fin 4) r (c : Fin 8), c.val = h.val → b3 (ix4 0 0 c r) = ((li h (p + (σ r).val) : ℝ) : EReal)
  mask : ∀ r r', b4 (ix3 0 r r') = if σ r' ≤ σ r then (1 : EReal) else 0

/-- The forget gates' logarithms of a head. -/
def lfOf (lg : Fin 4 → ℕ → ℝ) (h : Fin 4) (s : ℕ) : ℝ := logSig (lg h s)

/-- The three state arrays hold the state after `p` positions. -/
structure State (p : ℕ) (lg li : Fin 4 → ℕ → ℝ) (k : Fin 4 → ℕ → Fin 128 → ℝ)
    (v : Fin 4 → ℕ → Fin 256 → ℝ) (C : FVec Ideal S4x128x256 .f32) (n m : FVec Ideal S4x1x128 .f32) : Prop where
  C : ∀ h e j, C (ix3 h e j) = ((Cst (lfOf lg h) (li h) (k h) (v h) p e j : ℝ) : EReal)
  n : ∀ h e, n (ix3 h 0 e) = ((Nst (lfOf lg h) (li h) (k h) p e : ℝ) : EReal)
  m : ∀ h l, m (ix3 h 0 l) = ((M (lfOf lg h) (li h) p : ℝ) : EReal)

variable {σ : Equiv.Perm (Fin 256)} {p : ℕ} {lg li : Fin 4 → ℕ → ℝ} {q k : Fin 4 → ℕ → Fin 128 → ℝ}
    {v : Fin 4 → ℕ → Fin 256 → ℝ} {b0 b1 : FVec Ideal S256x1024 .f32} {b2 : FVec Ideal S1x256x8 .f32}
    {b3 : FVec Ideal S1x1x8x256 .f32} {b4 : FVec Ideal S1x256x256 .f32}
    {C : FVec Ideal S4x128x256 .f32} {n m : FVec Ideal S4x1x128 .f32}

/-- The running sums of all columns. -/
def gcc (b2 : FVec Ideal S1x256x8 .f32) (b4 : FVec Ideal S1x256x256 .f32) : FVec Ideal S256x8 .f32 :=
  k0_pay17 (k0_pay7 (F := Ideal) b4) (k0_pay13 (F := Ideal) b2) (k0_pay14 (F := Ideal) b2) (k0_pay15 (F := Ideal) b2) (k0_pay16 (F := Ideal) b2)
/-- The running sums of all rows. -/
def gcr (b3 : FVec Ideal S1x1x8x256 .f32) (b4 : FVec Ideal S1x256x256 .f32) : FVec Ideal S8x256 .f32 :=
  k0_pay18 (k0_pay7 (F := Ideal) b4) (k0_pay12 (F := Ideal) b3)

/-- A block of 128 columns. -/
abbrev ld0 (b : Vec Ideal S256x1024 .f32) (off : Fin 2 → ℕ) (inb : ∀ a, off a + (![256, 128] : Fin 2 → ℕ) a ≤ S256x1024.size a) : Vec Ideal S256x128 .f32 :=
  View.ld (Val := Elt Ideal) (e' := .f32) b (Rect.unit (s := S256x1024) off ![256, 128] inb)
/-- A block of 256 columns. -/
abbrev ld1 (b : Vec Ideal S256x1024 .f32) (off : Fin 2 → ℕ) (inb : ∀ a, off a + (![256, 256] : Fin 2 → ℕ) a ≤ S256x1024.size a) : Vec Ideal S256x256 .f32 :=
  View.ld (Val := Elt Ideal) (e' := .f32) b (Rect.unit (s := S256x1024) off ![256, 256] inb)
/-- A head's row of a state array. -/
abbrev ldn (b : Vec Ideal S4x1x128 .f32) (off : Fin 3 → ℕ) (inb : ∀ a, off a + (![1, 1, 128] : Fin 3 → ℕ) a ≤ S4x1x128.size a) : Vec Ideal S1x1x128 .f32 :=
  View.ld (Val := Elt Ideal) (e' := .f32) b (Rect.unit (s := S4x1x128) off ![1, 1, 128] inb)
/-- A head's matrix of the state. -/
abbrev ldC (b : Vec Ideal S4x128x256 .f32) (off : Fin 3 → ℕ) (inb : ∀ a, off a + (![1, 128, 256] : Fin 3 → ℕ) a ≤ S4x128x256.size a) : Vec Ideal S1x128x256 .f32 :=
  View.ld (Val := Elt Ideal) (e' := .f32) b (Rect.unit (s := S4x128x256) off ![1, 128, 256] inb)

/-- An equation at every axis of two, from one at each. -/
theorem axes2 {P : Fin 2 → Prop} (h0 : P 0) (h1 : P 1) : ∀ a, P a
  | 0 => h0
  | 1 => h1
/-- An equation at every axis of three, from one at each. -/
theorem axes3 {P : Fin 3 → Prop} (h0 : P 0) (h1 : P 1) (h2 : P 2) : ∀ a, P a
  | 0 => h0
  | 1 => h1
  | 2 => h2

/-- A load of 128 columns, at an index. -/
theorem ld0_at (b : Vec Ideal S256x1024 .f32) (off inb) (r : Fin 256) (e : Fin 128) (c : Fin 1024) (h0 : off 0 = 0) (h1 : c.val = off 1 + e.val) :
    ld0 b off inb (ix2 r e) = b (ix2 r c) :=
  View.ld_unit_apply_of (Val := Elt Ideal) (e := .f32) b off _ inb (ix2 r e) (ix2 r c) (axes2 (by rw [h0]; exact (Nat.zero_add _).symm) h1)
/-- A load of 256 columns, at an index. -/
theorem ld1_at (b : Vec Ideal S256x1024 .f32) (off inb) (r : Fin 256) (e : Fin 256) (c : Fin 1024) (h0 : off 0 = 0) (h1 : c.val = off 1 + e.val) :
    ld1 b off inb (ix2 r e) = b (ix2 r c) :=
  View.ld_unit_apply_of (Val := Elt Ideal) (e := .f32) b off _ inb (ix2 r e) (ix2 r c) (axes2 (by rw [h0]; exact (Nat.zero_add _).symm) h1)
/-- A load of a head's vector state, at an index. -/
theorem ldn_at (b : Vec Ideal S4x1x128 .f32) (off inb) (h : Fin 4) (e : Fin 128) (h0 : h.val = off 0) (h1 : off 1 = 0) (h2 : off 2 = 0) :
    ldn b off inb (ix3 0 0 e) = b (ix3 h 0 e) :=
  View.ld_unit_apply_of (Val := Elt Ideal) (e := .f32) b off _ inb (ix3 0 0 e) (ix3 h 0 e)
    (axes3 h0 (by rw [h1]; rfl) (by rw [h2]; exact (Nat.zero_add _).symm))
/-- A load of a head's matrix state, at an index. -/
theorem ldC_at (b : Vec Ideal S4x128x256 .f32) (off inb) (h : Fin 4) (e : Fin 128) (j : Fin 256) (h0 : h.val = off 0) (h1 : off 1 = 0) (h2 : off 2 = 0) :
    ldC b off inb (ix3 0 e j) = b (ix3 h e j) :=
  View.ld_unit_apply_of (Val := Elt Ideal) (e := .f32) b off _ inb (ix3 0 e j) (ix3 h e j)
    (axes3 h0 (by rw [h1]; exact (Nat.zero_add _).symm) (by rw [h2]; exact (Nat.zero_add _).symm))

section Head0
variable (B : Blocks σ p lg li q k v b0 b1 b2 b3 b4) (S : State p lg li k v C n m)
include B in
/-- The running sums of the first head. -/
theorem g0 : IsG σ p (lfOf lg 0) (k0_pay32 (F := Ideal) (gcc b2 b4)) := fun r l => by
  unfold k0_pay32; pointwise; exact gcum_c σ p b4 B.mask b2 4 (lg 0) (fun r => B.fc 0 r 4 rfl) r
include B in
/-- The input gates of the first head. -/
theorem li0 : IsLi σ p (li 0) (k0_pay36 (F := Ideal) (k0_pay9 (F := Ideal) b2)) := fun r l => by
  unfold k0_pay36 k0_pay9; pointwise; exact B.ic 0 r 0 rfl
include B in
/-- The whole sum of the first head. -/
theorem gt0 : IsGt p (lfOf lg 0) (k0_pay40 (F := Ideal) (k0_pay19 (F := Ideal) (k0_pay11 (F := Ideal) b2))) := fun l => by
  unfold k0_pay40; pointwise; exact gtot σ p b2 4 (lg 0) (fun r => B.fc 0 r 4 rfl)
include B in
/-- The masked exponents of the first head. -/
theorem d0 : IsD σ p (lfOf lg 0) (li 0) (k0_pay57 (F := Ideal) (k0_pay8 (F := Ideal) b4) (k0_pay56 (F := Ideal) (k0_pay10 (F := Ideal) b3) (gcr b3 b4) (k0_pay32 (F := Ideal) (gcc b2 b4))) (Scalar.ofBits .f32 0xFF800000#32)) :=
  dm0 (vis σ b4 B.mask) (g0 B) (gcum_r σ p b4 B.mask b3 4 (lg 0) fun r => B.fr 0 r 4 rfl) fun r => by
    unfold k0_pay10; pointwise; exact B.ir 0 r 0 rfl
include S in
/-- The carried maximum of the first head. -/
theorem mp0 : IsM p (lfOf lg 0) (li 0) (k0_pay44 (F := Ideal) (ldn m ![0, 0, 0] inb_S4x1x128_S1x1x128_0_0_0)) := fun l => by
  unfold k0_pay44; pointwise; exact (ldn_at m _ _ 0  l rfl rfl rfl).trans (S.m 0 l)
include S in
/-- The carried matrix state of the first head. -/
theorem cc0 : IsC p (lfOf lg 0) (li 0) (k 0) (v 0) (k0_pay48 (F := Ideal) (ldC C ![0, 0, 0] inb_S4x128x256_S1x128x256_0_0_0)) := fun e j => by
  unfold k0_pay48; pointwise; exact (ldC_at C _ _ 0 e j rfl rfl rfl).trans (S.C 0 e j)
include S in
/-- The carried vector state of the first head. -/
theorem nn0 : IsN p (lfOf lg 0) (li 0) (k 0) (k0_pay52 (F := Ideal) (ldn n ![0, 0, 0] inb_S4x1x128_S1x1x128_0_0_0)) := fun e => by
  unfold k0_pay52; pointwise; exact (ldn_at n _ _ 0  e rfl rfl rfl).trans (S.n 0 e)
include B in
/-- The queries of the first head. -/
theorem qf0 : IsRows (φ := .f32) σ p (ld0 b0 ![0, 0] inb_S256x1024_S256x128_0_0) (q 0) := fun r e =>
  (ld0_at b0 _ _ r _ (⟨0 + e.val, by have := e.isLt; omega⟩ : Fin 1024) rfl rfl).trans (B.q 0 r e _ rfl)
include B in
/-- The keys of the first head. -/
theorem kf0 : IsRows (φ := .f32) σ p (ld0 b0 ![0, 512] inb_S256x1024_S256x128_0_512) (k 0) := fun r e =>
  (ld0_at b0 _ _ r _ (⟨512 + e.val, by have := e.isLt; omega⟩ : Fin 1024) rfl rfl).trans (B.k 0 r e _ rfl)
include B in
/-- The rounded queries of the first head. -/
theorem qb0 : IsRows σ p (k0_pay20 (F := Ideal) (ld0 b0 ![0, 0] inb_S256x1024_S256x128_0_0)) (q 0) := fun r e => by
  unfold k0_pay20; pointwise; exact qf0 B r e
include B in
/-- The rounded keys of the first head. -/
theorem kb0 : IsRows σ p (k0_pay24 (F := Ideal) (ld0 b0 ![0, 512] inb_S256x1024_S256x128_0_512)) (k 0) := fun r e => by
  unfold k0_pay24; pointwise; exact kf0 B r e
include B in
/-- The values of the first head. -/
theorem vb0 : IsV σ p (v 0) (k0_pay28 (F := Ideal) (ld1 b1 ![0, 0] inb_S256x1024_S256x256_0_0)) := fun r j => by
  unfold k0_pay28; pointwise
  exact (ld1_at b1 _ _ r _ (⟨0 + j.val, by have := j.isLt; omega⟩ : Fin 1024) rfl rfl).trans (B.v 0 r j _ rfl)
end Head0

section Head1
variable (B : Blocks σ p lg li q k v b0 b1 b2 b3 b4) (S : State p lg li k v C n m)
include B in
/-- The running sums of the second head. -/
theorem g1 : IsG σ p (lfOf lg 1) (k0_pay33 (F := Ideal) (gcc b2 b4)) := fun r l => by
  unfold k0_pay33; pointwise; exact gcum_c σ p b4 B.mask b2 5 (lg 1) (fun r => B.fc 1 r 5 rfl) r
include B in
/-- The input gates of the second head. -/
theorem li1 : IsLi σ p (li 1) (k0_pay37 (F := Ideal) (k0_pay9 (F := Ideal) b2)) := fun r l => by
  unfold k0_pay37 k0_pay9; pointwise; exact B.ic 1 r 1 rfl
include B in
/-- The whole sum of the second head. -/
theorem gt1 : IsGt p (lfOf lg 1) (k0_pay41 (F := Ideal) (k0_pay19 (F := Ideal) (k0_pay11 (F := Ideal) b2))) := fun l => by
  unfold k0_pay41; pointwise; exact gtot σ p b2 5 (lg 1) (fun r => B.fc 1 r 5 rfl)
include B in
/-- The masked exponents of the second head. -/
theorem d1 : IsD σ p (lfOf lg 1) (li 1) (k0_pay58 (F := Ideal) (k0_pay8 (F := Ideal) b4) (k0_pay10 (F := Ideal) b3) (gcr b3 b4) (k0_pay33 (F := Ideal) (gcc b2 b4))) :=
  dm1 (vis σ b4 B.mask) (g1 B) (gcum_r σ p b4 B.mask b3 5 (lg 1) fun r => B.fr 1 r 5 rfl) fun r => by
    unfold k0_pay10; pointwise; exact B.ir 1 r 1 rfl
include S in
/-- The carried maximum of the second head. -/
theorem mp1 : IsM p (lfOf lg 1) (li 1) (k0_pay45 (F := Ideal) (ldn m ![1, 0, 0] inb_S4x1x128_S1x1x128_1_0_0)) := fun l => by
  unfold k0_pay45; pointwise; exact (ldn_at m _ _ 1  l rfl rfl rfl).trans (S.m 1 l)
include S in
/-- The carried matrix state of the second head. -/
theorem cc1 : IsC p (lfOf lg 1) (li 1) (k 1) (v 1) (k0_pay49 (F := Ideal) (ldC C ![1, 0, 0] inb_S4x128x256_S1x128x256_1_0_0)) := fun e j => by
  unfold k0_pay49; pointwise; exact (ldC_at C _ _ 1 e j rfl rfl rfl).trans (S.C 1 e j)
include S in
/-- The carried vector state of the second head. -/
theorem nn1 : IsN p (lfOf lg 1) (li 1) (k 1) (k0_pay53 (F := Ideal) (ldn n ![1, 0, 0] inb_S4x1x128_S1x1x128_1_0_0)) := fun e => by
  unfold k0_pay53; pointwise; exact (ldn_at n _ _ 1  e rfl rfl rfl).trans (S.n 1 e)
include B in
/-- The queries of the second head. -/
theorem qf1 : IsRows (φ := .f32) σ p (ld0 b0 ![0, 128] inb_S256x1024_S256x128_0_128) (q 1) := fun r e =>
  (ld0_at b0 _ _ r _ (⟨128 + e.val, by have := e.isLt; omega⟩ : Fin 1024) rfl rfl).trans (B.q 1 r e _ rfl)
include B in
/-- The keys of the second head. -/
theorem kf1 : IsRows (φ := .f32) σ p (ld0 b0 ![0, 640] inb_S256x1024_S256x128_0_640) (k 1) := fun r e =>
  (ld0_at b0 _ _ r _ (⟨640 + e.val, by have := e.isLt; omega⟩ : Fin 1024) rfl rfl).trans (B.k 1 r e _ rfl)
include B in
/-- The rounded queries of the second head. -/
theorem qb1 : IsRows σ p (k0_pay21 (F := Ideal) (ld0 b0 ![0, 128] inb_S256x1024_S256x128_0_128)) (q 1) := fun r e => by
  unfold k0_pay21; pointwise; exact qf1 B r e
include B in
/-- The rounded keys of the second head. -/
theorem kb1 : IsRows σ p (k0_pay25 (F := Ideal) (ld0 b0 ![0, 640] inb_S256x1024_S256x128_0_640)) (k 1) := fun r e => by
  unfold k0_pay25; pointwise; exact kf1 B r e
include B in
/-- The values of the second head. -/
theorem vb1 : IsV σ p (v 1) (k0_pay29 (F := Ideal) (ld1 b1 ![0, 256] inb_S256x1024_S256x256_0_256)) := fun r j => by
  unfold k0_pay29; pointwise
  exact (ld1_at b1 _ _ r _ (⟨256 + j.val, by have := j.isLt; omega⟩ : Fin 1024) rfl rfl).trans (B.v 1 r j _ rfl)
end Head1

section Head2
variable (B : Blocks σ p lg li q k v b0 b1 b2 b3 b4) (S : State p lg li k v C n m)
include B in
/-- The running sums of the third head. -/
theorem g2 : IsG σ p (lfOf lg 2) (k0_pay34 (F := Ideal) (gcc b2 b4)) := fun r l => by
  unfold k0_pay34; pointwise; exact gcum_c σ p b4 B.mask b2 6 (lg 2) (fun r => B.fc 2 r 6 rfl) r
include B in
/-- The input gates of the third head. -/
theorem li2 : IsLi σ p (li 2) (k0_pay38 (F := Ideal) (k0_pay9 (F := Ideal) b2)) := fun r l => by
  unfold k0_pay38 k0_pay9; pointwise; exact B.ic 2 r 2 rfl
include B in
/-- The whole sum of the third head. -/
theorem gt2 : IsGt p (lfOf lg 2) (k0_pay42 (F := Ideal) (k0_pay19 (F := Ideal) (k0_pay11 (F := Ideal) b2))) := fun l => by
  unfold k0_pay42; pointwise; exact gtot σ p b2 6 (lg 2) (fun r => B.fc 2 r 6 rfl)
include B in
/-- The masked exponents of the third head. -/
theorem d2 : IsD σ p (lfOf lg 2) (li 2) (k0_pay59 (F := Ideal) (k0_pay8 (F := Ideal) b4) (k0_pay10 (F := Ideal) b3) (gcr b3 b4) (k0_pay34 (F := Ideal) (gcc b2 b4))) :=
  dm2 (vis σ b4 B.mask) (g2 B) (gcum_r σ p b4 B.mask b3 6 (lg 2) fun r => B.fr 2 r 6 rfl) fun r => by
    unfold k0_pay10; pointwise; exact B.ir 2 r 2 rfl
include S in
/-- The carried maximum of the third head. -/
theorem mp2 : IsM p (lfOf lg 2) (li 2) (k0_pay46 (F := Ideal) (ldn m ![2, 0, 0] inb_S4x1x128_S1x1x128_2_0_0)) := fun l => by
  unfold k0_pay46; pointwise; exact (ldn_at m _ _ 2  l rfl rfl rfl).trans (S.m 2 l)
include S in
/-- The carried matrix state of the third head. -/
theorem cc2 : IsC p (lfOf lg 2) (li 2) (k 2) (v 2) (k0_pay50 (F := Ideal) (ldC C ![2, 0, 0] inb_S4x128x256_S1x128x256_2_0_0)) := fun e j => by
  unfold k0_pay50; pointwise; exact (ldC_at C _ _ 2 e j rfl rfl rfl).trans (S.C 2 e j)
include S in
/-- The carried vector state of the third head. -/
theorem nn2 : IsN p (lfOf lg 2) (li 2) (k 2) (k0_pay54 (F := Ideal) (ldn n ![2, 0, 0] inb_S4x1x128_S1x1x128_2_0_0)) := fun e => by
  unfold k0_pay54; pointwise; exact (ldn_at n _ _ 2  e rfl rfl rfl).trans (S.n 2 e)
include B in
/-- The queries of the third head. -/
theorem qf2 : IsRows (φ := .f32) σ p (ld0 b0 ![0, 256] inb_S256x1024_S256x128_0_256) (q 2) := fun r e =>
  (ld0_at b0 _ _ r _ (⟨256 + e.val, by have := e.isLt; omega⟩ : Fin 1024) rfl rfl).trans (B.q 2 r e _ rfl)
include B in
/-- The keys of the third head. -/
theorem kf2 : IsRows (φ := .f32) σ p (ld0 b0 ![0, 768] inb_S256x1024_S256x128_0_768) (k 2) := fun r e =>
  (ld0_at b0 _ _ r _ (⟨768 + e.val, by have := e.isLt; omega⟩ : Fin 1024) rfl rfl).trans (B.k 2 r e _ rfl)
include B in
/-- The rounded queries of the third head. -/
theorem qb2 : IsRows σ p (k0_pay22 (F := Ideal) (ld0 b0 ![0, 256] inb_S256x1024_S256x128_0_256)) (q 2) := fun r e => by
  unfold k0_pay22; pointwise; exact qf2 B r e
include B in
/-- The rounded keys of the third head. -/
theorem kb2 : IsRows σ p (k0_pay26 (F := Ideal) (ld0 b0 ![0, 768] inb_S256x1024_S256x128_0_768)) (k 2) := fun r e => by
  unfold k0_pay26; pointwise; exact kf2 B r e
include B in
/-- The values of the third head. -/
theorem vb2 : IsV σ p (v 2) (k0_pay30 (F := Ideal) (ld1 b1 ![0, 512] inb_S256x1024_S256x256_0_512)) := fun r j => by
  unfold k0_pay30; pointwise
  exact (ld1_at b1 _ _ r _ (⟨512 + j.val, by have := j.isLt; omega⟩ : Fin 1024) rfl rfl).trans (B.v 2 r j _ rfl)
end Head2

section Head3
variable (B : Blocks σ p lg li q k v b0 b1 b2 b3 b4) (S : State p lg li k v C n m)
include B in
/-- The running sums of the fourth head. -/
theorem g3 : IsG σ p (lfOf lg 3) (k0_pay35 (F := Ideal) (gcc b2 b4)) := fun r l => by
  unfold k0_pay35; pointwise; exact gcum_c σ p b4 B.mask b2 7 (lg 3) (fun r => B.fc 3 r 7 rfl) r
include B in
/-- The input gates of the fourth head. -/
theorem li3 : IsLi σ p (li 3) (k0_pay39 (F := Ideal) (k0_pay9 (F := Ideal) b2)) := fun r l => by
  unfold k0_pay39 k0_pay9; pointwise; exact B.ic 3 r 3 rfl
include B in
/-- The whole sum of the fourth head. -/
theorem gt3 : IsGt p (lfOf lg 3) (k0_pay43 (F := Ideal) (k0_pay19 (F := Ideal) (k0_pay11 (F := Ideal) b2))) := fun l => by
  unfold k0_pay43; pointwise; exact gtot σ p b2 7 (lg 3) (fun r => B.fc 3 r 7 rfl)
include B in
/-- The masked exponents of the fourth head. -/
theorem d3 : IsD σ p (lfOf lg 3) (li 3) (k0_pay60 (F := Ideal) (k0_pay8 (F := Ideal) b4) (k0_pay10 (F := Ideal) b3) (gcr b3 b4) (k0_pay35 (F := Ideal) (gcc b2 b4))) :=
  dm3 (vis σ b4 B.mask) (g3 B) (gcum_r σ p b4 B.mask b3 7 (lg 3) fun r => B.fr 3 r 7 rfl) fun r => by
    unfold k0_pay10; pointwise; exact B.ir 3 r 3 rfl
include S in
/-- The carried maximum of the fourth head. -/
theorem mp3 : IsM p (lfOf lg 3) (li 3) (k0_pay47 (F := Ideal) (ldn m ![3, 0, 0] inb_S4x1x128_S1x1x128_3_0_0)) := fun l => by
  unfold k0_pay47; pointwise; exact (ldn_at m _ _ 3  l rfl rfl rfl).trans (S.m 3 l)
include S in
/-- The carried matrix state of the fourth head. -/
theorem cc3 : IsC p (lfOf lg 3) (li 3) (k 3) (v 3) (k0_pay51 (F := Ideal) (ldC C ![3, 0, 0] inb_S4x128x256_S1x128x256_3_0_0)) := fun e j => by
  unfold k0_pay51; pointwise; exact (ldC_at C _ _ 3 e j rfl rfl rfl).trans (S.C 3 e j)
include S in
/-- The carried vector state of the fourth head. -/
theorem nn3 : IsN p (lfOf lg 3) (li 3) (k 3) (k0_pay55 (F := Ideal) (ldn n ![3, 0, 0] inb_S4x1x128_S1x1x128_3_0_0)) := fun e => by
  unfold k0_pay55; pointwise; exact (ldn_at n _ _ 3  e rfl rfl rfl).trans (S.n 3 e)
include B in
/-- The queries of the fourth head. -/
theorem qf3 : IsRows (φ := .f32) σ p (ld0 b0 ![0, 384] inb_S256x1024_S256x128_0_384) (q 3) := fun r e =>
  (ld0_at b0 _ _ r _ (⟨384 + e.val, by have := e.isLt; omega⟩ : Fin 1024) rfl rfl).trans (B.q 3 r e _ rfl)
include B in
/-- The keys of the fourth head. -/
theorem kf3 : IsRows (φ := .f32) σ p (ld0 b0 ![0, 896] inb_S256x1024_S256x128_0_896) (k 3) := fun r e =>
  (ld0_at b0 _ _ r _ (⟨896 + e.val, by have := e.isLt; omega⟩ : Fin 1024) rfl rfl).trans (B.k 3 r e _ rfl)
include B in
/-- The rounded queries of the fourth head. -/
theorem qb3 : IsRows σ p (k0_pay23 (F := Ideal) (ld0 b0 ![0, 384] inb_S256x1024_S256x128_0_384)) (q 3) := fun r e => by
  unfold k0_pay23; pointwise; exact qf3 B r e
include B in
/-- The rounded keys of the fourth head. -/
theorem kb3 : IsRows σ p (k0_pay27 (F := Ideal) (ld0 b0 ![0, 896] inb_S256x1024_S256x128_0_896)) (k 3) := fun r e => by
  unfold k0_pay27; pointwise; exact kf3 B r e
include B in
/-- The values of the fourth head. -/
theorem vb3 : IsV σ p (v 3) (k0_pay31 (F := Ideal) (ld1 b1 ![0, 768] inb_S256x1024_S256x256_0_768)) := fun r j => by
  unfold k0_pay31; pointwise
  exact (ld1_at b1 _ _ r _ (⟨768 + j.val, by have := j.isLt; omega⟩ : Fin 1024) rfl rfl).trans (B.v 3 r j _ rfl)
end Head3

end Cert.MlstmIdeal.Head
-- ==== Proof.MlstmStep.lean ====
module
public import proofs.«01_k».proof.Proof.Gen.MlstmIdeal.Value
public import proofs.«01_k».proof.Proof.MlstmChunk
public import Idealize.ShloMosaic.Lib.Pipeline.ReadBack
/-! What one grid point leaves in the carried state and in the output block. -/
@[expose] public section
noncomputable section
namespace Cert.MlstmIdeal.Head
open Cert.MlstmIdeal Cert.MlstmIdeal.Gen Idealize.ShloMosaic Idealize.ShloMosaic.TcCoe Idealize.SL.Sem
open Idealize.ShloMosaic.Tactic Cert.MlstmMath Cert.MlstmIdeal.Value

/-- A piece written for one head of the matrix states. -/
theorem pieceC (G : S4x128x256.Idx → EReal) (h : Fin 4) (off inb) (pay : S1x128x256.Idx → EReal) (h0 : h.val = off 0) (h1 : off 1 = 0) (h2 : off 2 = 0)
    (hp : ∀ e j, pay (ix3 0 e j) = G (ix3 h e j)) :
    ∀ x : (Rect.unit (s := S4x128x256) off ![1, 128, 256] inb).shape.Idx, pay x = G ((Rect.unit (s := S4x128x256) off ![1, 128, 256] inb).emb x) := by
  intro x
  obtain ⟨a, e, j, rfl⟩ : ∃ (a : Fin 1) (e : Fin 128) (j : Fin 256), x = ix3 a e j := ⟨x 0, x 1, x 2, eq_ix3 x⟩
  obtain rfl : a = 0 := Subsingleton.elim _ _
  refine (hp e j).trans (congrArg G (funext fun a => Fin.ext ?_))
  rw [ValueKit.rect_emb_unit_val]
  revert a
  exact axes3 h0 (by rw [h1]; exact (Nat.zero_add _).symm) (by rw [h2]; exact (Nat.zero_add _).symm)
/-- A piece written for one head of the vector states or the maxima. -/
theorem pieceN (G : S4x1x128.Idx → EReal) (h : Fin 4) (off inb) (pay : S1x1x128.Idx → EReal) (h0 : h.val = off 0) (h1 : off 1 = 0) (h2 : off 2 = 0)
    (hp : ∀ e, pay (ix3 0 0 e) = G (ix3 h 0 e)) :
    ∀ x : (Rect.unit (s := S4x1x128) off ![1, 1, 128] inb).shape.Idx, pay x = G ((Rect.unit (s := S4x1x128) off ![1, 1, 128] inb).emb x) := by
  intro x
  obtain ⟨a, b, j, rfl⟩ : ∃ (a : Fin 1) (b : Fin 1) (j : Fin 128), x = ix3 a b j := ⟨x 0, x 1, x 2, eq_ix3 x⟩
  obtain rfl : a = 0 := Subsingleton.elim _ _
  obtain rfl : b = 0 := Subsingleton.elim _ _
  refine (hp j).trans (congrArg G (funext fun a => Fin.ext ?_))
  rw [ValueKit.rect_emb_unit_val]
  revert a
  exact axes3 h0 (by rw [h1]; rfl) (by rw [h2]; exact (Nat.zero_add _).symm)
/-- A piece written for one head of the output block. -/
theorem pieceO (G : S1x256x1024.Idx → EReal) (h : Fin 4) (off inb) (pay : S1x256x256.Idx → EReal) (h0 : off 0 = 0) (h1 : off 1 = 0) (h2 : off 2 = 256 * h.val)
    (hp : ∀ r (j : Fin 256) (l : Fin 1024), l.val = 256 * h.val + j.val → pay (ix3 0 r j) = G (ix3 0 r l)) :
    ∀ x : (Rect.unit (s := S1x256x1024) off ![1, 256, 256] inb).shape.Idx, pay x = G ((Rect.unit (s := S1x256x1024) off ![1, 256, 256] inb).emb x) := by
  intro x
  obtain ⟨a, r, j, rfl⟩ : ∃ (a : Fin 1) (r : Fin 256) (j : Fin 256), x = ix3 a r j := ⟨x 0, x 1, x 2, eq_ix3 x⟩
  obtain rfl : a = 0 := Subsingleton.elim _ _
  refine (hp r j (⟨256 * h.val + j.val, by omega⟩ : Fin 1024) rfl).trans (congrArg G (funext fun a => Fin.ext ?_))
  rw [ValueKit.rect_emb_unit_val]
  revert a
  exact axes3 (by rw [h0]; rfl) (by rw [h1]; exact (Nat.zero_add _).symm) (by rw [h2]; rfl)

/-- The head to which a column of the output belongs. -/
def hd (l : Fin 1024) : Fin 4 := ⟨l.val / 256, by omega⟩
/-- The column within its head. -/
def ln (l : Fin 1024) : Fin 256 := ⟨l.val % 256, by omega⟩

variable {σ : Equiv.Perm (Fin 256)} {p : ℕ} {lg li : Fin 4 → ℕ → ℝ} {q k : Fin 4 → ℕ → Fin 128 → ℝ}
    {v : Fin 4 → ℕ → Fin 256 → ℝ}
/-- The matrix states after `p` positions, as an array. -/
def GC (p : ℕ) (lg li : Fin 4 → ℕ → ℝ) (k : Fin 4 → ℕ → Fin 128 → ℝ) (v : Fin 4 → ℕ → Fin 256 → ℝ) : Vec Ideal S4x128x256 .f32 :=
  fun i => ((Cst (lfOf lg (i 0)) (li (i 0)) (k (i 0)) (v (i 0)) p (i 1) (i 2) : ℝ) : EReal)
/-- The vector states. -/
def GN (p : ℕ) (lg li : Fin 4 → ℕ → ℝ) (k : Fin 4 → ℕ → Fin 128 → ℝ) : Vec Ideal S4x1x128 .f32 :=
  fun i => ((Nst (lfOf lg (i 0)) (li (i 0)) (k (i 0)) p (i 2) : ℝ) : EReal)
/-- The running maxima. -/
def GM (p : ℕ) (lg li : Fin 4 → ℕ → ℝ) : Vec Ideal S4x1x128 .f32 :=
  fun i => ((M (lfOf lg (i 0)) (li (i 0)) p : ℝ) : EReal)
/-- A chunk's output block. -/
def GO (σ : Equiv.Perm (Fin 256)) (p : ℕ) (lg li : Fin 4 → ℕ → ℝ) (q k : Fin 4 → ℕ → Fin 128 → ℝ) (v : Fin 4 → ℕ → Fin 256 → ℝ) : Vec Ideal S1x256x1024 .f32 :=
  fun i => ((H (lfOf lg (hd (i 2))) (li (hd (i 2))) (q (hd (i 2))) (k (hd (i 2))) (v (hd (i 2))) (p + (σ (i 1)).val) (ln (i 2)) : ℝ) : EReal)

/-- The output block at a head's column. -/
theorem GO_at (σ : Equiv.Perm (Fin 256)) (p : ℕ) (lg li : Fin 4 → ℕ → ℝ) (q k : Fin 4 → ℕ → Fin 128 → ℝ) (v : Fin 4 → ℕ → Fin 256 → ℝ)
    (h : Fin 4) (r : Fin 256) (j : Fin 256) (l : Fin 1024) (hl : l.val = 256 * h.val + j.val) :
    GO σ p lg li q k v (ix3 0 r l) = ((H (lfOf lg h) (li h) (q h) (k h) (v h) (p + (σ r).val) j : ℝ) : EReal) := by
  have e1 : hd l = h := Fin.ext (by show l.val / 256 = h.val; omega)
  have e2 : ln l = j := Fin.ext (by show l.val % 256 = j.val; omega)
  show ((H (lfOf lg (hd l)) (li (hd l)) (q (hd l)) (k (hd l)) (v (hd l)) (p + (σ r).val) (ln l) : ℝ) : EReal) = _
  rw [e1, e2]

variable (m : (ℓ : Loc nD τ sig) → Buf (Elt Ideal) ℓ)

/-- The matrix states after a later chunk. -/
theorem stepB_C (c : Dev nD) (t : Fin cfg0.N)
    (B : Blocks σ p lg li q k v (iblk m c 0 t) (iblk m c 1 t) (iblk m c 2 t) (iblk m c 3 t) (iblk m c 4 t))
    (ht : ¬ t.val % 32 = 0) (S : State p lg li k v (outsAt0 m c (t.val - 1) (by omega)).2.1 (outsAt0 m c (t.val - 1) (by omega)).2.2.1 (outsAt0 m c (t.val - 1) (by omega)).2.2.2) (y) :
    (outsAt0 m c t.val t.isLt).2.1 y = (GC (p + 256) lg li k v) y := by
  rw [outsAt0_B m c t ‹_›]
  dsimp only
  frame_out
  simp only [read_unread_whole]
  refine View.canon_append_of_piecesOf (Val := Elt Ideal) (e := .f32) (GC (p + 256) lg li k v) [] [_, _, _, _] ⟨?_, ?_, ?_, ?_, trivial⟩ _
    (View.cover_of_tiledL _ ![1, 128, 256] rfl _)
  · refine pieceC _ 3 _ inb_S4x128x256_S1x128x256_3_0_0 _ rfl rfl rfl fun e j => ?_
    exact c_ok (vb3 B) (cc3 S) (kw_ok (kf3 B) (g3 B) (li3 B) (gt3 B) (mp3 S)) (dec_ok (g3 B) (li3 B) (gt3 B) (mp3 S)) e j
  · refine pieceC _ 2 _ inb_S4x128x256_S1x128x256_2_0_0 _ rfl rfl rfl fun e j => ?_
    exact c_ok (vb2 B) (cc2 S) (kw_ok (kf2 B) (g2 B) (li2 B) (gt2 B) (mp2 S)) (dec_ok (g2 B) (li2 B) (gt2 B) (mp2 S)) e j
  · refine pieceC _ 1 _ inb_S4x128x256_S1x128x256_1_0_0 _ rfl rfl rfl fun e j => ?_
    exact c_ok (vb1 B) (cc1 S) (kw_ok (kf1 B) (g1 B) (li1 B) (gt1 B) (mp1 S)) (dec_ok (g1 B) (li1 B) (gt1 B) (mp1 S)) e j
  · refine pieceC _ 0 _ inb_S4x128x256_S1x128x256_0_0_0 _ rfl rfl rfl fun e j => ?_
    exact c_ok (vb0 B) (cc0 S) (kw_ok (kf0 B) (g0 B) (li0 B) (gt0 B) (mp0 S)) (dec_ok (g0 B) (li0 B) (gt0 B) (mp0 S)) e j
/-- The vector states after a later chunk. -/
theorem stepB_N (c : Dev nD) (t : Fin cfg0.N)
    (B : Blocks σ p lg li q k v (iblk m c 0 t) (iblk m c 1 t) (iblk m c 2 t) (iblk m c 3 t) (iblk m c 4 t))
    (ht : ¬ t.val % 32 = 0) (S : State p lg li k v (outsAt0 m c (t.val - 1) (by omega)).2.1 (outsAt0 m c (t.val - 1) (by omega)).2.2.1 (outsAt0 m c (t.val - 1) (by omega)).2.2.2) (y) :
    (outsAt0 m c t.val t.isLt).2.2.1 y = (GN (p + 256) lg li k) y := by
  rw [outsAt0_B m c t ‹_›]
  dsimp only
  frame_out
  simp only [read_unread_whole]
  refine View.canon_append_of_piecesOf (Val := Elt Ideal) (e := .f32) (GN (p + 256) lg li k) [] [_, _, _, _] ⟨?_, ?_, ?_, ?_, trivial⟩ _
    (View.cover_of_tiledL _ ![1, 1, 128] rfl _)
  · refine pieceN _ 3 _ inb_S4x1x128_S1x1x128_3_0_0 _ rfl rfl rfl fun e => ?_
    exact n_ok (nn3 S) (kw_ok (kf3 B) (g3 B) (li3 B) (gt3 B) (mp3 S)) (dec_ok (g3 B) (li3 B) (gt3 B) (mp3 S)) e
  · refine pieceN _ 2 _ inb_S4x1x128_S1x1x128_2_0_0 _ rfl rfl rfl fun e => ?_
    exact n_ok (nn2 S) (kw_ok (kf2 B) (g2 B) (li2 B) (gt2 B) (mp2 S)) (dec_ok (g2 B) (li2 B) (gt2 B) (mp2 S)) e
  · refine pieceN _ 1 _ inb_S4x1x128_S1x1x128_1_0_0 _ rfl rfl rfl fun e => ?_
    exact n_ok (nn1 S) (kw_ok (kf1 B) (g1 B) (li1 B) (gt1 B) (mp1 S)) (dec_ok (g1 B) (li1 B) (gt1 B) (mp1 S)) e
  · refine pieceN _ 0 _ inb_S4x1x128_S1x1x128_0_0_0 _ rfl rfl rfl fun e => ?_
    exact n_ok (nn0 S) (kw_ok (kf0 B) (g0 B) (li0 B) (gt0 B) (mp0 S)) (dec_ok (g0 B) (li0 B) (gt0 B) (mp0 S)) e
/-- The maxima after a later chunk. -/
theorem stepB_M (c : Dev nD) (t : Fin cfg0.N)
    (B : Blocks σ p lg li q k v (iblk m c 0 t) (iblk m c 1 t) (iblk m c 2 t) (iblk m c 3 t) (iblk m c 4 t))
    (ht : ¬ t.val % 32 = 0) (S : State p lg li k v (outsAt0 m c (t.val - 1) (by omega)).2.1 (outsAt0 m c (t.val - 1) (by omega)).2.2.1 (outsAt0 m c (t.val - 1) (by omega)).2.2.2) (y) :
    (outsAt0 m c t.val t.isLt).2.2.2 y = (GM (p + 256) lg li) y := by
  rw [outsAt0_B m c t ‹_›]
  dsimp only
  frame_out
  simp only [read_unread_whole]
  refine View.canon_append_of_piecesOf (Val := Elt Ideal) (e := .f32) (GM (p + 256) lg li) [] [_, _, _, _] ⟨?_, ?_, ?_, ?_, trivial⟩ _
    (View.cover_of_tiledL _ ![1, 1, 128] rfl _)
  · refine pieceN _ 3 _ inb_S4x1x128_S1x1x128_3_0_0 _ rfl rfl rfl fun e => ?_
    exact m_ok (mn_ok (g3 B) (li3 B) (gt3 B) (mp3 S)) e
  · refine pieceN _ 2 _ inb_S4x1x128_S1x1x128_2_0_0 _ rfl rfl rfl fun e => ?_
    exact m_ok (mn_ok (g2 B) (li2 B) (gt2 B) (mp2 S)) e
  · refine pieceN _ 1 _ inb_S4x1x128_S1x1x128_1_0_0 _ rfl rfl rfl fun e => ?_
    exact m_ok (mn_ok (g1 B) (li1 B) (gt1 B) (mp1 S)) e
  · refine pieceN _ 0 _ inb_S4x1x128_S1x1x128_0_0_0 _ rfl rfl rfl fun e => ?_
    exact m_ok (mn_ok (g0 B) (li0 B) (gt0 B) (mp0 S)) e
/-- The output block after a later chunk. -/
theorem stepB_O (c : Dev nD) (t : Fin cfg0.N)
    (B : Blocks σ p lg li q k v (iblk m c 0 t) (iblk m c 1 t) (iblk m c 2 t) (iblk m c 3 t) (iblk m c 4 t))
    (ht : ¬ t.val % 32 = 0) (S : State p lg li k v (outsAt0 m c (t.val - 1) (by omega)).2.1 (outsAt0 m c (t.val - 1) (by omega)).2.2.1 (outsAt0 m c (t.val - 1) (by omega)).2.2.2) (y) :
    (outsAt0 m c t.val t.isLt).1 y = (GO σ p lg li q k v) y := by
  rw [outsAt0_B m c t ‹_›]
  dsimp only
  frame_out
  simp only [read_unread_whole]
  refine View.canon_append_of_piecesOf (Val := Elt Ideal) (e := .f32) (GO σ p lg li q k v) [] [_, _, _, _] ⟨?_, ?_, ?_, ?_, trivial⟩ _
    (View.cover_of_tiledL _ ![1, 256, 256] rfl _)
  · refine pieceO _ 3 _ inb_S1x256x1024_S1x256x256_0_0_768 _ rfl rfl rfl fun r j l hl => ?_
    rw [GO_at σ p lg li q k v 3 r j l hl]
    exact out_ok (num_ok (qb3 B) (kb3 B) (vb3 B) (cc3 S) (d3 B) (inn_ok (g3 B) (mp3 S)) (mt_ok (d3 B) (g3 B) (mp3 S))) (den_ok (qf3 B) (nn3 S) (w_ok (qb3 B) (kb3 B) (d3 B) (mt_ok (d3 B) (g3 B) (mp3 S))) (sc_ok (inn_ok (g3 B) (mp3 S)) (mt_ok (d3 B) (g3 B) (mp3 S)))) (mt_ok (d3 B) (g3 B) (mp3 S)) r j
  · refine pieceO _ 2 _ inb_S1x256x1024_S1x256x256_0_0_512 _ rfl rfl rfl fun r j l hl => ?_
    rw [GO_at σ p lg li q k v 2 r j l hl]
    exact out_ok (num_ok (qb2 B) (kb2 B) (vb2 B) (cc2 S) (d2 B) (inn_ok (g2 B) (mp2 S)) (mt_ok (d2 B) (g2 B) (mp2 S))) (den_ok (qf2 B) (nn2 S) (w_ok (qb2 B) (kb2 B) (d2 B) (mt_ok (d2 B) (g2 B) (mp2 S))) (sc_ok (inn_ok (g2 B) (mp2 S)) (mt_ok (d2 B) (g2 B) (mp2 S)))) (mt_ok (d2 B) (g2 B) (mp2 S)) r j
  · refine pieceO _ 1 _ inb_S1x256x1024_S1x256x256_0_0_256 _ rfl rfl rfl fun r j l hl => ?_
    rw [GO_at σ p lg li q k v 1 r j l hl]
    exact out_ok (num_ok (qb1 B) (kb1 B) (vb1 B) (cc1 S) (d1 B) (inn_ok (g1 B) (mp1 S)) (mt_ok (d1 B) (g1 B) (mp1 S))) (den_ok (qf1 B) (nn1 S) (w_ok (qb1 B) (kb1 B) (d1 B) (mt_ok (d1 B) (g1 B) (mp1 S))) (sc_ok (inn_ok (g1 B) (mp1 S)) (mt_ok (d1 B) (g1 B) (mp1 S)))) (mt_ok (d1 B) (g1 B) (mp1 S)) r j
  · refine pieceO _ 0 _ inb_S1x256x1024_S1x256x256_0_0_0 _ rfl rfl rfl fun r j l hl => ?_
    rw [GO_at σ p lg li q k v 0 r j l hl]
    exact out_ok (num_ok (qb0 B) (kb0 B) (vb0 B) (cc0 S) (d0 B) (inn_ok (g0 B) (mp0 S)) (mt_ok (d0 B) (g0 B) (mp0 S))) (den_ok (qf0 B) (nn0 S) (w_ok (qb0 B) (kb0 B) (d0 B) (mt_ok (d0 B) (g0 B) (mp0 S))) (sc_ok (inn_ok (g0 B) (mp0 S)) (mt_ok (d0 B) (g0 B) (mp0 S)))) (mt_ok (d0 B) (g0 B) (mp0 S)) r j
/-- A read of a state array after the zero fill. -/
theorem rc0 (r : Rect S4x128x256) : (View.whole (sig := sig) (κ := .tc) cc0_scratch0).readCov (Val := Elt Ideal)
    [⟨Rect.unit (s := S4x128x256) ![0, 0, 0] ![4, 128, 256] inb_S4x128x256_S4x128x256_0_0_0, k0_pay3 (F := Ideal)⟩] r.toLoadRect = View.ld (Val := Elt Ideal) (e' := .f32) (k0_pay3 (F := Ideal)) r :=
  View.readCov_fill (Val := Elt Ideal) (e := .f32) _ _ _ _ r (axes3 rfl rfl rfl)

/-- A read of a state array after the zero fill. -/
theorem rc1 (r : Rect S4x1x128) : (View.whole (sig := sig) (κ := .tc) cc0_scratch1).readCov (Val := Elt Ideal)
    [⟨Rect.unit (s := S4x1x128) ![0, 0, 0] ![4, 1, 128] inb_S4x1x128_S4x1x128_0_0_0, k0_pay4 (F := Ideal)⟩] r.toLoadRect = View.ld (Val := Elt Ideal) (e' := .f32) (k0_pay4 (F := Ideal)) r :=
  View.readCov_fill (Val := Elt Ideal) (e := .f32) _ _ _ _ r (axes3 rfl rfl rfl)

/-- A read of a state array after the zero fill. -/
theorem rc2 (r : Rect S4x1x128) : (View.whole (sig := sig) (κ := .tc) cc0_scratch2).readCov (Val := Elt Ideal)
    [⟨Rect.unit (s := S4x1x128) ![0, 0, 0] ![4, 1, 128] inb_S4x1x128_S4x1x128_0_0_0, k0_pay5 (F := Ideal)⟩] r.toLoadRect = View.ld (Val := Elt Ideal) (e' := .f32) (k0_pay5 (F := Ideal)) r :=
  View.readCov_fill (Val := Elt Ideal) (e := .f32) _ _ _ _ r (axes3 rfl rfl rfl)

/-- The three state arrays as a chunk that starts a sequence reads them, after the zero fill. -/
abbrev rd0 (r : Rect S4x128x256) := (View.whole (sig := sig) (κ := .tc) cc0_scratch0).readCov (Val := Elt Ideal)
    [⟨Rect.unit (s := S4x128x256) ![0, 0, 0] ![4, 128, 256] inb_S4x128x256_S4x128x256_0_0_0, k0_pay3 (F := Ideal)⟩] r.toLoadRect
/-- The vector states read back. -/
abbrev rd1 (r : Rect S4x1x128) := (View.whole (sig := sig) (κ := .tc) cc0_scratch1).readCov (Val := Elt Ideal)
    [⟨Rect.unit (s := S4x1x128) ![0, 0, 0] ![4, 1, 128] inb_S4x1x128_S4x1x128_0_0_0, k0_pay4 (F := Ideal)⟩] r.toLoadRect
/-- The maxima read back. -/
abbrev rd2 (r : Rect S4x1x128) := (View.whole (sig := sig) (κ := .tc) cc0_scratch2).readCov (Val := Elt Ideal)
    [⟨Rect.unit (s := S4x1x128) ![0, 0, 0] ![4, 1, 128] inb_S4x1x128_S4x1x128_0_0_0, k0_pay5 (F := Ideal)⟩] r.toLoadRect

section Start
variable (S : State p lg li k v k0_pay3 k0_pay4 k0_pay5)
include S
/-- The first head's maximum at a sequence's start. -/
theorem mpA0 : IsM p (lfOf lg 0) (li 0) (k0_pay44 (F := Ideal) (rd2 (Rect.unit (s := S4x1x128) ![0, 0, 0] ![1, 1, 128] inb_S4x1x128_S1x1x128_0_0_0))) := by
  rw [rd2, rc2]; exact mp0 S
/-- The first head's vector state at a sequence's start. -/
theorem nnA0 : IsN p (lfOf lg 0) (li 0) (k 0) (k0_pay52 (F := Ideal) (rd1 (Rect.unit (s := S4x1x128) ![0, 0, 0] ![1, 1, 128] inb_S4x1x128_S1x1x128_0_0_0))) := by
  rw [rd1, rc1]; exact nn0 S
/-- The first head's matrix state at a sequence's start. -/
theorem ccA0 : IsC p (lfOf lg 0) (li 0) (k 0) (v 0) (k0_pay48 (F := Ideal) (rd0 (Rect.unit (s := S4x128x256) ![0, 0, 0] ![1, 128, 256] inb_S4x128x256_S1x128x256_0_0_0))) := by
  rw [rd0, rc0]; exact cc0 S
/-- The second head's maximum at a sequence's start. -/
theorem mpA1 : IsM p (lfOf lg 1) (li 1) (k0_pay45 (F := Ideal) (rd2 (Rect.unit (s := S4x1x128) ![1, 0, 0] ![1, 1, 128] inb_S4x1x128_S1x1x128_1_0_0))) := by
  rw [rd2, rc2]; exact mp1 S
/-- The second head's vector state at a sequence's start. -/
theorem nnA1 : IsN p (lfOf lg 1) (li 1) (k 1) (k0_pay53 (F := Ideal) (rd1 (Rect.unit (s := S4x1x128) ![1, 0, 0] ![1, 1, 128] inb_S4x1x128_S1x1x128_1_0_0))) := by
  rw [rd1, rc1]; exact nn1 S
/-- The second head's matrix state at a sequence's start. -/
theorem ccA1 : IsC p (lfOf lg 1) (li 1) (k 1) (v 1) (k0_pay49 (F := Ideal) (rd0 (Rect.unit (s := S4x128x256) ![1, 0, 0] ![1, 128, 256] inb_S4x128x256_S1x128x256_1_0_0))) := by
  rw [rd0, rc0]; exact cc1 S
/-- The third head's maximum at a sequence's start. -/
theorem mpA2 : IsM p (lfOf lg 2) (li 2) (k0_pay46 (F := Ideal) (rd2 (Rect.unit (s := S4x1x128) ![2, 0, 0] ![1, 1, 128] inb_S4x1x128_S1x1x128_2_0_0))) := by
  rw [rd2, rc2]; exact mp2 S
/-- The third head's vector state at a sequence's start. -/
theorem nnA2 : IsN p (lfOf lg 2) (li 2) (k 2) (k0_pay54 (F := Ideal) (rd1 (Rect.unit (s := S4x1x128) ![2, 0, 0] ![1, 1, 128] inb_S4x1x128_S1x1x128_2_0_0))) := by
  rw [rd1, rc1]; exact nn2 S
/-- The third head's matrix state at a sequence's start. -/
theorem ccA2 : IsC p (lfOf lg 2) (li 2) (k 2) (v 2) (k0_pay50 (F := Ideal) (rd0 (Rect.unit (s := S4x128x256) ![2, 0, 0] ![1, 128, 256] inb_S4x128x256_S1x128x256_2_0_0))) := by
  rw [rd0, rc0]; exact cc2 S
/-- The fourth head's maximum at a sequence's start. -/
theorem mpA3 : IsM p (lfOf lg 3) (li 3) (k0_pay47 (F := Ideal) (rd2 (Rect.unit (s := S4x1x128) ![3, 0, 0] ![1, 1, 128] inb_S4x1x128_S1x1x128_3_0_0))) := by
  rw [rd2, rc2]; exact mp3 S
/-- The fourth head's vector state at a sequence's start. -/
theorem nnA3 : IsN p (lfOf lg 3) (li 3) (k 3) (k0_pay55 (F := Ideal) (rd1 (Rect.unit (s := S4x1x128) ![3, 0, 0] ![1, 1, 128] inb_S4x1x128_S1x1x128_3_0_0))) := by
  rw [rd1, rc1]; exact nn3 S
/-- The fourth head's matrix state at a sequence's start. -/
theorem ccA3 : IsC p (lfOf lg 3) (li 3) (k 3) (v 3) (k0_pay51 (F := Ideal) (rd0 (Rect.unit (s := S4x128x256) ![3, 0, 0] ![1, 128, 256] inb_S4x128x256_S1x128x256_3_0_0))) := by
  rw [rd0, rc0]; exact cc3 S
end Start

/-- The matrix states after the first chunk of a sequence. -/
theorem stepA_C (c : Dev nD) (t : Fin cfg0.N)
    (B : Blocks σ p lg li q k v (iblk m c 0 t) (iblk m c 1 t) (iblk m c 2 t) (iblk m c 3 t) (iblk m c 4 t))
    (ht : t.val % 32 = 0) (S : State p lg li k v k0_pay3 k0_pay4 k0_pay5) (y) :
    (outsAt0 m c t.val t.isLt).2.1 y = (GC (p + 256) lg li k v) y := by
  rw [outsAt0_A m c t ‹_›]
  dsimp only
  frame_out
  refine View.canon_append_of_piecesOf (Val := Elt Ideal) (e := .f32) (GC (p + 256) lg li k v) [_] [_, _, _, _] ⟨?_, ?_, ?_, ?_, trivial⟩ _
    (View.cover_of_tiledL _ ![1, 128, 256] rfl _)
  · refine pieceC _ 3 _ inb_S4x128x256_S1x128x256_3_0_0 _ rfl rfl rfl fun e j => ?_
    exact c_ok (vb3 B) (ccA3 S) (kw_ok (kf3 B) (g3 B) (li3 B) (gt3 B) (mpA3 S)) (dec_ok (g3 B) (li3 B) (gt3 B) (mpA3 S)) e j
  · refine pieceC _ 2 _ inb_S4x128x256_S1x128x256_2_0_0 _ rfl rfl rfl fun e j => ?_
    exact c_ok (vb2 B) (ccA2 S) (kw_ok (kf2 B) (g2 B) (li2 B) (gt2 B) (mpA2 S)) (dec_ok (g2 B) (li2 B) (gt2 B) (mpA2 S)) e j
  · refine pieceC _ 1 _ inb_S4x128x256_S1x128x256_1_0_0 _ rfl rfl rfl fun e j => ?_
    exact c_ok (vb1 B) (ccA1 S) (kw_ok (kf1 B) (g1 B) (li1 B) (gt1 B) (mpA1 S)) (dec_ok (g1 B) (li1 B) (gt1 B) (mpA1 S)) e j
  · refine pieceC _ 0 _ inb_S4x128x256_S1x128x256_0_0_0 _ rfl rfl rfl fun e j => ?_
    exact c_ok (vb0 B) (ccA0 S) (kw_ok (kf0 B) (g0 B) (li0 B) (gt0 B) (mpA0 S)) (dec_ok (g0 B) (li0 B) (gt0 B) (mpA0 S)) e j
/-- The vector states after the first chunk of a sequence. -/
theorem stepA_N (c : Dev nD) (t : Fin cfg0.N)
    (B : Blocks σ p lg li q k v (iblk m c 0 t) (iblk m c 1 t) (iblk m c 2 t) (iblk m c 3 t) (iblk m c 4 t))
    (ht : t.val % 32 = 0) (S : State p lg li k v k0_pay3 k0_pay4 k0_pay5) (y) :
    (outsAt0 m c t.val t.isLt).2.2.1 y = (GN (p + 256) lg li k) y := by
  rw [outsAt0_A m c t ‹_›]
  dsimp only
  frame_out
  refine View.canon_append_of_piecesOf (Val := Elt Ideal) (e := .f32) (GN (p + 256) lg li k) [_] [_, _, _, _] ⟨?_, ?_, ?_, ?_, trivial⟩ _
    (View.cover_of_tiledL _ ![1, 1, 128] rfl _)
  · refine pieceN _ 3 _ inb_S4x1x128_S1x1x128_3_0_0 _ rfl rfl rfl fun e => ?_
    exact n_ok (nnA3 S) (kw_ok (kf3 B) (g3 B) (li3 B) (gt3 B) (mpA3 S)) (dec_ok (g3 B) (li3 B) (gt3 B) (mpA3 S)) e
  · refine pieceN _ 2 _ inb_S4x1x128_S1x1x128_2_0_0 _ rfl rfl rfl fun e => ?_
    exact n_ok (nnA2 S) (kw_ok (kf2 B) (g2 B) (li2 B) (gt2 B) (mpA2 S)) (dec_ok (g2 B) (li2 B) (gt2 B) (mpA2 S)) e
  · refine pieceN _ 1 _ inb_S4x1x128_S1x1x128_1_0_0 _ rfl rfl rfl fun e => ?_
    exact n_ok (nnA1 S) (kw_ok (kf1 B) (g1 B) (li1 B) (gt1 B) (mpA1 S)) (dec_ok (g1 B) (li1 B) (gt1 B) (mpA1 S)) e
  · refine pieceN _ 0 _ inb_S4x1x128_S1x1x128_0_0_0 _ rfl rfl rfl fun e => ?_
    exact n_ok (nnA0 S) (kw_ok (kf0 B) (g0 B) (li0 B) (gt0 B) (mpA0 S)) (dec_ok (g0 B) (li0 B) (gt0 B) (mpA0 S)) e
/-- The maxima after the first chunk of a sequence. -/
theorem stepA_M (c : Dev nD) (t : Fin cfg0.N)
    (B : Blocks σ p lg li q k v (iblk m c 0 t) (iblk m c 1 t) (iblk m c 2 t) (iblk m c 3 t) (iblk m c 4 t))
    (ht : t.val % 32 = 0) (S : State p lg li k v k0_pay3 k0_pay4 k0_pay5) (y) :
    (outsAt0 m c t.val t.isLt).2.2.2 y = (GM (p + 256) lg li) y := by
  rw [outsAt0_A m c t ‹_›]
  dsimp only
  frame_out
  refine View.canon_append_of_piecesOf (Val := Elt Ideal) (e := .f32) (GM (p + 256) lg li) [_] [_, _, _, _] ⟨?_, ?_, ?_, ?_, trivial⟩ _
    (View.cover_of_tiledL _ ![1, 1, 128] rfl _)
  · refine pieceN _ 3 _ inb_S4x1x128_S1x1x128_3_0_0 _ rfl rfl rfl fun e => ?_
    exact m_ok (mn_ok (g3 B) (li3 B) (gt3 B) (mpA3 S)) e
  · refine pieceN _ 2 _ inb_S4x1x128_S1x1x128_2_0_0 _ rfl rfl rfl fun e => ?_
    exact m_ok (mn_ok (g2 B) (li2 B) (gt2 B) (mpA2 S)) e
  · refine pieceN _ 1 _ inb_S4x1x128_S1x1x128_1_0_0 _ rfl rfl rfl fun e => ?_
    exact m_ok (mn_ok (g1 B) (li1 B) (gt1 B) (mpA1 S)) e
  · refine pieceN _ 0 _ inb_S4x1x128_S1x1x128_0_0_0 _ rfl rfl rfl fun e => ?_
    exact m_ok (mn_ok (g0 B) (li0 B) (gt0 B) (mpA0 S)) e
/-- The output block after the first chunk of a sequence. -/
theorem stepA_O (c : Dev nD) (t : Fin cfg0.N)
    (B : Blocks σ p lg li q k v (iblk m c 0 t) (iblk m c 1 t) (iblk m c 2 t) (iblk m c 3 t) (iblk m c 4 t))
    (ht : t.val % 32 = 0) (S : State p lg li k v k0_pay3 k0_pay4 k0_pay5) (y) :
    (outsAt0 m c t.val t.isLt).1 y = (GO σ p lg li q k v) y := by
  rw [outsAt0_A m c t ‹_›]
  dsimp only
  frame_out
  refine View.canon_append_of_piecesOf (Val := Elt Ideal) (e := .f32) (GO σ p lg li q k v) [] [_, _, _, _] ⟨?_, ?_, ?_, ?_, trivial⟩ _
    (View.cover_of_tiledL _ ![1, 256, 256] rfl _)
  · refine pieceO _ 3 _ inb_S1x256x1024_S1x256x256_0_0_768 _ rfl rfl rfl fun r j l hl => ?_
    rw [GO_at σ p lg li q k v 3 r j l hl]
    exact out_ok (num_ok (qb3 B) (kb3 B) (vb3 B) (ccA3 S) (d3 B) (inn_ok (g3 B) (mpA3 S)) (mt_ok (d3 B) (g3 B) (mpA3 S))) (den_ok (qf3 B) (nnA3 S) (w_ok (qb3 B) (kb3 B) (d3 B) (mt_ok (d3 B) (g3 B) (mpA3 S))) (sc_ok (inn_ok (g3 B) (mpA3 S)) (mt_ok (d3 B) (g3 B) (mpA3 S)))) (mt_ok (d3 B) (g3 B) (mpA3 S)) r j
  · refine pieceO _ 2 _ inb_S1x256x1024_S1x256x256_0_0_512 _ rfl rfl rfl fun r j l hl => ?_
    rw [GO_at σ p lg li q k v 2 r j l hl]
    exact out_ok (num_ok (qb2 B) (kb2 B) (vb2 B) (ccA2 S) (d2 B) (inn_ok (g2 B) (mpA2 S)) (mt_ok (d2 B) (g2 B) (mpA2 S))) (den_ok (qf2 B) (nnA2 S) (w_ok (qb2 B) (kb2 B) (d2 B) (mt_ok (d2 B) (g2 B) (mpA2 S))) (sc_ok (inn_ok (g2 B) (mpA2 S)) (mt_ok (d2 B) (g2 B) (mpA2 S)))) (mt_ok (d2 B) (g2 B) (mpA2 S)) r j
  · refine pieceO _ 1 _ inb_S1x256x1024_S1x256x256_0_0_256 _ rfl rfl rfl fun r j l hl => ?_
    rw [GO_at σ p lg li q k v 1 r j l hl]
    exact out_ok (num_ok (qb1 B) (kb1 B) (vb1 B) (ccA1 S) (d1 B) (inn_ok (g1 B) (mpA1 S)) (mt_ok (d1 B) (g1 B) (mpA1 S))) (den_ok (qf1 B) (nnA1 S) (w_ok (qb1 B) (kb1 B) (d1 B) (mt_ok (d1 B) (g1 B) (mpA1 S))) (sc_ok (inn_ok (g1 B) (mpA1 S)) (mt_ok (d1 B) (g1 B) (mpA1 S)))) (mt_ok (d1 B) (g1 B) (mpA1 S)) r j
  · refine pieceO _ 0 _ inb_S1x256x1024_S1x256x256_0_0_0 _ rfl rfl rfl fun r j l hl => ?_
    rw [GO_at σ p lg li q k v 0 r j l hl]
    exact out_ok (num_ok (qb0 B) (kb0 B) (vb0 B) (ccA0 S) (d0 B) (inn_ok (g0 B) (mpA0 S)) (mt_ok (d0 B) (g0 B) (mpA0 S))) (den_ok (qf0 B) (nnA0 S) (w_ok (qb0 B) (kb0 B) (d0 B) (mt_ok (d0 B) (g0 B) (mpA0 S))) (sc_ok (inn_ok (g0 B) (mpA0 S)) (mt_ok (d0 B) (g0 B) (mpA0 S)))) (mt_ok (d0 B) (g0 B) (mpA0 S)) r j

end Cert.MlstmIdeal.Head
-- ==== Proof.MlstmSeq.lean ====
/-
  The sequences that the mLSTM calls' arguments hold: one per direction, batch row and head, in the order in which the
  recurrence reads them. The second direction reads a batch row from its end.
-/
module

public import proofs.«01_k».proof.Proof.MlstmMath

@[expose] public section

noncomputable section

namespace Cert.MlstmSeq

open Cert.MlstmMath

/-- The array row of position `s` of a batch row, in a direction. -/
def rowAt (d b : Fin 2) (s : ℕ) : Fin 16384 :=
  ⟨8192 * b.val + (if d = 0 then s % 8192 else 8191 - s % 8192), by have := b.isLt; split <;> omega⟩

/-- The first direction reads the rows in order. -/
theorem rowAt_zero (d b : Fin 2) (s : ℕ) (hd : d = 0) : (rowAt d b s).val = 8192 * b.val + s % 8192 := by
  show 8192 * b.val + (if d = 0 then _ else _) = _
  rw [if_pos hd]

/-- The second direction reads them from the end. -/
theorem rowAt_one (d b : Fin 2) (s : ℕ) (hd : ¬ d = 0) : (rowAt d b s).val = 8192 * b.val + (8191 - s % 8192) := by
  show 8192 * b.val + (if d = 0 then _ else _) = _
  rw [if_neg hd]

/-- The forget gate of a head at a position. -/
def lgS (g : Fin 16384 → Fin 128 → EReal) (d b : Fin 2) (h : Fin 4) (s : ℕ) : ℝ :=
  (g (rowAt d b s) ⟨8 + 4 * d.val + h.val, by omega⟩).toReal
/-- The input gate of a head at a position. -/
def liS (g : Fin 16384 → Fin 128 → EReal) (d b : Fin 2) (h : Fin 4) (s : ℕ) : ℝ :=
  (g (rowAt d b s) ⟨4 * d.val + h.val, by omega⟩).toReal
/-- The query of a head at a position. -/
def qS (x : Fin 16384 → Fin 1024 → EReal) (d b : Fin 2) (h : Fin 4) (s : ℕ) (e : Fin 128) : ℝ :=
  (x (rowAt d b s) ⟨128 * h.val + e.val, by omega⟩).toReal
/-- The key of a head at a position. -/
def kS (x : Fin 16384 → Fin 1024 → EReal) (d b : Fin 2) (h : Fin 4) (s : ℕ) (e : Fin 128) : ℝ :=
  (x (rowAt d b s) ⟨512 + 128 * h.val + e.val, by omega⟩).toReal
/-- The value of a head at a position. -/
def vS (y : Fin 16384 → Fin 12288 → EReal) (d b : Fin 2) (h : Fin 4) (s : ℕ) (j : Fin 256) : ℝ :=
  (y (rowAt d b s) ⟨1024 + 256 * h.val + j.val, by omega⟩).toReal

/-- Every entry that the call reads is a real number. -/
structure Real (x : Fin 16384 → Fin 1024 → EReal) (y : Fin 16384 → Fin 12288 → EReal) (g : Fin 16384 → Fin 128 → EReal) : Prop where
  x : ∀ r c, (((x r c).toReal : ℝ) : EReal) = x r c
  y : ∀ r (c : Fin 12288), 1024 ≤ c.val → c.val < 2048 → (((y r c).toReal : ℝ) : EReal) = y r c
  g : ∀ r (c : Fin 128), c.val < 16 → (((g r c).toReal : ℝ) : EReal) = g r c

/-- The output of the recurrence at a position of a head. -/
def out (x : Fin 16384 → Fin 1024 → EReal) (y : Fin 16384 → Fin 12288 → EReal) (g : Fin 16384 → Fin 128 → EReal)
    (d b : Fin 2) (h : Fin 4) (s : ℕ) (j : Fin 256) : ℝ :=
  H (fun s => logSig (lgS g d b h s)) (liS g d b h) (qS x d b h) (kS x d b h) (vS y d b h) s j

/-- The call's result at an array row and a column. -/
def res (x : Fin 16384 → Fin 1024 → EReal) (y : Fin 16384 → Fin 12288 → EReal) (g : Fin 16384 → Fin 128 → EReal)
    (d : Fin 2) (r : Fin 16384) (l : Fin 1024) : ℝ :=
  out x y g d ⟨r.val / 8192, by omega⟩ ⟨l.val / 256, by omega⟩ (if d = 0 then r.val % 8192 else 8191 - r.val % 8192) ⟨l.val % 256, by omega⟩

end Cert.MlstmSeq

end
-- ==== Proof.MlstmBlocks.lean ====
/-
  The blocks the mLSTM kernel stages at a grid point, read at an index.
-/
module

public import proofs.«01_k».proof.Proof.MlstmStep
public import proofs.«01_k».proof.Proof.MlstmSeq
public import Idealize.ShloMosaic.Lib.Claim

@[expose] public section

set_option maxRecDepth 16384

noncomputable section

namespace Cert.MlstmIdeal.Value

open Cert.MlstmIdeal Cert.MlstmIdeal.Gen Idealize.ShloMosaic Idealize.ShloMosaic.TcCoe Idealize.SL.Sem
open Cert.MlstmSeq

variable (m : (ℓ : Loc nD τ sig) → Buf (Elt Ideal) ℓ)

/-- A grid point's number lies inside the grid. -/
theorem lt_N (t : Fin cfg0.N) : t.val < 128 := lt_of_lt_of_eq t.isLt N_0

/-- The chunk of the batch row that a point stages: the second direction counts from the end. -/
abbrev chunkOf (t : ℕ) : ℕ := if t / 64 = 0 then t % 32 else 31 - t % 32

/-- Every window's block index at a point: direction `t / 64`, batch row `t / 32 % 2`, chunk `t % 32` of the recurrence. -/
theorem idx : ∀ t : Fin cfg0.N, win0_0.index t = ![32 * (t.val / 32 % 2) + chunkOf t.val, 0]
    ∧ win0_1.index t = ![32 * (t.val / 32 % 2) + chunkOf t.val, 1]
    ∧ win0_2.index t = ![t.val / 64, 32 * (t.val / 32 % 2) + chunkOf t.val, 0]
    ∧ win0_3.index t = ![t.val / 64, t.val / 32 % 2, 0, chunkOf t.val]
    ∧ win0_4.index t = ![t.val / 64, 0, 0]
    ∧ win0_5.index t = ![t.val / 64, 32 * (t.val / 32 % 2) + chunkOf t.val, 0] :=
  (by decide +kernel : ∀ t : Fin grid0.N, _)

/-- The array row of a row of a point's block. -/
abbrev rowOf (t : Fin cfg0.N) (r : Fin 256) : Fin 16384 :=
  ⟨(32 * (t.val / 32 % 2) + chunkOf t.val) * 256 + r.val, by have := r.isLt; unfold chunkOf; split <;> omega⟩

/-- The row in the first direction. -/
theorem rowOf_zero (t : Fin cfg0.N) (r : Fin 256) (h : t.val / 64 = 0) :
    (rowOf t r).val = (32 * (t.val / 32 % 2) + t.val % 32) * 256 + r.val := by
  show (32 * (t.val / 32 % 2) + chunkOf t.val) * 256 + r.val = _
  unfold chunkOf
  rw [if_pos h]

/-- The row in the second direction. -/
theorem rowOf_one (t : Fin cfg0.N) (r : Fin 256) (h : ¬ t.val / 64 = 0) :
    (rowOf t r).val = (32 * (t.val / 32 % 2) + (31 - t.val % 32)) * 256 + r.val := by
  show (32 * (t.val / 32 % 2) + chunkOf t.val) * 256 + r.val = _
  unfold chunkOf
  rw [if_neg h]

/-- The queries' and keys' block. -/
theorem iblk0 (c : Dev nD) (t : Fin cfg0.N) (r : Fin 256) (l : Fin 1024) :
    iblk m c 0 t (ix2 r l) = m ((c : Thread nD τ).loc main_arg0) (ix2 (rowOf t r) l) := by
  have h1 := lt_N t
  blk_ext! [iblk, V, idx t]

/-- The values' block. -/
theorem iblk1 (c : Dev nD) (t : Fin cfg0.N) (r : Fin 256) (l : Fin 1024) :
    iblk m c 1 t (ix2 r l) = m ((c : Thread nD τ).loc main_arg1) (ix2 (rowOf t r) ⟨1024 + l.val, by omega⟩) := by
  have h1 := lt_N t
  blk_ext! [iblk, V, idx t]

/-- The gates' block by rows. -/
theorem iblk2 (c : Dev nD) (t : Fin cfg0.N) (r : Fin 256) (l : Fin 8) :
    iblk m c 2 t (ix3 0 r l) = m ((c : Thread nD τ).loc main_arg2) (ix2 (rowOf t r) ⟨8 * (l.val / 4) + 4 * (t.val / 64) + l.val % 4, by have := lt_N t; omega⟩) := by
  have h1 := lt_N t
  blk_ext! [iblk, V, idx t]

/-- The gates' block by columns. -/
theorem iblk3 (c : Dev nD) (t : Fin cfg0.N) (r : Fin 256) (l : Fin 8) :
    iblk m c 3 t (ix4 0 0 l r) = m ((c : Thread nD τ).loc main_arg2) (ix2 (rowOf t r) ⟨8 * (l.val / 4) + 4 * (t.val / 64) + l.val % 4, by have := lt_N t; omega⟩) := by
  have h1 := lt_N t
  blk_ext! [iblk, V, idx t]

/-- The masks' array. -/
theorem masks (c : Dev nD) (d : Fin 2) (r r' : Fin 256) :
    V m c main_v20 (ix3 d r r') = if (if d = 0 then r' ≤ r else r ≤ r') then (1 : EReal) else 0 := by
  unfold V
  entry_read
  pointwise
  have one : ∀ b : Bool, FloatOps.uitofp (F := Ideal) FTy.f32 (BitVec.ofBool b) = if b then 1 else 0 := by
    intro b
    cases b
    · show (((0 : ℕ) : ℝ) : EReal) = 0
      simp
    · show (((1 : ℕ) : ℝ) : EReal) = 1
      simp
  have hr : r.val < 2 ^ (32 - 1) := by have := r.isLt; omega
  have hr' : r'.val < 2 ^ (32 - 1) := by have := r'.isLt; omega
  by_cases hd : d.val < 1
  · have : d = 0 := Fin.ext (by show d.val = 0; omega)
    rw [dif_pos hd, WordCmp.cmpi_sle_ofNat hr' hr]
    exact (one _).trans (by simp only [if_pos this, decide_eq_true_eq, Fin.le_def])
  · have : ¬ d = 0 := fun h => hd (by rw [h]; decide)
    rw [dif_neg hd, WordCmp.cmpi_sge_ofNat hr' hr]
    exact (one _).trans (by simp only [if_neg this, decide_eq_true_eq, Fin.le_def])

/-- The mask of a direction. -/
theorem iblk4 (c : Dev nD) (t : Fin cfg0.N) (r r' : Fin 256) :
    iblk m c 4 t (ix3 0 r r') = if (if t.val / 64 = 0 then r' ≤ r else r ≤ r') then (1 : EReal) else 0 := by
  have h1 := lt_N t
  have h : iblk m c 4 t (ix3 0 r r') = V m c main_v20 (ix3 (⟨t.val / 64, by omega⟩ : Fin 2) r r') := by
    blk_ext [iblk, idx t]
  rw [h, masks]
  congr 1
  congr 1
  simp [Fin.ext_iff]

end Cert.MlstmIdeal.Value

end
-- ==== Proof.MlstmValue.lean ====
/-
  What the mLSTM kernel leaves in its result array: the recurrence's output, at every index.
-/
module

public import proofs.«01_k».proof.Proof.MlstmBlocks

@[expose] public section

set_option maxRecDepth 16384

noncomputable section

namespace Cert.MlstmIdeal.Value

open Cert.MlstmIdeal Cert.MlstmIdeal.Gen Cert.MlstmIdeal.Head Idealize.ShloMosaic Idealize.ShloMosaic.TcCoe Idealize.SL.Sem
open Idealize.ShloMosaic.Tactic Cert.MlstmSeq Cert.MlstmMath

variable (m : (ℓ : Loc nD τ sig) → Buf (Elt Ideal) ℓ) (c : Dev nD)

/-- The arguments by their own coordinates. -/
abbrev xa (r : Fin 16384) (l : Fin 1024) : EReal := m ((c : Thread nD τ).loc main_arg0) (ix2 r l)
/-- The second argument by coordinates. -/
abbrev ya (r : Fin 16384) (l : Fin 12288) : EReal := m ((c : Thread nD τ).loc main_arg1) (ix2 r l)
/-- The third argument by coordinates. -/
abbrev ga (r : Fin 16384) (l : Fin 128) : EReal := m ((c : Thread nD τ).loc main_arg2) (ix2 r l)

/-- A point's direction and batch row, and the first position of its chunk. -/
abbrev dOf (n : ℕ) : Fin 2 := ⟨n / 64 % 2, by omega⟩
/-- The batch row of a grid point. -/
abbrev bOf (n : ℕ) : Fin 2 := ⟨n / 32 % 2, by omega⟩
/-- The first position of a grid point's chunk. -/
abbrev pOf (n : ℕ) : ℕ := 256 * (n % 32)

/-- Where a row of a block stands in its chunk: the second direction reads a block from its last row. -/
def ord (d : Fin 2) : Equiv.Perm (Fin 256) := if d = 0 then Equiv.refl _ else Fin.revPerm

/-- The first direction's order. -/
theorem ord_zero (d : Fin 2) (h : d = 0) (r : Fin 256) : (ord d r).val = r.val := by
  unfold ord
  rw [if_pos h]
  rfl

/-- The second direction's order. -/
theorem ord_one (d : Fin 2) (h : ¬ d = 0) (r : Fin 256) : (ord d r).val = 255 - r.val := by
  unfold ord
  rw [if_neg h]
  show 256 - (r.val + 1) = 255 - r.val
  omega

/-- A block's row is the array row of its position. -/
theorem row_eq (t : Fin cfg0.N) (r : Fin 256) : rowAt (dOf t.val) (bOf t.val) (pOf t.val + (ord (dOf t.val) r).val) = rowOf t r := by
  have h1 := lt_N t
  have h2 := r.isLt
  apply Fin.ext
  by_cases h : t.val / 64 = 0
  · have hd : dOf t.val = 0 := Fin.ext (by show t.val / 64 % 2 = 0; omega)
    rw [ord_zero _ hd, rowAt_zero _ _ _ hd, rowOf_zero t r h]
    show 8192 * (t.val / 32 % 2) + (256 * (t.val % 32) + r.val) % 8192 = _
    omega
  · have hd : ¬ dOf t.val = 0 := fun e => h (by have : t.val / 64 % 2 = 0 := congrArg Fin.val e; omega)
    rw [ord_one _ hd, rowAt_one _ _ _ hd, rowOf_one t r h]
    show 8192 * (t.val / 32 % 2) + (8191 - (256 * (t.val % 32) + (255 - r.val)) % 8192) = _
    omega

variable (hR : Real (xa m c) (ya m c) (ga m c))
include hR

/-- A point's blocks hold its chunk of the sequences. -/
theorem blocks (t : Fin cfg0.N) :
    Blocks (ord (dOf t.val)) (pOf t.val) (lgS (ga m c) (dOf t.val) (bOf t.val)) (liS (ga m c) (dOf t.val) (bOf t.val))
      (qS (xa m c) (dOf t.val) (bOf t.val)) (kS (xa m c) (dOf t.val) (bOf t.val)) (vS (ya m c) (dOf t.val) (bOf t.val))
      (iblk m c 0 t) (iblk m c 1 t) (iblk m c 2 t) (iblk m c 3 t) (iblk m c 4 t) where
  q h r e l hl := by
    rw [iblk0]
    unfold qS
    rw [row_eq, hR.x]
    exact congrArg (xa m c (rowOf t r)) (Fin.ext hl)
  k h r e l hl := by
    rw [iblk0]
    unfold kS
    rw [row_eq, hR.x]
    exact congrArg (xa m c (rowOf t r)) (Fin.ext hl)
  v h r j l hl := by
    rw [iblk1]
    unfold vS
    rw [row_eq, hR.y _ _ (by show 1024 ≤ 1024 + 256 * h.val + j.val; omega) (by show 1024 + 256 * h.val + j.val < 2048; omega)]
    exact congrArg (ya m c (rowOf t r)) (Fin.ext (by show 1024 + l.val = 1024 + 256 * h.val + j.val; omega))
  fc h r l hl := by
    have h1 := lt_N t
    rw [iblk2]
    unfold lgS
    rw [row_eq, hR.g _ _ (by show 8 + 4 * (t.val / 64 % 2) + h.val < 16; omega)]
    exact congrArg (ga m c (rowOf t r)) (Fin.ext (by show 8 * (l.val / 4) + 4 * (t.val / 64) + l.val % 4 = 8 + 4 * (t.val / 64 % 2) + h.val; omega))
  ic h r l hl := by
    have h1 := lt_N t
    rw [iblk2]
    unfold liS
    rw [row_eq, hR.g _ _ (by show 4 * (t.val / 64 % 2) + h.val < 16; omega)]
    exact congrArg (ga m c (rowOf t r)) (Fin.ext (by show 8 * (l.val / 4) + 4 * (t.val / 64) + l.val % 4 = 4 * (t.val / 64 % 2) + h.val; omega))
  fr h r l hl := by
    have h1 := lt_N t
    rw [iblk3]
    unfold lgS
    rw [row_eq, hR.g _ _ (by show 8 + 4 * (t.val / 64 % 2) + h.val < 16; omega)]
    exact congrArg (ga m c (rowOf t r)) (Fin.ext (by show 8 * (l.val / 4) + 4 * (t.val / 64) + l.val % 4 = 8 + 4 * (t.val / 64 % 2) + h.val; omega))
  ir h r l hl := by
    have h1 := lt_N t
    rw [iblk3]
    unfold liS
    rw [row_eq, hR.g _ _ (by show 4 * (t.val / 64 % 2) + h.val < 16; omega)]
    exact congrArg (ga m c (rowOf t r)) (Fin.ext (by show 8 * (l.val / 4) + 4 * (t.val / 64) + l.val % 4 = 4 * (t.val / 64 % 2) + h.val; omega))
  mask r r' := by
    have h1 := lt_N t
    have h2 := r.isLt
    have h3 := r'.isLt
    rw [iblk4]
    refine if_congr ?_ rfl rfl
    rw [Fin.le_def (a := ord _ r')]
    by_cases h : t.val / 64 = 0
    · have hd : dOf t.val = 0 := Fin.ext (by show t.val / 64 % 2 = 0; omega)
      rw [if_pos h, ord_zero _ hd, ord_zero _ hd, Fin.le_def]
    · have hd : ¬ dOf t.val = 0 := fun e => h (by have : t.val / 64 % 2 = 0 := congrArg Fin.val e; omega)
      rw [if_neg h, ord_one _ hd, ord_one _ hd, Fin.le_def]
      omega

omit hR in
/-- The zeros that a batch row starts from are the state after no positions. -/
theorem start (lg li : Fin 4 → ℕ → ℝ) (k : Fin 4 → ℕ → Fin 128 → ℝ) (v : Fin 4 → ℕ → Fin 256 → ℝ) :
    State 0 lg li k v (k0_pay3 (F := Ideal)) (k0_pay4 (F := Ideal)) (k0_pay5 (F := Ideal)) where
  C h e j := by
    unfold k0_pay3
    pointwise
    unfold Cst
    rw [T_zero]
    rfl
  n h e := by
    unfold k0_pay4
    pointwise
    unfold Nst
    rw [T_zero]
    rfl
  m h l := by
    unfold k0_pay5
    pointwise
    rfl

/-- The state that a point leaves: the recurrence's after its chunk. -/
theorem state (n : ℕ) (hn : n < cfg0.N) :
    (outsAt0 m c n hn).2.1 = GC (pOf n + 256) (lgS (ga m c) (dOf n) (bOf n)) (liS (ga m c) (dOf n) (bOf n)) (kS (xa m c) (dOf n) (bOf n)) (vS (ya m c) (dOf n) (bOf n))
    ∧ (outsAt0 m c n hn).2.2.1 = GN (pOf n + 256) (lgS (ga m c) (dOf n) (bOf n)) (liS (ga m c) (dOf n) (bOf n)) (kS (xa m c) (dOf n) (bOf n))
    ∧ (outsAt0 m c n hn).2.2.2 = GM (pOf n + 256) (lgS (ga m c) (dOf n) (bOf n)) (liS (ga m c) (dOf n) (bOf n))
    ∧ (outsAt0 m c n hn).1 = GO (ord (dOf n)) (pOf n) (lgS (ga m c) (dOf n) (bOf n)) (liS (ga m c) (dOf n) (bOf n)) (qS (xa m c) (dOf n) (bOf n)) (kS (xa m c) (dOf n) (bOf n)) (vS (ya m c) (dOf n) (bOf n)) := by
  have B := blocks m c hR ⟨n, hn⟩
  by_cases h : n % 32 = 0
  · have S := start (lgS (ga m c) (dOf n) (bOf n)) (liS (ga m c) (dOf n) (bOf n)) (kS (xa m c) (dOf n) (bOf n)) (vS (ya m c) (dOf n) (bOf n))
    have h0 : pOf n = 0 := by show 256 * (n % 32) = 0; omega
    rw [← h0] at S
    exact ⟨funext (stepA_C m c ⟨n, hn⟩ B h S), funext (stepA_N m c ⟨n, hn⟩ B h S), funext (stepA_M m c ⟨n, hn⟩ B h S),
      funext (stepA_O m c ⟨n, hn⟩ B h S)⟩
  · have hn' : n - 1 < cfg0.N := by omega
    obtain ⟨e1, e2, e3, -⟩ := state (n - 1) hn'
    have hd : dOf (n - 1) = dOf n := Fin.ext (by show (n - 1) / 64 % 2 = n / 64 % 2; omega)
    have hb : bOf (n - 1) = bOf n := Fin.ext (by show (n - 1) / 32 % 2 = n / 32 % 2; omega)
    have hp : pOf (n - 1) + 256 = pOf n := by show 256 * ((n - 1) % 32) + 256 = 256 * (n % 32); omega
    rw [hd, hb, hp] at e1 e2 e3
    have S : State (pOf n) (lgS (ga m c) (dOf n) (bOf n)) (liS (ga m c) (dOf n) (bOf n)) (kS (xa m c) (dOf n) (bOf n)) (vS (ya m c) (dOf n) (bOf n))
        (outsAt0 m c (n - 1) hn').2.1 (outsAt0 m c (n - 1) hn').2.2.1 (outsAt0 m c (n - 1) hn').2.2.2 :=
      ⟨fun h e j => by rw [e1]; rfl, fun h e => by rw [e2]; rfl, fun h l => by rw [e3]; rfl⟩
    exact ⟨funext (stepB_C m c ⟨n, hn⟩ B h S), funext (stepB_N m c ⟨n, hn⟩ B h S), funext (stepB_M m c ⟨n, hn⟩ B h S),
      funext (stepB_O m c ⟨n, hn⟩ B h S)⟩
termination_by n
decreasing_by omega

omit hR in
/-- The result array at an index. -/
def G (i : S2x16384x1024.Idx) : EReal := ((res (xa m c) (ya m c) (ga m c) (i 0) (i 1) (i 2) : ℝ) : EReal)

/-- The result array after the run. -/
theorem final : (dats m 0 c).arrAt 5 cfg0.N = G m c := by
  refine (dats m 0 c).arrAt_eq_of_covers 5 _ (by decide +kernel) fun t hf y => ?_
  blk_simp
  rw [after0_5]
  have h1 := lt_N t
  obtain ⟨z, r, l, rfl⟩ : ∃ (z : Fin 1) (r : Fin 256) (l : Fin 1024), y = ix3 z r l := ⟨y 0, y 1, y 2, eq_ix3 y⟩
  obtain rfl : z = 0 := by omega
  obtain ⟨-, -, -, -, -, h5⟩ := idx t
  have hr : ((View.whole main_v21).slice (win0_5.rect t)).emb (ix3 0 r l) = ix3 (dOf t.val) (rowOf t r) l := by
    funext a
    apply Fin.ext
    match a with
    | ⟨0, _⟩ =>
      show win0_5.index t 0 * 1 + 1 * 0 = t.val / 64 % 2
      rw [h5]
      show t.val / 64 * 1 + 1 * 0 = t.val / 64 % 2
      omega
    | ⟨1, _⟩ =>
      show win0_5.index t 1 * 256 + 1 * r.val = (32 * (t.val / 32 % 2) + chunkOf t.val) * 256 + r.val
      rw [h5]
      show (32 * (t.val / 32 % 2) + chunkOf t.val) * 256 + 1 * r.val = _
      omega
    | ⟨2, _⟩ =>
      show win0_5.index t 2 * 1024 + 1 * l.val = l.val
      rw [h5]
      show 0 * 1024 + 1 * l.val = l.val
      omega
  rw [hr, (state m c hR t.val t.isLt).2.2.2, GO_at (ord (dOf t.val)) _ _ _ _ _ _ ⟨l.val / 256, by omega⟩ r ⟨l.val % 256, by omega⟩ l (by show l.val = 256 * (l.val / 256) + l.val % 256; omega)]
  have hb : (⟨(rowOf t r).val / 8192, by omega⟩ : Fin 2) = bOf t.val := by
    apply Fin.ext
    show (rowOf t r).val / 8192 = t.val / 32 % 2
    by_cases h : t.val / 64 = 0
    · rw [rowOf_zero t r h]
      omega
    · rw [rowOf_one t r h]
      omega
  have hs : (if dOf t.val = 0 then (rowOf t r).val % 8192 else 8191 - (rowOf t r).val % 8192) = pOf t.val + (ord (dOf t.val) r).val := by
    by_cases h : t.val / 64 = 0
    · have hd : dOf t.val = 0 := Fin.ext (by show t.val / 64 % 2 = 0; omega)
      rw [if_pos hd, ord_zero _ hd, rowOf_zero t r h]
      show _ = 256 * (t.val % 32) + r.val
      omega
    · have hd : ¬ dOf t.val = 0 := fun e => h (by have : t.val / 64 % 2 = 0 := congrArg Fin.val e; omega)
      rw [if_neg hd, ord_one _ hd, rowOf_one t r h]
      show _ = 256 * (t.val % 32) + (255 - r.val)
      omega
  show _ = ((out (xa m c) (ya m c) (ga m c) (dOf t.val) ⟨(rowOf t r).val / 8192, _⟩ ⟨l.val / 256, _⟩
    (if dOf t.val = 0 then (rowOf t r).val % 8192 else 8191 - (rowOf t r).val % 8192) ⟨l.val % 256, _⟩ : ℝ) : EReal)
  rw [hb, hs]
  rfl

end Cert.MlstmIdeal.Value

end
-- ==== Proof.MlstmCumsum.lean ====
/-
  The reference's running sum, read at an index.
-/
module

public import proofs.«01_k».proof.Proof.Gen.MlstmRefIdeal.Run
public import proofs.«01_k».proof.Proof.MlstmSeq
public import Idealize.ShloMosaic.Lib.Claim
public import Idealize.ShloMosaic.Lib.Pointwise

@[expose] public section

set_option maxRecDepth 16384

noncomputable section

namespace Cert.MlstmRefIdeal.Value

open Cert.MlstmRefIdeal Cert.MlstmRefIdeal.Gen Idealize.ShloMosaic Idealize.ShloMosaic.TcCoe Idealize.SL.Sem
open Idealize.ShloMosaic.Tactic Cert.MlstmMath

/-- A window that ends at a position sums what comes before it and at it. -/
theorem window_sum (g : ℕ → ℝ) (r : ℕ) (hr : r < 64) :
    (∑ w : Fin 64, if 63 ≤ r + w.val then g (r + w.val - 63) else 0) = ∑ s ∈ Finset.range (r + 1), g s := by
  rw [Fin.sum_univ_eq_sum_range (fun w => if 63 ≤ r + w then g (r + w - 63) else 0) 64,
    show 64 = (63 - r) + (r + 1) by omega, Finset.sum_range_add, Finset.sum_eq_zero, zero_add]
  · refine Finset.sum_congr rfl fun s hs => ?_
    rw [if_pos (by omega)]
    congr 1
    omega
  · intro w hw
    rw [if_neg (by have := Finset.mem_range.mp hw; omega)]

/-- A windowed sum at an index is the sum over the window's positions that lie inside the array. -/
theorem windowed {s t : Shape} (window strides lo hi : Fin s.rank → ℕ) (h : s.ReduceWindows window strides lo hi t) (x : FVec Ideal s .f32) (j : t.Idx) :
    Ideal.hostReduceWindowAdd window strides lo hi h x 0 j = ∑ w : (⟨s.rank, window⟩ : Shape).Idx,
      if hin : ∀ a, lo a ≤ (j (a.cast h.1.symm)).val * strides a + (w a).val
        ∧ (j (a.cast h.1.symm)).val * strides a + (w a).val - lo a < s.size a then
      x (fun a => ⟨(j (a.cast h.1.symm)).val * strides a + (w a).val - lo a, (hin a).2⟩) else (0 : EReal) := by
  rw [sum_idx_eq_foldl]
  unfold Ideal.hostReduceWindowAdd Host.reduceWindow
  dsimp only
  congr 1
  funext a i
  congr 1
  split <;> rfl

/-- The running sum along the last axis. -/
theorem cumsum (h : S4x4x64.ReduceWindows ![1, 1, 64] ![1, 1, 1] ![0, 0, 63] ![0, 0, 0] S4x4x64) (x : FVec Ideal S4x4x64 .f32)
    (f : ℕ → ℝ) (n k : Fin 4) (hx : ∀ s : Fin 64, x (ix3 n k s) = ((f s.val : ℝ) : EReal)) (z : EReal) (hz : z = 0) (r : Fin 64) :
    Ideal.hostReduceWindowAdd ![1, 1, 64] ![1, 1, 1] ![0, 0, 63] ![0, 0, 0] h x z (ix3 n k r)
      = ((∑ s ∈ Finset.range (r.val + 1), f s : ℝ) : EReal) := by
  subst hz
  rw [← window_sum f r.val r.isLt, ← coe_sum]
  rw [windowed]
  refine (sum_idx3 (n0 := 1) (n1 := 1) (n2 := 64) _).trans ?_
  rw [Fin.sum_univ_one, Fin.sum_univ_one]
  refine Finset.sum_congr rfl fun w _ => ?_
  have hw := w.isLt
  have hr := r.isLt
  by_cases hc : 63 ≤ r.val + w.val
  · rw [if_pos hc, dif_pos (fun a => ?_)]
    · rw [← hx ⟨r.val + w.val - 63, by omega⟩]
      congr 1
      funext a
      apply Fin.ext
      match a with
      | ⟨0, _⟩ => show n.val * 1 + 0 - 0 = n.val; omega
      | ⟨1, _⟩ => show k.val * 1 + 0 - 0 = k.val; omega
      | ⟨2, _⟩ => show r.val * 1 + w.val - 63 = r.val + w.val - 63; omega
    · match a with
      | ⟨0, _⟩ => show 0 ≤ n.val * 1 + 0 ∧ n.val * 1 + 0 - 0 < 4; omega
      | ⟨1, _⟩ => show 0 ≤ k.val * 1 + 0 ∧ k.val * 1 + 0 - 0 < 4; omega
      | ⟨2, _⟩ => show 63 ≤ r.val * 1 + w.val ∧ r.val * 1 + w.val - 63 < 64; omega
  · rw [if_neg hc, dif_neg (fun hin => hc (by have := (hin 2).1; have : 63 ≤ r.val * 1 + w.val := this; omega))]
    simp

end Cert.MlstmRefIdeal.Value

end
-- ==== Proof.MlstmTrip.lean ====
/-
  What one trip of the reference's loop makes of the carried arrays, read at an index.
-/
module

public import proofs.«01_k».proof.Proof.MlstmCumsum
public import Idealize.ShloMosaic.Lib.WordCmp

@[expose] public section

set_option maxRecDepth 16384

noncomputable section

namespace Cert.MlstmRefIdeal.Value

open Cert.MlstmRefIdeal Cert.MlstmRefIdeal.Gen Idealize.ShloMosaic Idealize.ShloMosaic.TcCoe Idealize.SL.Sem
open Idealize.ShloMosaic.Tactic Cert.MlstmMath

/-- The queries that the loop carries. -/
abbrev bq (V0 : Valuation τ sig (Elt Ideal)) : FVec Ideal S128x4x4x64x128 .f32 := V0 (Proc.devRef .tc main_v50_0)
/-- The keys. -/
abbrev bk (V0 : Valuation τ sig (Elt Ideal)) : FVec Ideal S128x4x4x64x128 .f32 := V0 (Proc.devRef .tc main_v50_1)
/-- The values. -/
abbrev bv (V0 : Valuation τ sig (Elt Ideal)) : FVec Ideal S128x4x4x64x256 .f32 := V0 (Proc.devRef .tc main_v50_2)
/-- The input gates. -/
abbrev bi (V0 : Valuation τ sig (Elt Ideal)) : FVec Ideal S128x4x4x64 .f32 := V0 (Proc.devRef .tc main_v50_3)
/-- The logarithms of the forget gates. -/
abbrev bf (V0 : Valuation τ sig (Elt Ideal)) : FVec Ideal S128x4x4x64 .f32 := V0 (Proc.devRef .tc main_v50_4)
/-- The lower triangle. -/
abbrev btri (V0 : Valuation τ sig (Elt Ideal)) : IVec S64x64 1 := V0 (Proc.devRef .tc main_v50_5)
/-- The counter. -/
abbrev bctr (V0 : Valuation τ sig (Elt Ideal)) : IVec S_ 32 := V0 (Proc.devRef .tc main_v50_6)
/-- The matrix states. -/
abbrev bC (V0 : Valuation τ sig (Elt Ideal)) : FVec Ideal S4x4x128x256 .f32 := V0 (Proc.devRef .tc main_v50_7)
/-- The vector states. -/
abbrev bn (V0 : Valuation τ sig (Elt Ideal)) : FVec Ideal S4x4x128 .f32 := V0 (Proc.devRef .tc main_v50_8)
/-- The maxima. -/
abbrev bm (V0 : Valuation τ sig (Elt Ideal)) : FVec Ideal S4x4 .f32 := V0 (Proc.devRef .tc main_v50_9)
/-- The outputs. -/
abbrev bo (V0 : Valuation τ sig (Elt Ideal)) : FVec Ideal S128x4x4x64x256 .f32 := V0 (Proc.devRef .tc main_v50_10)

/-- Before trip `t` the carried arrays hold the chunk's sequences and the state after the chunks before it, at the pair
    `n`, `h` of a sequence's number and a head. -/
structure Before (V0 : Valuation τ sig (Elt Ideal)) (t : ℕ) (n h : Fin 4) (lf li : ℕ → ℝ) (q k : ℕ → Fin 128 → ℝ) (v : ℕ → Fin 256 → ℝ) : Prop where
  ctr : bctr V0 = fun _ => BitVec.ofNat 32 t
  lt : t < 128
  hq : ∀ r e, bq V0 (ix5 ⟨t, lt⟩ n h r e) = ((q (64 * t + r.val) e : ℝ) : EReal)
  hk : ∀ r e, bk V0 (ix5 ⟨t, lt⟩ n h r e) = ((k (64 * t + r.val) e : ℝ) : EReal)
  hv : ∀ r j, bv V0 (ix5 ⟨t, lt⟩ n h r j) = ((v (64 * t + r.val) j : ℝ) : EReal)
  hi : ∀ r, bi V0 (ix4 ⟨t, lt⟩ n h r) = ((li (64 * t + r.val) : ℝ) : EReal)
  hf : ∀ r, bf V0 (ix4 ⟨t, lt⟩ n h r) = ((lf (64 * t + r.val) : ℝ) : EReal)
  htri : ∀ r s, btri V0 (ix2 r s) = if s ≤ r then 1#1 else 0#1
  hC : ∀ e j, bC V0 (ix4 n h e j) = ((Cst lf li k v (64 * t) e j : ℝ) : EReal)
  hn : ∀ e, bn V0 (ix3 n h e) = ((Nst lf li k (64 * t) e : ℝ) : EReal)
  hm : bm V0 (ix2 n h) = ((M lf li (64 * t) : ℝ) : EReal)

variable {V0 : Valuation τ sig (Elt Ideal)} {t : ℕ} {n h : Fin 4} {lf li : ℕ → ℝ} {q k : ℕ → Fin 128 → ℝ} {v : ℕ → Fin 256 → ℝ}

/-- The slice of a chunk starts at the chunk's number. -/
theorem start5 (t : ℕ) (lt : t < 128) (w : IVec S_ 32) (hw : w = fun _ => BitVec.ofNat 32 t) (a : Fin 5) :
    ((![w, constantI S_ 32 0#32, constantI S_ 32 0#32, constantI S_ 32 0#32, constantI S_ 32 0#32] : Fin 5 → IVec S_ 32) a (Shape.Idx.first h_S_)).toInt
      = (((![t, 0, 0, 0, 0] : Fin 5 → ℕ) a : ℕ) : ℤ) := by
  subst hw
  match a with
  | 0 => exact WordCmp.toInt_ofNat_of_lt (w := 32) (by omega)
  | 1 => rfl
  | 2 => rfl
  | 3 => rfl
  | 4 => rfl

/-- The slice of a chunk of gates starts at the chunk's number. -/
theorem start4 (t : ℕ) (lt : t < 128) (w : IVec S_ 32) (hw : w = fun _ => BitVec.ofNat 32 t) (a : Fin 4) :
    ((![w, constantI S_ 32 0#32, constantI S_ 32 0#32, constantI S_ 32 0#32] : Fin 4 → IVec S_ 32) a (Shape.Idx.first h_S_)).toInt
      = (((![t, 0, 0, 0] : Fin 4 → ℕ) a : ℕ) : ℤ) := by
  subst hw
  match a with
  | 0 => exact WordCmp.toInt_ofNat_of_lt (w := 32) (by omega)
  | 1 => rfl
  | 2 => rfl
  | 3 => rfl

/-- A chunk's slice lies inside the array of 128 columns. -/
theorem fits128 (lt : t < 128) : S128x4x4x64x128.Slices ![t, 0, 0, 0, 0] S1x4x4x64x128 :=
  ⟨rfl, fun a => by
    match a with
    | 0 => exact Nat.succ_le_of_lt lt
    | 1 => exact (Nat.zero_add _).le
    | 2 => exact (Nat.zero_add _).le
    | 3 => exact (Nat.zero_add _).le
    | 4 => exact (Nat.zero_add _).le⟩

/-- A chunk's slice lies inside the array of 256 columns. -/
theorem fits256 (lt : t < 128) : S128x4x4x64x256.Slices ![t, 0, 0, 0, 0] S1x4x4x64x256 :=
  ⟨rfl, fun a => by
    match a with
    | 0 => exact Nat.succ_le_of_lt lt
    | 1 => exact (Nat.zero_add _).le
    | 2 => exact (Nat.zero_add _).le
    | 3 => exact (Nat.zero_add _).le
    | 4 => exact (Nat.zero_add _).le⟩

/-- A chunk's slice lies inside the array of gates. -/
theorem fits (lt : t < 128) : S128x4x4x64.Slices ![t, 0, 0, 0] S1x4x4x64 :=
  ⟨rfl, fun a => by
    match a with
    | 0 => exact Nat.succ_le_of_lt lt
    | 1 => exact (Nat.zero_add _).le
    | 2 => exact (Nat.zero_add _).le
    | 3 => exact (Nat.zero_add _).le⟩

/-- A sum of products of real numbers. -/
theorem sum_mul_coe {n : ℕ} {x y : Fin n → EReal} {f g : Fin n → ℝ} (hx : ∀ e, x e = (f e : EReal)) (hy : ∀ e, y e = (g e : EReal)) :
    ∑ e, x e * y e = ((∑ e, f e * g e : ℝ) : EReal) := by
  rw [← coe_sum]
  exact Finset.sum_congr rfl fun e _ => by rw [hx, hy, EReal.coe_mul]

/-- A sum of real numbers. -/
theorem sum_coe {n : ℕ} {x : Fin n → EReal} {f : Fin n → ℝ} (hx : ∀ e, x e = (f e : EReal)) : ∑ e, x e = ((∑ e, f e : ℝ) : EReal) := by
  rw [← coe_sum]
  exact Finset.sum_congr rfl fun e _ => hx e

/-- A chunk of an array of rows of 128 entries. -/
theorem chunk128 (x : FVec Ideal S128x4x4x64x128 .f32) (w : IVec S_ 32) (lt : t < 128) (hw : w = fun _ => BitVec.ofNat 32 t) (n h : Fin 4) (r : Fin 64) (e : Fin 128) :
    shapeCast S4x4x64x128 (Host.dynamicSlice S1x4x4x64x128 x (fun k => (((![w, constantI S_ 32 0#32, constantI S_ 32 0#32, constantI S_ 32 0#32, constantI S_ 32 0#32] : Fin 5 → IVec S_ 32)) k (Shape.Idx.first h_S_)).toInt) sliceFits_S128x4x4x64x128_S1x4x4x64x128) shapeCasts_S1x4x4x64x128_S4x4x64x128 (ix4 n h r e) = x (ix5 ⟨t, lt⟩ n h r e) := by
  rw [WordCmp.dynamicSlice_eq_extract S1x4x4x64x128 x _ _ ![t, 0, 0, 0, 0] (fits128 lt) (start5 t lt _ hw)]
  pointwise
/-- A chunk of an array of rows of 256 entries. -/
theorem chunk256 (x : FVec Ideal S128x4x4x64x256 .f32) (w : IVec S_ 32) (lt : t < 128) (hw : w = fun _ => BitVec.ofNat 32 t) (n h : Fin 4) (r : Fin 64) (e : Fin 256) :
    shapeCast S4x4x64x256 (Host.dynamicSlice S1x4x4x64x256 x (fun k => (((![w, constantI S_ 32 0#32, constantI S_ 32 0#32, constantI S_ 32 0#32, constantI S_ 32 0#32] : Fin 5 → IVec S_ 32)) k (Shape.Idx.first h_S_)).toInt) sliceFits_S128x4x4x64x256_S1x4x4x64x256) shapeCasts_S1x4x4x64x256_S4x4x64x256 (ix4 n h r e) = x (ix5 ⟨t, lt⟩ n h r e) := by
  rw [WordCmp.dynamicSlice_eq_extract S1x4x4x64x256 x _ _ ![t, 0, 0, 0, 0] (fits256 lt) (start5 t lt _ hw)]
  pointwise
/-- A chunk of an array of gates. -/
theorem chunk (x : FVec Ideal S128x4x4x64 .f32) (w : IVec S_ 32) (lt : t < 128) (hw : w = fun _ => BitVec.ofNat 32 t) (n h : Fin 4) (r : Fin 64) :
    shapeCast S4x4x64 (Host.dynamicSlice S1x4x4x64 x (fun k => (((![w, constantI S_ 32 0#32, constantI S_ 32 0#32, constantI S_ 32 0#32] : Fin 4 → IVec S_ 32)) k (Shape.Idx.first h_S_)).toInt) sliceFits_S128x4x4x64_S1x4x4x64) shapeCasts_S1x4x4x64_S4x4x64 (ix3 n h r) = x (ix4 ⟨t, lt⟩ n h r) := by
  rw [WordCmp.dynamicSlice_eq_extract S1x4x4x64 x _ _ ![t, 0, 0, 0] (fits lt) (start4 t lt _ hw)]
  pointwise

variable (B : Before V0 t n h lf li q k v)
include B

/-- The triangle by coordinates. -/
theorem tri_at (r s : Fin 64) : V0 (Proc.devRef .tc main_v50_5) (ix2 r s) = if s ≤ r then 1#1 else 0#1 := B.htri r s
/-- The carried maximum. -/
theorem m0_at : V0 (Proc.devRef .tc main_v50_9) (ix2 n h) = ((M lf li (64 * t) : ℝ) : EReal) := B.hm
/-- The carried matrix state. -/
theorem C0_at (e : Fin 128) (j : Fin 256) : V0 (Proc.devRef .tc main_v50_7) (ix4 n h e j) = ((Cst lf li k v (64 * t) e j : ℝ) : EReal) := B.hC e j
/-- The carried vector state. -/
theorem n0_at (e : Fin 128) : V0 (Proc.devRef .tc main_v50_8) (ix3 n h e) = ((Nst lf li k (64 * t) e : ℝ) : EReal) := B.hn e
/-- The chunk's queries. -/
theorem q_at (r : Fin 64) (e : Fin 128) : (res_main_while0b_v61 V0 : FVec Ideal S4x4x64x128 .f32) (ix4 n h r e) = ((q (64 * t + r.val) e : ℝ) : EReal) :=
  (chunk128 (bq V0) _ B.lt B.ctr n h r e).trans (B.hq r e)
/-- The chunk's keys. -/
theorem k_at (r : Fin 64) (e : Fin 128) : (res_main_while0b_v62 V0 : FVec Ideal S4x4x64x128 .f32) (ix4 n h r e) = ((k (64 * t + r.val) e : ℝ) : EReal) :=
  (chunk128 (bk V0) _ B.lt B.ctr n h r e).trans (B.hk r e)
/-- The chunk's values. -/
theorem v_at (r : Fin 64) (e : Fin 256) : (res_main_while0b_v63 V0 : FVec Ideal S4x4x64x256 .f32) (ix4 n h r e) = ((v (64 * t + r.val) e : ℝ) : EReal) :=
  (chunk256 (bv V0) _ B.lt B.ctr n h r e).trans (B.hv r e)
/-- The input gates. -/
theorem i_at (r : Fin 64) : (res_main_while0b_v64 V0 : FVec Ideal S4x4x64 .f32) (ix3 n h r) = ((li (64 * t + r.val) : ℝ) : EReal) :=
  (chunk (bi V0) _ B.lt B.ctr n h r).trans (B.hi r)
/-- The running sums of the forget gates' logarithms. -/
theorem g_at (r : Fin 64) : (res_main_while0b_v66 V0 : FVec Ideal S4x4x64 .f32) (ix3 n h r) = ((F lf (64 * t + r.val + 1) - F lf (64 * t) : ℝ) : EReal) := by
  unfold res_main_while0b_v66
  refine (cumsum reduceWindows_S4x4x64_S4x4x64_w1s1p0_0_w1s1p0_0_w64s1p63_0 _ (fun s => lf (64 * t + s)) n h (fun s => (chunk (bf V0) _ B.lt B.ctr n h s).trans (B.hf s)) _ ?_ r).trans ?_
  · pointwise
  · rw [F, F, Nat.add_assoc, Finset.sum_range_add lf (64 * t) (r.val + 1), add_sub_cancel_left]
/-- The state's bound plus the running sum. -/
theorem inn_at (r : Fin 64) : (res_main_while0b_v78 V0 : FVec Ideal S4x4x64 .f32) (ix3 n h r) = ((F lf (64 * t + r.val + 1) - F lf (64 * t) + M lf li (64 * t) : ℝ) : EReal) := by
  unfold res_main_while0b_v78
  pointwise
  erw [g_at B, m0_at B]
  rw [← EReal.coe_add]
/-- The masked exponents. -/
theorem d_at (r s : Fin 64) : (res_main_while0b_v75 V0 : FVec Ideal S4x4x64x64 .f32) (ix4 n h r s) = if s ≤ r then
    ((F lf (64 * t + r.val + 1) - F lf (64 * t + s.val + 1) + li (64 * t + s.val) : ℝ) : EReal) else ⊥ := by
  unfold res_main_while0b_v75
  pointwise
  erw [g_at B r, g_at B s, i_at B s, tri_at B]
  show Scalar.select (if s ≤ r then 1#1 else 0#1) _ (Ideal.ofBits .f32 0xFF800000#32) = _
  rw [neg_inf]
  by_cases hs : s ≤ r
  · rw [if_pos hs, if_pos hs, Scalar.select, if_pos (by decide), ← EReal.coe_sub, ← EReal.coe_add]
    congr 1; ring
  · rw [if_neg hs, if_neg hs, Scalar.select, if_neg (by decide)]
omit B in
/-- The maximum over the last axis. -/
theorem fold_last (b : EReal) (w : FVec Ideal S4x4x64x64 .f32) (n h : Fin 4) (r : Fin 64) :
    Finset.fold max b w {i | reducesTo_S4x4x64x64_S4x4x64_d3.drop i = ix3 n h r} = Finset.univ.fold max b fun s => w (ix4 n h r s) :=
  Shape.ReducesTo.fold_fiber_r4_a3 reducesTo_S4x4x64x64_S4x4x64_d3 (ix3 n h r) max b w
/-- The maxima. -/
theorem m_at (r : Fin 64) : (res_main_while0b_v80 V0  : FVec Ideal S4x4x64 .f32) (ix3 n h r) = ((M lf li (64 * t + r.val + 1) : ℝ) : EReal) := by
  unfold res_main_while0b_v80
  pointwise
  erw [inn_at B, fold_last, neg_inf]
  exact M_chunk lf li (Equiv.refl (Fin 64)) (64 * t) (r.val + 1) r.isLt _ fun s => by
    rw [d_at B]; exact if_congr (by rw [Fin.le_def, Equiv.refl_apply]; omega) rfl rfl
/-- The weights with the products of the queries with the keys. -/
theorem w_at (r s : Fin 64) : (res_main_while0b_v86 V0 : FVec Ideal S4x4x64x64 .f32) (ix4 n h r s) =
    (((if s.val < r.val + 1 then wt lf li (64 * t + r.val + 1) (64 * t + s.val) else 0) *
        (∑ e, q (64 * t + r.val) e * k (64 * t + s.val) e) : ℝ) : EReal) := by
  unfold res_main_while0b_v86
  pointwise
  erw [d_at B, m_at B]
  rw [sum_mul_coe (fun e => q_at B r e) fun e => k_at B s e]
  by_cases hs : s ≤ r
  · rw [if_pos hs, if_pos (by rw [Fin.le_def] at hs; omega), ← EReal.coe_sub, Ideal.exp_coe, ← EReal.coe_mul]
    rfl
  · rw [if_neg hs, if_neg (by rw [Fin.le_def] at hs; omega), EReal.bot_sub, Ideal.exp_bot]
    simp
/-- The factor of the carried state. -/
theorem s_at (r : Fin 64) : (res_main_while0b_v88 V0 : FVec Ideal S4x4x64 .f32) (ix3 n h r) =
    ((Real.exp (F lf (64 * t + r.val + 1) - F lf (64 * t) + M lf li (64 * t) - M lf li (64 * t + r.val + 1)) : ℝ) : EReal) := by
  unfold res_main_while0b_v88
  pointwise
  erw [inn_at B, m_at B]
  rw [← EReal.coe_sub]
  rfl
/-- The maximum after the chunk. -/
theorem me_at : (res_main_while0b_v107 V0 : FVec Ideal S4x4 .f32) (ix2 n h) = ((M lf li (64 * t + 64) : ℝ) : EReal) := by
  unfold res_main_while0b_v107
  pointwise
  exact m_at B 63
/-- The weights of the chunk's positions in the next state. -/
theorem u_at (r : Fin 64) : (res_main_while0b_v115 V0 : FVec Ideal S4x4x64 .f32) (ix3 n h r) = ((wt lf li (64 * t + 64) (64 * t + r.val) : ℝ) : EReal) := by
  unfold res_main_while0b_v115
  pointwise
  erw [g_at B 63, g_at B r, i_at B r, me_at B]
  rw [← EReal.coe_sub, ← EReal.coe_add, ← EReal.coe_sub, Ideal.exp_coe, wt]
  congr 2
  show F lf (64 * t + 64) - _ - _ + _ - _ = _
  ring
/-- The factor of the carried state in the next one. -/
theorem x_at : (res_main_while0b_v120 V0 : FVec Ideal S4x4 .f32) (ix2 n h) =
    ((Real.exp (F lf (64 * t + 64) - F lf (64 * t) + M lf li (64 * t) - M lf li (64 * t + 64)) : ℝ) : EReal) := by
  unfold res_main_while0b_v120
  pointwise
  erw [g_at B 63, m0_at B, me_at B]
  rw [← EReal.coe_add, ← EReal.coe_sub, Ideal.exp_coe]
  rfl
/-- The matrix state after the trip. -/
theorem C_next (e : Fin 128) (j : Fin 256) : (step_main_v50_7 V0  : FVec Ideal S4x4x128x256 .f32) (ix4 n h e j) = ((Cst lf li k v (64 * t + 64) e j : ℝ) : EReal) := by
  unfold step_main_v50_7
  rw [id_eq]
  pointwise
  erw [x_at B, C0_at B]
  rw [sum_mul_coe (fun r => show _ = ((k (64 * t + r.val) e * wt lf li (64 * t + 64) (64 * t + r.val) : ℝ) : EReal) by
    erw [u_at B r, k_at B r e]; rw [← EReal.coe_mul, mul_comm]) fun r => v_at B r j, ← EReal.coe_mul, ← EReal.coe_add]
  exact congrArg _ (Cst_chunk lf li (Equiv.refl (Fin 64)) k v (64 * t) e j)
/-- The vector state after the trip. -/
theorem N_next (e : Fin 128)  : (step_main_v50_8 V0  : FVec Ideal S4x4x128 .f32) (ix3 n h e) = ((Nst lf li k (64 * t + 64) e : ℝ) : EReal) := by
  unfold step_main_v50_8
  rw [id_eq]
  pointwise
  erw [x_at B, n0_at B]
  rw [sum_mul_coe (fun r => u_at B r) fun r => k_at B r e, ← EReal.coe_mul, ← EReal.coe_add]
  refine congrArg _ (Eq.trans ?_ (Nst_chunk lf li (Equiv.refl (Fin 64)) k (64 * t) e))
  exact congrArg _ (Finset.sum_congr rfl fun _ _ => mul_comm _ _)
/-- The maximum after the trip. -/
theorem M_next  : (step_main_v50_9 V0  : FVec Ideal S4x4 .f32) (ix2 n h) = ((M lf li (64 * t + 64) : ℝ) : EReal) := by
  exact me_at B

omit B in
/-- The update writes the chunk's rows at its own number. -/
theorem put_at (x : FVec Ideal S128x4x4x64x256 .f32) (u : FVec Ideal S1x4x4x64x256 .f32) (w : IVec S_ 32) (lt : t < 128) (hw : w = fun _ => BitVec.ofNat 32 t) (n h : Fin 4) (r : Fin 64) (e : Fin 256) :
    Host.dynamicUpdateSlice x u (fun k => (((![w, constantI S_ 32 0#32, constantI S_ 32 0#32, constantI S_ 32 0#32, constantI S_ 32 0#32] : Fin 5 → IVec S_ 32)) k (Shape.Idx.first h_S_)).toInt) updateFits_S128x4x4x64x256_S1x4x4x64x256 (ix5 ⟨t, lt⟩ n h r e) = u (ix5 0 n h r e) := by
  rw [WordCmp.dynamicUpdateSlice_eq_update x u _ _ ![t, 0, 0, 0, 0] (fits256 lt) (start5 t lt _ hw)]
  pointwise
  rw [dif_pos ⟨le_refl t, Nat.lt_succ_self t⟩]
  exact congrArg (fun z => u (ix5 z n h r e)) (Fin.ext (Nat.sub_self t))
omit B in
/-- The update leaves the rows of the other chunks. -/
theorem put_ne (x : FVec Ideal S128x4x4x64x256 .f32) (u : FVec Ideal S1x4x4x64x256 .f32) (w : IVec S_ 32) (lt : t < 128) (hw : w = fun _ => BitVec.ofNat 32 t) (a : Fin 128) (ha : a.val ≠ t) (n h : Fin 4) (r : Fin 64) (e : Fin 256) :
    Host.dynamicUpdateSlice x u (fun k => (((![w, constantI S_ 32 0#32, constantI S_ 32 0#32, constantI S_ 32 0#32, constantI S_ 32 0#32] : Fin 5 → IVec S_ 32)) k (Shape.Idx.first h_S_)).toInt) updateFits_S128x4x4x64x256_S1x4x4x64x256 (ix5 a n h r e) = x (ix5 a n h r e) := by
  rw [WordCmp.dynamicUpdateSlice_eq_update x u _ _ ![t, 0, 0, 0, 0] (fits256 lt) (start5 t lt _ hw)]
  pointwise
  rw [dif_neg (by omega)]
/-- The rows that a trip writes, from the weights, the values, the factor of the state, the queries, the state and the
    maxima. -/
def outRow (w : FVec Ideal S4x4x64x64 .f32) (vv : FVec Ideal S4x4x64x256 .f32) (s : FVec Ideal S4x4x64 .f32) (qq : FVec Ideal S4x4x64x128 .f32) (CC : FVec Ideal S4x4x128x256 .f32)
    (nn : FVec Ideal S4x4x128 .f32) (mm : FVec Ideal S4x4x64 .f32) : FVec Ideal S1x4x4x64x256 .f32 :=
  (broadcastInDim S1x4x4x64x256 ![1, 2, 3, 4] bcast_S4x4x64x256_S1x4x4x64x256_1_2_3_4 (Host.divf (addf (Host.dotGeneral dot_S4x4x64x64_S4x4x64x256_S4x4x64x256_3_2_2_3_01_01 none w vv) (mulf (broadcastInDim S4x4x64x256 ![0, 1, 2, 3] bcast_S4x4x64x1_S4x4x64x256_0_1_2_3 (broadcastInDim S4x4x64x1 ![0, 1, 2] bcast_S4x4x64_S4x4x64x1_0_1_2 s)) (Host.dotGeneral dot_S4x4x64x128_S4x4x128x256_S4x4x64x256_3_2_2_3_01_01 none qq CC))) (broadcastInDim S4x4x64x256 ![0, 1, 2, 3] bcast_S4x4x64x1_S4x4x64x256_0_1_2_3 (broadcastInDim S4x4x64x1 ![0, 1, 2] bcast_S4x4x64_S4x4x64x1_0_1_2 (maximumf (Host.absf (addf (Host.reduceAdd w (constant S_ .f32 0x00000000#32) reducesTo_S4x4x64x64_S4x4x64_d3 h_S_) (mulf s (Host.dotGeneral dot_S4x4x64x128_S4x4x128_S4x4x64_3_2_2_n_01_01 none qq nn)))) (Host.exp (Host.negf mm)))))))
omit B in
/-- An entry of the rows that a trip writes. -/
theorem outRow_at (w vv s qq CC nn mm) (n h r j) : outRow w vv s qq CC nn mm (ix5 0 n h r j) =
    Ideal.div ((∑ x, w (ix4 n h r x) * vv (ix4 n h x j)) + s (ix3 n h r) * ∑ e, qq (ix4 n h r e) * CC (ix4 n h e j))
      (max (max ((∑ x, w (ix4 n h r x)) + s (ix3 n h r) * ∑ e, qq (ix4 n h r e) * nn (ix3 n h e)) (-((∑ x, w (ix4 n h r x)) + s (ix3 n h r) * ∑ e, qq (ix4 n h r e) * nn (ix3 n h e))))
        (Ideal.exp (-mm (ix3 n h r)))) := by
  unfold outRow
  pointwise
  rfl
/-- The rows that the trip writes. -/
theorem out_at (r : Fin 64) (j : Fin 256) : outRow (res_main_while0b_v86 V0) (res_main_while0b_v63 V0) (res_main_while0b_v88 V0) (res_main_while0b_v61 V0) (bC V0) (bn V0) (res_main_while0b_v80 V0)
    (ix5 0 n h r j) = ((H lf li q k v (64 * t + r.val) j : ℝ) : EReal) := by
  rw [outRow_at, sum_mul_coe (fun x => w_at B r x) fun x => v_at B x j, sum_mul_coe (fun e => q_at B r e) fun e => B.hC e j,
    sum_mul_coe (fun e => q_at B r e) fun e => B.hn e, s_at B r, m_at B r, sum_coe fun x => w_at B r x,
    ← EReal.coe_mul, ← EReal.coe_mul, ← EReal.coe_add, ← EReal.coe_add, coe_abs, ← EReal.coe_neg, Ideal.exp_coe, coe_max]
  have e1 := Num_chunk lf li (Equiv.refl (Fin 64)) q k v (64 * t) r.val r.isLt j
  have e2 := Den_chunk lf li (Equiv.refl (Fin 64)) q k (64 * t) r.val r.isLt
  simp only [Equiv.refl_apply] at e1 e2
  refine (congrArg₂ Ideal.div (congrArg _ e1) (congrArg (fun z => ((max |z| (Real.exp (-M lf li (64 * t + r.val + 1))) : ℝ) : EReal)) e2)).trans ?_
  rw [Ideal.div_coe (ne_of_gt (floor_pos _ _)), ← EReal.coe_mul, H, mul_one_div]
/-- After the trip the outputs' array holds the chunk's rows. -/
theorem O_next (r : Fin 64) (j : Fin 256) : (step_main_v50_10 V0 : FVec Ideal S128x4x4x64x256 .f32) (ix5 ⟨t, B.lt⟩ n h r j) = ((H lf li q k v (64 * t + r.val) j : ℝ) : EReal) :=
  (put_at (bo V0) _ _ B.lt B.ctr n h r j).trans (out_at B r j)
/-- The trip leaves the outputs of the other chunks. -/
theorem O_rest (a : Fin 128) (ha : a.val ≠ t) (r : Fin 64) (j : Fin 256) : (step_main_v50_10 V0 : FVec Ideal S128x4x4x64x256 .f32) (ix5 a n h r j) = bo V0 (ix5 a n h r j) :=
  put_ne (bo V0) _ _ B.lt B.ctr a ha n h r j
end Cert.MlstmRefIdeal.Value
-- ==== Proof.MlstmEntry.lean ====
/-
  What the reference's loop carries at its entry, read at an index.
-/
module

public import proofs.«01_k».proof.Proof.MlstmTrip

@[expose] public section

set_option maxRecDepth 16384

noncomputable section

namespace Cert.MlstmRefIdeal.Value

open Cert.MlstmRefIdeal Cert.MlstmRefIdeal.Gen Idealize.ShloMosaic Idealize.ShloMosaic.TcCoe Idealize.SL.Sem
open Idealize.ShloMosaic.Tactic Cert.MlstmMath Cert.MlstmSeq Idealize.ShloMosaic.StableHlo HostLoop

/-- Position `p` of a batch row as a direction reads it. -/
def dirPos (d : Fin 2) (p : Fin 8192) : Fin 8192 := if d = 0 then p else p.rev

/-- The position of a chunk's row. -/
def at' (a : Fin 128) (r : Fin 64) : Fin 8192 := ⟨64 * a.val + r.val, by omega⟩

/-- The sequence number of a direction and a batch row. -/
def sq (d b : Fin 2) : Fin 4 := ⟨2 * d.val + b.val, by omega⟩

/-- The array made of the queries or the keys: both directions' sequences, by chunks. -/
def bufQK (x : FVec Ideal S2x8192x4x128 .f32) : FVec Ideal S128x4x4x64x128 .f32 :=
  transpose S128x4x4x64x128 [0, 1, 3, 2, 4] (transpose S128x4x64x4x128 [1, 0, 2, 3, 4] (shapeCast S4x128x64x4x128
    (concatenate S4x8192x4x128 0 [⟨S2x8192x4x128, x⟩, ⟨S2x8192x4x128, Host.reverse [1] x⟩] concatenates_S2x8192x4x128_S2x8192x4x128_S4x8192x4x128_d0)
    shapeCasts_S4x8192x4x128_S4x128x64x4x128) transposes_S4x128x64x4x128_S128x4x64x4x128_1_0_2_3_4) transposes_S128x4x64x4x128_S128x4x4x64x128_0_1_3_2_4

/-- The two transpositions. -/
theorem orderQK (x : FVec Ideal S4x128x64x4x128 .f32) (a : Fin 128) (n : Fin 4) (h : Fin 4) (r : Fin 64) (e : Fin 128) :
    transpose S128x4x4x64x128 [0, 1, 3, 2, 4] (transpose S128x4x64x4x128 [1, 0, 2, 3, 4] x transposes_S4x128x64x4x128_S128x4x64x4x128_1_0_2_3_4) transposes_S128x4x64x4x128_S128x4x4x64x128_0_1_3_2_4 (ix5 a n h r e)
      = x (ix5 n a r h e) := by
  pointwise
/-- The cut into chunks. -/
theorem cutQK (x : FVec Ideal S4x8192x4x128 .f32) (a : Fin 128) (n : Fin 4) (h : Fin 4) (r : Fin 64) (e : Fin 128) :
    shapeCast S4x128x64x4x128 x shapeCasts_S4x8192x4x128_S4x128x64x4x128 (ix5 n a r h e) = x (ix4 n (at' a r) h e) := by
  pointwise
  exact congrArg (fun p => x (ix4 n p h e)) (Fin.ext (by show a.val * 64 + r.val = 64 * a.val + r.val; omega))
/-- The two directions, one behind the other. -/
theorem bothQK (x y : FVec Ideal S2x8192x4x128 .f32) (n : Fin 4) (h : Fin 4) (p : Fin 8192) (e : Fin 128) :
    concatenate S4x8192x4x128 0 [⟨S2x8192x4x128, x⟩, ⟨S2x8192x4x128, y⟩] concatenates_S2x8192x4x128_S2x8192x4x128_S4x8192x4x128_d0 (ix4 n p h e) =
      if h0 : n.val < 2 then x (ix4 ⟨n.val, h0⟩ p h e) else y (ix4 ⟨n.val - 2, by omega⟩ p h e) := by
  pointwise
/-- The reversal of the positions. -/
theorem flipQK (x : FVec Ideal S2x8192x4x128 .f32) (n : Fin 2) (h : Fin 4) (p : Fin 8192) (e : Fin 128) :
    Host.reverse [1] x (ix4 n p h e) = x (ix4 n p.rev h e) := by
  pointwise
  rfl
/-- An entry of the carried array. -/
theorem bufQK_at (x : FVec Ideal S2x8192x4x128 .f32) (a : Fin 128) (d b : Fin 2) (h : Fin 4) (r : Fin 64) (e : Fin 128) :
    bufQK x (ix5 a (sq d b) h r e) = x (ix4 b (dirPos d (at' a r)) h e) := by
  unfold bufQK
  rw [orderQK, cutQK, bothQK]
  match d with
  | 0 =>
    rw [dif_pos (show (sq 0 b).val < 2 by show 0 + b.val < 2; omega)]
    exact congrArg (fun z => x (ix4 z (at' a r) h e)) (Fin.ext (Nat.zero_add b.val))
  | 1 =>
    rw [dif_neg (show ¬ (sq 1 b).val < 2 by show ¬ 2 + b.val < 2; omega), flipQK]
    exact congrArg (fun z => x (ix4 z (at' a r).rev h e)) (Fin.ext (Nat.add_sub_cancel_left 2 b.val))

/-- The array made of the values: both directions' sequences, by chunks. -/
def bufV (x : FVec Ideal S2x8192x4x256 .f32) : FVec Ideal S128x4x4x64x256 .f32 :=
  transpose S128x4x4x64x256 [0, 1, 3, 2, 4] (transpose S128x4x64x4x256 [1, 0, 2, 3, 4] (shapeCast S4x128x64x4x256
    (concatenate S4x8192x4x256 0 [⟨S2x8192x4x256, x⟩, ⟨S2x8192x4x256, Host.reverse [1] x⟩] concatenates_S2x8192x4x256_S2x8192x4x256_S4x8192x4x256_d0)
    shapeCasts_S4x8192x4x256_S4x128x64x4x256) transposes_S4x128x64x4x256_S128x4x64x4x256_1_0_2_3_4) transposes_S128x4x64x4x256_S128x4x4x64x256_0_1_3_2_4

/-- The two transpositions. -/
theorem orderV (x : FVec Ideal S4x128x64x4x256 .f32) (a : Fin 128) (n : Fin 4) (h : Fin 4) (r : Fin 64) (e : Fin 256) :
    transpose S128x4x4x64x256 [0, 1, 3, 2, 4] (transpose S128x4x64x4x256 [1, 0, 2, 3, 4] x transposes_S4x128x64x4x256_S128x4x64x4x256_1_0_2_3_4) transposes_S128x4x64x4x256_S128x4x4x64x256_0_1_3_2_4 (ix5 a n h r e)
      = x (ix5 n a r h e) := by
  pointwise
/-- The cut into chunks. -/
theorem cutV (x : FVec Ideal S4x8192x4x256 .f32) (a : Fin 128) (n : Fin 4) (h : Fin 4) (r : Fin 64) (e : Fin 256) :
    shapeCast S4x128x64x4x256 x shapeCasts_S4x8192x4x256_S4x128x64x4x256 (ix5 n a r h e) = x (ix4 n (at' a r) h e) := by
  pointwise
  exact congrArg (fun p => x (ix4 n p h e)) (Fin.ext (by show a.val * 64 + r.val = 64 * a.val + r.val; omega))
/-- The two directions, one behind the other. -/
theorem bothV (x y : FVec Ideal S2x8192x4x256 .f32) (n : Fin 4) (h : Fin 4) (p : Fin 8192) (e : Fin 256) :
    concatenate S4x8192x4x256 0 [⟨S2x8192x4x256, x⟩, ⟨S2x8192x4x256, y⟩] concatenates_S2x8192x4x256_S2x8192x4x256_S4x8192x4x256_d0 (ix4 n p h e) =
      if h0 : n.val < 2 then x (ix4 ⟨n.val, h0⟩ p h e) else y (ix4 ⟨n.val - 2, by omega⟩ p h e) := by
  pointwise
/-- The reversal of the positions. -/
theorem flipV (x : FVec Ideal S2x8192x4x256 .f32) (n : Fin 2) (h : Fin 4) (p : Fin 8192) (e : Fin 256) :
    Host.reverse [1] x (ix4 n p h e) = x (ix4 n p.rev h e) := by
  pointwise
  rfl
/-- An entry of the carried array. -/
theorem bufV_at (x : FVec Ideal S2x8192x4x256 .f32) (a : Fin 128) (d b : Fin 2) (h : Fin 4) (r : Fin 64) (e : Fin 256) :
    bufV x (ix5 a (sq d b) h r e) = x (ix4 b (dirPos d (at' a r)) h e) := by
  unfold bufV
  rw [orderV, cutV, bothV]
  match d with
  | 0 =>
    rw [dif_pos (show (sq 0 b).val < 2 by show 0 + b.val < 2; omega)]
    exact congrArg (fun z => x (ix4 z (at' a r) h e)) (Fin.ext (Nat.zero_add b.val))
  | 1 =>
    rw [dif_neg (show ¬ (sq 1 b).val < 2 by show ¬ 2 + b.val < 2; omega), flipV]
    exact congrArg (fun z => x (ix4 z (at' a r).rev h e)) (Fin.ext (Nat.add_sub_cancel_left 2 b.val))

/-- The two transpositions. -/
theorem orderG (x : FVec Ideal S4x128x64x4 .f32) (a : Fin 128) (n : Fin 4) (h : Fin 4) (r : Fin 64) :
    transpose S128x4x4x64 [0, 1, 3, 2] (transpose S128x4x64x4 [1, 0, 2, 3] x transposes_S4x128x64x4_S128x4x64x4_1_0_2_3) transposes_S128x4x64x4_S128x4x4x64_0_1_3_2 (ix4 a n h r)
      = x (ix4 n a r h) := by
  pointwise
/-- The cut into chunks. -/
theorem cutG (x : FVec Ideal S4x8192x4 .f32) (a : Fin 128) (n : Fin 4) (h : Fin 4) (r : Fin 64) :
    shapeCast S4x128x64x4 x shapeCasts_S4x8192x4_S4x128x64x4 (ix4 n a r h) = x (ix3 n (at' a r) h) := by
  pointwise
  exact congrArg (fun p => x (ix3 n p h)) (Fin.ext (by show a.val * 64 + r.val = 64 * a.val + r.val; omega))
/-- The two directions, one behind the other. -/
theorem bothG (x y : FVec Ideal S2x8192x4 .f32) (n : Fin 4) (h : Fin 4) (p : Fin 8192) :
    concatenate S4x8192x4 0 [⟨S2x8192x4, x⟩, ⟨S2x8192x4, y⟩] concatenates_S2x8192x4_S2x8192x4_S4x8192x4_d0 (ix3 n p h) =
      if h0 : n.val < 2 then x (ix3 ⟨n.val, h0⟩ p h) else y (ix3 ⟨n.val - 2, by omega⟩ p h) := by
  pointwise
/-- The reversal of the positions. -/
theorem flipG (x : FVec Ideal S2x8192x4 .f32) (n : Fin 2) (h : Fin 4) (p : Fin 8192) :
    Host.reverse [1] x (ix3 n p h) = x (ix3 n p.rev h) := by
  pointwise
  rfl
variable (m : (ℓ : Loc nD τ sig) → Buf (Elt Ideal) ℓ) (c : Dev nD)

/-- The first argument. -/
abbrev a0 : FVec Ideal S16384x1024 .f32 := m ((c.tc : Thread nD τ).loc main_arg0)
/-- The second argument. -/
abbrev a1 : FVec Ideal S16384x12288 .f32 := m ((c.tc : Thread nD τ).loc main_arg1)
/-- The third argument. -/
abbrev a2 : FVec Ideal S16384x128 .f32 := m ((c.tc : Thread nD τ).loc main_arg2)

/-- The queries by batch row, position and head. -/
def q4 : FVec Ideal S2x8192x4x128 .f32 := shapeCast S2x8192x4x128 (extractStridedSlice S16384x512 ![0, 0] (a0 m c) slices_S16384x1024_S16384x512_0_0) shapeCasts_S16384x512_S2x8192x4x128
/-- The keys. -/
def k4 : FVec Ideal S2x8192x4x128 .f32 := shapeCast S2x8192x4x128 (extractStridedSlice S16384x512 ![0, 512] (a0 m c) slices_S16384x1024_S16384x512_0_512) shapeCasts_S16384x512_S2x8192x4x128
/-- The values. -/
def v4 : FVec Ideal S2x8192x4x256 .f32 := shapeCast S2x8192x4x256 (extractStridedSlice S16384x1024 ![0, 1024] (a1 m c) slices_S16384x12288_S16384x1024_0_1024) shapeCasts_S16384x1024_S2x8192x4x256
/-- The input gates of both directions. -/
def i4 : FVec Ideal S2x8192x2x4 .f32 := shapeCast S2x8192x2x4 (extractStridedSlice S16384x8 ![0, 0] (a2 m c) slices_S16384x128_S16384x8_0_0) shapeCasts_S16384x8_S2x8192x2x4
/-- The forget gates of both directions. -/
def f4 : FVec Ideal S2x8192x2x4 .f32 := shapeCast S2x8192x2x4 (extractStridedSlice S16384x8 ![0, 8] (a2 m c) slices_S16384x128_S16384x8_0_8) shapeCasts_S16384x8_S2x8192x2x4
/-- The logarithm of the sigmoid as the reference takes it. -/
def lsg (x : FVec Ideal S2x8192x2x4 .f32) : FVec Ideal S2x8192x2x4 .f32 :=
  Host.negf (select (cmpf .une (subf (Host.negf x) (broadcastInDim S2x8192x2x4 ![] bcast_S_S2x8192x2x4 (constant S_ .f32 0x00000000#32))) (subf (Host.negf x) (broadcastInDim S2x8192x2x4 ![] bcast_S_S2x8192x2x4 (constant S_ .f32 0x00000000#32))))
    (addf (Host.negf x) (broadcastInDim S2x8192x2x4 ![] bcast_S_S2x8192x2x4 (constant S_ .f32 0x00000000#32)))
    (addf (maximumf (Host.negf x) (broadcastInDim S2x8192x2x4 ![] bcast_S_S2x8192x2x4 (constant S_ .f32 0x00000000#32)))
      (Host.log1p (Host.exp (Host.negf (Host.absf (subf (Host.negf x) (broadcastInDim S2x8192x2x4 ![] bcast_S_S2x8192x2x4 (constant S_ .f32 0x00000000#32)))))))))
/-- The array made of a gate, whose two directions have columns of their own. -/
def bufGate (x : FVec Ideal S2x8192x2x4 .f32) : FVec Ideal S128x4x4x64 .f32 :=
  transpose S128x4x4x64 [0, 1, 3, 2] (transpose S128x4x64x4 [1, 0, 2, 3] (shapeCast S4x128x64x4
    (concatenate S4x8192x4 0 [⟨S2x8192x4, shapeCast S2x8192x4 (extractStridedSlice S2x8192x1x4 ![0, 0, 0, 0] x slices_S2x8192x2x4_S2x8192x1x4_0_0_0_0) shapeCasts_S2x8192x1x4_S2x8192x4⟩,
      ⟨S2x8192x4, Host.reverse [1] (shapeCast S2x8192x4 (extractStridedSlice S2x8192x1x4 ![0, 0, 1, 0] x slices_S2x8192x2x4_S2x8192x1x4_0_0_1_0) shapeCasts_S2x8192x1x4_S2x8192x4)⟩] concatenates_S2x8192x4_S2x8192x4_S4x8192x4_d0)
    shapeCasts_S4x8192x4_S4x128x64x4) transposes_S4x128x64x4_S128x4x64x4_1_0_2_3) transposes_S128x4x64x4_S128x4x4x64_0_1_3_2

/-- The lower triangle as the reference makes it. -/
def tri2 : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- What the carried array 0 starts with. -/
theorem entry_q : entryContents preI m c (Proc.devRef .tc main_v50_0) = bufQK (q4 m c) := by
  unfold bufQK q4
  simp only [entryContents, afterL_cons, afterL_nil, hostOps0, hostOps0_1, hostOps0_2, hostOps0_3, hostOps0_4, hostOps0_5, hostOps0_6, hostOps0_7, hostOps0_8, hostOps0_9, hostOps0_10, hostOps0_11, hostOps0_12, hostOps0_13]
  after_results_entrywise []
/-- What the carried array 1 starts with. -/
theorem entry_k : entryContents preI m c (Proc.devRef .tc main_v50_1) = bufQK (k4 m c) := by
  unfold bufQK k4
  simp only [entryContents, afterL_cons, afterL_nil, hostOps0, hostOps0_1, hostOps0_2, hostOps0_3, hostOps0_4, hostOps0_5, hostOps0_6, hostOps0_7, hostOps0_8, hostOps0_9, hostOps0_10, hostOps0_11, hostOps0_12, hostOps0_13]
  after_results_entrywise []
/-- What the carried array 2 starts with. -/
theorem entry_v : entryContents preI m c (Proc.devRef .tc main_v50_2) = bufV (v4 m c) := by
  unfold bufV v4
  simp only [entryContents, afterL_cons, afterL_nil, hostOps0, hostOps0_1, hostOps0_2, hostOps0_3, hostOps0_4, hostOps0_5, hostOps0_6, hostOps0_7, hostOps0_8, hostOps0_9, hostOps0_10, hostOps0_11, hostOps0_12, hostOps0_13]
  after_results_entrywise []
/-- What the carried array 3 starts with. -/
theorem entry_i : entryContents preI m c (Proc.devRef .tc main_v50_3) = bufGate (i4 m c) := by
  unfold bufGate i4
  simp only [entryContents, afterL_cons, afterL_nil, hostOps0, hostOps0_1, hostOps0_2, hostOps0_3, hostOps0_4, hostOps0_5, hostOps0_6, hostOps0_7, hostOps0_8, hostOps0_9, hostOps0_10, hostOps0_11, hostOps0_12, hostOps0_13]
  after_results_entrywise []
/-- What the carried array 4 starts with. -/
theorem entry_f : entryContents preI m c (Proc.devRef .tc main_v50_4) = bufGate (lsg (f4 m c)) := by
  unfold bufGate lsg f4
  simp only [entryContents, afterL_cons, afterL_nil, hostOps0, hostOps0_1, hostOps0_2, hostOps0_3, hostOps0_4, hostOps0_5, hostOps0_6, hostOps0_7, hostOps0_8, hostOps0_9, hostOps0_10, hostOps0_11, hostOps0_12, hostOps0_13]
  after_results_entrywise []
/-- What the carried array 5 starts with. -/
theorem entry_tri : entryContents preI m c (Proc.devRef .tc main_v50_5) = tri2 := by
  unfold tri2
  simp only [entryContents, afterL_cons, afterL_nil, hostOps0, hostOps0_1, hostOps0_2, hostOps0_3, hostOps0_4, hostOps0_5, hostOps0_6, hostOps0_7, hostOps0_8, hostOps0_9, hostOps0_10, hostOps0_11, hostOps0_12, hostOps0_13]
  after_results_entrywise []
/-- What the carried array 7 starts with. -/
theorem entry_C : entryContents preI m c (Proc.devRef .tc main_v50_7) = broadcastInDim S4x4x128x256 ![] bcast_S_S4x4x128x256 (constant (F := Ideal) S_ .f32 0x00000000#32) := by
  simp only [entryContents, afterL_cons, afterL_nil, hostOps0, hostOps0_1, hostOps0_2, hostOps0_3, hostOps0_4, hostOps0_5, hostOps0_6, hostOps0_7, hostOps0_8, hostOps0_9, hostOps0_10, hostOps0_11, hostOps0_12, hostOps0_13]
  after_results_entrywise []
/-- What the carried array 8 starts with. -/
theorem entry_n : entryContents preI m c (Proc.devRef .tc main_v50_8) = broadcastInDim S4x4x128 ![] bcast_S_S4x4x128 (constant (F := Ideal) S_ .f32 0x00000000#32) := by
  simp only [entryContents, afterL_cons, afterL_nil, hostOps0, hostOps0_1, hostOps0_2, hostOps0_3, hostOps0_4, hostOps0_5, hostOps0_6, hostOps0_7, hostOps0_8, hostOps0_9, hostOps0_10, hostOps0_11, hostOps0_12, hostOps0_13]
  after_results_entrywise []
/-- What the carried array 9 starts with. -/
theorem entry_m : entryContents preI m c (Proc.devRef .tc main_v50_9) = broadcastInDim S4x4 ![] bcast_S_S4x4 (constant (F := Ideal) S_ .f32 0x00000000#32) := by
  simp only [entryContents, afterL_cons, afterL_nil, hostOps0, hostOps0_1, hostOps0_2, hostOps0_3, hostOps0_4, hostOps0_5, hostOps0_6, hostOps0_7, hostOps0_8, hostOps0_9, hostOps0_10, hostOps0_11, hostOps0_12, hostOps0_13]
  after_results_entrywise []

/-- The triangle by coordinates. -/
theorem tri2_at (r s : Fin 64) : tri2 (ix2 r s) = if s ≤ r then 1#1 else 0#1 := by
  unfold tri2
  pointwise
  rw [show IntOp.addi (BitVec.ofNat 32 r.val) 0#32 = BitVec.ofNat 32 r.val from BitVec.add_zero _,
    WordCmp.cmpi_sge_ofNat (by omega) (by omega)]
  by_cases h : s ≤ r
  · rw [if_pos h, decide_eq_true (show s.val ≤ r.val from h)]
    rfl
  · rw [if_neg h, decide_eq_false (show ¬ s.val ≤ r.val from h)]
    rfl
/-- The logarithm of the sigmoid of a real number. -/
theorem lsg_at (x : FVec Ideal S2x8192x2x4 .f32) (z : ℝ) (b : Fin 2) (p : Fin 8192) (d : Fin 2) (h : Fin 4) (hz : x (ix4 b p d h) = (z : EReal)) :
    lsg x (ix4 b p d h) = ((logSig z : ℝ) : EReal) := by
  have hp : (0 : ℝ) < 1 + Real.exp (-|z|) := by positivity
  unfold lsg
  pointwise
  rw [hz, if_neg (by simp), Ideal.absf_def, ← EReal.coe_neg, coe_abs, abs_neg, ← EReal.coe_neg, Ideal.exp_coe, Ideal.log1p,
    ← EReal.coe_one, ← EReal.coe_add, Ideal.log_coe, if_neg (not_le.2 hp), ← EReal.coe_zero, coe_max, ← EReal.coe_add, ← EReal.coe_neg, logSig]
  congr 1
  rw [neg_add, ← neg_zero, ← min_neg_neg, neg_neg, neg_neg, sub_eq_add_neg, neg_zero]
/-- The queries' part of the first argument. -/
theorem q4_at (b : Fin 2) (p : Fin 8192) (h : Fin 4) (e : Fin 128) : q4 m c (ix4 b p h e) = a0 m c (ix2 ⟨8192 * b.val + p.val, by omega⟩ ⟨128 * h.val + e.val, by omega⟩) := by
  unfold q4
  pointwise
  exact congrArg₂ (fun r l => a0 m c (ix2 r l)) (Fin.ext (by show b.val * 8192 + p.val = 8192 * b.val + p.val; omega))
    (Fin.ext (by show h.val * 128 + e.val = 128 * h.val + e.val; omega))
/-- The keys' part of the first argument. -/
theorem k4_at (b : Fin 2) (p : Fin 8192) (h : Fin 4) (e : Fin 128) : k4 m c (ix4 b p h e) = a0 m c (ix2 ⟨8192 * b.val + p.val, by omega⟩ ⟨512 + 128 * h.val + e.val, by omega⟩) := by
  unfold k4
  pointwise
  exact congrArg₂ (fun r l => a0 m c (ix2 r l)) (Fin.ext (by show b.val * 8192 + p.val = 8192 * b.val + p.val; omega))
    (Fin.ext (by show 512 + (h.val * 128 + e.val) = 512 + 128 * h.val + e.val; omega))
/-- The values' part of the second argument. -/
theorem v4_at (b : Fin 2) (p : Fin 8192) (h : Fin 4) (e : Fin 256) : v4 m c (ix4 b p h e) = a1 m c (ix2 ⟨8192 * b.val + p.val, by omega⟩ ⟨1024 + 256 * h.val + e.val, by omega⟩) := by
  unfold v4
  pointwise
  exact congrArg₂ (fun r l => a1 m c (ix2 r l)) (Fin.ext (by show b.val * 8192 + p.val = 8192 * b.val + p.val; omega))
    (Fin.ext (by show 1024 + (h.val * 256 + e.val) = 1024 + 256 * h.val + e.val; omega))
/-- The input gates' part of the third argument. -/
theorem i4_at (b : Fin 2) (p : Fin 8192) (d : Fin 2) (h : Fin 4) : i4 m c (ix4 b p d h) = a2 m c (ix2 ⟨8192 * b.val + p.val, by omega⟩ ⟨4 * d.val + h.val, by omega⟩) := by
  unfold i4
  pointwise
  exact congrArg₂ (fun r l => a2 m c (ix2 r l)) (Fin.ext (by show b.val * 8192 + p.val = 8192 * b.val + p.val; omega))
    (Fin.ext (by show d.val * 4 + h.val = 4 * d.val + h.val; omega))
/-- The forget gates' part of the third argument. -/
theorem f4_at (b : Fin 2) (p : Fin 8192) (d : Fin 2) (h : Fin 4) : f4 m c (ix4 b p d h) = a2 m c (ix2 ⟨8192 * b.val + p.val, by omega⟩ ⟨8 + 4 * d.val + h.val, by omega⟩) := by
  unfold f4
  pointwise
  exact congrArg₂ (fun r l => a2 m c (ix2 r l)) (Fin.ext (by show b.val * 8192 + p.val = 8192 * b.val + p.val; omega))
    (Fin.ext (by show 8 + (d.val * 4 + h.val) = 8 + 4 * d.val + h.val; omega))
/-- The first direction's column of a gate. -/
theorem gcol0 (x : FVec Ideal S2x8192x2x4 .f32) (b : Fin 2) (p : Fin 8192) (h : Fin 4) : shapeCast S2x8192x4 (extractStridedSlice S2x8192x1x4 ![0, 0, 0, 0] x slices_S2x8192x2x4_S2x8192x1x4_0_0_0_0) shapeCasts_S2x8192x1x4_S2x8192x4 (ix3 b p h) = x (ix4 b p 0 h) := by
  pointwise
/-- The second direction's column of a gate. -/
theorem gcol1 (x : FVec Ideal S2x8192x2x4 .f32) (b : Fin 2) (p : Fin 8192) (h : Fin 4) : shapeCast S2x8192x4 (extractStridedSlice S2x8192x1x4 ![0, 0, 1, 0] x slices_S2x8192x2x4_S2x8192x1x4_0_0_1_0) shapeCasts_S2x8192x1x4_S2x8192x4 (ix3 b p h) = x (ix4 b p 1 h) := by
  pointwise
/-- An entry of a gate's carried array. -/
theorem bufGate_at (x : FVec Ideal S2x8192x2x4 .f32) (a : Fin 128) (d b : Fin 2) (h : Fin 4) (r : Fin 64) :
    bufGate x (ix4 a (sq d b) h r) = x (ix4 b (dirPos d (at' a r)) d h) := by
  unfold bufGate
  rw [orderG, cutG, bothG]
  match d with
  | 0 =>
    rw [dif_pos (show (sq 0 b).val < 2 by show 0 + b.val < 2; omega), gcol0]
    exact congrArg (fun z => x (ix4 z (at' a r) 0 h)) (Fin.ext (Nat.zero_add b.val))
  | 1 =>
    rw [dif_neg (show ¬ (sq 1 b).val < 2 by show ¬ 2 + b.val < 2; omega), flipG, gcol1]
    exact congrArg (fun z => x (ix4 z (at' a r).rev 1 h)) (Fin.ext (Nat.add_sub_cancel_left 2 b.val))

/-- The array row of a position as a direction reads it. -/
theorem row_eq (d b : Fin 2) (a : Fin 128) (r : Fin 64) :
    (⟨8192 * b.val + (dirPos d (at' a r)).val, by omega⟩ : Fin 16384) = rowAt d b (64 * a.val + r.val) := by
  refine Fin.ext ?_
  have ht : (at' a r).val = 64 * a.val + r.val := rfl
  by_cases hd : d = 0
  · have e : dirPos d (at' a r) = at' a r := if_pos hd
    rw [rowAt_zero d b _ hd]
    show 8192 * b.val + (dirPos d (at' a r)).val = _
    rw [e]
    omega
  · have e : dirPos d (at' a r) = (at' a r).rev := if_neg hd
    rw [rowAt_one d b _ hd]
    show 8192 * b.val + (dirPos d (at' a r)).val = _
    rw [e, Fin.val_rev]
    omega

/-- The first argument by coordinates. -/
def xr (r : Fin 16384) (l : Fin 1024) : EReal := a0 m c (ix2 r l)
/-- The second argument by coordinates. -/
def yr (r : Fin 16384) (l : Fin 12288) : EReal := a1 m c (ix2 r l)
/-- The third argument by coordinates. -/
def gr (r : Fin 16384) (l : Fin 128) : EReal := a2 m c (ix2 r l)

section
variable (hR : MlstmSeq.Real (xr m c) (yr m c) (gr m c)) (a : Fin 128) (d b : Fin 2) (h : Fin 4) (r : Fin 64)
include hR
/-- The carried queries. -/
theorem q_in (e : Fin 128) : bufQK (q4 m c) (ix5 a (sq d b) h r e) = ((qS (xr m c) d b h (64 * a.val + r.val) e : ℝ) : EReal) := by
  rw [bufQK_at, q4_at, row_eq]
  exact (hR.x _ _).symm
/-- The carried keys. -/
theorem k_in (e : Fin 128) : bufQK (k4 m c) (ix5 a (sq d b) h r e) = ((kS (xr m c) d b h (64 * a.val + r.val) e : ℝ) : EReal) := by
  rw [bufQK_at, k4_at, row_eq]
  exact (hR.x _ _).symm
/-- The carried values. -/
theorem v_in (e : Fin 256) : bufV (v4 m c) (ix5 a (sq d b) h r e) = ((vS (yr m c) d b h (64 * a.val + r.val) e : ℝ) : EReal) := by
  rw [bufV_at, v4_at, row_eq]
  exact (hR.y _ _ (by show 1024 ≤ 1024 + 256 * h.val + e.val; omega) (by show 1024 + 256 * h.val + e.val < 2048; omega)).symm
/-- The carried input gates. -/
theorem i_in : bufGate (i4 m c) (ix4 a (sq d b) h r) = ((liS (gr m c) d b h (64 * a.val + r.val) : ℝ) : EReal) := by
  rw [bufGate_at, i4_at, row_eq]
  exact (hR.g _ _ (by show 4 * d.val + h.val < 16; omega)).symm
/-- The carried logarithms of the forget gates. -/
theorem f_in : bufGate (lsg (f4 m c)) (ix4 a (sq d b) h r) = ((logSig (lgS (gr m c) d b h (64 * a.val + r.val)) : ℝ) : EReal) := by
  rw [bufGate_at]
  refine lsg_at _ _ _ _ _ _ ?_
  rw [f4_at, row_eq]
  exact (hR.g _ _ (by show 8 + 4 * d.val + h.val < 16; omega)).symm
end
end Cert.MlstmRefIdeal.Value
-- ==== Proof.MlstmRef.lean ====
/-
  What the reference computes: the carried arrays after any number of trips, and the result made of the last ones.
-/
module

public import proofs.«01_k».proof.Proof.MlstmEntry

@[expose] public section

set_option maxRecDepth 16384

noncomputable section

namespace Cert.MlstmRefIdeal.Value

open Cert.MlstmRefIdeal Cert.MlstmRefIdeal.Gen Idealize.ShloMosaic Idealize.ShloMosaic.TcCoe Idealize.SL.Sem
open Idealize.ShloMosaic.Tactic Cert.MlstmMath Cert.MlstmSeq Idealize.ShloMosaic.StableHlo HostLoop

variable (m : (ℓ : Loc nD τ sig) → Buf (Elt Ideal) ℓ) (c : Dev nD)

/-- The logarithms of the forget gates of a head. -/
def lfS (d b : Fin 2) (h : Fin 4) (s : ℕ) : ℝ := logSig (lgS (gr m c) d b h s)

/-- After `k` trips the loop carries the sequences, the counter, the states at the chunk's end and the outputs of the
    chunks before. -/
structure Inv (k : ℕ) (V : Valuation τ sig (Elt Ideal)) : Prop where
  hq : bq V = bufQK (q4 m c)
  hk : bk V = bufQK (k4 m c)
  hv : bv V = bufV (v4 m c)
  hi : bi V = bufGate (i4 m c)
  hf : bf V = bufGate (lsg (f4 m c))
  ht : btri V = tri2
  ctr : bctr V = fun _ => BitVec.ofNat 32 k
  hC : ∀ d b h e j, bC V (ix4 (sq d b) h e j) =
    ((Cst (lfS m c d b h) (liS (gr m c) d b h) (kS (xr m c) d b h) (vS (yr m c) d b h) (64 * k) e j : ℝ) : EReal)
  hn : ∀ d b h e, bn V (ix3 (sq d b) h e) = ((Nst (lfS m c d b h) (liS (gr m c) d b h) (kS (xr m c) d b h) (64 * k) e : ℝ) : EReal)
  hm : ∀ d b h, bm V (ix2 (sq d b) h) = ((M (lfS m c d b h) (liS (gr m c) d b h) (64 * k) : ℝ) : EReal)
  ho : ∀ (a : Fin 128), a.val < k → ∀ d b h r j, bo V (ix5 a (sq d b) h r j) =
    ((MlstmSeq.out (xr m c) (yr m c) (gr m c) d b h (64 * a.val + r.val) j : ℝ) : EReal)

/-- The start. -/
theorem inv_zero : Inv m c 0 (entryContents preI m c) where
  hq := entry_q m c
  hk := entry_k m c
  hv := entry_v m c
  hi := entry_i m c
  hf := entry_f m c
  ht := entry_tri m c
  ctr := ctr_entry m c
  hC d b h e j := by
    show (entryContents preI m c (Proc.devRef .tc main_v50_7) : FVec Ideal S4x4x128x256 .f32) _ = _
    rw [entry_C, Cst, T_zero]
    pointwise
    rfl
  hn d b h e := by
    show (entryContents preI m c (Proc.devRef .tc main_v50_8) : FVec Ideal S4x4x128 .f32) _ = _
    rw [entry_n, Nst, T_zero]
    pointwise
    rfl
  hm d b h := by
    show (entryContents preI m c (Proc.devRef .tc main_v50_9) : FVec Ideal S4x4 .f32) _ = _
    rw [entry_m]
    pointwise
    rfl
  ho a h := absurd h (Nat.not_lt_zero _)

variable {m c} (hR : MlstmSeq.Real (xr m c) (yr m c) (gr m c)) {k : ℕ} {V : Valuation τ sig (Elt Ideal)}
include hR

/-- What a trip finds. -/
theorem Inv.before (I : Inv m c k V) (hk : k < 128) (d b : Fin 2) (h : Fin 4) :
    Before V k (sq d b) h (lfS m c d b h) (liS (gr m c) d b h) (qS (xr m c) d b h) (kS (xr m c) d b h) (vS (yr m c) d b h) where
  ctr := I.ctr
  lt := hk
  hq r e := by rw [I.hq]; exact q_in m c hR ⟨k, hk⟩ d b h r e
  hk r e := by rw [I.hk]; exact k_in m c hR ⟨k, hk⟩ d b h r e
  hv r e := by rw [I.hv]; exact v_in m c hR ⟨k, hk⟩ d b h r e
  hi r := by rw [I.hi]; exact i_in m c hR ⟨k, hk⟩ d b h r
  hf r := by rw [I.hf]; exact f_in m c hR ⟨k, hk⟩ d b h r
  htri r s := by rw [I.ht]; exact tri2_at r s
  hC := I.hC d b h
  hn := I.hn d b h
  hm := I.hm d b h

/-- A trip. -/
theorem Inv.next (I : Inv m c k V) (hk : k < 128) : Inv m c (k + 1) (STEP V) where
  hq := (STEP_main_v50_0 V).trans I.hq
  hk := (STEP_main_v50_1 V).trans I.hk
  hv := (STEP_main_v50_2 V).trans I.hv
  hi := (STEP_main_v50_3 V).trans I.hi
  hf := (STEP_main_v50_4 V).trans I.hf
  ht := (STEP_main_v50_5 V).trans I.ht
  ctr := (STEP_main_v50_6 V).trans (by
    show addi (bctr V) (constantI S_ 32 1#32) = _
    rw [I.ctr]
    funext i
    exact (BitVec.ofNat_add k 1).symm)
  hC d b h e j := (congrFun (STEP_main_v50_7 V) _).trans (C_next (I.before hR hk d b h) e j)
  hn d b h e := (congrFun (STEP_main_v50_8 V) _).trans (N_next (I.before hR hk d b h) e)
  hm d b h := (congrFun (STEP_main_v50_9 V) _).trans (M_next (I.before hR hk d b h))
  ho a ha d b h r j := by
    refine (congrFun (STEP_main_v50_10 V) _).trans ?_
    by_cases hak : a.val = k
    · subst hak
      exact O_next (I.before hR hk d b h) r j
    · exact (O_rest (I.before hR hk d b h) a hak r j).trans (I.ho a (by omega) d b h r j)

/-- All trips. -/
theorem inv_all : ∀ k, k ≤ 128 → Inv m c k (STEP^[k] (entryContents preI m c))
  | 0, _ => inv_zero m c
  | k + 1, hk => by
    rw [Function.iterate_succ_apply']
    exact (inv_all k (by omega)).next hR (by omega)

omit hR

/-- The result made of the carried outputs. -/
def outOf (o : FVec Ideal S128x4x4x64x256 .f32) : FVec Ideal S2x16384x1024 .f32 :=
  shapeCast S2x16384x1024 (concatenate S2x2x8192x4x256 0 [⟨S1x2x8192x4x256, (broadcastInDim S1x2x8192x4x256 ![1, 2, 3, 4] bcast_S2x8192x4x256_S1x2x8192x4x256_1_2_3_4 (extractStridedSlice S2x8192x4x256 ![0, 0, 0, 0] (shapeCast S4x8192x4x256 (transpose S4x128x64x4x256 [1, 0, 2, 3, 4] (transpose S128x4x64x4x256 [0, 1, 3, 2, 4] o transposes_S128x4x4x64x256_S128x4x64x4x256_0_1_3_2_4) transposes_S128x4x64x4x256_S4x128x64x4x256_1_0_2_3_4) shapeCasts_S4x128x64x4x256_S4x8192x4x256) slices_S4x8192x4x256_S2x8192x4x256_0_0_0_0))⟩, ⟨S1x2x8192x4x256, (broadcastInDim S1x2x8192x4x256 ![1, 2, 3, 4] bcast_S2x8192x4x256_S1x2x8192x4x256_1_2_3_4 (Host.reverse [1] (extractStridedSlice S2x8192x4x256 ![2, 0, 0, 0] (shapeCast S4x8192x4x256 (transpose S4x128x64x4x256 [1, 0, 2, 3, 4] (transpose S128x4x64x4x256 [0, 1, 3, 2, 4] o transposes_S128x4x4x64x256_S128x4x64x4x256_0_1_3_2_4) transposes_S128x4x64x4x256_S4x128x64x4x256_1_0_2_3_4) shapeCasts_S4x128x64x4x256_S4x8192x4x256) slices_S4x8192x4x256_S2x8192x4x256_2_0_0_0)))⟩] concatenates_S1x2x8192x4x256_S1x2x8192x4x256_S2x2x8192x4x256_d0) shapeCasts_S2x2x8192x4x256_S2x16384x1024

/-- The result's rows and columns, apart. -/
theorem split_at (x : FVec Ideal S2x2x8192x4x256 .f32) (d : Fin 2) (r : Fin 16384) (l : Fin 1024) :
    shapeCast S2x16384x1024 x shapeCasts_S2x2x8192x4x256_S2x16384x1024 (ix3 d r l) =
      x (ix5 d ⟨r.val / 8192, by omega⟩ ⟨r.val % 8192, by omega⟩ ⟨l.val / 256, by omega⟩ ⟨l.val % 256, by omega⟩) := by
  pointwise
/-- The directions, one behind the other. -/
theorem dirs_at (x y : FVec Ideal S2x8192x4x256 .f32) (d b : Fin 2) (p : Fin 8192) (h : Fin 4) (j : Fin 256) :
    concatenate S2x2x8192x4x256 0 [⟨S1x2x8192x4x256, broadcastInDim S1x2x8192x4x256 ![1, 2, 3, 4] bcast_S2x8192x4x256_S1x2x8192x4x256_1_2_3_4 x⟩, ⟨S1x2x8192x4x256, broadcastInDim S1x2x8192x4x256 ![1, 2, 3, 4] bcast_S2x8192x4x256_S1x2x8192x4x256_1_2_3_4 y⟩] concatenates_S1x2x8192x4x256_S1x2x8192x4x256_S2x2x8192x4x256_d0
      (ix5 d b p h j) = if d = 0 then x (ix4 b p h j) else y (ix4 b p h j) := by
  pointwise
  by_cases hd : d = 0
  · subst hd
    rfl
  · rw [if_neg hd, dif_neg (by have := Fin.val_ne_of_ne hd; simp only [Fin.val_zero] at this; omega)]
/-- The first direction's sequences. -/
theorem half0_at (x : FVec Ideal S4x8192x4x256 .f32) (b : Fin 2) (p : Fin 8192) (h : Fin 4) (j : Fin 256) :
    extractStridedSlice S2x8192x4x256 ![0, 0, 0, 0] x slices_S4x8192x4x256_S2x8192x4x256_0_0_0_0 (ix4 b p h j) = x (ix4 (sq 0 b) p h j) := by
  pointwise
  exact congrArg (fun z => x (ix4 z p h j)) (Fin.ext (Nat.zero_add b.val).symm)
/-- The second direction's sequences. -/
theorem half1_at (x : FVec Ideal S4x8192x4x256 .f32) (b : Fin 2) (p : Fin 8192) (h : Fin 4) (j : Fin 256) :
    extractStridedSlice S2x8192x4x256 ![2, 0, 0, 0] x slices_S4x8192x4x256_S2x8192x4x256_2_0_0_0 (ix4 b p h j) = x (ix4 (sq 1 b) p h j) := by
  pointwise
  rfl
/-- A position as a chunk's row. -/
theorem join_at (x : FVec Ideal S4x128x64x4x256 .f32) (n : Fin 4) (p : Fin 8192) (h : Fin 4) (j : Fin 256) :
    shapeCast S4x8192x4x256 x shapeCasts_S4x128x64x4x256_S4x8192x4x256 (ix4 n p h j) = x (ix5 n ⟨p.val / 64, by omega⟩ ⟨p.val % 64, by omega⟩ h j) := by
  pointwise
/-- The two transpositions. -/
theorem back_at (o : FVec Ideal S128x4x4x64x256 .f32) (n : Fin 4) (a : Fin 128) (r : Fin 64) (h : Fin 4) (j : Fin 256) :
    transpose S4x128x64x4x256 [1, 0, 2, 3, 4] (transpose S128x4x64x4x256 [0, 1, 3, 2, 4] o transposes_S128x4x4x64x256_S128x4x64x4x256_0_1_3_2_4) transposes_S128x4x64x4x256_S4x128x64x4x256_1_0_2_3_4 (ix5 n a r h j) = o (ix5 a n h r j) := by
  pointwise

/-- The outputs of one direction in the order of its positions. -/
theorem line_at (o : FVec Ideal S128x4x4x64x256 .f32) (f : Fin 2 → Fin 2 → Fin 4 → ℕ → Fin 256 → ℝ)
    (ho : ∀ a d b h r j, o (ix5 a (sq d b) h r j) = ((f d b h (64 * a.val + r.val) j : ℝ) : EReal)) (d b : Fin 2) (p : Fin 8192) (h : Fin 4) (j : Fin 256) :
    shapeCast S4x8192x4x256 (transpose S4x128x64x4x256 [1, 0, 2, 3, 4] (transpose S128x4x64x4x256 [0, 1, 3, 2, 4] o transposes_S128x4x4x64x256_S128x4x64x4x256_0_1_3_2_4) transposes_S128x4x64x4x256_S4x128x64x4x256_1_0_2_3_4) shapeCasts_S4x128x64x4x256_S4x8192x4x256
      (ix4 (sq d b) p h j) = ((f d b h p.val j : ℝ) : EReal) := by
  rw [join_at, back_at, ho]
  exact congrArg (fun s => ((f d b h s j : ℝ) : EReal)) (Nat.div_add_mod p.val 64)

/-- The result by coordinates. -/
theorem outOf_at (o : FVec Ideal S128x4x4x64x256 .f32) (f : Fin 2 → Fin 2 → Fin 4 → ℕ → Fin 256 → ℝ)
    (ho : ∀ a d b h r j, o (ix5 a (sq d b) h r j) = ((f d b h (64 * a.val + r.val) j : ℝ) : EReal)) (d : Fin 2) (r : Fin 16384) (l : Fin 1024) :
    outOf o (ix3 d r l) = ((f d ⟨r.val / 8192, by omega⟩ ⟨l.val / 256, by omega⟩ (if d = 0 then r.val % 8192 else 8191 - r.val % 8192) ⟨l.val % 256, by omega⟩ : ℝ) : EReal) := by
  unfold outOf
  rw [split_at, dirs_at]
  match d with
  | 0 =>
    rw [if_pos rfl, if_pos rfl, half0_at, line_at o f ho]
  | 1 =>
    rw [if_neg (by decide), if_neg (by decide), flipV, half1_at, line_at o f ho]
    refine congrArg (fun s => ((f 1 _ _ s _ : ℝ) : EReal)) ?_
    rw [Fin.val_rev]
    show 8192 - (r.val % 8192 + 1) = 8191 - r.val % 8192
    omega

include hR
/-- The reference's result. -/
theorem result : out_main_v60 (STEP^[128] (entryContents preI m c)) =
    fun i : S2x16384x1024.Idx => ((res (xr m c) (yr m c) (gr m c) (i 0) (i 1) (i 2) : ℝ) : EReal) := by
  have I := inv_all hR 128 le_rfl
  show outOf (bo (STEP^[128] (entryContents preI m c))) = _
  funext i
  obtain ⟨d, r, l, rfl⟩ : ∃ (d : Fin 2) (r : Fin 16384) (l : Fin 1024), i = ix3 d r l := ⟨i 0, i 1, i 2, eq_ix3 i⟩
  exact outOf_at _ (fun d b h s j => MlstmSeq.out (xr m c) (yr m c) (gr m c) d b h s j) (fun a => I.ho a a.isLt) d r l

end Cert.MlstmRefIdeal.Value
-- ==== Proof.MlstmPre.lean ====
/-
  What the condition on the arguments says: every entry that the call reads is a real number.
-/
module

public import proofs.«01_k».proof.Pre_finite_mlstm
public import proofs.«01_k».proof.Proof.MlstmSeq
public import Idealize.ShloMosaic.Lib.Pointwise

@[expose] public section

set_option maxRecDepth 16384

noncomputable section

namespace Cert.Pre_finite_mlstm

open Idealize.ShloMosaic Idealize.ShloMosaic.Tactic

/-- The side conditions of the condition's own operations. -/
theorem facts : Facts := ⟨by decide, by decide, by decide, by decide⟩

/-- A number whose absolute value is below infinity is real. -/
theorem real_of_lt (x : EReal) (h : max x (-x) < ⊤) : ((x.toReal : ℝ) : EReal) = x := by
  refine EReal.coe_toReal (fun e => ?_) fun e => ?_
  · subst e; simp at h
  · subst e; simp at h

/-- The pattern of infinity. -/
theorem top_bits : Ideal.ofBits .f32 0x7F800000#32 = ⊤ := by
  simp [Ideal.ofBits, Ideal.ieee]

variable [Facts]

section
variable {x : FVec Ideal S16384x1024 .f32} {y : FVec Ideal S16384x12288 .f32} {g : FVec Ideal S16384x128 .f32}
  (h : fn x y g = fun _ => 1#1)
include h

/-- Each of the columns that are read, side by side, is real. -/
theorem real_entry (r : Fin 16384) (l : Fin 2064) (z : EReal)
    (hz : (if h : l.val < 1024 then x (ix2 r ⟨l.val, h⟩) else if h' : l.val - 1024 < 1024 then y (ix2 r ⟨1024 + (l.val - 1024), by omega⟩)
      else g (ix2 r ⟨l.val - 1024 - 1024, by omega⟩)) = z) : ((z.toReal : ℝ) : EReal) = z := by
  have e := congrFun h (ix2 r l)
  unfold fn at e
  revert e
  pointwise
  intro e
  subst hz
  refine real_of_lt _ ?_
  rw [top_bits] at e
  by_contra hn
  rw [decide_eq_false (by exact hn)] at e
  exact absurd e (by decide)

/-- The condition makes every entry that is read a real number. -/
theorem real : MlstmSeq.Real (fun r l => x (ix2 r l)) (fun r l => y (ix2 r l)) (fun r l => g (ix2 r l)) where
  x r l := real_entry h r ⟨l.val, by omega⟩ _ (dif_pos l.isLt)
  y r l h1 h2 := real_entry h r ⟨l.val, by omega⟩ _ ((dif_neg (by show ¬ l.val < 1024; omega)).trans ((dif_pos (by show l.val - 1024 < 1024; omega)).trans
    (congrArg (fun z => y (ix2 r z)) (Fin.ext (by show 1024 + (l.val - 1024) = l.val; omega)))))
  g r l h1 := real_entry h r ⟨2048 + l.val, by omega⟩ _ ((dif_neg (by show ¬ 2048 + l.val < 1024; omega)).trans ((dif_neg (by show ¬ 2048 + l.val - 1024 < 1024; omega)).trans
    (congrArg (fun z => g (ix2 r z)) (Fin.ext (by show 2048 + l.val - 1024 - 1024 = l.val; omega)))))
end

end Cert.Pre_finite_mlstm

end
-- ==== Proof.PostMath.lean ====
/-
  The mixer's end for one row: the two normalised and gated branches, their merge, the layer norm, and the affinities.
-/
module

public import proofs.«01_k».proof.Proof.MlstmMath
public import Idealize.ShloMosaic.PureOps

@[expose] public section

noncomputable section

namespace Cert.PostMath

open Idealize.ShloMosaic

/-- What is added to a mean square before its root. -/
abbrev eps : EReal := Ideal.ofBits .f32 925353388#32

/-- An entry over the root of the mean square of all `c` entries. -/
def rms (c : EReal) {n : ℕ} (x : Fin n → EReal) (l : Fin n) : EReal :=
  x l * Ideal.rsqrt (Ideal.div (∑ e, x e * x e) c + eps)

/-- The place of an entry of the first branch's head. -/
def atM (h : Fin 4) (v : Fin 256) : Fin 1024 := ⟨h.val * 256 + v.val, by omega⟩

/-- The place of an entry of the second branch's head. -/
def atH (h : Fin 8) (v : Fin 128) : Fin 1024 := ⟨h.val * 128 + v.val, by omega⟩

/-- The number of entries of a head of the first branch. -/
abbrev c256 : EReal := Ideal.ofBits .f32 1132462080#32
/-- The number of entries of a head of the second branch. -/
abbrev c128 : EReal := Ideal.ofBits .f32 1124073472#32
/-- The number of columns of the layer. -/
abbrev c2048 : EReal := Ideal.ofBits .f32 1157627904#32
/-- The factor of the residual. -/
abbrev alpha : EReal := Ideal.ofBits .f32 1066940400#32

/-- The first branch: each head normalised, scaled, gated by the sigmoid, against its weights. -/
def branchM (a g o : Fin 1024 → EReal) (w : Fin 1024 → Fin 2048 → EReal) (d : Fin 2048) : EReal :=
  ∑ h : Fin 4, ∑ v : Fin 256, rms c256 (fun v => a (atM h v)) v * g (atM h v) * Ideal.logistic (o (atM h v)) * w (atM h v) d

/-- The second branch: each head normalised, scaled, gated by its silu, against its weights. -/
def branchH (a g o : Fin 1024 → EReal) (w : Fin 1024 → Fin 2048 → EReal) (d : Fin 2048) : EReal :=
  ∑ h : Fin 8, ∑ v : Fin 128, rms c128 (fun v => a (atH h v)) v * g (atH h v) * (o (atH h v) * Ideal.logistic (o (atH h v))) * w (atH h v) d

/-- The residual plus the merged branches against the output weights. -/
def mixed (x gm gh ym yh : Fin 2048 → EReal) (w : Fin 2048 → Fin 2048 → EReal) (d : Fin 2048) : EReal :=
  alpha * x d + ∑ j, (Ideal.logistic (gm j) * ym j + Ideal.logistic (gh j) * yh j) * w j d

/-- The layer norm of a row. -/
def norm (x g b : Fin 2048 → EReal) (d : Fin 2048) : EReal :=
  (x d - Ideal.div (∑ e, x e) c2048)
    * Ideal.rsqrt (Ideal.div (∑ e, (x e - Ideal.div (∑ e, x e) c2048) * (x e - Ideal.div (∑ e, x e) c2048)) c2048 + eps) * g d + b d

/-- The router's logits of a row. -/
def logits (x : Fin 2048 → EReal) (w : Fin 2048 → Fin 16 → EReal) (e : Fin 16) : EReal := ∑ d, x d * w d e

/-- The softmax of sixteen logits. -/
def soft (l : Fin 16 → EReal) (e : Fin 16) : EReal :=
  Ideal.div (Ideal.exp (l e - Finset.fold max ⊥ l Finset.univ)) (∑ e, Ideal.exp (l e - Finset.fold max ⊥ l Finset.univ))

/-- The affinities, with zeros after the sixteen. -/
def aff (l : Fin 16 → EReal) (e : Fin 128) : EReal := if h : e.val < 16 then soft l ⟨e.val, h⟩ else 0

/-! ## Sums by heads -/

/-- A sum over the first branch's places is a sum over its heads. -/
theorem sum_M (f : Fin 1024 → EReal) : ∑ x, f x = ∑ h : Fin 4, ∑ v : Fin 256, f (atM h v) := by
  rw [← Equiv.sum_comp (finProdFinEquiv (m := 4) (n := 256)) f, Fintype.sum_prod_type]
  refine Finset.sum_congr rfl fun h _ => Finset.sum_congr rfl fun v _ => congrArg f (Fin.ext ?_)
  show v.val + 256 * h.val = h.val * 256 + v.val
  omega

/-- A sum over the second branch's places is a sum over its heads. -/
theorem sum_H (f : Fin 1024 → EReal) : ∑ x, f x = ∑ h : Fin 8, ∑ v : Fin 128, f (atH h v) := by
  rw [← Equiv.sum_comp (finProdFinEquiv (m := 8) (n := 128)) f, Fintype.sum_prod_type]
  refine Finset.sum_congr rfl fun h _ => Finset.sum_congr rfl fun v _ => congrArg f (Fin.ext ?_)
  show v.val + 128 * h.val = h.val * 128 + v.val
  omega

/-! ## Real numbers -/

/-- An extended real that is a real number. -/
def IsR (x : EReal) : Prop := ∃ r : ℝ, x = r

/-- Sums of two. -/
theorem IsR.add {x y : EReal} : IsR x → IsR y → IsR (x + y) := fun ⟨a, ha⟩ ⟨b, hb⟩ => ⟨a + b, by rw [ha, hb]; rfl⟩
/-- Products. -/
theorem IsR.mul {x y : EReal} : IsR x → IsR y → IsR (x * y) := fun ⟨a, ha⟩ ⟨b, hb⟩ => ⟨a * b, by rw [ha, hb]; rfl⟩

/-- Sums. -/
theorem IsR.sum {ι : Type*} (A : Finset ι) {f : ι → EReal} (h : ∀ i, IsR (f i)) : IsR (∑ i ∈ A, f i) := by
  choose g hg using h
  exact ⟨∑ i ∈ A, g i, by rw [← MlstmMath.coe_sum]; exact Finset.sum_congr rfl fun i _ => hg i⟩

/-- A positive real number. -/
def IsPos (x : EReal) : Prop := ∃ r : ℝ, 0 < r ∧ x = r

/-- A normal number without its sign bit is positive. -/
theorem pos_bits {b : BitVec 32} (hn : (b.extractLsb' (8 + 23) 1 == 1#1) = false) (h1 : ¬ (b.extractLsb' 23 8).toNat = 2 ^ 8 - 1)
    (h0 : ¬ (b.extractLsb' 23 8).toNat = 0) : IsPos (Ideal.ofBits .f32 b) := by
  show IsPos (Ideal.ieee 8 23 b)
  unfold Ideal.ieee
  simp only [hn]
  rw [if_neg h1, if_neg h0]
  refine ⟨_, ?_, rfl⟩
  have : (0 : ℝ) < ((2 ^ 23 + (b.extractLsb' 0 23).toNat : ℕ) : ℝ) := Nat.cast_pos.mpr (by positivity)
  simp only [Bool.false_eq_true, if_false]
  positivity

/-- The number of columns is positive. -/
theorem pos_2048 : IsPos c2048 :=
  pos_bits (by decide) (by decide) (by decide)
/-- The number below the root is positive. -/
theorem pos_eps : IsPos eps :=
  pos_bits (by decide) (by decide) (by decide)
/-- The inverse root of a mean square and a positive number. -/
theorem root_real {n : ℕ} {x : Fin n → EReal} {c : EReal} (hx : ∀ i, IsR (x i)) (hc : IsPos c) :
    IsR (Ideal.rsqrt (Ideal.div (∑ e, x e * x e) c + eps)) := by
  choose g hg using hx
  obtain ⟨b, hb, hc⟩ := hc
  obtain ⟨p, hp, he⟩ := pos_eps
  have hs : ∑ e, x e * x e = ((∑ e, g e * g e : ℝ) : EReal) := by
    rw [← MlstmMath.coe_sum]
    exact Finset.sum_congr rfl fun i _ => by rw [hg]; rfl
  have h0 : 0 ≤ ∑ e, g e * g e := Finset.sum_nonneg fun i _ => mul_self_nonneg _
  have h1 : 0 < (∑ e, g e * g e) * (1 / b) + p := by positivity
  have h2 : Ideal.div (∑ e, x e * x e) c + eps = (((∑ e, g e * g e) * (1 / b) + p : ℝ) : EReal) := by
    rw [hs, hc, he, Ideal.div_coe hb.ne']
    rfl
  rw [h2, Ideal.rsqrt_coe, if_neg h1.le.not_gt, if_neg h1.ne']
  exact ⟨_, rfl⟩

/-- A square is not negative. -/
theorem sq_nonneg (y : EReal) : 0 ≤ y * y := by
  induction y using EReal.rec with
  | bot => simp
  | coe r => rw [← EReal.coe_mul]; exact EReal.coe_nonneg.mpr (mul_self_nonneg r)
  | top => simp

/-- The square of an infinity. -/
theorem sq_top {y : EReal} (h : ¬ IsR y) : y * y = ⊤ := by
  induction y using EReal.rec with
  | bot => simp
  | coe r => exact absurd ⟨r, rfl⟩ h
  | top => simp

/-- An entry against the inverse root of the mean square of its row is real, whatever the row is: an infinite entry makes
    the inverse root zero. -/
theorem scaled_real {n : ℕ} (y : Fin n → EReal) {c : EReal} (hc : IsPos c) (d : Fin n) :
    IsR (y d * Ideal.rsqrt (Ideal.div (∑ e, y e * y e) c + eps)) := by
  by_cases h : ∀ i, IsR (y i)
  · exact (h d).mul (root_real h hc)
  · obtain ⟨i, hi⟩ := not_forall.mp h
    obtain ⟨b, hb, hc⟩ := hc
    obtain ⟨p, hp, he⟩ := pos_eps
    have hs : ∑ e, y e * y e = ⊤ := by
      refine top_le_iff.mp ?_
      rw [← sq_top hi]
      exact Finset.single_le_sum (f := fun e => y e * y e) (fun e _ => sq_nonneg (y e)) (Finset.mem_univ i)
    have h1 : (0 : ℝ) < 1 / b := by positivity
    rw [hs, hc, he, Ideal.div_coe hb.ne', EReal.top_mul_coe_of_pos h1, EReal.top_add_coe, Ideal.rsqrt_top, mul_zero]
    exact ⟨0, rfl⟩

/-- The layer norm of any row is real where its scales and offsets are. -/
theorem norm_real (x : Fin 2048 → EReal) {g b : Fin 2048 → EReal} (hg : ∀ i, IsR (g i)) (hb : ∀ i, IsR (b i)) (d : Fin 2048) :
    IsR (norm x g b d) :=
  ((scaled_real (fun e => x e - Ideal.div (∑ e, x e) c2048) pos_2048 d).mul (hg _)).add (hb _)

/-! ## The kernel's affinities -/

/-- A logit of the row split into its rounded part and what the rounding left, against weights split the same way: nothing is
    left, so that the two further products are zero. -/
theorem logit_split {x : Fin 2048 → EReal} {w : Fin 2048 → EReal} (hx : ∀ i, IsR (x i)) (hw : ∀ i, IsR (w i)) :
    (∑ d, x d * w d) + (∑ d, (x d - x d) * w d) + ∑ d, x d * (w d - w d) = ∑ d, x d * w d := by
  have z : ∀ y : EReal, IsR y → y - y = 0 := by
    rintro _ ⟨r, rfl⟩
    rw [← EReal.coe_sub, sub_self]
    rfl
  simp only [z _ (hx _), z _ (hw _), zero_mul, mul_zero, Finset.sum_const_zero, add_zero]

/-- The sixteen logits among 128, the others at minus infinity. -/
def wide (l : Fin 16 → EReal) (e : Fin 128) : EReal := if h : e.val < 16 then l ⟨e.val, h⟩ else ⊥

/-- The largest of the 128 is the largest of the sixteen. -/
theorem wide_max (l : Fin 16 → EReal) : Finset.fold max ⊥ (wide l) Finset.univ = Finset.fold max ⊥ l Finset.univ := by
  refine le_antisymm (α := EReal) ?_ ?_
  · refine Finset.fold_max_le _ |>.mpr ⟨bot_le, fun e _ => ?_⟩
    unfold wide
    split
    · exact Finset.le_fold_max _ |>.mpr (Or.inr ⟨_, Finset.mem_univ _, le_rfl⟩)
    · exact bot_le
  · refine Finset.fold_max_le _ |>.mpr ⟨bot_le, fun e _ => ?_⟩
    refine Finset.le_fold_max _ |>.mpr (Or.inr ⟨⟨e.val, by omega⟩, Finset.mem_univ _, ?_⟩)
    exact le_of_eq (dif_pos (c := e.val < 16) e.isLt : wide l ⟨e.val, by omega⟩ = _).symm

/-- The largest of sixteen real numbers is real. -/
theorem max_real {l : Fin 16 → EReal} (hl : ∀ e, IsR (l e)) : IsR (Finset.fold max ⊥ l Finset.univ) := by
  have h1 : Finset.fold max ⊥ l Finset.univ ≠ ⊤ := by
    refine ((Finset.fold_max_lt _).mpr ⟨bot_lt_top, fun e _ => ?_⟩).ne
    obtain ⟨r, hr⟩ := hl e
    rw [hr]
    exact EReal.coe_lt_top r
  have h2 : Finset.fold max ⊥ l Finset.univ ≠ ⊥ := by
    refine (lt_of_lt_of_le ?_ (Finset.le_fold_max (l 0) |>.mpr (Or.inr ⟨0, Finset.mem_univ _, le_rfl⟩))).ne'
    obtain ⟨r, hr⟩ := hl 0
    rw [hr]
    exact EReal.bot_lt_coe r
  exact ⟨_, (EReal.coe_toReal h1 h2).symm⟩

/-- The exponential of a difference with minus infinity is zero. -/
theorem exp_bot_sub {y : EReal} (hy : IsR y) : Ideal.exp (⊥ - y) = 0 := by
  obtain ⟨r, rfl⟩ := hy
  rfl

/-- The sum of the 128 exponentials is the sum of the sixteen. -/
theorem wide_sum {l : Fin 16 → EReal} {y : EReal} (hy : IsR y) :
    ∑ e, Ideal.exp (wide l e - y) = ∑ e, Ideal.exp (l e - y) := by
  rw [← Equiv.sum_comp (finSumFinEquiv (m := 16) (n := 112)) (fun e => Ideal.exp (wide l e - y)), Fintype.sum_sum_type]
  rw [Finset.sum_eq_zero (s := (Finset.univ : Finset (Fin 112))) fun e _ => ?_, add_zero]
  · refine Finset.sum_congr rfl fun e _ => ?_
    have : wide l (finSumFinEquiv (m := 16) (n := 112) (Sum.inl e)) = l e := dif_pos (c := (finSumFinEquiv (m := 16) (n := 112) (Sum.inl e)).val < 16) e.isLt
    rw [this]
  · have : wide l (finSumFinEquiv (m := 16) (n := 112) (Sum.inr e)) = ⊥ :=
      dif_neg (c := (finSumFinEquiv (m := 16) (n := 112) (Sum.inr e)).val < 16) (by show ¬ 16 + e.val < 16; omega)
    rw [this]
    exact exp_bot_sub hy

/-- The softmax over the 128 is the affinities. -/
theorem wide_soft {l : Fin 16 → EReal} (hl : ∀ e, IsR (l e)) (e : Fin 128) :
    Ideal.div (Ideal.exp (wide l e - Finset.fold max ⊥ (wide l) Finset.univ))
      (∑ e, Ideal.exp (wide l e - Finset.fold max ⊥ (wide l) Finset.univ)) = aff l e := by
  rw [wide_max, wide_sum (max_real hl)]
  unfold aff
  split
  · next h =>
    unfold soft
    rw [show wide l e = l ⟨e.val, h⟩ from dif_pos h]
  · next h =>
    rw [show wide l e = ⊥ from dif_neg h, exp_bot_sub (max_real hl)]
    obtain ⟨m, hm⟩ := max_real hl
    choose g hg using hl
    have hs : ∑ e, Ideal.exp (l e - Finset.fold max ⊥ l Finset.univ) = ((∑ e, Real.exp (g e - m) : ℝ) : EReal) := by
      rw [← MlstmMath.coe_sum]
      refine Finset.sum_congr rfl fun e _ => ?_
      rw [hg, hm]
      rfl
    have hp : 0 < ∑ e, Real.exp (g e - m) := Finset.sum_pos (fun _ _ => Real.exp_pos _) Finset.univ_nonempty
    rw [hs, Ideal.div_coe hp.ne', zero_mul]

end Cert.PostMath

end
-- ==== Proof.PostBody.lean ====
/-
  The mixer's end on one block of rows: what the kernel's values are at an index, from the blocks it reads.
-/
module

public import proofs.«01_k».proof.Proof.Gen.PostIdeal.Value
public import proofs.«01_k».proof.Proof.PostMath
public import Idealize.ShloMosaic.Lib.Pipeline.ValueKit
public import Idealize.ShloMosaic.Lib.Claim
public import Idealize.ShloMosaic.Lib.Tactic
public import Idealize.ShloMosaic.Lib.Pointwise

@[expose] public section

set_option maxRecDepth 16384

noncomputable section

namespace Cert.PostIdeal.Value

open Cert.PostIdeal Cert.PostIdeal.Gen Idealize.ShloMosaic Idealize.ShloMosaic.TcCoe Idealize.SL.Sem Cert.PostMath

/-! ## The first branch -/

/-- A row of the two directions' sum. -/
abbrev both (v0 v2 : Vec Ideal S1x256x1024 .f32) (r : Fin 256) (l : Fin 1024) : EReal := v0 (ix3 0 r l) + v2 (ix3 0 r l)

/-- The first head, normalised. -/
theorem headM_0 (v0 v2 : Vec Ideal S1x256x1024 .f32) (r l : Fin 256) :
    k0_pay3 v0 v2 (ix2 r l) = rms c256 (fun v => both v0 v2 r (atM 0 v)) l := by
  have e : ∀ v p, (⟨v.val, p⟩ : Fin 1024) = atM 0 v := fun v p => Fin.ext (by show v.val = 0 * 256 + v.val; omega)
  unfold k0_pay3 k0_pay2
  pointwise
  simp only [e]
  rfl

/-- The second head, normalised. -/
theorem headM_1 (v0 v2 : Vec Ideal S1x256x1024 .f32) (r l : Fin 256) :
    k0_pay4 v0 v2 (ix2 r l) = rms c256 (fun v => both v0 v2 r (atM 1 v)) l := by
  have e : ∀ v p, (⟨256 + v.val, p⟩ : Fin 1024) = atM 1 v := fun v p => Fin.ext (by show 256 + v.val = 1 * 256 + v.val; omega)
  unfold k0_pay4 k0_pay2
  pointwise
  simp only [e]
  rfl

/-- The third head, normalised. -/
theorem headM_2 (v0 v2 : Vec Ideal S1x256x1024 .f32) (r l : Fin 256) :
    k0_pay5 v0 v2 (ix2 r l) = rms c256 (fun v => both v0 v2 r (atM 2 v)) l := by
  have e : ∀ v p, (⟨512 + v.val, p⟩ : Fin 1024) = atM 2 v := fun v p => Fin.ext (by show 512 + v.val = 2 * 256 + v.val; omega)
  unfold k0_pay5 k0_pay2
  pointwise
  simp only [e]
  rfl

/-- The fourth head, normalised. -/
theorem headM_3 (v0 v2 : Vec Ideal S1x256x1024 .f32) (r l : Fin 256) :
    k0_pay6 v0 v2 (ix2 r l) * Ideal.rsqrt (Ideal.div (k0_pay7 v0 v2 (ix2 r 0)) c256 + eps)
      = rms c256 (fun v => both v0 v2 r (atM 3 v)) l := by
  have h : ∀ l, k0_pay6 v0 v2 (ix2 r l) = both v0 v2 r (atM 3 l) := fun l => by
    unfold k0_pay6 k0_pay2
    pointwise
    rfl
  have h7 : k0_pay7 v0 v2 (ix2 r 0) = ∑ x, k0_pay6 v0 v2 (ix2 r x) * k0_pay6 v0 v2 (ix2 r x) := by
    unfold k0_pay7
    pointwise
  rw [h7]
  simp only [h]
  rfl

/-- The gated heads against their weights. -/
theorem pay8_apply (v15 v26 v37 v38 : FVec Ideal S256x256 .f32) (v41 : FVec Ideal S256x1 .f32) (v50 : Vec Ideal S1x1024 .f32)
    (v54 : Vec Ideal S256x1024 .f32) (v58 : Vec Ideal S1024x2048 .bf16) (r : Fin 256) (a : Fin 1024 → EReal)
    (h0 : ∀ l, v15 (ix2 r l) = rms c256 (fun v => a (atM 0 v)) l) (h1 : ∀ l, v26 (ix2 r l) = rms c256 (fun v => a (atM 1 v)) l)
    (h2 : ∀ l, v37 (ix2 r l) = rms c256 (fun v => a (atM 2 v)) l)
    (h3 : ∀ l, v38 (ix2 r l) * Ideal.rsqrt (Ideal.div (v41 (ix2 r 0)) c256 + eps) = rms c256 (fun v => a (atM 3 v)) l) (d : Fin 2048) :
    k0_pay8 v15 v26 v37 v38 v41 c256 v50 v54 v58 (ix2 r d)
      = branchM a (fun x => v50 (ix2 0 x)) (fun x => v54 (ix2 r x)) (fun x d => v58 (ix2 x d)) d := by
  unfold k0_pay8
  pointwise
  rw [sum_M]
  refine Finset.sum_congr rfl fun h _ => Finset.sum_congr rfl fun v _ => ?_
  refine congrArg (fun y => y * v50 (ix2 0 (atM h v)) * Ideal.logistic (v54 (ix2 r (atM h v))) * v58 (ix2 (atM h v) d)) ?_
  have hv := v.isLt
  match h with
  | 0 =>
    have hx : (atM 0 v).val = 0 * 256 + v.val := rfl
    have e : ∀ p, (⟨(atM 0 v).val, p⟩ : Fin 256) = v := fun p => Fin.ext (by show (atM 0 v).val = v.val; omega)
    rw [dif_pos (show (atM 0 v).val < 256 by omega)]
    simp only [e]
    exact h0 v
  | 1 =>
    have hx : (atM 1 v).val = 1 * 256 + v.val := rfl
    have e : ∀ p, (⟨(atM 1 v).val - 256, p⟩ : Fin 256) = v := fun p => Fin.ext (by show (atM 1 v).val - 256 = v.val; omega)
    rw [dif_neg (show ¬ (atM 1 v).val < 256 by omega), dif_pos (show (atM 1 v).val - 256 < 256 by omega)]
    simp only [e]
    exact h1 v
  | 2 =>
    have hx : (atM 2 v).val = 2 * 256 + v.val := rfl
    have e : ∀ p, (⟨(atM 2 v).val - 256 - 256, p⟩ : Fin 256) = v := fun p => Fin.ext (by show (atM 2 v).val - 256 - 256 = v.val; omega)
    rw [dif_neg (show ¬ (atM 2 v).val < 256 by omega), dif_neg (show ¬ (atM 2 v).val - 256 < 256 by omega), dif_pos (show (atM 2 v).val - 256 - 256 < 256 by omega)]
    simp only [e]
    exact h2 v
  | 3 =>
    have hx : (atM 3 v).val = 3 * 256 + v.val := rfl
    have e : ∀ p, (⟨(atM 3 v).val - 256 - 256 - 256, p⟩ : Fin 256) = v := fun p => Fin.ext (by show (atM 3 v).val - 256 - 256 - 256 = v.val; omega)
    rw [dif_neg (show ¬ (atM 3 v).val < 256 by omega), dif_neg (show ¬ (atM 3 v).val - 256 < 256 by omega), dif_neg (show ¬ (atM 3 v).val - 256 - 256 < 256 by omega)]
    simp only [e]
    exact h3 v

/-! ## The second branch -/

/-- A row of the two directions' sum. -/
theorem pay9_apply (v62 v64 : Vec Ideal S1x256x1024 .f32) (r : Fin 256) (l : Fin 1024) : k0_pay9 v62 v64 (ix2 r l) = both v62 v64 r l := by
  unfold k0_pay9
  pointwise

/-- The first head, normalised. -/
theorem headH_0 (v62 v64 : Vec Ideal S1x256x1024 .f32) (r : Fin 256) (l : Fin 128) :
    k0_pay10 v62 v64 (ix2 r l) = rms c128 (fun v => both v62 v64 r (atH 0 v)) l := by
  have e : ∀ v p, (⟨v.val, p⟩ : Fin 1024) = atH 0 v := fun v p => Fin.ext (by show v.val = 0 * 128 + v.val; omega)
  unfold k0_pay10 k0_pay9
  pointwise
  simp only [e]
  rfl

/-- The second head, normalised. -/
theorem headH_1 (v62 v64 : Vec Ideal S1x256x1024 .f32) (r : Fin 256) (l : Fin 128) :
    k0_pay13 (k0_pay11 v62 v64) (k0_pay12 v62 v64) (ix2 r l) = rms c128 (fun v => both v62 v64 r (atH 1 v)) l := by
  have e : ∀ v p, (⟨128 + v.val, p⟩ : Fin 1024) = atH 1 v := fun v p => Fin.ext (by show 128 + v.val = 1 * 128 + v.val; omega)
  unfold k0_pay13 k0_pay12 k0_pay11 k0_pay9
  pointwise
  simp only [e]
  rfl

/-- The third head, normalised. -/
theorem headH_2 (v66 : FVec Ideal S256x1024 .f32) (r : Fin 256) (l : Fin 128) :
    k0_pay14 v66 (ix2 r l) = rms c128 (fun v => v66 (ix2 r (atH 2 v))) l := by
  have e : ∀ v p, (⟨256 + v.val, p⟩ : Fin 1024) = atH 2 v := fun v p => Fin.ext (by show 256 + v.val = 2 * 128 + v.val; omega)
  unfold k0_pay14
  pointwise
  simp only [e]
  rfl

/-- The fourth head, normalised. -/
theorem headH_3 (v66 : FVec Ideal S256x1024 .f32) (r : Fin 256) (l : Fin 128) :
    k0_pay15 v66 (ix2 r l) = rms c128 (fun v => v66 (ix2 r (atH 3 v))) l := by
  have e : ∀ v p, (⟨384 + v.val, p⟩ : Fin 1024) = atH 3 v := fun v p => Fin.ext (by show 384 + v.val = 3 * 128 + v.val; omega)
  unfold k0_pay15
  pointwise
  simp only [e]
  rfl

/-- The fifth head, normalised. -/
theorem headH_4 (v66 : FVec Ideal S256x1024 .f32) (r : Fin 256) (l : Fin 128) :
    k0_pay16 v66 (ix2 r l) = rms c128 (fun v => v66 (ix2 r (atH 4 v))) l := by
  have e : ∀ v p, (⟨512 + v.val, p⟩ : Fin 1024) = atH 4 v := fun v p => Fin.ext (by show 512 + v.val = 4 * 128 + v.val; omega)
  unfold k0_pay16
  pointwise
  simp only [e]
  rfl

/-- The sixth head, normalised. -/
theorem headH_5 (v66 : FVec Ideal S256x1024 .f32) (r : Fin 256) (l : Fin 128) :
    k0_pay17 v66 (ix2 r l) * Ideal.rsqrt (k0_pay18 v66 (ix2 r 0) + eps) = rms c128 (fun v => v66 (ix2 r (atH 5 v))) l := by
  have e : ∀ v p, (⟨640 + v.val, p⟩ : Fin 1024) = atH 5 v := fun v p => Fin.ext (by show 640 + v.val = 5 * 128 + v.val; omega)
  unfold k0_pay18 k0_pay17
  pointwise
  simp only [e]
  rfl

/-- The gated heads against their weights, gated in turn. -/
theorem pay20_apply (v61 : Vec Ideal S256x1024 .f32) (v66 : FVec Ideal S256x1024 .f32) (v77 v88 v99 v110 v121 v122 : FVec Ideal S256x128 .f32)
    (v127 : FVec Ideal S256x1 .f32) (v156 : Vec Ideal S1x1024 .f32) (v164 : Vec Ideal S1024x2048 .bf16) (v170 : Vec Ideal S256x2048 .f32)
    (r : Fin 256) (a : Fin 1024 → EReal) (ha : ∀ x, v66 (ix2 r x) = a x)
    (h0 : ∀ l, v77 (ix2 r l) = rms c128 (fun v => a (atH 0 v)) l)
    (h1 : ∀ l, v88 (ix2 r l) = rms c128 (fun v => a (atH 1 v)) l)
    (h2 : ∀ l, v99 (ix2 r l) = rms c128 (fun v => a (atH 2 v)) l)
    (h3 : ∀ l, v110 (ix2 r l) = rms c128 (fun v => a (atH 3 v)) l)
    (h4 : ∀ l, v121 (ix2 r l) = rms c128 (fun v => a (atH 4 v)) l)
    (h5 : ∀ l, v122 (ix2 r l) * Ideal.rsqrt (v127 (ix2 r 0) + eps) = rms c128 (fun v => a (atH 5 v)) l) (d : Fin 2048) :
    k0_pay20 v61 v66 v77 v88 v99 v110 v121 v122 v127 eps v156 v164 v170 (ix2 r d)
      = Ideal.logistic (v170 (ix2 r d)) * branchH a (fun x => v156 (ix2 0 x)) (fun x => v61 (ix2 r x)) (fun x d => v164 (ix2 x d)) d := by
  unfold k0_pay20
  pointwise
  refine congrArg (fun y => Ideal.logistic (v170 (ix2 r d)) * y) ?_
  rw [sum_H]
  refine Finset.sum_congr rfl fun h _ => Finset.sum_congr rfl fun v _ => ?_
  refine congrArg (fun y => y * v156 (ix2 0 (atH h v)) * (v61 (ix2 r (atH h v)) * Ideal.logistic (v61 (ix2 r (atH h v)))) * v164 (ix2 (atH h v) d)) ?_
  have hv := v.isLt
  match h with
  | 0 =>
    have hx : (atH 0 v).val = 0 * 128 + v.val := rfl
    have e : ∀ p, (⟨(atH 0 v).val, p⟩ : Fin 128) = v := fun p => Fin.ext (by show (atH 0 v).val = v.val; omega)
    rw [dif_pos (show (atH 0 v).val < 128 by omega)]
    simp only [e]
    exact h0 v
  | 1 =>
    have hx : (atH 1 v).val = 1 * 128 + v.val := rfl
    have e : ∀ p, (⟨(atH 1 v).val - 128, p⟩ : Fin 128) = v := fun p => Fin.ext (by show (atH 1 v).val - 128 = v.val; omega)
    rw [dif_neg (show ¬ (atH 1 v).val < 128 by omega), dif_pos (show (atH 1 v).val - 128 < 128 by omega)]
    simp only [e]
    exact h1 v
  | 2 =>
    have hx : (atH 2 v).val = 2 * 128 + v.val := rfl
    have e : ∀ p, (⟨(atH 2 v).val - 128 - 128, p⟩ : Fin 128) = v := fun p => Fin.ext (by show (atH 2 v).val - 128 - 128 = v.val; omega)
    rw [dif_neg (show ¬ (atH 2 v).val < 128 by omega), dif_neg (show ¬ (atH 2 v).val - 128 < 128 by omega), dif_pos (show (atH 2 v).val - 128 - 128 < 128 by omega)]
    simp only [e]
    exact h2 v
  | 3 =>
    have hx : (atH 3 v).val = 3 * 128 + v.val := rfl
    have e : ∀ p, (⟨(atH 3 v).val - 128 - 128 - 128, p⟩ : Fin 128) = v := fun p => Fin.ext (by show (atH 3 v).val - 128 - 128 - 128 = v.val; omega)
    rw [dif_neg (show ¬ (atH 3 v).val < 128 by omega), dif_neg (show ¬ (atH 3 v).val - 128 < 128 by omega), dif_neg (show ¬ (atH 3 v).val - 128 - 128 < 128 by omega), dif_pos (show (atH 3 v).val - 128 - 128 - 128 < 128 by omega)]
    simp only [e]
    exact h3 v
  | 4 =>
    have hx : (atH 4 v).val = 4 * 128 + v.val := rfl
    have e : ∀ p, (⟨(atH 4 v).val - 128 - 128 - 128 - 128, p⟩ : Fin 128) = v := fun p => Fin.ext (by show (atH 4 v).val - 128 - 128 - 128 - 128 = v.val; omega)
    rw [dif_neg (show ¬ (atH 4 v).val < 128 by omega), dif_neg (show ¬ (atH 4 v).val - 128 < 128 by omega), dif_neg (show ¬ (atH 4 v).val - 128 - 128 < 128 by omega), dif_neg (show ¬ (atH 4 v).val - 128 - 128 - 128 < 128 by omega), dif_pos (show (atH 4 v).val - 128 - 128 - 128 - 128 < 128 by omega)]
    simp only [e]
    exact h4 v
  | 5 =>
    have hx : (atH 5 v).val = 5 * 128 + v.val := rfl
    have e : ∀ p, (⟨(atH 5 v).val - 128 - 128 - 128 - 128 - 128, p⟩ : Fin 128) = v := fun p => Fin.ext (by show (atH 5 v).val - 128 - 128 - 128 - 128 - 128 = v.val; omega)
    rw [dif_neg (show ¬ (atH 5 v).val < 128 by omega), dif_neg (show ¬ (atH 5 v).val - 128 < 128 by omega), dif_neg (show ¬ (atH 5 v).val - 128 - 128 < 128 by omega), dif_neg (show ¬ (atH 5 v).val - 128 - 128 - 128 < 128 by omega), dif_neg (show ¬ (atH 5 v).val - 128 - 128 - 128 - 128 < 128 by omega), dif_pos (show (atH 5 v).val - 128 - 128 - 128 - 128 - 128 < 128 by omega)]
    simp only [e]
    exact h5 v
  | 6 =>
    have hx : (atH 6 v).val = 6 * 128 + v.val := rfl
    have e : ∀ p, (⟨768 + ((atH 6 v).val - 128 - 128 - 128 - 128 - 128 - 128), p⟩ : Fin 1024) = atH 6 v := fun p => Fin.ext (by show 768 + ((atH 6 v).val - 128 - 128 - 128 - 128 - 128 - 128) = 6 * 128 + v.val; omega)
    have e' : ∀ v p, (⟨768 + v.val, p⟩ : Fin 1024) = atH 6 v := fun v p => Fin.ext (by show 768 + v.val = 6 * 128 + v.val; omega)
    rw [dif_neg (show ¬ (atH 6 v).val < 128 by omega), dif_neg (show ¬ (atH 6 v).val - 128 < 128 by omega), dif_neg (show ¬ (atH 6 v).val - 128 - 128 < 128 by omega), dif_neg (show ¬ (atH 6 v).val - 128 - 128 - 128 < 128 by omega), dif_neg (show ¬ (atH 6 v).val - 128 - 128 - 128 - 128 < 128 by omega), dif_neg (show ¬ (atH 6 v).val - 128 - 128 - 128 - 128 - 128 < 128 by omega), dif_pos (show (atH 6 v).val - 128 - 128 - 128 - 128 - 128 - 128 < 128 by omega)]
    simp only [e, e', ha]
    rfl
  | 7 =>
    have hx : (atH 7 v).val = 7 * 128 + v.val := rfl
    have e : ∀ p, (⟨896 + ((atH 7 v).val - 128 - 128 - 128 - 128 - 128 - 128 - 128), p⟩ : Fin 1024) = atH 7 v := fun p => Fin.ext (by show 896 + ((atH 7 v).val - 128 - 128 - 128 - 128 - 128 - 128 - 128) = 7 * 128 + v.val; omega)
    have e' : ∀ v p, (⟨896 + v.val, p⟩ : Fin 1024) = atH 7 v := fun v p => Fin.ext (by show 896 + v.val = 7 * 128 + v.val; omega)
    rw [dif_neg (show ¬ (atH 7 v).val < 128 by omega), dif_neg (show ¬ (atH 7 v).val - 128 < 128 by omega), dif_neg (show ¬ (atH 7 v).val - 128 - 128 < 128 by omega), dif_neg (show ¬ (atH 7 v).val - 128 - 128 - 128 < 128 by omega), dif_neg (show ¬ (atH 7 v).val - 128 - 128 - 128 - 128 < 128 by omega), dif_neg (show ¬ (atH 7 v).val - 128 - 128 - 128 - 128 - 128 < 128 by omega), dif_neg (show ¬ (atH 7 v).val - 128 - 128 - 128 - 128 - 128 - 128 < 128 by omega)]
    simp only [e, e', ha]
    rfl

/-! ## The merge and the norm -/

/-- The first branch, gated. -/
theorem pay19_apply (v60 : FVec Ideal S256x2048 .f32) (v167 : Vec Ideal S256x2048 .f32) (r : Fin 256) (l : Fin 2048) :
    k0_pay19 v60 v167 (ix2 r l) = Ideal.logistic (v167 (ix2 r l)) * v60 (ix2 r l) := by
  unfold k0_pay19
  pointwise

/-- The stored row is the layer norm of the residual plus the merged branches. -/
theorem pay21_apply (v169 v172 : FVec Ideal S256x2048 .f32) (v175 : Vec Ideal S2048x2048 .bf16) (v178 : Vec Ideal S256x2048 .f32)
    (v182 v184 : Vec Ideal S1x2048 .f32) (r : Fin 256) (gm gh ym yh : Fin 2048 → EReal)
    (h1 : ∀ j, v169 (ix2 r j) = Ideal.logistic (gm j) * ym j) (h2 : ∀ j, v172 (ix2 r j) = Ideal.logistic (gh j) * yh j) (l : Fin 2048) :
    k0_pay21 v169 v172 v175 v178 v182 v184 (ix2 r l)
      = PostMath.norm (mixed (fun d => v178 (ix2 r d)) gm gh ym yh (fun j d => v175 (ix2 j d))) (fun d => v182 (ix2 0 d)) (fun d => v184 (ix2 0 d)) l := by
  have h : k0_pay21 v169 v172 v175 v178 v182 v184 (ix2 r l)
      = PostMath.norm (fun d => alpha * v178 (ix2 r d) + ∑ j, (v169 (ix2 r j) + v172 (ix2 r j)) * v175 (ix2 j d)) (fun d => v182 (ix2 0 d))
        (fun d => v184 (ix2 0 d)) l := by
    unfold k0_pay21 PostMath.norm
    pointwise
  rw [h]
  refine congrArg (fun x => PostMath.norm x (fun d => v182 (ix2 0 d)) (fun d => v184 (ix2 0 d)) l) (funext fun d => ?_)
  simp only [h1, h2]
  rfl

/-- The rounded row is the row. -/
theorem pay22_apply (v169 v172 : FVec Ideal S256x2048 .f32) (v175 : Vec Ideal S2048x2048 .bf16) (v178 : Vec Ideal S256x2048 .f32)
    (v182 v184 : Vec Ideal S1x2048 .f32) (i : S256x2048.Idx) :
    k0_pay22 v169 v172 v175 v178 v182 v184 i = k0_pay21 v169 v172 v175 v178 v182 v184 i := by
  unfold k0_pay22
  rfl

/-- What the rounding left is the row less itself. -/
theorem pay23_apply (v169 v172 : FVec Ideal S256x2048 .f32) (v175 : Vec Ideal S2048x2048 .bf16) (v178 : Vec Ideal S256x2048 .f32)
    (v182 v184 : Vec Ideal S1x2048 .f32) (i : S256x2048.Idx) :
    k0_pay23 v169 v172 v175 v178 v182 v184 i
      = k0_pay21 v169 v172 v175 v178 v182 v184 i - k0_pay21 v169 v172 v175 v178 v182 v184 i := by
  unfold k0_pay23 k0_pay22
  rfl

/-! ## The affinities -/

/-- The columns that hold an expert, by the kernel's comparison. -/
theorem mask : ∀ e : Fin 128, (IntOp.cmpi CmpIPredicate.slt (BitVec.ofNat 32 e.val) 16#32) = if e.val < 16 then 1#1 else 0#1 := by
  decide

/-- The stored affinities. -/
theorem pay1_apply (v207 v210 : FVec Ideal S256x2048 .bf16) (v212 v217 : Vec Ideal S2048x128 .bf16) (r : Fin 256)
    (x : Fin 2048 → EReal) (w : Fin 2048 → Fin 16 → EReal) (hx : ∀ d, IsR (x d)) (hw : ∀ d e, IsR (w d e))
    (h1 : ∀ d, v207 (ix2 r d) = x d) (h2 : ∀ d, v210 (ix2 r d) = x d - x d)
    (h3 : ∀ d e, (h : e < 16) → v212 (ix2 d ⟨e, by omega⟩) = w d ⟨e, h⟩)
    (h4 : ∀ d e, (h : e < 16) → v217 (ix2 d ⟨e, by omega⟩) = w d ⟨e, h⟩ - w d ⟨e, h⟩) (e : Fin 128) :
    k0_pay1 v207 v210 v212 v217 (ix2 r e) = aff (logits x w) e := by
  have hm : ∀ e : Fin 128, Scalar.select (IntOp.cmpi CmpIPredicate.slt (BitVec.ofNat 32 e.val) 16#32)
      ((∑ d, v207 (ix2 r d) * v212 (ix2 d e)) + (∑ d, v210 (ix2 r d) * v212 (ix2 d e)) + ∑ d, v207 (ix2 r d) * v217 (ix2 d e))
      (Ideal.ofBits FTy.f32 4286578688#32) = wide (logits x w) e := fun e => by
    rw [mask e]
    unfold wide
    split
    · next h =>
      refine Eq.trans ?_ (logit_split hx fun d => hw d ⟨e.val, h⟩)
      simp only [h1, h2, h3 _ e.val h, h4 _ e.val h]
      rfl
    · exact MlstmMath.neg_inf
  have hl : ∀ e, IsR (logits x w e) := fun e => .sum _ fun d => (hx d).mul (hw d e)
  rw [← wide_soft hl]
  unfold k0_pay1
  pointwise
  simp only [hm]
  rw [MlstmMath.neg_inf]

end Cert.PostIdeal.Value

end
-- ==== Proof.PostBlocks.lean ====
/-
  The blocks the kernel of the mixer's end stages at a grid point, read at an index.
-/
module

public import proofs.«01_k».proof.Proof.PostBody
public import Idealize.ShloMosaic.Lib.KernelVsHost

@[expose] public section

set_option maxRecDepth 16384

noncomputable section

namespace Cert.PostIdeal.Value

open Cert.PostIdeal Cert.PostIdeal.Gen Idealize.ShloMosaic Idealize.ShloMosaic.TcCoe Idealize.SL.Sem Cert.PostMath

variable (m : (ℓ : Loc nD τ sig) → Buf (Elt Ideal) ℓ)

/-- A grid point's number lies inside the grid. -/
theorem lt_N (t : Fin cfg0.N) : t.val < 64 := lt_of_lt_of_eq t.isLt N_0

/-- The block indices of the windows that follow the rows. -/
theorem idxRow : ∀ t : Fin cfg0.N, win0_0.index t = ![0, t.val, 0] ∧ win0_1.index t = ![0, t.val, 0] ∧ win0_2.index t = ![t.val, 2]
    ∧ win0_3.index t = ![t.val, 7] ∧ win0_4.index t = ![t.val, 4] ∧ win0_5.index t = ![t.val, 5] ∧ win0_6.index t = ![t.val, 0] :=
  (by decide +kernel : ∀ t : Fin grid0.N, _)

/-- The block indices of the windows that stay. -/
theorem idxAll : ∀ t : Fin cfg0.N, win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] :=
  (by decide +kernel : ∀ t : Fin grid0.N, _)

/-- The block indices of the results' windows. -/
theorem idxOut : ∀ t : Fin cfg0.N, win0_16.index t = ![t.val, 0] ∧ win0_17.index t = ![t.val, 0] ∧ win0_18.index t = ![t.val, 0] :=
  (by decide +kernel : ∀ t : Fin grid0.N, _)

/-- The array row of a row of a point's block. -/
abbrev rowOf (t : Fin cfg0.N) (r : Fin 256) : Fin 16384 := ⟨t.val * 256 + r.val, by have := lt_N t; omega⟩

/-- The first branch's block. -/
theorem iblk0 (c : Dev nD) (t : Fin cfg0.N) (k : Fin 2) (r : Fin 256) (l : Fin 1024) :
    iblk m c 0 t (ix3 k r l) = m ((c : Thread nD τ).loc main_arg0) (ix3 k (rowOf t r) l) := by
  have h1 := lt_N t
  blk_ext! [iblk, V, idxRow t]

/-- The second branch's block. -/
theorem iblk1 (c : Dev nD) (t : Fin cfg0.N) (k : Fin 2) (r : Fin 256) (l : Fin 1024) :
    iblk m c 1 t (ix3 k r l) = m ((c : Thread nD τ).loc main_arg1) (ix3 k (rowOf t r) l) := by
  have h1 := lt_N t
  blk_ext! [iblk, V, idxRow t]

/-- The first branch's gates' block. -/
theorem iblk2 (c : Dev nD) (t : Fin cfg0.N) (r : Fin 256) (l : Fin 1024) :
    iblk m c 2 t (ix2 r l) = m ((c : Thread nD τ).loc main_arg2) (ix2 (rowOf t r) ⟨2048 + l.val, by omega⟩) := by
  have h1 := lt_N t
  blk_ext! [iblk, V, idxRow t]

/-- The second branch's gates' block. -/
theorem iblk3 (c : Dev nD) (t : Fin cfg0.N) (r : Fin 256) (l : Fin 1024) :
    iblk m c 3 t (ix2 r l) = m ((c : Thread nD τ).loc main_arg2) (ix2 (rowOf t r) ⟨7168 + l.val, by omega⟩) := by
  have h1 := lt_N t
  blk_ext! [iblk, V, idxRow t]

/-- The first merge gates' block. -/
theorem iblk4 (c : Dev nD) (t : Fin cfg0.N) (r : Fin 256) (l : Fin 2048) :
    iblk m c 4 t (ix2 r l) = m ((c : Thread nD τ).loc main_arg2) (ix2 (rowOf t r) ⟨8192 + l.val, by omega⟩) := by
  have h1 := lt_N t
  blk_ext! [iblk, V, idxRow t]

/-- The second merge gates' block. -/
theorem iblk5 (c : Dev nD) (t : Fin cfg0.N) (r : Fin 256) (l : Fin 2048) :
    iblk m c 5 t (ix2 r l) = m ((c : Thread nD τ).loc main_arg2) (ix2 (rowOf t r) ⟨10240 + l.val, by omega⟩) := by
  have h1 := lt_N t
  blk_ext! [iblk, V, idxRow t]

/-- The residual's block. -/
theorem iblk6 (c : Dev nD) (t : Fin cfg0.N) (r : Fin 256) (l : Fin 2048) :
    iblk m c 6 t (ix2 r l) = m ((c : Thread nD τ).loc main_arg3) (ix2 (rowOf t r) l) := by
  have h1 := lt_N t
  blk_ext! [iblk, V, idxRow t]

/-- The first branch's scales. -/
theorem entry7 (c : Dev nD) (h : Fin 4) (v : Fin 256) : V m c main_v7 (ix2 0 (atM h v)) = m ((c : Thread nD τ).loc main_arg4) (ix3 0 h v) := by
  unfold V
  simp only [List.flatten_cons, List.flatten_nil, List.append_nil, List.cons_append, List.nil_append, hostOps0, hostOps0_1, hostOps0_2]
  entry_read
  pointwise
  have e1 : ∀ p, (⟨(atM h v).val / 256, p⟩ : Fin 4) = h := fun p => Fin.ext (by show (h.val * 256 + v.val) / 256 = h.val; omega)
  have e2 : ∀ p, (⟨(atM h v).val % 256, p⟩ : Fin 256) = v := fun p => Fin.ext (by show (h.val * 256 + v.val) % 256 = v.val; omega)
  simp only [e1, e2]

/-- Their block. -/
theorem iblk7 (c : Dev nD) (t : Fin cfg0.N) (h : Fin 4) (v : Fin 256) : iblk m c 7 t (ix2 0 (atM h v)) = m ((c : Thread nD τ).loc main_arg4) (ix3 0 h v) := by
  refine Eq.trans ?_ (entry7 m c h v)
  blk_ext! [iblk, idxAll t]

/-- The second branch's scales. -/
theorem entry8 (c : Dev nD) (h : Fin 8) (v : Fin 128) : V m c main_v9 (ix2 0 (atH h v)) = m ((c : Thread nD τ).loc main_arg5) (ix3 0 h v) := by
  unfold V
  simp only [List.flatten_cons, List.flatten_nil, List.append_nil, List.cons_append, List.nil_append, hostOps0, hostOps0_1, hostOps0_2]
  entry_read
  pointwise
  have e1 : ∀ p, (⟨(atH h v).val / 128, p⟩ : Fin 8) = h := fun p => Fin.ext (by show (h.val * 128 + v.val) / 128 = h.val; omega)
  have e2 : ∀ p, (⟨(atH h v).val % 128, p⟩ : Fin 128) = v := fun p => Fin.ext (by show (h.val * 128 + v.val) % 128 = v.val; omega)
  simp only [e1, e2]

/-- Their block. -/
theorem iblk8 (c : Dev nD) (t : Fin cfg0.N) (h : Fin 8) (v : Fin 128) : iblk m c 8 t (ix2 0 (atH h v)) = m ((c : Thread nD τ).loc main_arg5) (ix3 0 h v) := by
  refine Eq.trans ?_ (entry8 m c h v)
  blk_ext! [iblk, idxAll t]

/-- The first branch's weights. -/
theorem entry9 (c : Dev nD) (k : Fin 1024) (d : Fin 2048) : V m c main_v11 (ix2 k d) = m ((c : Thread nD τ).loc main_arg6) (ix3 0 k d) := by
  unfold V
  simp only [List.flatten_cons, List.flatten_nil, List.append_nil, List.cons_append, List.nil_append, hostOps0, hostOps0_1, hostOps0_2]
  entry_read
  pointwise

/-- Their block. -/
theorem iblk9 (c : Dev nD) (t : Fin cfg0.N) (k : Fin 1024) (d : Fin 2048) : iblk m c 9 t (ix2 k d) = m ((c : Thread nD τ).loc main_arg6) (ix3 0 k d) := by
  refine Eq.trans ?_ (entry9 m c k d)
  blk_ext! [iblk, idxAll t]

/-- The second branch's weights. -/
theorem entry10 (c : Dev nD) (k : Fin 1024) (d : Fin 2048) : V m c main_v13 (ix2 k d) = m ((c : Thread nD τ).loc main_arg7) (ix3 0 k d) := by
  unfold V
  simp only [List.flatten_cons, List.flatten_nil, List.append_nil, List.cons_append, List.nil_append, hostOps0, hostOps0_1, hostOps0_2]
  entry_read
  pointwise

/-- Their block. -/
theorem iblk10 (c : Dev nD) (t : Fin cfg0.N) (k : Fin 1024) (d : Fin 2048) : iblk m c 10 t (ix2 k d) = m ((c : Thread nD τ).loc main_arg7) (ix3 0 k d) := by
  refine Eq.trans ?_ (entry10 m c k d)
  blk_ext! [iblk, idxAll t]

/-- The output weights. -/
theorem entry11 (c : Dev nD) (k : Fin 2048) (d : Fin 2048) : V m c main_v15 (ix2 k d) = m ((c : Thread nD τ).loc main_arg8) (ix3 0 k d) := by
  unfold V
  simp only [List.flatten_cons, List.flatten_nil, List.append_nil, List.cons_append, List.nil_append, hostOps0, hostOps0_1, hostOps0_2]
  entry_read
  pointwise

/-- Their block. -/
theorem iblk11 (c : Dev nD) (t : Fin cfg0.N) (k : Fin 2048) (d : Fin 2048) : iblk m c 11 t (ix2 k d) = m ((c : Thread nD τ).loc main_arg8) (ix3 0 k d) := by
  refine Eq.trans ?_ (entry11 m c k d)
  blk_ext! [iblk, idxAll t]

/-- The norm's scales. -/
theorem entry12 (c : Dev nD) (d : Fin 2048) : V m c main_v17 (ix2 0 d) = m ((c : Thread nD τ).loc main_arg9) (ix2 0 d) := by
  unfold V
  simp only [List.flatten_cons, List.flatten_nil, List.append_nil, List.cons_append, List.nil_append, hostOps0, hostOps0_1, hostOps0_2]
  entry_read
  pointwise

/-- Their block. -/
theorem iblk12 (c : Dev nD) (t : Fin cfg0.N) (d : Fin 2048) : iblk m c 12 t (ix2 0 d) = m ((c : Thread nD τ).loc main_arg9) (ix2 0 d) := by
  refine Eq.trans ?_ (entry12 m c d)
  blk_ext! [iblk, idxAll t]

/-- The norm's offsets. -/
theorem entry13 (c : Dev nD) (d : Fin 2048) : V m c main_v19 (ix2 0 d) = m ((c : Thread nD τ).loc main_arg10) (ix2 0 d) := by
  unfold V
  simp only [List.flatten_cons, List.flatten_nil, List.append_nil, List.cons_append, List.nil_append, hostOps0, hostOps0_1, hostOps0_2]
  entry_read
  pointwise

/-- Their block. -/
theorem iblk13 (c : Dev nD) (t : Fin cfg0.N) (d : Fin 2048) : iblk m c 13 t (ix2 0 d) = m ((c : Thread nD τ).loc main_arg10) (ix2 0 d) := by
  refine Eq.trans ?_ (entry13 m c d)
  blk_ext! [iblk, idxAll t]

/-- An array with columns of a constant after its sixteen, at one of the sixteen. -/
theorem pad_in (x : FVec Ideal S2048x16 .f32) (v : FVec Ideal S_ .f32) (d : Fin 2048) (e : ℕ) (h : e < 16) :
    pad S2048x128 ![0, 0] ![0, 112] ![0, 0] x v pads_S2048x16_S2048x128_000_01120 h_S_ (ix2 d ⟨e, by omega⟩) = x (ix2 d ⟨e, h⟩) :=
  pad_apply_of_inside _ _ _ _ _ _ _ _ (ix2 d ⟨e, h⟩) fun a => by
    match a with
    | ⟨0, _⟩ => show d.val = 0 + d.val * (0 + 1); omega
    | ⟨1, _⟩ => show e = 0 + e * (0 + 1); omega

/-- The router's weights, rounded, at a column that holds an expert. -/
theorem entry14 (c : Dev nD) (d : Fin 2048) (e : ℕ) (h : e < 16) : V m c main_v2 (ix2 d ⟨e, by omega⟩) = (show EReal from m ((c : Thread nD τ).loc main_arg11) (ix3 0 d ⟨e, h⟩)) := by
  unfold V
  simp only [List.flatten_cons, List.flatten_nil, List.append_nil, List.cons_append, List.nil_append, hostOps0, hostOps0_1, hostOps0_2]
  entry_read
  pointwise
  exact pad_in _ _ d e h

/-- Their block. -/
theorem iblk14 (c : Dev nD) (t : Fin cfg0.N) (d : Fin 2048) (e : ℕ) (h : e < 16) : iblk m c 14 t (ix2 d ⟨e, by omega⟩) = (show EReal from m ((c : Thread nD τ).loc main_arg11) (ix3 0 d ⟨e, h⟩)) := by
  refine Eq.trans ?_ (entry14 m c d e h)
  blk_ext! [iblk, idxAll t]

/-- What the rounding left of them. -/
theorem entry15 (c : Dev nD) (d : Fin 2048) (e : ℕ) (h : e < 16) : V m c main_v5 (ix2 d ⟨e, by omega⟩) = (show EReal from m ((c : Thread nD τ).loc main_arg11) (ix3 0 d ⟨e, h⟩)) - (show EReal from m ((c : Thread nD τ).loc main_arg11) (ix3 0 d ⟨e, h⟩)) := by
  unfold V
  simp only [List.flatten_cons, List.flatten_nil, List.append_nil, List.cons_append, List.nil_append, hostOps0, hostOps0_1, hostOps0_2]
  entry_read
  pointwise
  exact congrArg₂ (fun a b : EReal => a - b) (pad_in _ _ d e h) (pad_in _ _ d e h)

/-- Their block. -/
theorem iblk15 (c : Dev nD) (t : Fin cfg0.N) (d : Fin 2048) (e : ℕ) (h : e < 16) : iblk m c 15 t (ix2 d ⟨e, by omega⟩) = (show EReal from m ((c : Thread nD τ).loc main_arg11) (ix3 0 d ⟨e, h⟩)) - (show EReal from m ((c : Thread nD τ).loc main_arg11) (ix3 0 d ⟨e, h⟩)) := by
  refine Eq.trans ?_ (entry15 m c d e h)
  blk_ext! [iblk, idxAll t]

end Cert.PostIdeal.Value

end
-- ==== Proof.PostArgs.lean ====
/-
  The arguments of the mixer's end, and what it computes from them.
-/
module

public import proofs.«01_k».proof.Proof.PostMath
public import Idealize.ShloMosaic.Lib.Pointwise

@[expose] public section

noncomputable section

namespace Cert.PostMath

open Idealize.ShloMosaic

/-- The twelve arguments. -/
structure Args where
  /-- The two directions of the first branch. -/
  x0 : (⟨3, ![2, 16384, 1024]⟩ : Shape).Idx → EReal
  /-- The two directions of the second branch. -/
  x1 : (⟨3, ![2, 16384, 1024]⟩ : Shape).Idx → EReal
  /-- The projections. -/
  x2 : (⟨2, ![16384, 12288]⟩ : Shape).Idx → EReal
  /-- The residual. -/
  x3 : (⟨2, ![16384, 2048]⟩ : Shape).Idx → EReal
  /-- The first branch's scales. -/
  x4 : (⟨3, ![1, 4, 256]⟩ : Shape).Idx → EReal
  /-- The second branch's scales. -/
  x5 : (⟨3, ![1, 8, 128]⟩ : Shape).Idx → EReal
  /-- The first branch's weights. -/
  x6 : (⟨3, ![1, 1024, 2048]⟩ : Shape).Idx → EReal
  /-- The second branch's weights. -/
  x7 : (⟨3, ![1, 1024, 2048]⟩ : Shape).Idx → EReal
  /-- The output weights. -/
  x8 : (⟨3, ![1, 2048, 2048]⟩ : Shape).Idx → EReal
  /-- The norm's scales. -/
  x9 : (⟨2, ![1, 2048]⟩ : Shape).Idx → EReal
  /-- The norm's offsets. -/
  x10 : (⟨2, ![1, 2048]⟩ : Shape).Idx → EReal
  /-- The router's weights. -/
  x11 : (⟨3, ![1, 2048, 16]⟩ : Shape).Idx → EReal

namespace Args

variable (A : Args)

/-- The first branch's rows. -/
def am (r : Fin 16384) (l : Fin 1024) : EReal := A.x0 (ix3 0 r l) + A.x0 (ix3 1 r l)
/-- The second branch's rows. -/
def ah (r : Fin 16384) (l : Fin 1024) : EReal := A.x1 (ix3 0 r l) + A.x1 (ix3 1 r l)
/-- The projections. -/
def pr (r : Fin 16384) (l : Fin 12288) : EReal := A.x2 (ix2 r l)
/-- The residual's rows. -/
def hh (r : Fin 16384) (l : Fin 2048) : EReal := A.x3 (ix2 r l)
/-- The first branch's scales by place. -/
def gM (x : Fin 1024) : EReal := A.x4 (ix3 0 ⟨x.val / 256, by omega⟩ ⟨x.val % 256, by omega⟩)
/-- The second branch's scales by place. -/
def gH (x : Fin 1024) : EReal := A.x5 (ix3 0 ⟨x.val / 128, by omega⟩ ⟨x.val % 128, by omega⟩)
/-- The first branch's weights. -/
def wM (x : Fin 1024) (d : Fin 2048) : EReal := A.x6 (ix3 0 x d)
/-- The second branch's weights. -/
def wH (x : Fin 1024) (d : Fin 2048) : EReal := A.x7 (ix3 0 x d)
/-- The output weights. -/
def wO (x d : Fin 2048) : EReal := A.x8 (ix3 0 x d)
/-- The norm's scales. -/
def lg (d : Fin 2048) : EReal := A.x9 (ix2 0 d)
/-- The norm's offsets. -/
def lb (d : Fin 2048) : EReal := A.x10 (ix2 0 d)
/-- The router's weights. -/
def wR (d : Fin 2048) (e : Fin 16) : EReal := A.x11 (ix3 0 d e)

/-- The first branch's scales by head. -/
theorem gM_at (h : Fin 4) (v : Fin 256) : A.gM (atM h v) = A.x4 (ix3 0 h v) := by
  have e1 : ∀ p, (⟨(atM h v).val / 256, p⟩ : Fin 4) = h := fun p => Fin.ext (by show (h.val * 256 + v.val) / 256 = h.val; omega)
  have e2 : ∀ p, (⟨(atM h v).val % 256, p⟩ : Fin 256) = v := fun p => Fin.ext (by show (h.val * 256 + v.val) % 256 = v.val; omega)
  unfold gM
  simp only [e1, e2]

/-- The second branch's scales by head. -/
theorem gH_at (h : Fin 8) (v : Fin 128) : A.gH (atH h v) = A.x5 (ix3 0 h v) := by
  have e1 : ∀ p, (⟨(atH h v).val / 128, p⟩ : Fin 8) = h := fun p => Fin.ext (by show (h.val * 128 + v.val) / 128 = h.val; omega)
  have e2 : ∀ p, (⟨(atH h v).val % 128, p⟩ : Fin 128) = v := fun p => Fin.ext (by show (h.val * 128 + v.val) % 128 = v.val; omega)
  unfold gH
  simp only [e1, e2]

/-- The merged row before its norm. -/
def row (r : Fin 16384) : Fin 2048 → EReal :=
  mixed (A.hh r) (fun j => A.pr r ⟨8192 + j.val, by omega⟩) (fun j => A.pr r ⟨10240 + j.val, by omega⟩)
    (branchM (A.am r) A.gM (fun j => A.pr r ⟨2048 + j.val, by omega⟩) A.wM)
    (branchH (A.ah r) A.gH (fun j => A.pr r ⟨7168 + j.val, by omega⟩) A.wH) A.wO

/-- The normalised row. -/
def h1 (r : Fin 16384) : Fin 2048 → EReal := norm (A.row r) A.lg A.lb

/-- The affinities of a row, with zeros after the sixteen. -/
def affs (r : Fin 16384) : Fin 128 → EReal := aff (logits (A.h1 r) A.wR)

/-- Every entry of the norm's scales, the norm's offsets and the router's weights is a real number. -/
structure Real : Prop where
  /-- The norm's scales. -/
  r9 : ∀ r l, IsR (A.x9 (ix2 r l))
  /-- The norm's offsets. -/
  r10 : ∀ r l, IsR (A.x10 (ix2 r l))
  /-- The router's weights. -/
  r11 : ∀ k r l, IsR (A.x11 (ix3 k r l))

variable {A}

/-- The normalised row is then real. -/
theorem Real.h1 (h : A.Real) (r : Fin 16384) (d : Fin 2048) : IsR (A.h1 r d) := norm_real _ (fun _ => h.r9 _ _) (fun _ => h.r10 _ _) d

/-- The router's weights are then real. -/
theorem Real.wR (h : A.Real) (d : Fin 2048) (e : Fin 16) : IsR (A.wR d e) := h.r11 _ _ _

end Args

end Cert.PostMath

end
-- ==== Proof.PostValue.lean ====
/-
  What the kernel of the mixer's end leaves in its three result arrays.
-/
module

public import proofs.«01_k».proof.Proof.PostBlocks
public import proofs.«01_k».proof.Proof.PostArgs

@[expose] public section

set_option maxRecDepth 16384

noncomputable section

namespace Cert.PostIdeal.Value

open Cert.PostIdeal Cert.PostIdeal.Gen Idealize.ShloMosaic Idealize.ShloMosaic.TcCoe Idealize.SL.Sem Cert.PostMath

/-! ## Loads -/

/-- A load of the first direction. -/
theorem ld_first (x : Vec Ideal S2x256x1024 .f32) (r : Fin 256) (l : Fin 1024) : View.ld x r0_0 (ix3 0 r l) = x (ix3 0 r l) :=
  congrArg x (funext fun a => Fin.ext (by
    match a with
    | ⟨0, _⟩ => rfl
    | ⟨1, _⟩ => show 0 + 1 * r.val = r.val; omega
    | ⟨2, _⟩ => show 0 + 1 * l.val = l.val; omega))

/-- A load of the second direction. -/
theorem ld_second (x : Vec Ideal S2x256x1024 .f32) (r : Fin 256) (l : Fin 1024) : View.ld x r0_1 (ix3 0 r l) = x (ix3 1 r l) :=
  congrArg x (funext fun a => Fin.ext (by
    match a with
    | ⟨0, _⟩ => rfl
    | ⟨1, _⟩ => show 0 + 1 * r.val = r.val; omega
    | ⟨2, _⟩ => show 0 + 1 * l.val = l.val; omega))

/-- Zero offsets. -/
theorem zeros : ∀ a : Fin 2, (![0, 0] : Fin 2 → ℕ) a = 0 := by decide

/-! ## One row of a block -/

/-- The blocks' row `r` is the arrays' row `R`. -/
structure Blk (A : Args) (R : Fin 16384) (r : Fin 256) (x0 : Vec Ideal S2x256x1024 .f32) (x1 : Vec Ideal S2x256x1024 .f32) (x2 : Vec Ideal S256x1024 .f32) (x3 : Vec Ideal S256x1024 .f32) (x4 : Vec Ideal S256x2048 .f32) (x5 : Vec Ideal S256x2048 .f32) (x6 : Vec Ideal S256x2048 .f32) (x7 : Vec Ideal S1x1024 .f32) (x8 : Vec Ideal S1x1024 .f32) (x9 : Vec Ideal S1024x2048 .bf16) (x10 : Vec Ideal S1024x2048 .bf16) (x11 : Vec Ideal S2048x2048 .bf16) (x12 : Vec Ideal S1x2048 .f32) (x13 : Vec Ideal S1x2048 .f32) (x14 : Vec Ideal S2048x128 .bf16) (x15 : Vec Ideal S2048x128 .bf16) : Prop where
  /-- The first branch. -/
  e0 : ∀ k l, x0 (ix3 k r l) = A.x0 (ix3 k R l)
  /-- The second branch. -/
  e1 : ∀ k l, x1 (ix3 k r l) = A.x1 (ix3 k R l)
  /-- The first branch's gates. -/
  e2 : ∀ l : Fin 1024, x2 (ix2 r l) = A.pr R ⟨2048 + l.val, by omega⟩
  /-- The second branch's gates. -/
  e3 : ∀ l : Fin 1024, x3 (ix2 r l) = A.pr R ⟨7168 + l.val, by omega⟩
  /-- The first merge gates. -/
  e4 : ∀ l : Fin 2048, x4 (ix2 r l) = A.pr R ⟨8192 + l.val, by omega⟩
  /-- The second merge gates. -/
  e5 : ∀ l : Fin 2048, x5 (ix2 r l) = A.pr R ⟨10240 + l.val, by omega⟩
  /-- The residual. -/
  e6 : ∀ l, x6 (ix2 r l) = A.hh R l
  /-- The first branch's scales. -/
  e7 : ∀ h v, x7 (ix2 0 (atM h v)) = A.x4 (ix3 0 h v)
  /-- The second branch's scales. -/
  e8 : ∀ h v, x8 (ix2 0 (atH h v)) = A.x5 (ix3 0 h v)
  /-- The first branch's weights. -/
  e9 : ∀ k d, x9 (ix2 k d) = A.wM k d
  /-- The second branch's weights. -/
  e10 : ∀ k d, x10 (ix2 k d) = A.wH k d
  /-- The output weights. -/
  e11 : ∀ k d, x11 (ix2 k d) = A.wO k d
  /-- The norm's scales. -/
  e12 : ∀ d, x12 (ix2 0 d) = A.lg d
  /-- The norm's offsets. -/
  e13 : ∀ d, x13 (ix2 0 d) = A.lb d
  /-- The router's weights, rounded. -/
  e14 : ∀ d e, (h : e < 16) → x14 (ix2 d ⟨e, by omega⟩) = A.wR d ⟨e, h⟩
  /-- What the rounding left of them. -/
  e15 : ∀ d e, (h : e < 16) → x15 (ix2 d ⟨e, by omega⟩) = A.wR d ⟨e, h⟩ - A.wR d ⟨e, h⟩

section
variable {A : Args} {R : Fin 16384} {r : Fin 256} {x0 : Vec Ideal S2x256x1024 .f32} {x1 : Vec Ideal S2x256x1024 .f32} {x2 : Vec Ideal S256x1024 .f32} {x3 : Vec Ideal S256x1024 .f32} {x4 : Vec Ideal S256x2048 .f32} {x5 : Vec Ideal S256x2048 .f32} {x6 : Vec Ideal S256x2048 .f32} {x7 : Vec Ideal S1x1024 .f32} {x8 : Vec Ideal S1x1024 .f32} {x9 : Vec Ideal S1024x2048 .bf16} {x10 : Vec Ideal S1024x2048 .bf16} {x11 : Vec Ideal S2048x2048 .bf16} {x12 : Vec Ideal S1x2048 .f32} {x13 : Vec Ideal S1x2048 .f32} {x14 : Vec Ideal S2048x128 .bf16} {x15 : Vec Ideal S2048x128 .bf16}
  (b : Blk A R r x0 x1 x2 x3 x4 x5 x6 x7 x8 x9 x10 x11 x12 x13 x14 x15)
include b

/-- The first branch's row. -/
theorem both0 : both (View.ld x0 r0_0) (View.ld x0 r0_1) r = A.am R := by
  funext l
  unfold both Args.am
  rw [ld_first, ld_second, b.e0, b.e0]

/-- The second branch's row. -/
theorem both1 : both (View.ld x1 r0_0) (View.ld x1 r0_1) r = A.ah R := by
  funext l
  unfold both Args.ah
  rw [ld_first, ld_second, b.e1, b.e1]

/-- The first branch, gated. -/
theorem pay25_row (j : Fin 2048) : k0_pay25 x0 x1 x2 x3 x4 x5 x6 x7 x8 x9 x10 x11 x12 x13 x14 x15 (ix2 r j)
    = Ideal.logistic (A.pr R ⟨8192 + j.val, by omega⟩) * branchM (A.am R) A.gM (fun j => A.pr R ⟨2048 + j.val, by omega⟩) A.wM j := by
  have hb := both0 b
  unfold k0_pay25
  rw [View.ld_unit_lit (S := S1x1024) _ _ zeros, View.ld_unit_lit (S := S256x1024) _ _ zeros, View.ld_unit_lit (S := S1024x2048) _ _ zeros,
    View.ld_unit_lit (S := S256x2048) _ _ zeros]
  refine (pay19_apply _ _ r j).trans ?_
  rw [b.e4]
  refine congrArg (fun y => Ideal.logistic (A.pr R ⟨8192 + j.val, by omega⟩) * y) ?_
  refine (pay8_apply _ _ _ _ _ _ _ _ r (A.am R) (fun l => ?_) (fun l => ?_) (fun l => ?_) (fun l => ?_) j).trans ?_
  · rw [headM_0, hb]
  · rw [headM_1, hb]
  · rw [headM_2, hb]
  · rw [headM_3, hb]
  · unfold branchM
    simp only [b.e7, Args.gM_at, b.e2, b.e9]

/-- The second branch's row, again. -/
theorem pay24_row (x : Fin 1024) : k0_pay24 x0 x1 x2 x3 x4 x5 x6 x7 x8 x9 x10 x11 x12 x13 x14 x15 (ix2 r x) = A.ah R x := by
  unfold k0_pay24
  rw [pay9_apply, both1 b]

/-- The second branch, gated. -/
theorem pay26_row (j : Fin 2048) : k0_pay26 x0 x1 x2 x3 x4 x5 x6 x7 x8 x9 x10 x11 x12 x13 x14 x15 (ix2 r j)
    = Ideal.logistic (A.pr R ⟨10240 + j.val, by omega⟩) * branchH (A.ah R) A.gH (fun j => A.pr R ⟨7168 + j.val, by omega⟩) A.wH j := by
  have hb := both1 b
  have h24 := pay24_row b
  unfold k0_pay26
  rw [View.ld_unit_lit (S := S1x1024) _ _ zeros, View.ld_unit_lit (S := S256x1024) _ _ zeros, View.ld_unit_lit (S := S1024x2048) _ _ zeros,
    View.ld_unit_lit (S := S256x2048) _ _ zeros]
  refine (pay20_apply _ _ _ _ _ _ _ _ _ _ _ _ r (A.ah R) h24 (fun l => ?_) (fun l => ?_) (fun l => ?_) (fun l => ?_) (fun l => ?_) (fun l => ?_) j).trans ?_
  · rw [headH_0, hb]
  · rw [headH_1, hb]
  · rw [headH_2]; simp only [h24]
  · rw [headH_3]; simp only [h24]
  · rw [headH_4]; simp only [h24]
  · rw [headH_5]; simp only [h24]
  · rw [b.e5]
    unfold branchH
    simp only [b.e8, Args.gH_at, b.e3, b.e10]

/-- The stored row. -/
theorem stored_row (l : Fin 2048) :
    k0_pay21 (k0_pay25 x0 x1 x2 x3 x4 x5 x6 x7 x8 x9 x10 x11 x12 x13 x14 x15) (k0_pay26 x0 x1 x2 x3 x4 x5 x6 x7 x8 x9 x10 x11 x12 x13 x14 x15) x11 x6 x12 x13 (ix2 r l) = A.h1 R l := by
  refine (pay21_apply _ _ _ _ _ _ r _ _ _ _ (pay25_row b) (pay26_row b) l).trans ?_
  unfold Args.h1 Args.row
  simp only [b.e6, b.e11, b.e12, b.e13]

/-- The stored affinities, where the norm's scales and offsets and the router's weights are real numbers. -/
theorem affs_row (hA : A.Real) (e : Fin 128) :
    k0_pay1 (k0_pay22 (k0_pay25 x0 x1 x2 x3 x4 x5 x6 x7 x8 x9 x10 x11 x12 x13 x14 x15) (k0_pay26 x0 x1 x2 x3 x4 x5 x6 x7 x8 x9 x10 x11 x12 x13 x14 x15) x11 x6 x12 x13)
      (k0_pay23 (k0_pay25 x0 x1 x2 x3 x4 x5 x6 x7 x8 x9 x10 x11 x12 x13 x14 x15) (k0_pay26 x0 x1 x2 x3 x4 x5 x6 x7 x8 x9 x10 x11 x12 x13 x14 x15) x11 x6 x12 x13) x14 x15 (ix2 r e) = A.affs R e :=
  pay1_apply _ _ _ _ r (A.h1 R) A.wR (hA.h1 R) hA.wR (fun d => (pay22_apply _ _ _ _ _ _ _).trans (stored_row b d))
    (fun d => (pay23_apply _ _ _ _ _ _ _).trans (by rw [stored_row b d])) b.e14 b.e15 e

end

/-! ## The result arrays -/

variable (m : (ℓ : Loc nD τ sig) → Buf (Elt Ideal) ℓ) (c : Dev nD)

/-- The call's arguments. -/
def args : Args :=
  ⟨m ((c : Thread nD τ).loc main_arg0),
    m ((c : Thread nD τ).loc main_arg1),
    m ((c : Thread nD τ).loc main_arg2),
    m ((c : Thread nD τ).loc main_arg3),
    m ((c : Thread nD τ).loc main_arg4),
    m ((c : Thread nD τ).loc main_arg5),
    m ((c : Thread nD τ).loc main_arg6),
    m ((c : Thread nD τ).loc main_arg7),
    m ((c : Thread nD τ).loc main_arg8),
    m ((c : Thread nD τ).loc main_arg9),
    m ((c : Thread nD τ).loc main_arg10),
    m ((c : Thread nD τ).loc main_arg11)⟩

/-- A grid point's blocks are the arrays' rows. -/
theorem blk (t : Fin cfg0.N) (r : Fin 256) : Blk (args m c) (rowOf t r) r (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) where
  e0 k l := iblk0 m c t k r l
  e1 k l := iblk1 m c t k r l
  e2 l := iblk2 m c t r l
  e3 l := iblk3 m c t r l
  e4 l := iblk4 m c t r l
  e5 l := iblk5 m c t r l
  e6 l := iblk6 m c t r l
  e7 h v := iblk7 m c t h v
  e8 h v := iblk8 m c t h v
  e9 k d := iblk9 m c t k d
  e10 k d := iblk10 m c t k d
  e11 k d := iblk11 m c t k d
  e12 d := iblk12 m c t d
  e13 d := iblk13 m c t d
  e14 d e h := iblk14 m c t d e h
  e15 d e h := iblk15 m c t d e h

/-- The first result array after the run. -/
theorem final16 : (dats m 0 c).arrAt 16 cfg0.N = fun i => (args m c).h1 (i 0) (i 1) := by
  refine (dats m 0 c).arrAt_eq_of_covers 16 _ (by decide +kernel) fun t hf y => ?_
  blk_simp
  rw [after0_16]
  frame_out
  obtain ⟨r, e, rfl⟩ : ∃ (r : Fin 256) (e : Fin 2048), y = ix2 r e := ⟨y 0, y 1, eq_ix2 y⟩
  have h := idxOut t
  have hr : ((View.whole main_v20_0).slice (win0_16.rect t)).emb (ix2 r e) = ix2 (rowOf t r) e := by
    funext a
    apply Fin.ext
    match a with
    | ⟨0, _⟩ =>
      show win0_16.index t 0 * 256 + 1 * r.val = t.val * 256 + r.val
      rw [h.1]
      show t.val * 256 + 1 * r.val = t.val * 256 + r.val
      omega
    | ⟨1, _⟩ =>
      show win0_16.index t 1 * 2048 + 1 * e.val = e.val
      rw [h.1]
      show 0 * 2048 + 1 * e.val = e.val
      omega
  rw [hr]
  exact stored_row (blk m c t r) e

/-- The second result array after the run. -/
theorem final17 : (dats m 0 c).arrAt 17 cfg0.N = fun i => (args m c).h1 (i 0) (i 1) := by
  refine (dats m 0 c).arrAt_eq_of_covers 17 _ (by decide +kernel) fun t hf y => ?_
  blk_simp
  rw [after0_17]
  frame_out
  obtain ⟨r, e, rfl⟩ : ∃ (r : Fin 256) (e : Fin 2048), y = ix2 r e := ⟨y 0, y 1, eq_ix2 y⟩
  have h := idxOut t
  have hr : ((View.whole main_v20_1).slice (win0_17.rect t)).emb (ix2 r e) = ix2 (rowOf t r) e := by
    funext a
    apply Fin.ext
    match a with
    | ⟨0, _⟩ =>
      show win0_17.index t 0 * 256 + 1 * r.val = t.val * 256 + r.val
      rw [h.2.1]
      show t.val * 256 + 1 * r.val = t.val * 256 + r.val
      omega
    | ⟨1, _⟩ =>
      show win0_17.index t 1 * 2048 + 1 * e.val = e.val
      rw [h.2.1]
      show 0 * 2048 + 1 * e.val = e.val
      omega
  rw [hr]
  exact (pay22_apply _ _ _ _ _ _ _).trans (stored_row (blk m c t r) e)

/-- The third result array after the run. -/
theorem final18 (hA : (args m c).Real) : (dats m 0 c).arrAt 18 cfg0.N = fun i => (args m c).affs (i 0) (i 1) := by
  refine (dats m 0 c).arrAt_eq_of_covers 18 _ (by decide +kernel) fun t hf y => ?_
  blk_simp
  rw [after0_18]
  frame_out
  obtain ⟨r, e, rfl⟩ : ∃ (r : Fin 256) (e : Fin 128), y = ix2 r e := ⟨y 0, y 1, eq_ix2 y⟩
  have h := idxOut t
  have hr : ((View.whole main_v20_2).slice (win0_18.rect t)).emb (ix2 r e) = ix2 (rowOf t r) e := by
    funext a
    apply Fin.ext
    match a with
    | ⟨0, _⟩ =>
      show win0_18.index t 0 * 256 + 1 * r.val = t.val * 256 + r.val
      rw [h.2.2]
      show t.val * 256 + 1 * r.val = t.val * 256 + r.val
      omega
    | ⟨1, _⟩ =>
      show win0_18.index t 1 * 128 + 1 * e.val = e.val
      rw [h.2.2]
      show 0 * 128 + 1 * e.val = e.val
      omega
  rw [hr]
  exact affs_row (blk m c t r) hA e

end Cert.PostIdeal.Value

end
-- ==== Proof.PostRef.lean ====
/-
  The mixer's end as the reference computes it, at an index.
-/
module

public import proofs.«01_k».proof.Proof.Gen.PostRefIdeal.Run
public import proofs.«01_k».proof.Proof.PostArgs
public import Idealize.ShloMosaic.Lib.KernelVsHost
public import Idealize.ShloMosaic.Lib.Claim
public import Idealize.ShloMosaic.Lib.Tactic
public import Idealize.ShloMosaic.Lib.Pointwise

@[expose] public section

set_option maxRecDepth 16384

noncomputable section

namespace Cert.PostRefIdeal.Value

open Cert.PostRefIdeal Cert.PostRefIdeal.Gen Idealize.ShloMosaic Idealize.ShloMosaic.TcCoe Idealize.SL.Sem Cert.PostMath

variable (V0 : Valuation τ sig (Elt Ideal))

/-- The call's arguments. -/
def args : Args :=
  ⟨V0 (Proc.devRef .tc main_arg0),
    V0 (Proc.devRef .tc main_arg1),
    V0 (Proc.devRef .tc main_arg2),
    V0 (Proc.devRef .tc main_arg3),
    V0 (Proc.devRef .tc main_arg4),
    V0 (Proc.devRef .tc main_arg5),
    V0 (Proc.devRef .tc main_arg6),
    V0 (Proc.devRef .tc main_arg7),
    V0 (Proc.devRef .tc main_arg8),
    V0 (Proc.devRef .tc main_arg9),
    V0 (Proc.devRef .tc main_arg10),
    V0 (Proc.devRef .tc main_arg11)⟩

/-! ## The reference's values -/

/-- The first branch's rows by head. -/
theorem v9_apply (r : Fin 16384) (h : Fin 4) (v : Fin 256) : res_main_v9 V0 (ix3 r h v) = (args V0).am r (atM h v) := by
  unfold res_main_v9
  pointwise
  rfl

/-- The second branch's rows by head. -/
theorem v40_apply (r : Fin 16384) (h : Fin 8) (v : Fin 128) : res_main_v40 V0 (ix3 r h v) = (args V0).ah r (atH h v) := by
  unfold res_main_v40
  pointwise
  rfl

/-- The second branch's gates by head. -/
theorem v55_apply (r : Fin 16384) (h : Fin 8) (v : Fin 128) :
    res_main_v55 V0 (ix3 r h v) = (args V0).pr r ⟨7168 + (atH h v).val, by omega⟩ := by
  unfold res_main_v55
  pointwise
  rfl

/-- The merged row before its norm. -/
theorem v80_apply (r : Fin 16384) (d : Fin 2048) : res_main_v80 V0 (ix2 r d) = (args V0).row r d := by
  unfold res_main_v80 Args.row mixed branchM branchH rms
  pointwise
  simp only [v9_apply, v40_apply, v55_apply, Args.gM_at, Args.gH_at]
  rfl

/-- The first result. -/
theorem v106_apply (r : Fin 16384) (d : Fin 2048) : res_main_v106 V0 (ix2 r d) = (args V0).h1 r d := by
  unfold res_main_v106 res_main_v88 res_main_v86 Args.h1 PostMath.norm
  pointwise
  simp only [v80_apply]
  rfl

/-- The logits. -/
theorem v108_apply (r : Fin 16384) (e : Fin 16) : res_main_v108 V0 (ix2 r e) = logits ((args V0).h1 r) ((args V0).wR) e := by
  unfold res_main_v108 logits
  pointwise
  simp only [v106_apply]
  rfl

/-- The largest entry of a row. -/
theorem fold_row (f : S16384x16.Idx → EReal) (r : Fin 16384) :
    Finset.fold max ⊥ f {i | reducesTo_S16384x16_S16384_d1.drop i = ix1 r} = Finset.fold max ⊥ (fun e : Fin 16 => f (ix2 r e)) Finset.univ := by
  refine le_antisymm (α := EReal) ?_ ?_
  · refine (Finset.fold_max_le _).mpr ⟨bot_le, fun i hi => ?_⟩
    have h0 : i 0 = r := congrFun (Finset.mem_filter.mp hi).2 0
    obtain ⟨a, e, rfl⟩ : ∃ (a : Fin 16384) (e : Fin 16), i = ix2 a e := ⟨i 0, i 1, eq_ix2 i⟩
    have : a = r := h0
    subst this
    exact (Finset.le_fold_max _).mpr (Or.inr ⟨e, Finset.mem_univ _, le_rfl⟩)
  · refine (Finset.fold_max_le _).mpr ⟨bot_le, fun e _ => ?_⟩
    refine (Finset.le_fold_max _).mpr (Or.inr ⟨ix2 r e, Finset.mem_filter.mpr ⟨Finset.mem_univ _, ?_⟩, le_rfl⟩)
    funext a
    match a with
    | ⟨0, _⟩ => rfl

/-- The exponentials. -/
theorem v115_apply (r : Fin 16384) (e : Fin 16) :
    res_main_v115 V0 (ix2 r e)
      = Ideal.exp (logits ((args V0).h1 r) ((args V0).wR) e - Finset.fold max ⊥ (logits ((args V0).h1 r) ((args V0).wR)) Finset.univ) := by
  have hf : (fun e => res_main_v108 V0 (ix2 r e)) = logits ((args V0).h1 r) ((args V0).wR) := funext fun e => v108_apply V0 r e
  unfold res_main_v115
  pointwise
  rw [MlstmMath.neg_inf]
  refine congrArg Ideal.exp (congrArg₂ (fun a b : EReal => a - b) (v108_apply V0 r e) ?_)
  refine (max_eq_right bot_le).trans ((fold_row (res_main_v108 V0) r).trans ?_)
  exact congrArg (fun g => Finset.fold max ⊥ g Finset.univ) hf

/-- The softmax. -/
theorem soft_apply (r : Fin 16384) (e : Fin 16) :
    Host.divf (res_main_v115 V0) (broadcastInDim S16384x16 ![0, 1] bcast_S16384x1_S16384x16_0_1 (broadcastInDim S16384x1 ![0] bcast_S16384_S16384x1_0
      (Host.reduceAdd (res_main_v115 V0) (constant S_ .f32 0x00000000#32) reducesTo_S16384x16_S16384_d1 h_S_))) (ix2 r e)
      = soft (logits ((args V0).h1 r) ((args V0).wR)) e := by
  unfold soft
  pointwise
  simp only [v115_apply]

/-- The third result. -/
theorem aff_apply (x : FVec Ideal S16384x16 .f32) (r : Fin 16384) (l : Fin 16 → EReal) (hx : ∀ e, x (ix2 r e) = soft l e) (e : Fin 128) :
    pad S16384x128 ![0, 0] ![0, 112] ![0, 0] x (sitofp .f32 (constantI S_ 32 0#32)) pads_S16384x16_S16384x128_000_01120 h_S_ (ix2 r e)
      = aff l e := by
  unfold aff
  split
  · next h =>
    refine (pad_apply_of_inside _ _ _ _ _ _ _ _ (ix2 r ⟨e.val, h⟩) fun a => ?_).trans (hx _)
    match a with
    | ⟨0, _⟩ => show r.val = 0 + r.val * (0 + 1); omega
    | ⟨1, _⟩ => show e.val = 0 + e.val * (0 + 1); omega
  · next h =>
    refine (pad_apply_of_not_inside _ _ _ _ _ _ _ _ 1 ?_).trans ?_
    · rintro ⟨-, -, h3⟩
      have h4 : (e.val - 0) / (0 + 1) < 16 := h3
      omega
    · show (((0 : ℤ) : ℝ) : EReal) = 0
      simp

end Cert.PostRefIdeal.Value

end
-- ==== Proof.PostPre.lean ====
/-
  What the condition on the arguments of the mixer's end says: every entry of its last three arguments is a real number.
-/
module

public import proofs.«01_k».proof.Pre_finite_post
public import proofs.«01_k».proof.Proof.PostArgs
public import Idealize.ShloMosaic.Lib.Pointwise

@[expose] public section

set_option maxRecDepth 16384

noncomputable section

namespace Cert.Pre_finite_post

open Idealize.ShloMosaic Idealize.ShloMosaic.Tactic Cert.PostMath

/-- The side conditions of the condition's own operations. -/
theorem facts : Facts := ⟨by decide, by decide⟩

/-- A number whose absolute value is below infinity is real. -/
theorem real_of_lt (x : EReal) (h : max x (-x) < ⊤) : IsR x := by
  refine ⟨x.toReal, (EReal.coe_toReal (fun e => ?_) fun e => ?_).symm⟩
  · subst e; simp at h
  · subst e; simp at h

/-- The pattern of infinity. -/
theorem top_bits : Ideal.ofBits .f32 0x7F800000#32 = ⊤ := by
  simp [Ideal.ofBits, Ideal.ieee]

/-- The comparison with infinity holds of a real number only. -/
theorem real_of_cmp (x : EReal) (h : BitVec.ofBool (decide (max x (-x) < Ideal.ofBits .f32 0x7F800000#32)) = 1#1) : IsR x := by
  refine real_of_lt x ?_
  rw [top_bits] at h
  by_contra hn
  rw [decide_eq_false hn] at h
  exact absurd h (by decide)

/-- A comparison of an array's absolute values with infinity, at an index. -/
theorem real_at {s : Shape} (x : FVec Ideal s .f32) (b : S_.BroadcastsInDim s (![] : Fin 0 → Fin s.rank))
    (h : cmpf .olt (Host.absf x) (broadcastInDim s ![] b (constant (F := Ideal) S_ .f32 0x7F800000#32)) = fun _ => 1#1) (i : s.Idx) : IsR (x i) :=
  real_of_cmp _ (congrFun h i)

variable [Facts]

/-- The condition makes every entry of the last three arguments a real number. -/
theorem real (A : Args) (h : (fn (F := Ideal) A.x0 A.x1 A.x2 A.x3 A.x4 A.x5 A.x6 A.x7 A.x8 A.x9 A.x10 A.x11).1 = (fun _ => 1#1)
    ∧ (fn (F := Ideal) A.x0 A.x1 A.x2 A.x3 A.x4 A.x5 A.x6 A.x7 A.x8 A.x9 A.x10 A.x11).2.1 = (fun _ => 1#1)
    ∧ (fn (F := Ideal) A.x0 A.x1 A.x2 A.x3 A.x4 A.x5 A.x6 A.x7 A.x8 A.x9 A.x10 A.x11).2.2 = (fun _ => 1#1)) : A.Real := by
  unfold fn at h
  obtain ⟨h0, h1, h2⟩ := h
  exact
    { r9 := fun _ _ => real_at _ _ h0 _
      r10 := fun _ _ => real_at _ _ h1 _
      r11 := fun _ _ _ => real_at _ _ h2 _ }

end Cert.Pre_finite_post

end
-- ==== Proof.LnArgs.lean ====
/-
  The arguments of the layer's entry norm, and what the call computes from them.
-/
module

public import proofs.«01_k».proof.Proof.PostMath
public import Idealize.ShloMosaic.Lib.Pointwise

@[expose] public section

noncomputable section

namespace Cert.LnMath

open Idealize.ShloMosaic Cert.PostMath

/-- The five arguments. -/
structure Args where
  /-- The layer's input. -/
  x0 : (⟨3, ![2, 8192, 2048]⟩ : Shape).Idx → EReal
  /-- The norm's scales. -/
  x1 : (⟨1, ![2048]⟩ : Shape).Idx → EReal
  /-- The norm's offsets. -/
  x2 : (⟨1, ![2048]⟩ : Shape).Idx → EReal
  /-- The projection's weights. -/
  x3 : (⟨3, ![1, 2048, 12304]⟩ : Shape).Idx → EReal
  /-- The projection's offsets. -/
  x4 : (⟨2, ![1, 12304]⟩ : Shape).Idx → EReal

namespace Args

variable (A : Args)

/-- The input's rows, the two sequences one after the other. -/
def row (r : Fin 16384) (d : Fin 2048) : EReal := A.x0 (ix3 ⟨r.val / 8192, by omega⟩ ⟨r.val % 8192, by omega⟩ d)
/-- The norm's scales. -/
def lg (d : Fin 2048) : EReal := A.x1 (ix1 d)
/-- The norm's offsets. -/
def lb (d : Fin 2048) : EReal := A.x2 (ix1 d)
/-- The gates' weights. -/
def wG (d : Fin 2048) (e : Fin 16) : EReal := A.x3 (ix3 0 d ⟨3072 + e.val, by omega⟩)
/-- The gates' offsets. -/
def bG (e : Fin 16) : EReal := A.x4 (ix2 0 ⟨3072 + e.val, by omega⟩)

/-- The normalised row. -/
def h (r : Fin 16384) : Fin 2048 → EReal := norm (A.row r) A.lg A.lb

/-- The gates of a row, with zeros after the sixteen. -/
def gates (r : Fin 16384) (e : Fin 128) : EReal :=
  if p : e.val < 16 then (∑ d, A.h r d * A.wG d ⟨e.val, p⟩) + A.bG ⟨e.val, p⟩ else 0

/-- Every entry of the norm's scales, the norm's offsets and the gates' weights is a real number. -/
structure Real : Prop where
  /-- The norm's scales. -/
  lg : ∀ d, IsR (A.lg d)
  /-- The norm's offsets. -/
  lb : ∀ d, IsR (A.lb d)
  /-- The gates' weights. -/
  wG : ∀ d e, IsR (A.wG d e)

variable {A}

/-- The normalised row is then real. -/
theorem Real.h (p : A.Real) (r : Fin 16384) (d : Fin 2048) : IsR (A.h r d) := norm_real _ p.lg p.lb d

end Args

/-- The kernel's sums for one column of the gates: the row in two parts, against weights in two parts, and the offset. -/
theorem gates_split {A : Args} (p : A.Real) (r : Fin 16384) (e : Fin 128) {wh wl : Fin 2048 → EReal} {b : EReal}
    (hh : ∀ d, wh d = if q : e.val < 16 then A.wG d ⟨e.val, q⟩ else 0) (hl : ∀ d, wl d = wh d - wh d)
    (hb : b = if q : e.val < 16 then A.bG ⟨e.val, q⟩ else 0) :
    (∑ d, A.h r d * wh d) + (∑ d, (A.h r d - A.h r d) * wh d) + (∑ d, A.h r d * wl d) + b = A.gates r e := by
  have hw : ∀ d, IsR (wh d) := fun d => by
    rw [hh d]
    split
    · exact p.wG _ _
    · exact ⟨0, rfl⟩
  simp only [hl]
  rw [logit_split (p.h r) hw, hb]
  unfold Args.gates
  simp only [hh]
  split
  · rfl
  · simp only [mul_zero, Finset.sum_const_zero, add_zero]

end Cert.LnMath

end
-- ==== Proof.LnBlocks.lean ====
/-
  The entry norm on one block of rows: what the kernel's values are at an index, and the blocks it stages at a grid point.
-/
module

public import proofs.«01_k».proof.Proof.Gen.LnIdeal.Value
public import proofs.«01_k».proof.Proof.LnArgs
public import Idealize.ShloMosaic.Lib.Pipeline.ValueKit
public import Idealize.ShloMosaic.Lib.KernelVsHost
public import Idealize.ShloMosaic.Lib.Claim
public import Idealize.ShloMosaic.Lib.Tactic
public import Idealize.ShloMosaic.Lib.Pointwise

@[expose] public section

set_option maxRecDepth 16384

noncomputable section

namespace Cert.LnIdeal.Value

open Cert.LnIdeal Cert.LnIdeal.Gen Idealize.ShloMosaic Idealize.ShloMosaic.TcCoe Idealize.SL.Sem Cert.PostMath Cert.LnMath

/-! ## The kernel's values -/

/-- The stored row. -/
theorem pay2_apply (v0 : Vec Ideal S512x2048 .f32) (v2 v4 : Vec Ideal S1x2048 .f32) (r : Fin 512) (d : Fin 2048) :
    k0_pay2 v0 v2 v4 (ix2 r d)
      = PostMath.norm (fun d => v0 (ix2 r d)) (fun d => v2 (ix2 0 d)) (fun d => v4 (ix2 0 d)) d := by
  unfold k0_pay2 PostMath.norm
  pointwise

/-- The rounded row is the row. -/
theorem pay3_apply (v0 : Vec Ideal S512x2048 .f32) (v2 v4 : Vec Ideal S1x2048 .f32) (i : S512x2048.Idx) :
    k0_pay3 v0 v2 v4 i = k0_pay2 v0 v2 v4 i := by
  unfold k0_pay3
  rfl

/-- The products of the row's two parts with the rounded weights. -/
theorem pay4_apply (v0 : Vec Ideal S512x2048 .f32) (v2 v4 : Vec Ideal S1x2048 .f32) (v32 : Vec Ideal S128x2048 .bf16) (r : Fin 512)
    (x : Fin 2048 → EReal) (hx : ∀ d, k0_pay2 v0 v2 v4 (ix2 r d) = x d) (e : Fin 128) :
    k0_pay4 v0 v2 v4 v32 (ix2 r e) = (∑ d, x d * v32 (ix2 e d)) + ∑ d, (x d - x d) * v32 (ix2 e d) := by
  have h3 : ∀ d, k0_pay3 v0 v2 v4 (ix2 r d) = x d := fun d => (pay3_apply _ _ _ _).trans (hx d)
  unfold k0_pay4
  pointwise
  simp only [hx, h3]

/-- The stored gates, from the three products and the offsets. -/
theorem pay1_apply (v27 : FVec Ideal S512x2048 .bf16) (v36 : FVec Ideal S512x128 .f32) (v37 : Vec Ideal S128x2048 .bf16) (v41 : Vec Ideal S1x128 .f32)
    (r : Fin 512) (e : Fin 128) :
    k0_pay1 v27 v36 v37 v41 (ix2 r e) = v36 (ix2 r e) + (∑ d, v27 (ix2 r d) * v37 (ix2 e d)) + v41 (ix2 0 e) := by
  unfold k0_pay1
  pointwise

/-! ## The call's arguments -/

variable (m : (ℓ : Loc nD τ sig) → Buf (Elt Ideal) ℓ)

/-- The call's arguments. -/
def args (c : Dev nD) : Args :=
  ⟨m ((c : Thread nD τ).loc main_arg0),
    m ((c : Thread nD τ).loc main_arg1),
    m ((c : Thread nD τ).loc main_arg2),
    m ((c : Thread nD τ).loc main_arg3),
    m ((c : Thread nD τ).loc main_arg4)⟩

/-! ## The blocks -/

/-- A grid point's number lies inside the grid. -/
theorem lt_N (t : Fin cfg0.N) : t.val < 32 := lt_of_lt_of_eq t.isLt N_0

/-- The block indices of the windows that read. -/
theorem idxAll : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The block indices of the results' windows. -/
theorem idxOut : ∀ t : Fin cfg0.N, win0_6.index t = ![t.val, 0] ∧ win0_7.index t = ![t.val, 0] ∧ win0_8.index t = ![t.val, 0] :=
  (by decide +kernel : ∀ t : Fin grid0.N, _)

/-- The array row of a row of a point's block. -/
abbrev rowOf (t : Fin cfg0.N) (r : Fin 512) : Fin 16384 := ⟨t.val * 512 + r.val, by have := lt_N t; omega⟩

/-- The input's rows. -/
theorem entry0 (c : Dev nD) (r : Fin 16384) (d : Fin 2048) : V m c main_v12 (ix2 r d) = (args m c).row r d := by
  unfold V
  simp only [List.flatten_cons, List.flatten_nil, List.append_nil, List.cons_append, List.nil_append, hostOps0, hostOps0_1, hostOps0_2, hostOps0_3, hostOps0_4]
  entry_read
  pointwise
  rfl

/-- Their block. -/
theorem iblk0 (c : Dev nD) (t : Fin cfg0.N) (r : Fin 512) (d : Fin 2048) : iblk m c 0 t (ix2 r d) = (args m c).row (rowOf t r) d := by
  refine Eq.trans ?_ (entry0 m c (rowOf t r) d)
  have h1 := lt_N t
  blk_ext! [iblk, idxAll t]

/-- The norm's scales. -/
theorem entry1 (c : Dev nD) (d : Fin 2048) : V m c main_v13 (ix2 0 d) = (args m c).lg d := by
  unfold V
  simp only [List.flatten_cons, List.flatten_nil, List.append_nil, List.cons_append, List.nil_append, hostOps0, hostOps0_1, hostOps0_2, hostOps0_3, hostOps0_4]
  entry_read
  pointwise
  rfl

/-- Their block. -/
theorem iblk1 (c : Dev nD) (t : Fin cfg0.N) (d : Fin 2048) : iblk m c 1 t (ix2 0 d) = (args m c).lg d := by
  refine Eq.trans ?_ (entry1 m c d)
  blk_ext! [iblk, idxAll t]

/-- The norm's offsets. -/
theorem entry2 (c : Dev nD) (d : Fin 2048) : V m c main_v14 (ix2 0 d) = (args m c).lb d := by
  unfold V
  simp only [List.flatten_cons, List.flatten_nil, List.append_nil, List.cons_append, List.nil_append, hostOps0, hostOps0_1, hostOps0_2, hostOps0_3, hostOps0_4]
  entry_read
  pointwise
  rfl

/-- Their block. -/
theorem iblk2 (c : Dev nD) (t : Fin cfg0.N) (d : Fin 2048) : iblk m c 2 t (ix2 0 d) = (args m c).lb d := by
  refine Eq.trans ?_ (entry2 m c d)
  blk_ext! [iblk, idxAll t]

/-- Sixteen rows of an array, with rows of zeros after them. -/
theorem pad_rows (x : FVec Ideal S16x2048 .f32) (e : Fin 128) (d : Fin 2048) :
    pad S128x2048 ![0, 0] ![112, 0] ![0, 0] x (sitofp .f32 (constantI S_ 32 0#32)) pads_S16x2048_S128x2048_01120_000 h_S_ (ix2 e d)
      = if h : e.val < 16 then x (ix2 ⟨e.val, h⟩ d) else (0 : EReal) := by
  split
  · next h =>
    refine pad_apply_of_inside _ _ _ _ _ _ _ _ (ix2 ⟨e.val, h⟩ d) fun a => ?_
    match a with
    | ⟨0, _⟩ => show e.val = 0 + e.val * (0 + 1); omega
    | ⟨1, _⟩ => show d.val = 0 + d.val * (0 + 1); omega
  · next h =>
    refine (pad_apply_of_not_inside _ _ _ _ _ _ _ _ 0 ?_).trans ?_
    · rintro ⟨-, -, h3⟩
      have h4 : (e.val - 0) / (0 + 1) < 16 := h3
      omega
    · show (((0 : ℤ) : ℝ) : EReal) = 0
      simp

/-- Sixteen numbers, with zeros after them. -/
theorem pad_list (x : FVec Ideal S16 .f32) (e : Fin 128) :
    pad S128 ![0] ![112] ![0] x (sitofp .f32 (constantI S_ 32 0#32)) pads_S16_S128_01120 h_S_ (ix1 e)
      = if h : e.val < 16 then x (ix1 ⟨e.val, h⟩) else (0 : EReal) := by
  split
  · next h =>
    refine pad_apply_of_inside _ _ _ _ _ _ _ _ (ix1 ⟨e.val, h⟩) fun a => ?_
    match a with
    | ⟨0, _⟩ => show e.val = 0 + e.val * (0 + 1); omega
  · next h =>
    refine (pad_apply_of_not_inside _ _ _ _ _ _ _ _ 0 ?_).trans ?_
    · rintro ⟨-, -, h3⟩
      have h4 : (e.val - 0) / (0 + 1) < 16 := h3
      omega
    · show (((0 : ℤ) : ℝ) : EReal) = 0
      simp

/-- The gates' weights among 128 columns. -/
def wide (c : Dev nD) (e : Fin 128) (d : Fin 2048) : EReal := if h : e.val < 16 then (args m c).wG d ⟨e.val, h⟩ else 0

/-- The gates' rows of the transposed weights. -/
theorem cut_rows (x : FVec Ideal S2048x12304 .f32) (e : Fin 16) (d : Fin 2048) :
    extractStridedSlice S16x2048 ![3072, 0] (transpose S12304x2048 [1, 0] x transposes_S2048x12304_S12304x2048_1_0)
      slices_S12304x2048_S16x2048_3072_0 (ix2 e d) = x (ix2 d ⟨3072 + e.val, by omega⟩) := by
  pointwise

/-- The same with rows of zeros after them. -/
theorem wide_of (c : Dev nD) (x : FVec Ideal S2048x12304 .f32) (hx : ∀ d e, x (ix2 d e) = (args m c).x3 (ix3 0 d e)) (e : Fin 128) (d : Fin 2048) :
    pad S128x2048 ![0, 0] ![112, 0] ![0, 0]
      (extractStridedSlice S16x2048 ![3072, 0] (transpose S12304x2048 [1, 0] x transposes_S2048x12304_S12304x2048_1_0) slices_S12304x2048_S16x2048_3072_0)
      (sitofp .f32 (constantI S_ 32 0#32)) pads_S16x2048_S128x2048_01120_000 h_S_ (ix2 e d) = wide m c e d := by
  rw [pad_rows]
  unfold wide Args.wG
  split
  · exact (cut_rows _ _ _).trans (hx _ _)
  · rfl

/-- The gates' weights, rounded. -/
theorem entry3 (c : Dev nD) (e : Fin 128) (d : Fin 2048) : V m c main_v4 (ix2 e d) = wide m c e d := by
  unfold V
  simp only [List.flatten_cons, List.flatten_nil, List.append_nil, List.cons_append, List.nil_append, hostOps0, hostOps0_1, hostOps0_2, hostOps0_3, hostOps0_4]
  entry_read
  pointwise
  exact wide_of m c _ (fun _ _ => rfl) e d

/-- Their block. -/
theorem iblk3 (c : Dev nD) (t : Fin cfg0.N) (e : Fin 128) (d : Fin 2048) : iblk m c 3 t (ix2 e d) = wide m c e d := by
  refine Eq.trans ?_ (entry3 m c e d)
  blk_ext! [iblk, idxAll t]

/-- What the rounding left of them. -/
theorem entry4 (c : Dev nD) (e : Fin 128) (d : Fin 2048) : V m c main_v7 (ix2 e d) = wide m c e d - wide m c e d := by
  unfold V
  simp only [List.flatten_cons, List.flatten_nil, List.append_nil, List.cons_append, List.nil_append, hostOps0, hostOps0_1, hostOps0_2, hostOps0_3, hostOps0_4]
  entry_read
  pointwise
  exact congrArg₂ (fun a b : EReal => a - b) (wide_of m c _ (fun _ _ => rfl) e d) (wide_of m c _ (fun _ _ => rfl) e d)

/-- Their block. -/
theorem iblk4 (c : Dev nD) (t : Fin cfg0.N) (e : Fin 128) (d : Fin 2048) : iblk m c 4 t (ix2 e d) = wide m c e d - wide m c e d := by
  refine Eq.trans ?_ (entry4 m c e d)
  blk_ext! [iblk, idxAll t]

/-- The gates' offsets. -/
theorem entry5 (c : Dev nD) (e : Fin 128) :
    V m c main_v11 (ix2 0 e) = if h : e.val < 16 then (args m c).bG ⟨e.val, h⟩ else (0 : EReal) := by
  unfold V
  simp only [List.flatten_cons, List.flatten_nil, List.append_nil, List.cons_append, List.nil_append, hostOps0, hostOps0_1, hostOps0_2, hostOps0_3, hostOps0_4]
  entry_read
  pointwise
  refine (pad_list _ e).trans ?_
  pointwise
  rfl

/-- Their block. -/
theorem iblk5 (c : Dev nD) (t : Fin cfg0.N) (e : Fin 128) :
    iblk m c 5 t (ix2 0 e) = if h : e.val < 16 then (args m c).bG ⟨e.val, h⟩ else (0 : EReal) := by
  refine Eq.trans ?_ (entry5 m c e)
  blk_ext! [iblk, idxAll t]

end Cert.LnIdeal.Value

end
-- ==== Proof.LnValue.lean ====
/-
  What the kernel of the entry norm leaves in its three result arrays.
-/
module

public import proofs.«01_k».proof.Proof.LnBlocks

@[expose] public section

set_option maxRecDepth 16384

noncomputable section

namespace Cert.LnIdeal.Value

open Cert.LnIdeal Cert.LnIdeal.Gen Idealize.ShloMosaic Idealize.ShloMosaic.TcCoe Idealize.SL.Sem Cert.PostMath Cert.LnMath

variable (m : (ℓ : Loc nD τ sig) → Buf (Elt Ideal) ℓ) (c : Dev nD)

/-- The stored row. -/
theorem stored_row (t : Fin cfg0.N) (r : Fin 512) (d : Fin 2048) :
    k0_pay2 (iblk m c 0 t) (iblk m c 1 t) (iblk m c 2 t) (ix2 r d) = (args m c).h (rowOf t r) d := by
  have e0 : (fun d => iblk m c 0 t (ix2 r d)) = (args m c).row (rowOf t r) := funext fun d => iblk0 m c t r d
  have e1 : (fun d => iblk m c 1 t (ix2 0 d)) = (args m c).lg := funext fun d => iblk1 m c t d
  have e2 : (fun d => iblk m c 2 t (ix2 0 d)) = (args m c).lb := funext fun d => iblk2 m c t d
  refine (pay2_apply _ _ _ r d).trans ?_
  unfold Args.h
  exact (congrArg₂ (fun x y => PostMath.norm x y _ d) e0 e1).trans (congrArg (fun z => PostMath.norm _ _ z d) e2)

/-- The stored gates, where the norm's scales and offsets and the gates' weights are real numbers. -/
theorem gates_row (hA : (args m c).Real) (t : Fin cfg0.N) (r : Fin 512) (e : Fin 128) :
    k0_pay1 (k0_pay3 (iblk m c 0 t) (iblk m c 1 t) (iblk m c 2 t)) (k0_pay4 (iblk m c 0 t) (iblk m c 1 t) (iblk m c 2 t) (iblk m c 3 t))
      (iblk m c 4 t) (iblk m c 5 t) (ix2 r e) = (args m c).gates (rowOf t r) e := by
  have h2 := stored_row m c t r
  have h3 : ∀ d, k0_pay3 (iblk m c 0 t) (iblk m c 1 t) (iblk m c 2 t) (ix2 r d) = (args m c).h (rowOf t r) d :=
    fun d => (pay3_apply _ _ _ _).trans (h2 d)
  refine (pay1_apply _ _ _ _ r e).trans ?_
  rw [pay4_apply _ _ _ _ r _ h2 e]
  refine Eq.trans ?_ (gates_split hA (rowOf t r) e (iblk3 m c t e)
    (fun d => (iblk4 m c t e d).trans (congrArg₂ (fun a b : EReal => a - b) (iblk3 m c t e d).symm (iblk3 m c t e d).symm)) (iblk5 m c t e))
  simp only [h3]

/-- The first result array after the run. -/
theorem final6 : (dats m 0 c).arrAt 6 cfg0.N = fun i => (args m c).h (i 0) (i 1) := by
  refine (dats m 0 c).arrAt_eq_of_covers 6 _ (by decide +kernel) fun t hf y => ?_
  blk_simp
  rw [after0_6]
  frame_out
  obtain ⟨r, e, rfl⟩ : ∃ (r : Fin 512) (e : Fin 2048), y = ix2 r e := ⟨y 0, y 1, eq_ix2 y⟩
  have h := idxOut t
  have hr : ((View.whole main_v15_0).slice (win0_6.rect t)).emb (ix2 r e) = ix2 (rowOf t r) e := by
    funext a
    apply Fin.ext
    match a with
    | ⟨0, _⟩ =>
      show win0_6.index t 0 * 512 + 1 * r.val = t.val * 512 + r.val
      rw [h.1]
      show t.val * 512 + 1 * r.val = t.val * 512 + r.val
      omega
    | ⟨1, _⟩ =>
      show win0_6.index t 1 * 2048 + 1 * e.val = e.val
      rw [h.1]
      show 0 * 2048 + 1 * e.val = e.val
      omega
  rw [hr]
  exact stored_row m c t r e

/-- The second result array after the run. -/
theorem final7 : (dats m 0 c).arrAt 7 cfg0.N = fun i => (args m c).h (i 0) (i 1) := by
  refine (dats m 0 c).arrAt_eq_of_covers 7 _ (by decide +kernel) fun t hf y => ?_
  blk_simp
  rw [after0_7]
  frame_out
  obtain ⟨r, e, rfl⟩ : ∃ (r : Fin 512) (e : Fin 2048), y = ix2 r e := ⟨y 0, y 1, eq_ix2 y⟩
  have h := idxOut t
  have hr : ((View.whole main_v15_1).slice (win0_7.rect t)).emb (ix2 r e) = ix2 (rowOf t r) e := by
    funext a
    apply Fin.ext
    match a with
    | ⟨0, _⟩ =>
      show win0_7.index t 0 * 512 + 1 * r.val = t.val * 512 + r.val
      rw [h.2.1]
      show t.val * 512 + 1 * r.val = t.val * 512 + r.val
      omega
    | ⟨1, _⟩ =>
      show win0_7.index t 1 * 2048 + 1 * e.val = e.val
      rw [h.2.1]
      show 0 * 2048 + 1 * e.val = e.val
      omega
  rw [hr]
  exact (pay3_apply _ _ _ _).trans (stored_row m c t r e)

/-- The third result array after the run. -/
theorem final8 (hA : (args m c).Real) : (dats m 0 c).arrAt 8 cfg0.N = fun i => (args m c).gates (i 0) (i 1) := by
  refine (dats m 0 c).arrAt_eq_of_covers 8 _ (by decide +kernel) fun t hf y => ?_
  blk_simp
  rw [after0_8]
  frame_out
  obtain ⟨r, e, rfl⟩ : ∃ (r : Fin 512) (e : Fin 128), y = ix2 r e := ⟨y 0, y 1, eq_ix2 y⟩
  have h := idxOut t
  have hr : ((View.whole main_v15_2).slice (win0_8.rect t)).emb (ix2 r e) = ix2 (rowOf t r) e := by
    funext a
    apply Fin.ext
    match a with
    | ⟨0, _⟩ =>
      show win0_8.index t 0 * 512 + 1 * r.val = t.val * 512 + r.val
      rw [h.2.2]
      show t.val * 512 + 1 * r.val = t.val * 512 + r.val
      omega
    | ⟨1, _⟩ =>
      show win0_8.index t 1 * 128 + 1 * e.val = e.val
      rw [h.2.2]
      show 0 * 128 + 1 * e.val = e.val
      omega
  rw [hr]
  exact gates_row m c hA t r e

end Cert.LnIdeal.Value

end
-- ==== Proof.LnRef.lean ====
/-
  The entry norm as the reference computes it, at an index.
-/
module

public import proofs.«01_k».proof.Proof.Gen.LnRefIdeal.Run
public import proofs.«01_k».proof.Proof.LnArgs
public import Idealize.ShloMosaic.Lib.KernelVsHost
public import Idealize.ShloMosaic.Lib.Claim
public import Idealize.ShloMosaic.Lib.Tactic
public import Idealize.ShloMosaic.Lib.Pointwise

@[expose] public section

set_option maxRecDepth 16384

noncomputable section

namespace Cert.LnRefIdeal.Value

open Cert.LnRefIdeal Cert.LnRefIdeal.Gen Idealize.ShloMosaic Idealize.ShloMosaic.TcCoe Idealize.SL.Sem Cert.PostMath Cert.LnMath

variable (A : Args)

/-- The mean of each row. -/
abbrev mean (x : FVec Ideal S2x8192x2048 .f32) : FVec Ideal S2x8192x2048 .f32 :=
  broadcastInDim S2x8192x2048 ![0, 1, 2] bcast_S2x8192x1_S2x8192x2048_0_1_2 (Host.divf (broadcastInDim S2x8192x1 ![0, 1] bcast_S2x8192_S2x8192x1_0_1 (Host.reduceAdd x (constant S_ .f32 0x00000000#32) reducesTo_S2x8192x2048_S2x8192_d2 h_S_)) (broadcastInDim S2x8192x1 ![] bcast_S_S2x8192x1 (constant S_ .f32 0x45000000#32)))

/-- The layer norm of the input. -/
abbrev normed (x : FVec Ideal S2x8192x2048 .f32) (g b : FVec Ideal S2048 .f32) : FVec Ideal S2x8192x2048 .f32 :=
  addf (mulf (mulf (subf x (mean x)) (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf (subf x (mean x)) (subf x (mean x))) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x3727C5AC#32)))))) (broadcastInDim S2x8192x2048 ![0, 1, 2] bcast_S1x1x2048_S2x8192x2048_0_1_2 (broadcastInDim S1x1x2048 ![2] bcast_S2048_S1x1x2048_2 g))) (broadcastInDim S2x8192x2048 ![0, 1, 2] bcast_S1x1x2048_S2x8192x2048_0_1_2 (broadcastInDim S1x1x2048 ![2] bcast_S2048_S1x1x2048_2 b))

/-- Its entries. -/
theorem normed_apply (k : Fin 2) (s : Fin 8192) (d : Fin 2048) :
    normed A.x0 A.x1 A.x2 (ix3 k s d) = PostMath.norm (fun d => A.x0 (ix3 k s d)) A.lg A.lb d := by
  unfold PostMath.norm Args.lg Args.lb
  pointwise

/-- The first result. -/
theorem h_apply (r : Fin 16384) (d : Fin 2048) :
    shapeCast S16384x2048 (normed A.x0 A.x1 A.x2) shapeCasts_S2x8192x2048_S16384x2048 (ix2 r d) = A.h r d := by
  refine Eq.trans ?_ (normed_apply A ⟨r.val / 8192, by omega⟩ ⟨r.val % 8192, by omega⟩ d)
  generalize normed A.x0 A.x1 A.x2 = x
  pointwise

/-- The gates before the cut. -/
abbrev full (x : FVec Ideal S2x8192x2048 .f32) (w : FVec Ideal S1x2048x12304 .f32) (b : FVec Ideal S1x12304 .f32) : FVec Ideal S2x8192x12304 .f32 :=
  addf (Host.dotGeneral dot_S2x8192x2048_S2048x12304_S2x8192x12304_2_0_01_1_n_n none x (shapeCast _ w shapeCasts_S1x2048x12304_S2048x12304)) (broadcastInDim S2x8192x12304 ![0, 1, 2] bcast_S1x1x12304_S2x8192x12304_0_1_2 (broadcastInDim S1x1x12304 ![2] bcast_S12304_S1x1x12304_2 (shapeCast _ b shapeCasts_S1x12304_S12304)))

/-- Their entries. -/
theorem full_apply (x : FVec Ideal S2x8192x2048 .f32) (w : FVec Ideal S1x2048x12304 .f32) (b : FVec Ideal S1x12304 .f32)
    (k : Fin 2) (s : Fin 8192) (e : Fin 12304) :
    full x w b (ix3 k s e) = (∑ d, x (ix3 k s d) * w (ix3 0 d e)) + b (ix2 0 e) := by
  pointwise

/-- Sixteen columns of an array, with columns of zeros after them. -/
theorem pad_cols (x : FVec Ideal S2x8192x16 .f32) (k : Fin 2) (s : Fin 8192) (e : Fin 128) :
    pad S2x8192x128 ![0, 0, 0] ![0, 0, 112] ![0, 0, 0] x (sitofp .f32 (constantI S_ 32 0#32)) pads_S2x8192x16_S2x8192x128_000_000_01120 h_S_ (ix3 k s e)
      = if h : e.val < 16 then x (ix3 k s ⟨e.val, h⟩) else (0 : EReal) := by
  split
  · next h =>
    refine pad_apply_of_inside _ _ _ _ _ _ _ _ (ix3 k s ⟨e.val, h⟩) fun a => ?_
    match a with
    | ⟨0, _⟩ => show k.val = 0 + k.val * (0 + 1); omega
    | ⟨1, _⟩ => show s.val = 0 + s.val * (0 + 1); omega
    | ⟨2, _⟩ => show e.val = 0 + e.val * (0 + 1); omega
  · next h =>
    refine (pad_apply_of_not_inside _ _ _ _ _ _ _ _ 2 ?_).trans ?_
    · rintro ⟨-, -, h3⟩
      have h4 : (e.val - 0) / (0 + 1) < 16 := h3
      omega
    · show (((0 : ℤ) : ℝ) : EReal) = 0
      simp

/-- The cut. -/
theorem cut_apply (x : FVec Ideal S2x8192x12304 .f32) (k : Fin 2) (s : Fin 8192) (e : Fin 16) :
    extractStridedSlice S2x8192x16 ![0, 0, 3072] x slices_S2x8192x12304_S2x8192x16_0_0_3072 (ix3 k s e) = x (ix3 k s ⟨3072 + e.val, by omega⟩) := by
  pointwise

/-- The rows of the padded gates. -/
theorem rows_apply (x : FVec Ideal S2x8192x128 .f32) (r : Fin 16384) (e : Fin 128) :
    shapeCast S16384x128 x shapeCasts_S2x8192x128_S16384x128 (ix2 r e) = x (ix3 ⟨r.val / 8192, by omega⟩ ⟨r.val % 8192, by omega⟩ e) := by
  pointwise

/-- The third result. -/
theorem gates_apply (r : Fin 16384) (e : Fin 128) :
    shapeCast S16384x128 (pad S2x8192x128 ![0, 0, 0] ![0, 0, 112] ![0, 0, 0]
      (extractStridedSlice S2x8192x16 ![0, 0, 3072] (full (normed A.x0 A.x1 A.x2) A.x3 A.x4) slices_S2x8192x12304_S2x8192x16_0_0_3072)
      (sitofp .f32 (constantI S_ 32 0#32)) pads_S2x8192x16_S2x8192x128_000_000_01120 h_S_) shapeCasts_S2x8192x128_S16384x128 (ix2 r e)
      = A.gates r e := by
  refine (rows_apply _ r e).trans ((pad_cols _ _ _ e).trans ?_)
  unfold Args.gates
  split
  · refine (cut_apply _ _ _ _).trans ((full_apply _ _ _ _ _ _).trans ?_)
    simp only [normed_apply]
    rfl
  · rfl

end Cert.LnRefIdeal.Value

end
-- ==== Proof.LnPre.lean ====
/-
  What the condition on the arguments of the entry norm says: every entry of the norm's scales and offsets and of the gates'
  weights is a real number.
-/
module

public import proofs.«01_k».proof.Pre_finite_ln
public import proofs.«01_k».proof.Proof.PostPre
public import proofs.«01_k».proof.Proof.LnArgs
public import Idealize.ShloMosaic.Lib.Pointwise

@[expose] public section

set_option maxRecDepth 16384

noncomputable section

namespace Cert.Pre_finite_ln

open Idealize.ShloMosaic Idealize.ShloMosaic.Tactic Cert.LnMath

/-- The side conditions of the condition's own operations. -/
theorem facts : Facts := ⟨by decide, by decide, by decide⟩

variable [Facts]

/-- The condition makes every entry of the norm's scales and offsets and of the gates' weights a real number. -/
theorem real (A : Args) (h : (fn (F := Ideal) A.x0 A.x1 A.x2 A.x3 A.x4).1 = (fun _ => 1#1)
    ∧ (fn (F := Ideal) A.x0 A.x1 A.x2 A.x3 A.x4).2.1 = (fun _ => 1#1)
    ∧ (fn (F := Ideal) A.x0 A.x1 A.x2 A.x3 A.x4).2.2 = (fun _ => 1#1)) : A.Real := by
  unfold fn at h
  obtain ⟨h0, h1, h2⟩ := h
  refine ⟨fun d => Cert.Pre_finite_post.real_at _ _ h0 (ix1 d), fun d => Cert.Pre_finite_post.real_at _ _ h1 (ix1 d), fun d e => ?_⟩
  have p := Cert.Pre_finite_post.real_at _ _ h2 (ix3 0 d e)
  revert p
  unfold Args.wG
  pointwise
  exact id

end Cert.Pre_finite_ln

end
-- ==== Proof.ConvArgs.lean ====
/-
  The arguments of the layer's convolution, and what the call computes from them.
-/
module

public import Idealize.ShloMosaic.Lib.IdealHost
public import Idealize.ShloMosaic.Lib.Pointwise

@[expose] public section

noncomputable section

namespace Cert.ConvMath

open Idealize.ShloMosaic

/-- The two arguments. -/
structure Args where
  /-- The projections, the two sequences one after the other. -/
  x0 : (⟨2, ![16384, 12288]⟩ : Shape).Idx → EReal
  /-- The five weights of each column. -/
  x1 : (⟨3, ![1, 5, 1024]⟩ : Shape).Idx → EReal

namespace Args

variable (A : Args)

/-- What weight `j` of the convolution meets at a row: the row `j - 2` further on in the same sequence, and zero before the
    sequence's first row and after its last. -/
def tap (R : Fin 16384) (j : Fin 5) (l : Fin 1024) : EReal :=
  if h : 2 ≤ R.val % 8192 + j.val ∧ R.val % 8192 + j.val < 8194 then
    A.x0 (ix2 ⟨R.val + j.val - 2, by omega⟩ ⟨l.val, by omega⟩)
  else 0

/-- A weight. -/
def w (j : Fin 5) (l : Fin 1024) : EReal := A.x1 (ix3 0 j l)

/-- The convolution. -/
def acc (R : Fin 16384) (l : Fin 1024) : EReal :=
  A.w 0 l * A.tap R 0 l + A.w 1 l * A.tap R 1 l + A.w 2 l * A.tap R 2 l + A.w 3 l * A.tap R 3 l + A.w 4 l * A.tap R 4 l

/-- Its silu. -/
def act (R : Fin 16384) (l : Fin 1024) : EReal := A.acc R l * Ideal.logistic (A.acc R l)

/-- The result: the queries' columns as they are, the keys' columns scaled. -/
def out (R : Fin 16384) (l : Fin 1024) : EReal :=
  if l.val < 512 then A.act R l else A.act R l * Ideal.ofBits .f32 0x3DB504F3#32

end Args

end Cert.ConvMath

end
-- ==== Proof.ConvBlocks.lean ====
/-
  The convolution on one block of rows: what the kernel's values are at an index, and the blocks it stages at a grid point.
-/
module

public import proofs.«01_k».proof.Proof.Gen.ConvIdeal.Value
public import proofs.«01_k».proof.Proof.ConvArgs
public import Idealize.ShloMosaic.Lib.Pipeline.ValueKit
public import Idealize.ShloMosaic.Lib.KernelVsHost
public import Idealize.ShloMosaic.Lib.Claim
public import Idealize.ShloMosaic.Lib.Tactic
public import Idealize.ShloMosaic.Lib.Pointwise

@[expose] public section

set_option maxRecDepth 16384

noncomputable section

namespace Cert.ConvIdeal.Value

open Cert.ConvIdeal Cert.ConvIdeal.Gen Idealize.ShloMosaic Idealize.ShloMosaic.TcCoe Idealize.SL.Sem Cert.ConvMath

/-! ## The kernel's values -/

/-- Row `r + 8` of the rotated 528 rows is row `r + 6 + j` of the rows themselves, for the rotation by `2 - j`. -/
theorem rot_apply (x : FVec Ideal S528x1024 .f32) (sb : BitVec 32) (j : Fin 5)
    (hs : ∀ r : Fin 512, (r.val + 8 + 528 - sb.toNat % 528) % 528 = r.val + 6 + j.val) (r : Fin 512) (l : Fin 1024) :
    extractStridedSlice S512x1024 ![8, 0] (dynamicRotate 0 sb none x rotates_S528x1024_d0) slices_S528x1024_o8_0_S512x1024 (ix2 r l)
      = x (ix2 ⟨r.val + 6 + j.val, by omega⟩ l) := by
  have h1 : extractStridedSlice S512x1024 ![8, 0] (dynamicRotate 0 sb none x rotates_S528x1024_d0) slices_S528x1024_o8_0_S512x1024 (ix2 r l)
      = dynamicRotate 0 sb none x rotates_S528x1024_d0 (ix2 ⟨r.val + 8, by omega⟩ l) := by
    generalize dynamicRotate 0 sb none x rotates_S528x1024_d0 = y
    pointwise
    exact congrArg (fun p => y (ix2 p l)) (Fin.ext (Nat.add_comm 8 r.val))
  refine h1.trans (dynamicRotate_apply _ _ _ _ _ _ fun b => ?_)
  match b with
  | ⟨0, _⟩ => exact (hs r).symm
  | ⟨1, _⟩ => rfl

/-- The same rows without a rotation. -/
theorem mid_apply (x : FVec Ideal S528x1024 .f32) (r : Fin 512) (l : Fin 1024) :
    extractStridedSlice S512x1024 ![8, 0] x slices_S528x1024_o8_0_S512x1024 (ix2 r l) = x (ix2 ⟨r.val + 6 + 2, by omega⟩ l) := by
  pointwise
  exact congrArg (fun p => x (ix2 p l)) (Fin.ext (Nat.add_comm 8 r.val))

/-- The sum of the first four products. -/
theorem pay3_apply (i : grid0.Coords) (v1 v5 : Vec Ideal S8x1024 .f32) (v8 : Vec Ideal S512x1024 .f32) (v11 v17 v23 v30 : Vec Ideal S1x1024 .f32)
    (r : Fin 512) (l : Fin 1024) (y : Fin 5 → EReal) (hy : ∀ j : Fin 5, k0_pay2 i v1 v5 v8 (ix2 ⟨r.val + 6 + j.val, by omega⟩ l) = y j) :
    k0_pay3 i v1 v5 v8 v11 v17 v23 v30 (ix2 r l)
      = v11 (ix2 0 l) * y 0 + v17 (ix2 0 l) * y 1 + v23 (ix2 0 l) * y 2 + v30 (ix2 0 l) * y 3 := by
  have r0 := (rot_apply (k0_pay2 i v1 v5 v8) 2#32 0 (by decide +kernel) r l).trans (hy 0)
  have r1 := (rot_apply (k0_pay2 i v1 v5 v8) 1#32 1 (by decide +kernel) r l).trans (hy 1)
  have r2 := (mid_apply (k0_pay2 i v1 v5 v8) r l).trans (hy 2)
  have r3 := (rot_apply (k0_pay2 i v1 v5 v8) 527#32 3 (by decide +kernel) r l).trans (hy 3)
  unfold k0_pay3
  rw [← r0, ← r1, ← r2, ← r3]
  generalize extractStridedSlice S512x1024 ![8, 0] (dynamicRotate 0 2#32 none (k0_pay2 i v1 v5 v8) rotates_S528x1024_d0) slices_S528x1024_o8_0_S512x1024 = y0
  generalize extractStridedSlice S512x1024 ![8, 0] (dynamicRotate 0 1#32 none (k0_pay2 i v1 v5 v8) rotates_S528x1024_d0) slices_S528x1024_o8_0_S512x1024 = y1
  generalize extractStridedSlice S512x1024 ![8, 0] (k0_pay2 i v1 v5 v8) slices_S528x1024_o8_0_S512x1024 = y2
  generalize extractStridedSlice S512x1024 ![8, 0] (dynamicRotate 0 527#32 none (k0_pay2 i v1 v5 v8) rotates_S528x1024_d0) slices_S528x1024_o8_0_S512x1024 = y3
  pointwise

/-- The stored value, from the sum of the first four products. -/
theorem pay1_apply (v9 : FVec Ideal S528x1024 .f32) (v35 : FVec Ideal S512x1024 .f32) (v37 v45 : Vec Ideal S1x1024 .f32) (r : Fin 512) (l : Fin 1024)
    (a : EReal) (ha : v35 (ix2 r l) + v37 (ix2 0 l) * v9 (ix2 ⟨r.val + 6 + (4 : Fin 5).val, by omega⟩ l) = a) :
    k0_pay1 v9 v35 526#32 v37 v45 (ix2 r l) = a * Ideal.logistic a * v45 (ix2 0 l) := by
  have r4 := rot_apply v9 526#32 4 (by decide +kernel) r l
  unfold k0_pay1
  rw [← ha, ← r4]
  generalize extractStridedSlice S512x1024 ![8, 0] (dynamicRotate 0 526#32 none v9 rotates_S528x1024_d0) slices_S528x1024_o8_0_S512x1024 = y4
  pointwise

/-- The 528 rows: eight rows before the block, the block, eight rows after it, the outer ones replaced by zeros at a
    sequence's start and end. -/
theorem pay2_apply (i : grid0.Coords) (v1 v5 : Vec Ideal S8x1024 .f32) (v8 : Vec Ideal S512x1024 .f32) (q : Fin 528) (l : Fin 1024) :
    k0_pay2 i v1 v5 v8 (ix2 q l)
      = if h0 : q.val < 8 then (if 0 < (i 1).val then v1 (ix2 ⟨q.val, h0⟩ l) else (0 : EReal))
        else if h1 : q.val - 8 < 512 then v8 (ix2 ⟨q.val - 8, h1⟩ l)
        else (if (i 1).val < 15 then v5 (ix2 ⟨q.val - 8 - 512, by omega⟩ l) else (0 : EReal)) := by
  have hg : ∀ n : Fin 16, (Scalar.cmpi .sgt (BitVec.ofNat 32 n.val) 0#32 = 1 ↔ 0 < n.val)
      ∧ (Scalar.cmpi .slt (BitVec.ofNat 32 n.val) 15#32 = 1 ↔ n.val < 15) := by decide +kernel
  obtain ⟨ha, hb⟩ := hg (i 1)
  unfold k0_pay2 Scalar.select
  simp only [ha, hb]
  split <;> split <;> pointwise

/-! ## The call's arguments -/

variable (m : (ℓ : Loc nD τ sig) → Buf (Elt Ideal) ℓ)

/-- The call's arguments. -/
def args (c : Dev nD) : Args := ⟨m ((c : Thread nD τ).loc main_arg0), m ((c : Thread nD τ).loc main_arg1)⟩

/-! ## The blocks -/

/-- A grid point's number lies inside the grid. -/
theorem lt_N (t : Fin cfg0.N) : t.val < 32 := lt_of_lt_of_eq t.isLt N_0

/-- The block indices of the windows. -/
theorem idxAll : ∀ t : Fin cfg0.N, win0_0.index t = ![t.val * 64 - 1, 0] ∧ win0_1.index t = ![t.val, 0]
    ∧ win0_2.index t = ![min (t.val * 64 + 64) 2047, 0] ∧ win0_3.index t = ![0, 0] ∧ win0_4.index t = ![0, 0] ∧ win0_5.index t = ![t.val, 0] :=
  (by decide +kernel : ∀ t : Fin grid0.N, _)

/-- A grid point's place in its sequence. -/
theorem place : ∀ t : Fin cfg0.N, (grid0.coords t 1).val = t.val % 16 := (by decide +kernel : ∀ t : Fin grid0.N, _)

/-- The array row of a row of a point's block. -/
abbrev rowOf (t : Fin cfg0.N) (r : Fin 512) : Fin 16384 := ⟨t.val * 512 + r.val, by have := lt_N t; omega⟩

/-- The eight rows before the block. -/
theorem iblk0 (c : Dev nD) (t : Fin cfg0.N) (r : Fin 8) (l : Fin 1024) :
    iblk m c 0 t (ix2 r l) = (args m c).x0 (ix2 ⟨(t.val * 64 - 1) * 8 + r.val, by have := lt_N t; omega⟩ ⟨l.val, by omega⟩) := by
  have h1 := lt_N t
  blk_ext! [iblk, V, idxAll t]

/-- The block. -/
theorem iblk1 (c : Dev nD) (t : Fin cfg0.N) (r : Fin 512) (l : Fin 1024) :
    iblk m c 1 t (ix2 r l) = (args m c).x0 (ix2 (rowOf t r) ⟨l.val, by omega⟩) := by
  have h1 := lt_N t
  blk_ext! [iblk, V, idxAll t]

/-- The eight rows after it. -/
theorem iblk2 (c : Dev nD) (t : Fin cfg0.N) (r : Fin 8) (l : Fin 1024) :
    iblk m c 2 t (ix2 r l) = (args m c).x0 (ix2 ⟨min (t.val * 64 + 64) 2047 * 8 + r.val, by omega⟩ ⟨l.val, by omega⟩) := by
  have h1 := lt_N t
  blk_ext! [iblk, V, idxAll t]

/-- The weights. -/
theorem entry3 (c : Dev nD) (j : Fin 5) (l : Fin 1024) : V m c main_v4 (ix2 j l) = (args m c).w j l := by
  unfold V
  simp only [List.flatten_cons, List.flatten_nil, List.append_nil, List.cons_append, List.nil_append, hostOps0]
  entry_read
  pointwise
  rfl

/-- Their block. -/
theorem iblk3 (c : Dev nD) (t : Fin cfg0.N) (j : Fin 5) (l : Fin 1024) : iblk m c 3 t (ix2 j l) = (args m c).w j l := by
  refine Eq.trans ?_ (entry3 m c j l)
  blk_ext! [iblk, idxAll t]

/-- The scales. -/
theorem entry4 (c : Dev nD) (l : Fin 1024) :
    V m c main_v3 (ix2 0 l) = if l.val < 512 then (1 : EReal) else Ideal.ofBits .f32 0x3DB504F3#32 := by
  unfold V
  simp only [List.flatten_cons, List.flatten_nil, List.append_nil, List.cons_append, List.nil_append, hostOps0]
  entry_read
  pointwise
  split <;> first | exact Ideal.ofBits_one_f32 | rfl

/-- Their block. -/
theorem iblk4 (c : Dev nD) (t : Fin cfg0.N) (l : Fin 1024) :
    iblk m c 4 t (ix2 0 l) = if l.val < 512 then (1 : EReal) else Ideal.ofBits .f32 0x3DB504F3#32 := by
  refine Eq.trans ?_ (entry4 m c l)
  blk_ext! [iblk, idxAll t]

end Cert.ConvIdeal.Value

end
-- ==== Proof.ConvValue.lean ====
/-
  What the kernel of the convolution leaves in its result array.
-/
module

public import proofs.«01_k».proof.Proof.ConvBlocks

@[expose] public section

set_option maxRecDepth 16384

noncomputable section

namespace Cert.ConvIdeal.Value

open Cert.ConvIdeal Cert.ConvIdeal.Gen Idealize.ShloMosaic Idealize.ShloMosaic.TcCoe Idealize.SL.Sem Cert.ConvMath

/-! ## Loads of the weights -/

/-- A load of the first weight's row. -/
theorem ld_w0 (x : Vec Ideal S5x1024 .f32) (l : Fin 1024) : View.ld x r0_2 (ix2 0 l) = x (ix2 0 l) :=
  congrArg x (funext fun a => Fin.ext (by
    match a with
    | ⟨0, _⟩ => rfl
    | ⟨1, _⟩ => show 0 + 1 * l.val = l.val; omega))

/-- A load of the second weight's row. -/
theorem ld_w1 (x : Vec Ideal S5x1024 .f32) (l : Fin 1024) : View.ld x r0_3 (ix2 0 l) = x (ix2 1 l) :=
  congrArg x (funext fun a => Fin.ext (by
    match a with
    | ⟨0, _⟩ => rfl
    | ⟨1, _⟩ => show 0 + 1 * l.val = l.val; omega))

/-- A load of the third weight's row. -/
theorem ld_w2 (x : Vec Ideal S5x1024 .f32) (l : Fin 1024) : View.ld x r0_4 (ix2 0 l) = x (ix2 2 l) :=
  congrArg x (funext fun a => Fin.ext (by
    match a with
    | ⟨0, _⟩ => rfl
    | ⟨1, _⟩ => show 0 + 1 * l.val = l.val; omega))

/-- A load of the fourth weight's row. -/
theorem ld_w3 (x : Vec Ideal S5x1024 .f32) (l : Fin 1024) : View.ld x r0_5 (ix2 0 l) = x (ix2 3 l) :=
  congrArg x (funext fun a => Fin.ext (by
    match a with
    | ⟨0, _⟩ => rfl
    | ⟨1, _⟩ => show 0 + 1 * l.val = l.val; omega))

/-- A load of the fifth weight's row. -/
theorem ld_w4 (x : Vec Ideal S5x1024 .f32) (l : Fin 1024) : View.ld x r0_6 (ix2 0 l) = x (ix2 4 l) :=
  congrArg x (funext fun a => Fin.ext (by
    match a with
    | ⟨0, _⟩ => rfl
    | ⟨1, _⟩ => show 0 + 1 * l.val = l.val; omega))

/-! ## The result -/

variable (m : (ℓ : Loc nD τ sig) → Buf (Elt Ideal) ℓ) (c : Dev nD)

/-- Two entries of one column of the projections are equal where their rows are. -/
theorem x0_row {A : Args} {a b : Fin 16384} {l : Fin 12288} (h : a.val = b.val) : A.x0 (ix2 a l) = A.x0 (ix2 b l) :=
  congrArg (fun p => A.x0 (ix2 p l)) (Fin.ext h)

/-- Row `r + 6 + j` of the 528 rows is what weight `j` meets at row `r` of the block. -/
theorem taps (t : Fin cfg0.N) (r : Fin 512) (l : Fin 1024) (j : Fin 5) :
    k0_pay2 (grid0.coords t) (iblk m c 0 t) (iblk m c 2 t) (iblk m c 1 t) (ix2 ⟨r.val + 6 + j.val, by omega⟩ l)
      = (args m c).tap (rowOf t r) j l := by
  have hN := lt_N t
  have hp := place t
  have hr : (rowOf t r).val = t.val * 512 + r.val := rfl
  refine (pay2_apply _ _ _ _ _ l).trans ?_
  unfold Args.tap
  split
  · next h0 =>
    have h0' : r.val + 6 + j.val < 8 := h0
    split
    · next h1 =>
      rw [hp] at h1
      rw [dif_pos (by rw [hr]; omega)]
      exact (iblk0 m c t _ l).trans (x0_row (by show (t.val * 64 - 1) * 8 + (r.val + 6 + j.val) = t.val * 512 + r.val + j.val - 2; omega))
    · next h1 =>
      rw [hp] at h1
      rw [dif_neg (by rw [hr]; omega)]
  · next h0 =>
    have h0' : ¬ r.val + 6 + j.val < 8 := h0
    split
    · next h1 =>
      have h1' : r.val + 6 + j.val - 8 < 512 := h1
      rw [dif_pos (by rw [hr]; omega)]
      exact (iblk1 m c t _ l).trans (x0_row (by show t.val * 512 + (r.val + 6 + j.val - 8) = t.val * 512 + r.val + j.val - 2; omega))
    · next h1 =>
      have h1' : ¬ r.val + 6 + j.val - 8 < 512 := h1
      split
      · next h2 =>
        rw [hp] at h2
        rw [dif_pos (by rw [hr]; omega)]
        exact (iblk2 m c t _ l).trans
          (x0_row (by show min (t.val * 64 + 64) 2047 * 8 + (r.val + 6 + j.val - 8 - 512) = t.val * 512 + r.val + j.val - 2; omega))
      · next h2 =>
        rw [hp] at h2
        rw [dif_neg (by rw [hr]; omega)]

/-- The stored value. -/
theorem stored (t : Fin cfg0.N) (r : Fin 512) (l : Fin 1024) :
    k0_pay1 (k0_pay2 (grid0.coords t) (iblk m c 0 t) (iblk m c 2 t) (iblk m c 1 t))
      (k0_pay3 (grid0.coords t) (iblk m c 0 t) (iblk m c 2 t) (iblk m c 1 t) (View.ld (iblk m c 3 t) r0_2) (View.ld (iblk m c 3 t) r0_3)
        (View.ld (iblk m c 3 t) r0_4) (View.ld (iblk m c 3 t) r0_5)) 526#32 (View.ld (iblk m c 3 t) r0_6) (iblk m c 4 t) (ix2 r l)
      = (args m c).out (rowOf t r) l := by
  have hw := iblk3 m c t
  refine (pay1_apply _ _ _ _ r l ((args m c).acc (rowOf t r) l) ?_).trans ?_
  · rw [pay3_apply _ _ _ _ _ _ _ _ r l _ (taps m c t r l), taps m c t r l 4, ld_w0, ld_w1, ld_w2, ld_w3, ld_w4]
    unfold Args.acc
    rw [← hw 0 l, ← hw 1 l, ← hw 2 l, ← hw 3 l, ← hw 4 l]
  · rw [iblk4 m c t l]
    unfold Args.out Args.act
    split
    · rw [mul_one]
    · rfl

/-- The result array after the run. -/
theorem final : (dats m 0 c).arrAt 5 cfg0.N = fun i => (args m c).out (i 0) (i 1) := by
  refine (dats m 0 c).arrAt_eq_of_covers 5 _ (by decide +kernel) fun t hf y => ?_
  blk_simp
  rw [after0_5]
  frame_out
  obtain ⟨r, l, rfl⟩ : ∃ (r : Fin 512) (l : Fin 1024), y = ix2 r l := ⟨y 0, y 1, eq_ix2 y⟩
  have h := (idxAll t).2.2.2.2.2
  have hr : ((View.whole main_v5).slice (win0_5.rect t)).emb (ix2 r l) = ix2 (rowOf t r) l := by
    funext a
    apply Fin.ext
    match a with
    | ⟨0, _⟩ =>
      show win0_5.index t 0 * 512 + 1 * r.val = t.val * 512 + r.val
      rw [h]
      show t.val * 512 + 1 * r.val = t.val * 512 + r.val
      omega
    | ⟨1, _⟩ =>
      show win0_5.index t 1 * 1024 + 1 * l.val = l.val
      rw [h]
      show 0 * 1024 + 1 * l.val = l.val
      omega
  rw [hr]
  exact stored m c t r l

end Cert.ConvIdeal.Value

end
-- ==== Proof.ConvRef.lean ====
/-
  The convolution as the reference computes it, at an index.
-/
module

public import proofs.«01_k».proof.Proof.Gen.ConvRefIdeal.Run
public import proofs.«01_k».proof.Proof.ConvArgs
public import Idealize.ShloMosaic.Lib.KernelVsHost
public import Idealize.ShloMosaic.Lib.Claim
public import Idealize.ShloMosaic.Lib.Tactic
public import Idealize.ShloMosaic.Lib.Pointwise

@[expose] public section

set_option maxRecDepth 16384

noncomputable section

namespace Cert.ConvRefIdeal.Value

open Cert.ConvRefIdeal Cert.ConvRefIdeal.Gen Idealize.ShloMosaic Idealize.ShloMosaic.TcCoe Idealize.SL.Sem Cert.ConvMath

variable (A : Args)

/-- The queries' and keys' columns of the projections, with two rows of zeros at each end of each sequence. -/
abbrev padded (x : FVec Ideal S16384x12288 .f32) : FVec Ideal S2x8196x1024 .f32 :=
  pad S2x8196x1024 ![0, 2, 0] ![0, 2, 0] ![0, 0, 0] (extractStridedSlice S2x8192x1024 ![0, 0, 0] (shapeCast _ x shapeCasts_S16384x12288_S2x8192x12288) slices_S2x8192x12288_S2x8192x1024_0_0_0) (sitofp .f32 (constantI S_ 32 0#32)) pads_S2x8192x1024_S2x8196x1024_000_220_000 h_S_

/-- Its entries. -/
theorem padded_apply (k : Fin 2) (p : Fin 8196) (l : Fin 1024) :
    padded A.x0 (ix3 k p l) = if h : 2 ≤ p.val ∧ p.val < 8194 then
      A.x0 (ix2 ⟨k.val * 8192 + (p.val - 2), by omega⟩ ⟨l.val, by omega⟩) else (0 : EReal) := by
  unfold padded
  split
  · next h =>
    refine (pad_apply_of_inside _ _ _ _ _ _ _ _ (ix3 k (⟨p.val - 2, by omega⟩ : Fin 8192) l) fun a => ?_).trans ?_
    · match a with
      | ⟨0, _⟩ => show k.val = 0 + k.val * (0 + 1); omega
      | ⟨1, _⟩ => show p.val = 2 + (p.val - 2) * (0 + 1); omega
      | ⟨2, _⟩ => show l.val = 0 + l.val * (0 + 1); omega
    · pointwise
      first | done | exact congrArg (fun q => A.x0 (ix2 q _)) (Fin.ext (by show _ * _ + _ = _ * _ + _; omega))
  · next h =>
    refine (pad_apply_of_not_inside _ _ _ _ _ _ _ _ 1 ?_).trans ?_
    · rintro ⟨h1, -, h3⟩
      have h4 : (p.val - 2) / (0 + 1) < 8192 := h3
      have h5 : 2 ≤ p.val := h1
      omega
    · show (((0 : ℤ) : ℝ) : EReal) = 0
      simp

/-- The sum of the five products over a padded array. -/
abbrev sums (y : FVec Ideal S2x8196x1024 .f32) (w : FVec Ideal S1x5x1024 .f32) : FVec Ideal S2x8192x1024 .f32 :=
  addf (addf (addf (addf (addf (broadcastInDim S2x8192x1024 ![] bcast_S_S2x8192x1024 (constant S_ .f32 0x00000000#32)) (mulf (broadcastInDim S2x8192x1024 ![0, 1, 2] bcast_S1x1x1024_S2x8192x1024_0_1_2 (broadcastInDim S1x1x1024 ![2] bcast_S1024_S1x1x1024_2 (shapeCast _ (extractStridedSlice S1x1024 ![0, 0] (shapeCast _ w shapeCasts_S1x5x1024_S5x1024) slices_S5x1024_S1x1024_0_0) shapeCasts_S1x1024_S1024))) (extractStridedSlice S2x8192x1024 ![0, 0, 0] y slices_S2x8196x1024_S2x8192x1024_0_0_0))) (mulf (broadcastInDim S2x8192x1024 ![0, 1, 2] bcast_S1x1x1024_S2x8192x1024_0_1_2 (broadcastInDim S1x1x1024 ![2] bcast_S1024_S1x1x1024_2 (shapeCast _ (extractStridedSlice S1x1024 ![1, 0] (shapeCast _ w shapeCasts_S1x5x1024_S5x1024) slices_S5x1024_S1x1024_1_0) shapeCasts_S1x1024_S1024))) (extractStridedSlice S2x8192x1024 ![0, 1, 0] y slices_S2x8196x1024_S2x8192x1024_0_1_0))) (mulf (broadcastInDim S2x8192x1024 ![0, 1, 2] bcast_S1x1x1024_S2x8192x1024_0_1_2 (broadcastInDim S1x1x1024 ![2] bcast_S1024_S1x1x1024_2 (shapeCast _ (extractStridedSlice S1x1024 ![2, 0] (shapeCast _ w shapeCasts_S1x5x1024_S5x1024) slices_S5x1024_S1x1024_2_0) shapeCasts_S1x1024_S1024))) (extractStridedSlice S2x8192x1024 ![0, 2, 0] y slices_S2x8196x1024_S2x8192x1024_0_2_0))) (mulf (broadcastInDim S2x8192x1024 ![0, 1, 2] bcast_S1x1x1024_S2x8192x1024_0_1_2 (broadcastInDim S1x1x1024 ![2] bcast_S1024_S1x1x1024_2 (shapeCast _ (extractStridedSlice S1x1024 ![3, 0] (shapeCast _ w shapeCasts_S1x5x1024_S5x1024) slices_S5x1024_S1x1024_3_0) shapeCasts_S1x1024_S1024))) (extractStridedSlice S2x8192x1024 ![0, 3, 0] y slices_S2x8196x1024_S2x8192x1024_0_3_0))) (mulf (broadcastInDim S2x8192x1024 ![0, 1, 2] bcast_S1x1x1024_S2x8192x1024_0_1_2 (broadcastInDim S1x1x1024 ![2] bcast_S1024_S1x1x1024_2 (shapeCast _ (extractStridedSlice S1x1024 ![4, 0] (shapeCast _ w shapeCasts_S1x5x1024_S5x1024) slices_S5x1024_S1x1024_4_0) shapeCasts_S1x1024_S1024))) (extractStridedSlice S2x8192x1024 ![0, 4, 0] y slices_S2x8196x1024_S2x8192x1024_0_4_0))

/-- Its entries. -/
theorem sums_apply (y : FVec Ideal S2x8196x1024 .f32) (w : FVec Ideal S1x5x1024 .f32) (k : Fin 2) (s : Fin 8192) (l : Fin 1024) :
    sums y w (ix3 k s l) = w (ix3 0 0 l) * y (ix3 k ⟨s.val + (0 : Fin 5).val, by omega⟩ l) + w (ix3 0 1 l) * y (ix3 k ⟨s.val + (1 : Fin 5).val, by omega⟩ l)
      + w (ix3 0 2 l) * y (ix3 k ⟨s.val + (2 : Fin 5).val, by omega⟩ l) + w (ix3 0 3 l) * y (ix3 k ⟨s.val + (3 : Fin 5).val, by omega⟩ l)
      + w (ix3 0 4 l) * y (ix3 k ⟨s.val + (4 : Fin 5).val, by omega⟩ l) := by
  have hc : ∀ j : ℕ, s.val + j = j + s.val := fun j => Nat.add_comm _ _
  simp only [hc]
  pointwise

/-- The convolution's entries. -/
theorem acc_apply (R : Fin 16384) (l : Fin 1024) :
    sums (padded A.x0) A.x1 (ix3 ⟨R.val / 8192, by omega⟩ ⟨R.val % 8192, by omega⟩ l) = A.acc R l := by
  have ht : ∀ j : Fin 5, padded A.x0 (ix3 ⟨R.val / 8192, by omega⟩ ⟨R.val % 8192 + j.val, by omega⟩ l) = A.tap R j l := fun j => by
    rw [padded_apply]
    unfold Args.tap
    split
    · next h =>
      have h2 : 2 ≤ R.val % 8192 + j.val := h.1
      exact congrArg (fun q => A.x0 (ix2 q _)) (Fin.ext (by show R.val / 8192 * 8192 + (R.val % 8192 + j.val - 2) = R.val + j.val - 2; omega))
    · rfl
  rw [sums_apply]
  unfold Args.acc Args.w
  rw [← ht 0, ← ht 1, ← ht 2, ← ht 3, ← ht 4]

/-- The silu of an array. -/
abbrev silu (a : FVec Ideal S2x8192x1024 .f32) : FVec Ideal S2x8192x1024 .f32 :=
  mulf a (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf a))))

/-- Its entries. -/
theorem silu_apply (a : FVec Ideal S2x8192x1024 .f32) (k : Fin 2) (s : Fin 8192) (l : Fin 1024) :
    silu a (ix3 k s l) = a (ix3 k s l) * Ideal.logistic (a (ix3 k s l)) := by
  pointwise
  rfl

/-- The queries' columns, and the keys' columns scaled. -/
theorem halves_apply (y : FVec Ideal S2x8192x1024 .f32) (R : Fin 16384) (l : Fin 1024) :
    shapeCast S16384x1024 (concatenate S2x8192x1024 2 [⟨S2x8192x512, extractStridedSlice S2x8192x512 ![0, 0, 0] y slices_S2x8192x1024_S2x8192x512_0_0_0⟩,
      ⟨S2x8192x512, mulf (extractStridedSlice S2x8192x512 ![0, 0, 512] y slices_S2x8192x1024_S2x8192x512_0_0_512) (broadcastInDim S2x8192x512 ![] bcast_S_S2x8192x512 (constant S_ .f32 0x3DB504F3#32))⟩]
      concatenates_S2x8192x512_S2x8192x512_S2x8192x1024_d2) shapeCasts_S2x8192x1024_S16384x1024 (ix2 R l)
      = if l.val < 512 then y (ix3 ⟨R.val / 8192, by omega⟩ ⟨R.val % 8192, by omega⟩ l)
        else y (ix3 ⟨R.val / 8192, by omega⟩ ⟨R.val % 8192, by omega⟩ l) * Ideal.ofBits .f32 0x3DB504F3#32 := by
  pointwise
  split
  · rfl
  · next h =>
    exact congrArg (fun q => y (ix3 _ _ q) * Ideal.ofBits .f32 0x3DB504F3#32) (Fin.ext (by show 512 + (l.val - 512) = l.val; omega))

/-- The result. -/
theorem out_apply (R : Fin 16384) (l : Fin 1024) :
    shapeCast S16384x1024 (concatenate S2x8192x1024 2 [⟨S2x8192x512, extractStridedSlice S2x8192x512 ![0, 0, 0] (silu (sums (padded A.x0) A.x1)) slices_S2x8192x1024_S2x8192x512_0_0_0⟩,
      ⟨S2x8192x512, mulf (extractStridedSlice S2x8192x512 ![0, 0, 512] (silu (sums (padded A.x0) A.x1)) slices_S2x8192x1024_S2x8192x512_0_0_512) (broadcastInDim S2x8192x512 ![] bcast_S_S2x8192x512 (constant S_ .f32 0x3DB504F3#32))⟩]
      concatenates_S2x8192x512_S2x8192x512_S2x8192x1024_d2) shapeCasts_S2x8192x1024_S16384x1024 (ix2 R l) = A.out R l := by
  refine (halves_apply _ R l).trans ?_
  rw [silu_apply, acc_apply]
  rfl

end Cert.ConvRefIdeal.Value

end
-- ==== Proof.HgrnMath.lean ====
module
public import Idealize.ShloMosaic.Lib.Tactic
public import Idealize.ShloMosaic.Lib.Pointwise
/-! The scan of HGRN2 on the real numbers: the state of one head decays in each key dimension by the
gate and takes in the outer product of key and value, the output is the query against the state.
A chunk of positions is done at once from the state at its start (`S_chunk`, `out_chunk`); inside a
chunk the decay from one position to a later one is a product of two pieces that meet at the middle
of the smallest aligned block that holds both (`pair_lev`), and each pair of positions meets in
exactly one block size (`pair_count`). -/
@[expose] public section
noncomputable section
namespace Cert.HgrnMath

open Finset

variable {a b : ℕ}

/-- The product of the gates of the positions from `m` up to, not including, `n`. -/
def PR (f : ℕ → Fin a → ℝ) (m n : ℕ) (e : Fin a) : ℝ := ∏ u ∈ Ico m n, f u e

/-- The state before position `n`. -/
def S (f : ℕ → Fin a → ℝ) (i : ℕ → Fin b → ℝ) : ℕ → Fin a → Fin b → ℝ
  | 0, _, _ => 0
  | n + 1, e, j => f n e * S f i n e j + (1 - f n e) * i n j

/-- The output at position `n`. -/
def out (f q : ℕ → Fin a → ℝ) (i : ℕ → Fin b → ℝ) (n : ℕ) (j : Fin b) : ℝ :=
  ∑ e, q n e * S f i (n + 1) e j

/-- The weight at position `n` of the value at position `s`. -/
def W (f q : ℕ → Fin a → ℝ) (n s : ℕ) : ℝ := ∑ e, q n e * (1 - f s e) * PR f (s + 1) (n + 1) e

variable (f q : ℕ → Fin a → ℝ) (i : ℕ → Fin b → ℝ)

/-- An empty product. -/
theorem PR_self (m : ℕ) (e : Fin a) : PR f m m e = 1 := by simp [PR]

/-- One more position. -/
theorem PR_succ {m n : ℕ} (h : m ≤ n) (e : Fin a) : PR f m (n + 1) e = PR f m n e * f n e :=
  prod_Ico_succ_top h _

/-- Two pieces that meet. -/
theorem PR_mul {m n k : ℕ} (h : m ≤ n) (h' : n ≤ k) (e : Fin a) : PR f m n e * PR f n k e = PR f m k e :=
  prod_Ico_consecutive _ h h'

/-- Products of positive gates are positive. -/
theorem PR_pos (hf : ∀ n e, 0 < f n e) (m n : ℕ) (e : Fin a) : 0 < PR f m n e := prod_pos fun _ _ => hf _ _

/-- The state after `m` positions from the state before them. -/
theorem S_chunk (p m : ℕ) (e : Fin a) (j : Fin b) : S f i (p + m) e j = PR f p (p + m) e * S f i p e j
    + ∑ s ∈ range m, (1 - f (p + s) e) * PR f (p + s + 1) (p + m) e * i (p + s) j := by
  induction m with
  | zero => simp [PR]
  | succ m ih =>
    rw [← Nat.add_assoc, S, ih, sum_range_succ, PR_self, PR_succ f (by omega) e]
    have h : ∑ s ∈ range m, (1 - f (p + s) e) * PR f (p + s + 1) (p + m + 1) e * i (p + s) j
        = f (p + m) e * ∑ s ∈ range m, (1 - f (p + s) e) * PR f (p + s + 1) (p + m) e * i (p + s) j := by
      rw [mul_sum]
      refine sum_congr rfl fun s hs => ?_
      have := mem_range.mp hs
      rw [PR_succ f (by omega) e]
      ring
    rw [h]
    ring

/-- A sum over the first positions of a chunk, as a sum over all of them in any order. -/
theorem sum_le {L : ℕ} (σ : Equiv.Perm (Fin L)) (t : Fin L) (g : ℕ → ℝ) :
    ∑ s ∈ range (t.val + 1), g s = ∑ r : Fin L, if (σ r).val ≤ t.val then g (σ r).val else 0 := by
  rw [Equiv.sum_comp σ (fun s : Fin L => if s.val ≤ t.val then g s.val else 0),
    Fin.sum_univ_eq_sum_range (fun s => if s ≤ t.val then g s else 0) L, ← sum_filter]
  refine sum_congr (Finset.ext fun s => ?_) fun _ _ => rfl
  have := t.isLt
  simp only [mem_range, mem_filter]
  omega

/-- A sum over a chunk in any order. -/
theorem sum_all {L : ℕ} (σ : Equiv.Perm (Fin L)) (g : ℕ → ℝ) :
    ∑ s ∈ range L, g s = ∑ r : Fin L, g (σ r).val := by
  rw [Equiv.sum_comp σ (fun s : Fin L => g s.val), Fin.sum_univ_eq_sum_range]

/-- The outputs of a chunk from the state at its start. -/
theorem out_chunk {L : ℕ} (σ : Equiv.Perm (Fin L)) (p : ℕ) (t : Fin L) (j : Fin b) :
    out f q i (p + t.val) j
      = ∑ r : Fin L, (if (σ r).val ≤ t.val then W f q (p + t.val) (p + (σ r).val) else 0) * i (p + (σ r).val) j
        + ∑ e, q (p + t.val) e * PR f p (p + t.val + 1) e * S f i p e j := by
  have h : ∀ e, q (p + t.val) e * S f i (p + t.val + 1) e j
      = ∑ s ∈ range (t.val + 1), q (p + t.val) e * (1 - f (p + s) e) * PR f (p + s + 1) (p + t.val + 1) e * i (p + s) j
        + q (p + t.val) e * PR f p (p + t.val + 1) e * S f i p e j := fun e => by
    rw [Nat.add_assoc p, S_chunk, mul_add, mul_sum, add_comm]
    refine congrArg₂ _ (sum_congr rfl fun s _ => by ring) (by ring)
  rw [out, sum_congr rfl fun e _ => h e, sum_add_distrib, sum_comm]
  refine congrArg (· + _) ?_
  rw [sum_le σ t (fun s => ∑ e, q (p + t.val) e * (1 - f (p + s) e) * PR f (p + s + 1) (p + t.val + 1) e * i (p + s) j)]
  refine sum_congr rfl fun r _ => ?_
  split
  · rw [W, sum_mul]
  · simp

/-- The state after a chunk from the state at its start. -/
theorem state_chunk {L : ℕ} (σ : Equiv.Perm (Fin L)) (p : ℕ) (e : Fin a) (j : Fin b) :
    S f i (p + L) e j = PR f p (p + L) e * S f i p e j
      + ∑ r : Fin L, (1 - f (p + (σ r).val) e) * PR f (p + (σ r).val + 1) (p + L) e * i (p + (σ r).val) j := by
  rw [S_chunk, sum_all σ (fun s => (1 - f (p + s) e) * PR f (p + s + 1) (p + L) e * i (p + s) j)]

/-- The exponential of a sum of logarithms of gates over the positions of a chunk between `lo` and `hi`. -/
theorem exp_sum {L : ℕ} (σ : Equiv.Perm (Fin L)) (hf : ∀ n e, 0 < f n e) (p lo hi : ℕ) (e : Fin a) (hhi : hi ≤ L)
    (c : ℕ → Prop) [DecidablePred c] (hc : ∀ v < L, c v ↔ lo ≤ v ∧ v < hi) :
    Real.exp (∑ r : Fin L, if c (σ r).val then Real.log (f (p + (σ r).val) e) else 0) = PR f (p + lo) (p + hi) e := by
  rw [Equiv.sum_comp σ (fun s : Fin L => if c s.val then Real.log (f (p + s.val) e) else 0),
    Fin.sum_univ_eq_sum_range (fun s => if c s then Real.log (f (p + s) e) else 0) L, ← sum_filter, Real.exp_sum, PR,
    prod_congr rfl fun s _ => Real.exp_log (hf (p + s) e), add_comm p lo, add_comm p hi,
    ← prod_Ico_add (fun u => f u e) lo hi p]
  refine prod_congr (Finset.ext fun s => ?_) fun _ _ => rfl
  rw [mem_filter, mem_range, mem_Ico]
  exact ⟨fun h => (hc s h.1).mp h.2, fun h => ⟨by omega, (hc s (by omega)).mpr h⟩⟩

/-- Bit `g` of a position. -/
def bit (g t : ℕ) : Prop := t / 2 ^ g % 2 = 1

instance (g t : ℕ) : Decidable (bit g t) := inferInstanceAs (Decidable (_ = _))

/-- Position `v` lies in the half block of `2 ^ g` positions of `t`, between `t` and the middle of the block. -/
def near (g t v : ℕ) : Prop := v / 2 ^ g = t / 2 ^ g ∧ (v ≤ t ↔ bit g t)

instance (g t v : ℕ) : Decidable (near g t v) := inferInstanceAs (Decidable (_ ∧ _))

/-- Positions `t` and `s` lie in one block of `2 ^ (g + 1)` positions, `t` in its second half, `s` in its first. -/
def pair (g t s : ℕ) : Prop := t / 2 ^ (g + 1) = s / 2 ^ (g + 1) ∧ bit g t ∧ ¬bit g s

instance (g t s : ℕ) : Decidable (pair g t s) := inferInstanceAs (Decidable (_ ∧ _ ∧ _))

/-- The decay between position `t` and the middle of its block. -/
def lev (g p t : ℕ) (e : Fin a) : ℝ :=
  if bit g t then PR f (p + t / 2 ^ g * 2 ^ g) (p + t + 1) e else PR f (p + t + 1) (p + (t / 2 ^ g + 1) * 2 ^ g) e

/-- The decay between a position and the middle of its block, from the logarithms of the gates. -/
theorem exp_near (σ : Equiv.Perm (Fin 128)) (hf : ∀ n e, 0 < f n e) (p : ℕ) (g : Fin 7) (t : Fin 128) (e : Fin a) :
    Real.exp (∑ r : Fin 128, if near g.val t.val (σ r).val then Real.log (f (p + (σ r).val) e) else 0)
      = lev f g.val p t.val e := by
  have ht := t.isLt
  by_cases hb : bit g.val t.val
  · rw [lev, if_pos hb, Nat.add_assoc p]
    refine exp_sum f σ hf p _ (t.val + 1) e (by omega) (near g.val t.val) fun v hv => ?_
    simp only [near, hb, iff_true]
    match g with
    | 0 | 1 | 2 | 3 | 4 | 5 | 6 => simp <;> omega
  · rw [lev, if_neg hb]
    refine exp_sum f σ hf p (t.val + 1) _ e ?_ (near g.val t.val) fun v hv => ?_
    · match g with
      | 0 | 1 | 2 | 3 | 4 | 5 | 6 => simp <;> omega
    simp only [near, hb, iff_false]
    match g with
    | 0 | 1 | 2 | 3 | 4 | 5 | 6 => simp <;> omega

/-- The decay of the first block size, where the middle lies at the later position. -/
theorem lev_zero (p t : ℕ) (e : Fin a) : lev f 0 p t e = if bit 0 t then f (p + t) e else 1 := by
  rw [lev, pow_zero, Nat.div_one, Nat.mul_one, Nat.mul_one, PR_succ f le_rfl, PR_self, one_mul, ← Nat.add_assoc, PR_self]

/-- The decay from a position to a later one in two pieces. -/
theorem pair_lev (g : Fin 7) (p t s : ℕ) (h : pair g.val t s) (e : Fin a) :
    lev f g.val p t e * lev f g.val p s e = PR f (p + s + 1) (p + t + 1) e := by
  obtain ⟨h1, h2, h3⟩ := h
  rw [lev, lev, if_pos h2, if_neg h3, mul_comm]
  have hm : (s / 2 ^ g.val + 1) * 2 ^ g.val = t / 2 ^ g.val * 2 ^ g.val ∧ s + 1 ≤ t / 2 ^ g.val * 2 ^ g.val
      ∧ t / 2 ^ g.val * 2 ^ g.val ≤ t := by
    simp only [bit] at h2 h3
    match g with
    | 0 | 1 | 2 | 3 | 4 | 5 | 6 => simp at h1 h2 h3 ⊢ <;> omega
  rw [hm.1]
  exact PR_mul f (by omega) (by omega) e

/-- Each earlier position of a chunk meets a position in exactly one block size. -/
theorem pair_count : ∀ t s : Fin 128, (if t.val = s.val then 1 else 0) + ((((((
    (if pair 0 t.val s.val then 1 else 0) + (if pair 1 t.val s.val then 1 else 0))
    + (if pair 2 t.val s.val then 1 else 0)) + (if pair 3 t.val s.val then 1 else 0))
    + (if pair 4 t.val s.val then 1 else 0)) + (if pair 5 t.val s.val then 1 else 0))
    + (if pair 6 t.val s.val then 1 else 0)) = if s.val ≤ t.val then 1 else 0 := by decide +kernel

end Cert.HgrnMath
-- ==== Proof.HgrnHead.lean ====
module
public import proofs.«01_k».proof.HgrnIdeal
public import proofs.«01_k».proof.Proof.Gen.HgrnIdeal.Value
public import proofs.«01_k».proof.Proof.HgrnMath
public import proofs.«01_k».proof.Proof.MlstmMath
public import Idealize.ShloMosaic.Lib.Pipeline.ValueKit
/-! What one head of one chunk computes, on real inputs. The kernel writes the same steps out for each of its
eight heads and seven block sizes; here each step is one function of the head. -/
@[expose] public section
noncomputable section
namespace Cert.HgrnIdeal.Head
open Cert.HgrnIdeal Cert.HgrnIdeal.Gen Idealize.ShloMosaic Idealize.ShloMosaic.TcCoe Idealize.SL.Sem
open Idealize.ShloMosaic.Tactic Cert.HgrnMath

/-- The columns of a head lie in a block of 1024. -/
theorem colIn : ∀ h : Fin 8, S128x1024.Slices ![0, 128 * h.val] S128x128 := by decide +kernel
/-- The rows of a head lie in a column of 1024. -/
theorem rowIn : ∀ h : Fin 8, S1024x1.Slices ![128 * h.val, 0] S128x1 := by decide +kernel
/-- The rows of a block size lie in the table's sums. -/
theorem levIn : ∀ g : Fin 7, S896x1024.Slices ![128 * g.val, 0] S128x1024 := by decide +kernel

/-- The columns of a head. -/
def col {φ : FTy} (h : Fin 8) (x : FVec Ideal S128x1024 φ) : FVec Ideal S128x128 φ :=
  extractStridedSlice S128x128 ![0, 128 * h.val] x (colIn h)
/-- The decays of a block size. -/
def dec (g : Fin 7) (x : FVec Ideal S896x1024 .f32) : FVec Ideal S128x1024 .f32 :=
  exp (extractStridedSlice S128x1024 ![128 * g.val, 0] x (levIn g))
/-- The two operands of the first block size, in one array. -/
def mix0 (h : Fin 8) (r : Vec Ideal S1x1x128x128 .f32) (qf k : FVec Ideal S128x1024 .f32) : FVec Ideal S128x128 .bf16 :=
  truncf .bf16 (select (k0_pay21 r) (col h qf) (col h k)) bitsLt_bf16_f32
/-- The two operands of a later block size, in one array. -/
def mix (h : Fin 8) (g : Fin 7) (r : Vec Ideal S1x1x128x128 .f32) (q k : FVec Ideal S128x1024 .f32) (e : FVec Ideal S896x1024 .f32) :
    FVec Ideal S128x128 .bf16 :=
  truncf .bf16 (mulf (select (k0_pay21 r) (col h q) (col h k)) (col h (dec g e))) bitsLt_bf16_f32
/-- The weights of the positions themselves. -/
def diag (h : Fin 8) (q k : FVec Ideal S128x1024 .bf16) (m : Vec Ideal S1x1x128x128 .f32) : FVec Ideal S128x128 .f32 :=
  mulf (shapeCast S128x128 m shapeCasts_S1x1x128x128_S128x128)
    (matmul dot_S128x128_S128x128_S128x128_1_1_0_0_n_n none (col h q) (col h k) (constant S128x128 .f32 0x00000000#32))
/-- The weights with those of one block size added. -/
def more (a : FVec Ideal S128x128 .f32) (m : Vec Ideal S1x1x128x128 .f32) (x : FVec Ideal S128x128 .bf16) : FVec Ideal S128x128 .f32 :=
  addf a (mulf (shapeCast S128x128 m shapeCasts_S1x1x128x128_S128x128)
    (matmul dot_S128x128_S128x128_S128x128_1_1_0_0_n_n none x x (constant S128x128 .f32 0x00000000#32)))
/-- The output of a head. -/
def res (h : Fin 8) (a : FVec Ideal S128x128 .f32) (qe i : FVec Ideal S128x1024 .bf16) (st : Vec Ideal S1x128x128 .f32) :
    FVec Ideal S1x128x128 .f32 :=
  shapeCast S1x128x128 (matmul dot_S128x256_S256x128_S128x128_1_0_0_1_n_n none
    (concatenate S128x256 1 [⟨S128x128, truncf .bf16 a bitsLt_bf16_f32⟩, ⟨S128x128, col h qe⟩] concatenates_S128x128_S128x128_S128x256_d1)
    (concatenate S256x128 0 [⟨S128x128, col h i⟩, ⟨S128x128, truncf .bf16 (shapeCast S128x128 st shapeCasts_S1x128x128_S128x128) bitsLt_bf16_f32⟩] concatenates_S128x128_S128x128_S256x128_d0)
    (constant S128x128 .f32 0x00000000#32)) shapeCasts_S128x128_S1x128x128
/-- The next state of a head. -/
def nxt (h : Fin 8) (kk i : FVec Ideal S128x1024 .bf16) (t : FVec Ideal S1024x1 .f32) (st : Vec Ideal S1x128x128 .f32) :
    FVec Ideal S1x128x128 .f32 :=
  shapeCast S1x128x128 (addf (mulf (broadcastTo S128x128 (extractStridedSlice S128x1 ![128 * h.val, 0] t (rowIn h)) broadcasts_S128x1_S128x128)
      (shapeCast S128x128 st shapeCasts_S1x128x128_S128x128))
    (matmul dot_S128x128_S128x128_S128x128_0_0_1_1_n_n none (col h kk) (col h i) (constant S128x128 .f32 0x00000000#32)))
    shapeCasts_S128x128_S1x128x128

/-- A head's columns, at an index. -/
theorem col_at {φ : FTy} (h : Fin 8) (x : FVec Ideal S128x1024 φ) (r e : Fin 128) (c : Fin 1024) (hc : c.val = 128 * h.val + e.val) :
    col h x (ix2 r e) = x (ix2 r c) := by
  refine congrArg x (funext fun a => Fin.ext ?_)
  match a with
  | ⟨0, _⟩ => exact Nat.zero_add _
  | ⟨1, _⟩ => exact hc.symm
/-- The decays of a block size, at an index. -/
theorem dec_at (g : Fin 7) (x : FVec Ideal S896x1024 .f32) (r : Fin 128) (c : Fin 1024) (t : Fin 896) (ht : t.val = 128 * g.val + r.val) :
    dec g x (ix2 r c) = Ideal.exp (x (ix2 t c)) := by
  refine congrArg (fun y => Ideal.exp (x y)) (funext fun a => Fin.ext ?_)
  match a with
  | ⟨0, _⟩ => exact ht.symm
  | ⟨1, _⟩ => exact Nat.zero_add _

variable (σ : Equiv.Perm (Fin 128)) (p : ℕ) (f q : ℕ → Fin 128 → ℝ) (i : ℕ → Fin 128 → ℝ)

/-- The weights that count for the pairs of positions which `c` says. -/
def IsA (c : ℕ → ℕ → ℕ) (x : FVec Ideal S128x128 .f32) : Prop :=
  ∀ r r', x (ix2 r r') = (((c (σ r).val (σ r').val : ℕ) * W f q (p + (σ r).val) (p + (σ r').val) : ℝ) : EReal)
/-- The operands of a block size: queries in the second half of each block, keys in the first, decayed to the middle. -/
def IsMix (g : ℕ) (x : FVec Ideal S128x128 .bf16) : Prop := ∀ r e, x (ix2 r e) =
  (((if bit g (σ r).val then q (p + (σ r).val) e else 1 - f (p + (σ r).val) e) * lev f g p (σ r).val e : ℝ) : EReal)
/-- The mask of the pairs which `c` says. -/
def IsMask (c : ℕ → ℕ → Prop) [∀ t s, Decidable (c t s)] (x : Vec Ideal S1x1x128x128 .f32) : Prop :=
  ∀ r r', x (ix4 0 0 r r') = (((if c (σ r).val (σ r').val then 1 else 0 : ℕ) : ℝ) : EReal)
/-- The mask of the second half of each block. -/
def IsFlag (g : ℕ) (x : Vec Ideal S1x1x128x128 .f32) : Prop :=
  ∀ r e, x (ix4 0 0 r e) = (((if bit g (σ r).val then 1 else 0 : ℕ) : ℝ) : EReal)
/-- Row by row, the positions of a sequence of a head. -/
def IsSeq {φ : FTy} (h : Fin 8) (x : FVec Ideal S128x1024 φ) (u : ℕ → Fin 128 → ℝ) : Prop :=
  ∀ r e (c : Fin 1024), c.val = 128 * h.val + e.val → x (ix2 r c) = ((u (p + (σ r).val) e : ℝ) : EReal)
/-- A head's state. -/
def IsS (st : Vec Ideal S1x128x128 .f32) : Prop := ∀ e j, st (ix3 0 e j) = ((S f i p e j : ℝ) : EReal)

variable {σ p f q i}

/-- A chosen value where the flag is one. -/
theorem flag_at {g : ℕ} {x : Vec Ideal S1x1x128x128 .f32} (hx : IsFlag σ g x) (r e : Fin 128) :
    k0_pay21 x (ix2 r e) = if bit g (σ r).val then 1#1 else 0#1 := by
  unfold k0_pay21
  pointwise
  rw [hx]
  by_cases h : bit g (σ r).val <;> simp [h]

/-- The first block size's operands are right. -/
theorem mix0_ok {h : Fin 8} {r : Vec Ideal S1x1x128x128 .f32} {qf k : FVec Ideal S128x1024 .f32} (hr : IsFlag σ 0 r)
    (hq : IsSeq σ p h qf fun n e => q n e * f n e) (hk : IsSeq σ p h k fun n e => 1 - f n e) : IsMix σ p f q 0 (mix0 h r qf k) := by
  intro r e
  unfold mix0
  pointwise
  rw [flag_at hr, col_at h qf r e ⟨128 * h.val + e.val, by omega⟩ rfl, col_at h k r e ⟨128 * h.val + e.val, by omega⟩ rfl, hq r e _ rfl, hk r e _ rfl, lev_zero]
  by_cases hb : bit 0 (σ r).val <;> simp [hb, Scalar.select]

/-- A later block size's operands are right. -/
theorem mix_ok {h : Fin 8} {g : Fin 7} {r : Vec Ideal S1x1x128x128 .f32} {qf k : FVec Ideal S128x1024 .f32} {x : FVec Ideal S896x1024 .f32}
    (hr : IsFlag σ g.val r) (hq : IsSeq σ p h qf q) (hk : IsSeq σ p h k fun n e => 1 - f n e)
    (hx : ∀ (r e : Fin 128) (t : Fin 896) (c : Fin 1024), t.val = 128 * g.val + r.val → c.val = 128 * h.val + e.val →
      Ideal.exp (x (ix2 t c)) = ((lev f g.val p (σ r).val e : ℝ) : EReal)) : IsMix σ p f q g.val (mix h g r qf k x) := by
  intro r e
  unfold mix
  pointwise
  rw [flag_at hr, col_at h qf r e ⟨128 * h.val + e.val, by omega⟩ rfl, col_at h k r e ⟨128 * h.val + e.val, by omega⟩ rfl, hq r e _ rfl, hk r e _ rfl,
    col_at h _ r e ⟨128 * h.val + e.val, by omega⟩ rfl, dec_at g x r _ ⟨128 * g.val + r.val, by omega⟩ rfl, hx r e _ _ rfl rfl, EReal.coe_mul]
  by_cases hb : bit g.val (σ r).val <;> simp [hb, Scalar.select]

/-- A sum of products of real numbers. -/
theorem sum_mul_coe {n : ℕ} {x y : Fin n → EReal} {f g : Fin n → ℝ} (hx : ∀ e, x e = (f e : EReal)) (hy : ∀ e, y e = (g e : EReal)) :
    ∑ e, x e * y e = ((∑ e, f e * g e : ℝ) : EReal) := by
  rw [← MlstmMath.coe_sum]
  exact Finset.sum_congr rfl fun e _ => by rw [hx, hy, EReal.coe_mul]

/-- The positions' own weights are right. -/
theorem diag_ok {h : Fin 8} {qb k : FVec Ideal S128x1024 .bf16} {m : Vec Ideal S1x1x128x128 .f32}
    (hq : IsSeq σ p h qb q) (hk : IsSeq σ p h k fun n e => 1 - f n e) (hm : IsMask σ (fun t s => t = s) m) :
    IsA σ p f q (fun t s => if t = s then 1 else 0) (diag h qb k m) := by
  intro r r'
  unfold diag
  pointwise
  rw [hm, sum_mul_coe (fun e => (col_at h qb r e ⟨128 * h.val + e.val, by omega⟩ rfl).trans (hq r e _ rfl))
    fun e => (col_at h k r' e ⟨128 * h.val + e.val, by omega⟩ rfl).trans (hk r' e _ rfl), ← EReal.coe_mul]
  by_cases hb : (σ r).val = (σ r').val
  · rw [if_pos hb, W, hb]
    simp only [PR_self, mul_one]
  · simp [hb]

/-- One more block size's weights are right. -/
theorem more_ok (g : Fin 7) {c : ℕ → ℕ → ℕ} {a : FVec Ideal S128x128 .f32} {m : Vec Ideal S1x1x128x128 .f32} {x : FVec Ideal S128x128 .bf16}
    (ha : IsA σ p f q c a) (hm : IsMask σ (pair g.val) m) (hx : IsMix σ p f q g.val x) :
    IsA σ p f q (fun t s => c t s + if pair g.val t s then 1 else 0) (more a m x) := by
  intro r r'
  unfold more
  pointwise
  rw [hm, ha, sum_mul_coe (fun e => hx r e) fun e => hx r' e, ← EReal.coe_mul, ← EReal.coe_add]
  congr 1
  rw [Nat.cast_add, add_mul]
  refine congrArg _ ?_
  by_cases hb : pair g.val (σ r).val (σ r').val
  · rw [if_pos hb, W]
    refine congrArg _ (Finset.sum_congr rfl fun e _ => ?_)
    rw [if_pos hb.2.1, if_neg hb.2.2, ← pair_lev f g p _ _ hb e]
    ring
  · simp [hb]

/-- The output is right. -/
theorem res_ok (h : Fin 8) {a : FVec Ideal S128x128 .f32} {qe iv : FVec Ideal S128x1024 .bf16} {st : Vec Ideal S1x128x128 .f32}
    (ha : IsA σ p f q (fun t s => if s ≤ t then 1 else 0) a)
    (hq : ∀ r e (c : Fin 1024), c.val = 128 * h.val + e.val →
      qe (ix2 r c) = ((q (p + (σ r).val) e * PR f p (p + (σ r).val + 1) e : ℝ) : EReal))
    (hi : IsSeq σ p h iv i) (hs : IsS p f i st) (r j : Fin 128) :
    res h a qe iv st (ix3 0 r j) = ((out f q i (p + (σ r).val) j : ℝ) : EReal) := by
  unfold res
  pointwise
  rw [sum_mul_coe (fun r' => ha r r') fun r' => (col_at h iv r' j ⟨128 * h.val + j.val, by omega⟩ rfl).trans (hi r' j _ rfl),
    sum_mul_coe (fun e => (col_at h qe r e ⟨128 * h.val + e.val, by omega⟩ rfl).trans (hq r e _ rfl)) fun e => hs e j,
    ← EReal.coe_add, out_chunk f q i σ p (σ r) j]
  refine congrArg (fun x : ℝ => ((x + _ : ℝ) : EReal)) (Finset.sum_congr rfl fun r' _ => ?_)
  by_cases hb : (σ r').val ≤ (σ r).val <;> simp only [hb, ↓reduceIte, Nat.cast_one, Nat.cast_zero, one_mul, zero_mul]

/-- The next state is right. -/
theorem nxt_ok (h : Fin 8) {kk iv : FVec Ideal S128x1024 .bf16} {t : FVec Ideal S1024x1 .f32} {st : Vec Ideal S1x128x128 .f32}
    (hk : ∀ r e (c : Fin 1024), c.val = 128 * h.val + e.val →
      kk (ix2 r c) = (((1 - f (p + (σ r).val) e) * PR f (p + (σ r).val + 1) (p + 128) e : ℝ) : EReal))
    (ht : ∀ e (c : Fin 1024), c.val = 128 * h.val + e.val → t (ix2 c 0) = ((PR f p (p + 128) e : ℝ) : EReal))
    (hi : IsSeq σ p h iv i) (hs : IsS p f i st) : IsS (p + 128) f i (nxt h kk iv t st) := by
  intro e j
  unfold nxt
  pointwise
  rw [ht e _ rfl, hs, sum_mul_coe (fun r => (col_at h kk r e ⟨128 * h.val + e.val, by omega⟩ rfl).trans (hk r e _ rfl))
    fun r => (col_at h iv r j ⟨128 * h.val + j.val, by omega⟩ rfl).trans (hi r j _ rfl), ← EReal.coe_mul, ← EReal.coe_add,
    state_chunk f i σ p e j]

end Cert.HgrnIdeal.Head
-- ==== Proof.HgrnChunk.lean ====
module
public import proofs.«01_k».proof.Proof.HgrnHead
/-! What one chunk computes, head by head, from the seven input blocks and the state that the chunk before left. -/
@[expose] public section
noncomputable section
namespace Cert.HgrnIdeal.Head
open Cert.HgrnIdeal Cert.HgrnIdeal.Gen Idealize.ShloMosaic Idealize.ShloMosaic.TcCoe Idealize.SL.Sem
open Idealize.ShloMosaic.Tactic Cert.HgrnMath

/-- The masks of the kernel's table: the positions themselves, then each block size. -/
def maskAt (g : Fin 8) (t s : ℕ) : Prop := if g.val = 0 then t = s else pair (g.val - 1) t s

instance (g t s) : Decidable (maskAt g t s) := by unfold maskAt; infer_instance

/-- The sums of the kernel's table: the positions up to one, then each later block size. -/
def sumAt (g : Fin 7) (t v : ℕ) : Prop := if g.val = 0 then v ≤ t else near g.val t v

instance (g t s) : Decidable (sumAt g t s) := by unfold sumAt; infer_instance

/-- The seven input blocks hold, row by row, the positions `p + σ r` of real sequences, one family per head, and the
tables of the direction's order. -/
structure Blocks (σ : Equiv.Perm (Fin 128)) (p : ℕ) (f q i : Fin 8 → ℕ → Fin 128 → ℝ)
    (b0 b1 b2 : Vec Ideal S128x1024 .f32) (b3 : Vec Ideal S1x1x1024 .f32) (b4 : Vec Ideal S1x896x256 .bf16)
    (b5 : Vec Ideal S1x8x128x128 .f32) (b6 : Vec Ideal S1x7x128x128 .f32) : Prop where
  pos : ∀ h n e, 0 < f h n e
  q : ∀ h, IsSeq (φ := .f32) σ p h b0 (q h)
  f : ∀ h, IsSeq σ p h (k0_pay4 b3 b1) (f h)
  i : ∀ h, IsSeq (φ := .f32) σ p h b2 (i h)
  sums : ∀ (g : Fin 7) (r u : Fin 128) (t : Fin 896) (v : Fin 256), t.val = 128 * g.val + r.val → v.val % 128 = u.val →
    b4 (ix3 0 t v) = (((if sumAt g (σ r).val (σ u).val then 1 else 0 : ℕ) : ℝ) : EReal)
  mask : ∀ g r u, b5 (ix4 0 g r u) = (((if maskAt g (σ r).val (σ u).val then 1 else 0 : ℕ) : ℝ) : EReal)
  flag : ∀ (g : Fin 7) r u, b6 (ix4 0 g r u) = (((if bit g.val (σ r).val then 1 else 0 : ℕ) : ℝ) : EReal)

variable {σ : Equiv.Perm (Fin 128)} {p : ℕ} {f q i : Fin 8 → ℕ → Fin 128 → ℝ}
    {b0 b1 b2 : Vec Ideal S128x1024 .f32} {b3 : Vec Ideal S1x1x1024 .f32} {b4 : Vec Ideal S1x896x256 .bf16}
    {b5 : Vec Ideal S1x8x128x128 .f32} {b6 : Vec Ideal S1x7x128x128 .f32}
    (B : Blocks σ p f q i b0 b1 b2 b3 b4 b5 b6)
include B

/-- The logarithms of the gates. -/
theorem log_ok (h : Fin 8) : IsSeq σ p h (k0_pay5 b3 b1) fun n e => Real.log (f h n e) := by
  intro r e c hc
  unfold k0_pay5
  pointwise
  rw [B.f h r e c hc, Ideal.log_coe, if_neg (not_le.mpr (B.pos h _ _))]

/-- The keys. -/
theorem key_ok (h : Fin 8) : IsSeq σ p h (k0_pay6 b3 b1) fun n e => 1 - f h n e := by
  intro r e c hc
  unfold k0_pay6
  pointwise
  rw [B.f h r e c hc]
  rw [← EReal.coe_one, ← EReal.coe_sub]

/-- The table's sums of logarithms. -/
theorem sums_ok (h : Fin 8) (g : Fin 7) (r e : Fin 128) (t : Fin 896) (c : Fin 1024) (ht : t.val = 128 * g.val + r.val)
    (hc : c.val = 128 * h.val + e.val) : k0_pay7 b3 b1 b4 (ix2 t c)
      = ((∑ u : Fin 128, if sumAt g (σ r).val (σ u).val then Real.log (f h (p + (σ u).val) e) else 0 : ℝ) : EReal) := by
  unfold k0_pay7
  pointwise
  have h0 : ∀ x : Fin 128, k0_pay5 b3 b1 (ix2 x c) = ((Real.log (f h (p + (σ x).val) e) : ℝ) : EReal) := fun x => log_ok B h x e c hc
  rw [sum_mul_coe (fun x => B.sums g r x t ⟨x.val, by omega⟩ ht (by simp)) h0,
    sum_mul_coe (g := fun _ => 0) (fun x => B.sums g r x t ⟨128 + x.val, by omega⟩ ht (by simp))
      (fun x => by rw [h0, ← EReal.coe_sub, sub_self]), ← EReal.coe_add]
  congr 1
  simp only [mul_zero, Finset.sum_const_zero, add_zero]
  refine Finset.sum_congr rfl fun u _ => ?_
  by_cases hb : sumAt g (σ r).val (σ u).val <;> simp [hb]

/-- The whole sum of logarithms of a column. -/
theorem tot_ok (h : Fin 8) (e : Fin 128) (c : Fin 1024) (hc : c.val = 128 * h.val + e.val) : k0_pay9 b3 b1 (ix2 0 c)
      = ((∑ u : Fin 128, Real.log (f h (p + (σ u).val) e) : ℝ) : EReal) := by
  unfold k0_pay9
  pointwise
  rw [← MlstmMath.coe_sum]
  exact Finset.sum_congr rfl fun u _ => log_ok B h u e c hc

/-- The decay of a later block size. -/
theorem lev_ok (h : Fin 8) (g : Fin 7) (hg : g.val ≠ 0) (r e : Fin 128) (t : Fin 896) (c : Fin 1024) (ht : t.val = 128 * g.val + r.val)
    (hc : c.val = 128 * h.val + e.val) : Ideal.exp (k0_pay7 b3 b1 b4 (ix2 t c)) = ((lev (f h) g.val p (σ r).val e : ℝ) : EReal) := by
  rw [sums_ok B h g r e t c ht hc, Ideal.exp_coe, ← exp_near (f h) σ (B.pos h) p g (σ r) e]
  congr 2
  refine Finset.sum_congr rfl fun u _ => if_congr ?_ rfl rfl
  simp only [sumAt, if_neg hg]

/-- The sum of the logarithms up to a position is that of the product of the gates. -/
theorem upto_ok (h : Fin 8) (r e : Fin 128) (c : Fin 1024) (hc : c.val = 128 * h.val + e.val) :
    k0_pay8 b3 b1 b4 (ix2 r c) = ((Real.log (PR (f h) p (p + (σ r).val + 1) e) : ℝ) : EReal) := by
  have h1 := sums_ok B h 0 r e ⟨r.val, by omega⟩ c (by simp) hc
  have h2 : k0_pay8 b3 b1 b4 (ix2 r c) = k0_pay7 b3 b1 b4 (ix2 ⟨r.val, by omega⟩ c) := by
    unfold k0_pay8
    pointwise
  have h3 := exp_sum (f h) σ (B.pos h) p 0 ((σ r).val + 1) e (σ r).isLt (fun v => v ≤ (σ r).val) fun v _ => by omega
  rw [h2, h1, Nat.add_assoc, ← Nat.add_zero p, Nat.add_assoc, Nat.zero_add, ← h3, Real.log_exp]
  rfl

/-- The whole sum is the logarithm of the product of all gates. -/
theorem whole_ok (h : Fin 8) (e : Fin 128) (c : Fin 1024) (hc : c.val = 128 * h.val + e.val) :
    k0_pay9 b3 b1 (ix2 0 c) = ((Real.log (PR (f h) p (p + 128) e) : ℝ) : EReal) := by
  have h3 := exp_sum (f h) σ (B.pos h) p 0 128 e le_rfl (fun v => True) fun v hv => by simp [hv]
  simp only [if_true, Nat.add_zero] at h3
  rw [tot_ok B h e c hc, ← h3, Real.log_exp]

/-- The queries, decayed from the chunk's start. -/
theorem qe_ok (h : Fin 8) (r e : Fin 128) (c : Fin 1024) (hc : c.val = 128 * h.val + e.val) :
    k0_pay110 b0 (k0_pay8 b3 b1 b4) (ix2 r c) = ((q h (p + (σ r).val) e * PR (f h) p (p + (σ r).val + 1) e : ℝ) : EReal) := by
  unfold k0_pay110
  pointwise
  rw [B.q h r e c hc, upto_ok B h r e c hc, Ideal.exp_coe, Real.exp_log (PR_pos _ (B.pos h) _ _ _), ← EReal.coe_mul]

/-- The keys, decayed to the chunk's end. -/
theorem kk_ok (h : Fin 8) (r e : Fin 128) (c : Fin 1024) (hc : c.val = 128 * h.val + e.val) :
    k0_pay111 (k0_pay6 b3 b1) (k0_pay8 b3 b1 b4) (k0_pay9 b3 b1) (ix2 r c)
      = (((1 - f h (p + (σ r).val) e) * PR (f h) (p + (σ r).val + 1) (p + 128) e : ℝ) : EReal) := by
  have h1 := PR_pos _ (B.pos h) p (p + (σ r).val + 1) e
  unfold k0_pay111
  pointwise
  rw [key_ok B h r e c hc, upto_ok B h r e c hc, whole_ok B h e c hc, ← EReal.coe_sub, Ideal.exp_coe, Real.exp_sub,
    Real.exp_log (PR_pos _ (B.pos h) _ _ _), Real.exp_log h1, ← EReal.coe_mul,
    ← PR_mul (f h) (m := p) (n := p + (σ r).val + 1) (k := p + 128) (by omega) (by omega) e, mul_div_cancel_left₀ _ (ne_of_gt h1)]

/-- The decay of the whole chunk. -/
theorem te_ok (h : Fin 8) (e : Fin 128) (c : Fin 1024) (hc : c.val = 128 * h.val + e.val) :
    k0_pay112 (k0_pay9 b3 b1) (ix2 c 0) = ((PR (f h) p (p + 128) e : ℝ) : EReal) := by
  unfold k0_pay112
  pointwise
  rw [whole_ok B h e c hc, Ideal.exp_coe, Real.exp_log (PR_pos _ (B.pos h) _ _ _)]

omit B in
/-- An equation at every axis of four, from one at each. -/
theorem axes4 {P : Fin 4 → Prop} (h0 : P 0) (h1 : P 1) (h2 : P 2) (h3 : P 3) : ∀ a, P a
  | 0 => h0
  | 1 => h1
  | 2 => h2
  | 3 => h3
omit B in
/-- An equation at every axis of three, from one at each. -/
theorem axes3 {P : Fin 3 → Prop} (h0 : P 0) (h1 : P 1) (h2 : P 2) : ∀ a, P a
  | 0 => h0
  | 1 => h1
  | 2 => h2

/-- A mask of the table. -/
abbrev ldm (b : Vec Ideal S1x8x128x128 .f32) (off : Fin 4 → ℕ) (inb : ∀ a, off a + (![1, 1, 128, 128] : Fin 4 → ℕ) a ≤ S1x8x128x128.size a) : Vec Ideal S1x1x128x128 .f32 :=
  View.ld (Val := Elt Ideal) (e' := .f32) b (Rect.unit (s := S1x8x128x128) off ![1, 1, 128, 128] inb)
/-- A block size's flags of the table. -/
abbrev ldf (b : Vec Ideal S1x7x128x128 .f32) (off : Fin 4 → ℕ) (inb : ∀ a, off a + (![1, 1, 128, 128] : Fin 4 → ℕ) a ≤ S1x7x128x128.size a) : Vec Ideal S1x1x128x128 .f32 :=
  View.ld (Val := Elt Ideal) (e' := .f32) b (Rect.unit (s := S1x7x128x128) off ![1, 1, 128, 128] inb)
/-- A head's matrix of the state. -/
abbrev lds (b : Vec Ideal S8x128x128 .f32) (off : Fin 3 → ℕ) (inb : ∀ a, off a + (![1, 128, 128] : Fin 3 → ℕ) a ≤ S8x128x128.size a) : Vec Ideal S1x128x128 .f32 :=
  View.ld (Val := Elt Ideal) (e' := .f32) b (Rect.unit (s := S8x128x128) off ![1, 128, 128] inb)

/-- A loaded mask, at an index. -/
theorem ldm_ok (off inb) (g : Fin 8) (h0 : off 0 = 0) (h1 : off 1 = g.val) (h2 : off 2 = 0) (h3 : off 3 = 0) :
    IsMask σ (maskAt g) (ldm b5 off inb) := fun r u =>
  (View.ld_unit_apply_of (Val := Elt Ideal) (e := .f32) b5 off _ inb (ix4 0 0 r u) (ix4 0 g r u)
    (axes4 (by rw [h0]; rfl) (by rw [h1]; rfl) (by rw [h2]; exact (Nat.zero_add _).symm) (by rw [h3]; exact (Nat.zero_add _).symm))).trans
    (B.mask g r u)
/-- Loaded flags, at an index. -/
theorem ldf_ok (off inb) (g : Fin 7) (h0 : off 0 = 0) (h1 : off 1 = g.val) (h2 : off 2 = 0) (h3 : off 3 = 0) :
    IsFlag σ g.val (ldf b6 off inb) := fun r u =>
  (View.ld_unit_apply_of (Val := Elt Ideal) (e := .f32) b6 off _ inb (ix4 0 0 r u) (ix4 0 g r u)
    (axes4 (by rw [h0]; rfl) (by rw [h1]; rfl) (by rw [h2]; exact (Nat.zero_add _).symm) (by rw [h3]; exact (Nat.zero_add _).symm))).trans
    (B.flag g r u)
omit B in
/-- A loaded state, at an index. -/
theorem lds_ok (s : Vec Ideal S8x128x128 .f32) (off inb) (h : Fin 8) (h0 : off 0 = h.val) (h1 : off 1 = 0) (h2 : off 2 = 0)
    (hs : ∀ e j, s (ix3 h e j) = ((S (f h) (i h) p e j : ℝ) : EReal)) : IsS p (f h) (i h) (lds s off inb) := fun e j =>
  (View.ld_unit_apply_of (Val := Elt Ideal) (e := .f32) s off _ inb (ix3 0 e j) (ix3 h e j)
    (axes3 (by rw [h0]; rfl) (by rw [h1]; exact (Nat.zero_add _).symm) (by rw [h2]; exact (Nat.zero_add _).symm))).trans (hs e j)

/-- The weights of a head, in the kernel's steps. -/
def wts (h : Fin 8) (b0 b1 : Vec Ideal S128x1024 .f32) (b3 : Vec Ideal S1x1x1024 .f32) (b4 : Vec Ideal S1x896x256 .bf16)
    (b5 : Vec Ideal S1x8x128x128 .f32) (b6 : Vec Ideal S1x7x128x128 .f32) : FVec Ideal S128x128 .f32 :=
  more (more (more (more (more (more (more (diag h (k0_pay10 b0) (k0_pay11 b3 b1) (ldm b5 ![0, 0, 0, 0] inb_S1x8x128x128_S1x1x128x128_0_0_0_0))
    (ldm b5 ![0, 1, 0, 0] inb_S1x8x128x128_S1x1x128x128_0_1_0_0) (mix0 h (ldf b6 ![0, 0, 0, 0] inb_S1x7x128x128_S1x1x128x128_0_0_0_0) (k0_pay22 b0 (k0_pay4 b3 b1)) (k0_pay6 b3 b1)))
    (ldm b5 ![0, 2, 0, 0] inb_S1x8x128x128_S1x1x128x128_0_2_0_0) (mix h 1 (ldf b6 ![0, 1, 0, 0] inb_S1x7x128x128_S1x1x128x128_0_1_0_0) b0 (k0_pay6 b3 b1) (k0_pay7 b3 b1 b4)))
    (ldm b5 ![0, 3, 0, 0] inb_S1x8x128x128_S1x1x128x128_0_3_0_0) (mix h 2 (ldf b6 ![0, 2, 0, 0] inb_S1x7x128x128_S1x1x128x128_0_2_0_0) b0 (k0_pay6 b3 b1) (k0_pay7 b3 b1 b4)))
    (ldm b5 ![0, 4, 0, 0] inb_S1x8x128x128_S1x1x128x128_0_4_0_0) (mix h 3 (ldf b6 ![0, 3, 0, 0] inb_S1x7x128x128_S1x1x128x128_0_3_0_0) b0 (k0_pay6 b3 b1) (k0_pay7 b3 b1 b4)))
    (ldm b5 ![0, 5, 0, 0] inb_S1x8x128x128_S1x1x128x128_0_5_0_0) (mix h 4 (ldf b6 ![0, 4, 0, 0] inb_S1x7x128x128_S1x1x128x128_0_4_0_0) b0 (k0_pay6 b3 b1) (k0_pay7 b3 b1 b4)))
    (ldm b5 ![0, 6, 0, 0] inb_S1x8x128x128_S1x1x128x128_0_6_0_0) (mix h 5 (ldf b6 ![0, 5, 0, 0] inb_S1x7x128x128_S1x1x128x128_0_5_0_0) b0 (k0_pay6 b3 b1) (k0_pay7 b3 b1 b4)))
    (ldm b5 ![0, 7, 0, 0] inb_S1x8x128x128_S1x1x128x128_0_7_0_0) (mix h 6 (ldf b6 ![0, 6, 0, 0] inb_S1x7x128x128_S1x1x128x128_0_6_0_0) b0 (k0_pay6 b3 b1) (k0_pay7 b3 b1 b4))

/-- The weights of a head are right. -/
theorem wts_ok (h : Fin 8) : IsA σ p (f h) (q h) (fun t s => if s ≤ t then 1 else 0) (wts h b0 b1 b3 b4 b5 b6) := by
  have kb : IsSeq σ p h (k0_pay11 b3 b1) fun n e => 1 - f h n e := fun r e c hc => by
    unfold k0_pay11; pointwise; exact key_ok B h r e c hc
  have qb : IsSeq σ p h (k0_pay10 b0) (q h) := fun r e c hc => by
    unfold k0_pay10; pointwise; exact B.q h r e c hc
  have qf : IsSeq σ p h (k0_pay22 b0 (k0_pay4 b3 b1)) fun n e => q h n e * f h n e := fun r e c hc => by
    unfold k0_pay22; pointwise; rw [B.q h r e c hc, B.f h r e c hc, ← EReal.coe_mul]
  have m0 := diag_ok qb kb (ldm_ok B ![0, 0, 0, 0] inb_S1x8x128x128_S1x1x128x128_0_0_0_0 0 rfl rfl rfl rfl)
  have m1 := more_ok 0 m0 (ldm_ok B ![0, 1, 0, 0] inb_S1x8x128x128_S1x1x128x128_0_1_0_0 1 rfl rfl rfl rfl)
    (mix0_ok (ldf_ok B ![0, 0, 0, 0] inb_S1x7x128x128_S1x1x128x128_0_0_0_0 0 rfl rfl rfl rfl) qf (key_ok B h))
  have m2 := more_ok 1 m1 (ldm_ok B ![0, 2, 0, 0] inb_S1x8x128x128_S1x1x128x128_0_2_0_0 2 rfl rfl rfl rfl)
    (mix_ok (ldf_ok B ![0, 1, 0, 0] inb_S1x7x128x128_S1x1x128x128_0_1_0_0 1 rfl rfl rfl rfl) (B.q h) (key_ok B h) (lev_ok B h 1 (by decide)))
  have m3 := more_ok 2 m2 (ldm_ok B ![0, 3, 0, 0] inb_S1x8x128x128_S1x1x128x128_0_3_0_0 3 rfl rfl rfl rfl)
    (mix_ok (ldf_ok B ![0, 2, 0, 0] inb_S1x7x128x128_S1x1x128x128_0_2_0_0 2 rfl rfl rfl rfl) (B.q h) (key_ok B h) (lev_ok B h 2 (by decide)))
  have m4 := more_ok 3 m3 (ldm_ok B ![0, 4, 0, 0] inb_S1x8x128x128_S1x1x128x128_0_4_0_0 4 rfl rfl rfl rfl)
    (mix_ok (ldf_ok B ![0, 3, 0, 0] inb_S1x7x128x128_S1x1x128x128_0_3_0_0 3 rfl rfl rfl rfl) (B.q h) (key_ok B h) (lev_ok B h 3 (by decide)))
  have m5 := more_ok 4 m4 (ldm_ok B ![0, 5, 0, 0] inb_S1x8x128x128_S1x1x128x128_0_5_0_0 5 rfl rfl rfl rfl)
    (mix_ok (ldf_ok B ![0, 4, 0, 0] inb_S1x7x128x128_S1x1x128x128_0_4_0_0 4 rfl rfl rfl rfl) (B.q h) (key_ok B h) (lev_ok B h 4 (by decide)))
  have m6 := more_ok 5 m5 (ldm_ok B ![0, 6, 0, 0] inb_S1x8x128x128_S1x1x128x128_0_6_0_0 6 rfl rfl rfl rfl)
    (mix_ok (ldf_ok B ![0, 5, 0, 0] inb_S1x7x128x128_S1x1x128x128_0_5_0_0 5 rfl rfl rfl rfl) (B.q h) (key_ok B h) (lev_ok B h 5 (by decide)))
  have m7 := more_ok 6 m6 (ldm_ok B ![0, 7, 0, 0] inb_S1x8x128x128_S1x1x128x128_0_7_0_0 7 rfl rfl rfl rfl)
    (mix_ok (ldf_ok B ![0, 6, 0, 0] inb_S1x7x128x128_S1x1x128x128_0_6_0_0 6 rfl rfl rfl rfl) (B.q h) (key_ok B h) (lev_ok B h 6 (by decide)))
  intro r r'
  refine (m7 r r').trans ?_
  congr 3
  refine Eq.trans ?_ (pair_count (σ r) (σ r'))
  simp only [Nat.add_assoc]
  rfl

/-- The output of a head is right. -/
theorem out_ok (h : Fin 8) {st : Vec Ideal S1x128x128 .f32} (hs : IsS p (f h) (i h) st) (r j : Fin 128) :
    res h (wts h b0 b1 b3 b4 b5 b6) (k0_pay110 b0 (k0_pay8 b3 b1 b4)) (k0_pay3 b2) st (ix3 0 r j)
      = ((out (f h) (q h) (i h) (p + (σ r).val) j : ℝ) : EReal) :=
  res_ok h (wts_ok B h) (qe_ok B h) (fun r e c hc => by unfold k0_pay3; pointwise; exact B.i h r e c hc) hs r j

/-- The next state of a head is right. -/
theorem st_ok (h : Fin 8) {st : Vec Ideal S1x128x128 .f32} (hs : IsS p (f h) (i h) st) : IsS (p + 128) (f h) (i h)
    (nxt h (k0_pay111 (k0_pay6 b3 b1) (k0_pay8 b3 b1 b4) (k0_pay9 b3 b1)) (k0_pay3 b2) (k0_pay112 (k0_pay9 b3 b1)) st) :=
  nxt_ok h (kk_ok B h) (te_ok B h) (fun r e c hc => by unfold k0_pay3; pointwise; exact B.i h r e c hc) hs

end Cert.HgrnIdeal.Head
-- ==== Proof.HgrnStep.lean ====
module
public import proofs.«01_k».proof.Proof.HgrnChunk
public import Idealize.ShloMosaic.Lib.Pipeline.ReadBack
/-! What one grid point leaves in the carried state and in the output block. -/
@[expose] public section
noncomputable section
namespace Cert.HgrnIdeal.Head
open Cert.HgrnIdeal Cert.HgrnIdeal.Gen Idealize.ShloMosaic Idealize.ShloMosaic.TcCoe Idealize.SL.Sem
open Idealize.ShloMosaic.Tactic Cert.HgrnMath Cert.HgrnIdeal.Value

/-- A piece written for one head of the states. -/
theorem pieceS (G : S8x128x128.Idx → EReal) (h : Fin 8) (off inb) (pay : S1x128x128.Idx → EReal) (h0 : h.val = off 0) (h1 : off 1 = 0) (h2 : off 2 = 0)
    (hp : ∀ e j, pay (ix3 0 e j) = G (ix3 h e j)) :
    ∀ x : (Rect.unit (s := S8x128x128) off ![1, 128, 128] inb).shape.Idx, pay x = G ((Rect.unit (s := S8x128x128) off ![1, 128, 128] inb).emb x) := by
  intro x
  obtain ⟨a, e, j, rfl⟩ : ∃ (a : Fin 1) (e : Fin 128) (j : Fin 128), x = ix3 a e j := ⟨x 0, x 1, x 2, eq_ix3 x⟩
  obtain rfl : a = 0 := Subsingleton.elim _ _
  refine (hp e j).trans (congrArg G (funext fun a => Fin.ext ?_))
  rw [ValueKit.rect_emb_unit_val]
  revert a
  exact axes3 h0 (by rw [h1]; exact (Nat.zero_add _).symm) (by rw [h2]; exact (Nat.zero_add _).symm)
/-- A piece written for one head of the output block. -/
theorem pieceO (G : S1x128x1024.Idx → EReal) (h : Fin 8) (off inb) (pay : S1x128x128.Idx → EReal) (h0 : off 0 = 0) (h1 : off 1 = 0) (h2 : off 2 = 128 * h.val)
    (hp : ∀ r (j : Fin 128) (l : Fin 1024), l.val = 128 * h.val + j.val → pay (ix3 0 r j) = G (ix3 0 r l)) :
    ∀ x : (Rect.unit (s := S1x128x1024) off ![1, 128, 128] inb).shape.Idx, pay x = G ((Rect.unit (s := S1x128x1024) off ![1, 128, 128] inb).emb x) := by
  intro x
  obtain ⟨a, r, j, rfl⟩ : ∃ (a : Fin 1) (r : Fin 128) (j : Fin 128), x = ix3 a r j := ⟨x 0, x 1, x 2, eq_ix3 x⟩
  obtain rfl : a = 0 := Subsingleton.elim _ _
  refine (hp r j (⟨128 * h.val + j.val, by omega⟩ : Fin 1024) rfl).trans (congrArg G (funext fun a => Fin.ext ?_))
  rw [ValueKit.rect_emb_unit_val]
  revert a
  exact axes3 (by rw [h0]; rfl) (by rw [h1]; exact (Nat.zero_add _).symm) (by rw [h2]; rfl)

/-- The head to which a column of the output belongs. -/
def hd (l : Fin 1024) : Fin 8 := ⟨l.val / 128, by omega⟩
/-- The column within its head. -/
def ln (l : Fin 1024) : Fin 128 := ⟨l.val % 128, by omega⟩

variable {σ : Equiv.Perm (Fin 128)} {p : ℕ} {f q i : Fin 8 → ℕ → Fin 128 → ℝ}
/-- The states after `p` positions, as an array. -/
def GS (p : ℕ) (f i : Fin 8 → ℕ → Fin 128 → ℝ) : Vec Ideal S8x128x128 .f32 :=
  fun x => ((S (f (x 0)) (i (x 0)) p (x 1) (x 2) : ℝ) : EReal)
/-- A chunk's output block. -/
def GO (σ : Equiv.Perm (Fin 128)) (p : ℕ) (f q i : Fin 8 → ℕ → Fin 128 → ℝ) : Vec Ideal S1x128x1024 .f32 :=
  fun x => ((out (f (hd (x 2))) (q (hd (x 2))) (i (hd (x 2))) (p + (σ (x 1)).val) (ln (x 2)) : ℝ) : EReal)

/-- The output block at a head's column. -/
theorem GO_at (σ : Equiv.Perm (Fin 128)) (p : ℕ) (f q i : Fin 8 → ℕ → Fin 128 → ℝ)
    (h : Fin 8) (r : Fin 128) (j : Fin 128) (l : Fin 1024) (hl : l.val = 128 * h.val + j.val) :
    GO σ p f q i (ix3 0 r l) = ((out (f h) (q h) (i h) (p + (σ r).val) j : ℝ) : EReal) := by
  have e1 : hd l = h := Fin.ext (by show l.val / 128 = h.val; omega)
  have e2 : ln l = j := Fin.ext (by show l.val % 128 = j.val; omega)
  show ((out (f (hd l)) (q (hd l)) (i (hd l)) (p + (σ r).val) (ln l) : ℝ) : EReal) = _
  rw [e1, e2]

variable (m : (ℓ : Loc nD τ sig) → Buf (Elt Ideal) ℓ)

/-- The states after a later chunk. -/
theorem stepB_S (c : Dev nD) (t : Fin cfg0.N)
    (B : Blocks σ p f q i (iblk m c 0 t) (iblk m c 1 t) (iblk m c 2 t) (iblk m c 3 t) (iblk m c 4 t) (iblk m c 5 t) (iblk m c 6 t))
    (ht : ¬ t.val % 64 = 0) (st : ∀ h e j, (outsAt0 m c (t.val - 1) (by omega)).2 (ix3 h e j) = ((S (f h) (i h) p e j : ℝ) : EReal)) (y) :
    (outsAt0 m c t.val t.isLt).2 y = (GS (p + 128) f i) y := by
  rw [outsAt0_B m c t ‹_›]
  dsimp only
  frame_out
  simp only [read_unread_whole]
  refine View.canon_append_of_piecesOf (Val := Elt Ideal) (e := .f32) (GS (p + 128) f i) [] [_, _, _, _, _, _, _, _] ⟨?_, ?_, ?_, ?_, ?_, ?_, ?_, ?_, trivial⟩ _
    (View.cover_of_tiledL _ ![1, 128, 128] rfl _)
  · refine pieceS _ 7 _ inb_S8x128x128_S1x128x128_7_0_0 _ rfl rfl rfl fun e j => ?_
    exact st_ok B 7 (lds_ok _ ![7, 0, 0] inb_S8x128x128_S1x128x128_7_0_0 7 rfl rfl rfl (st 7)) e j
  · refine pieceS _ 6 _ inb_S8x128x128_S1x128x128_6_0_0 _ rfl rfl rfl fun e j => ?_
    exact st_ok B 6 (lds_ok _ ![6, 0, 0] inb_S8x128x128_S1x128x128_6_0_0 6 rfl rfl rfl (st 6)) e j
  · refine pieceS _ 5 _ inb_S8x128x128_S1x128x128_5_0_0 _ rfl rfl rfl fun e j => ?_
    exact st_ok B 5 (lds_ok _ ![5, 0, 0] inb_S8x128x128_S1x128x128_5_0_0 5 rfl rfl rfl (st 5)) e j
  · refine pieceS _ 4 _ inb_S8x128x128_S1x128x128_4_0_0 _ rfl rfl rfl fun e j => ?_
    exact st_ok B 4 (lds_ok _ ![4, 0, 0] inb_S8x128x128_S1x128x128_4_0_0 4 rfl rfl rfl (st 4)) e j
  · refine pieceS _ 3 _ inb_S8x128x128_S1x128x128_3_0_0 _ rfl rfl rfl fun e j => ?_
    exact st_ok B 3 (lds_ok _ ![3, 0, 0] inb_S8x128x128_S1x128x128_3_0_0 3 rfl rfl rfl (st 3)) e j
  · refine pieceS _ 2 _ inb_S8x128x128_S1x128x128_2_0_0 _ rfl rfl rfl fun e j => ?_
    exact st_ok B 2 (lds_ok _ ![2, 0, 0] inb_S8x128x128_S1x128x128_2_0_0 2 rfl rfl rfl (st 2)) e j
  · refine pieceS _ 1 _ inb_S8x128x128_S1x128x128_1_0_0 _ rfl rfl rfl fun e j => ?_
    exact st_ok B 1 (lds_ok _ ![1, 0, 0] inb_S8x128x128_S1x128x128_1_0_0 1 rfl rfl rfl (st 1)) e j
  · refine pieceS _ 0 _ inb_S8x128x128_S1x128x128_0_0_0 _ rfl rfl rfl fun e j => ?_
    exact st_ok B 0 (lds_ok _ ![0, 0, 0] inb_S8x128x128_S1x128x128_0_0_0 0 rfl rfl rfl (st 0)) e j
/-- The output block after a later chunk. -/
theorem stepB_O (c : Dev nD) (t : Fin cfg0.N)
    (B : Blocks σ p f q i (iblk m c 0 t) (iblk m c 1 t) (iblk m c 2 t) (iblk m c 3 t) (iblk m c 4 t) (iblk m c 5 t) (iblk m c 6 t))
    (ht : ¬ t.val % 64 = 0) (st : ∀ h e j, (outsAt0 m c (t.val - 1) (by omega)).2 (ix3 h e j) = ((S (f h) (i h) p e j : ℝ) : EReal)) (y) :
    (outsAt0 m c t.val t.isLt).1 y = (GO σ p f q i) y := by
  rw [outsAt0_B m c t ‹_›]
  dsimp only
  frame_out
  simp only [read_unread_whole]
  refine View.canon_append_of_piecesOf (Val := Elt Ideal) (e := .f32) (GO σ p f q i) [] [_, _, _, _, _, _, _, _] ⟨?_, ?_, ?_, ?_, ?_, ?_, ?_, ?_, trivial⟩ _
    (View.cover_of_tiledL _ ![1, 128, 128] rfl _)
  · refine pieceO _ 7 _ inb_S1x128x1024_S1x128x128_0_0_896 _ rfl rfl rfl fun r j l hl => ?_
    rw [GO_at σ p f q i 7 r j l hl]
    exact out_ok B 7 (lds_ok _ ![7, 0, 0] inb_S8x128x128_S1x128x128_7_0_0 7 rfl rfl rfl (st 7)) r j
  · refine pieceO _ 6 _ inb_S1x128x1024_S1x128x128_0_0_768 _ rfl rfl rfl fun r j l hl => ?_
    rw [GO_at σ p f q i 6 r j l hl]
    exact out_ok B 6 (lds_ok _ ![6, 0, 0] inb_S8x128x128_S1x128x128_6_0_0 6 rfl rfl rfl (st 6)) r j
  · refine pieceO _ 5 _ inb_S1x128x1024_S1x128x128_0_0_640 _ rfl rfl rfl fun r j l hl => ?_
    rw [GO_at σ p f q i 5 r j l hl]
    exact out_ok B 5 (lds_ok _ ![5, 0, 0] inb_S8x128x128_S1x128x128_5_0_0 5 rfl rfl rfl (st 5)) r j
  · refine pieceO _ 4 _ inb_S1x128x1024_S1x128x128_0_0_512 _ rfl rfl rfl fun r j l hl => ?_
    rw [GO_at σ p f q i 4 r j l hl]
    exact out_ok B 4 (lds_ok _ ![4, 0, 0] inb_S8x128x128_S1x128x128_4_0_0 4 rfl rfl rfl (st 4)) r j
  · refine pieceO _ 3 _ inb_S1x128x1024_S1x128x128_0_0_384 _ rfl rfl rfl fun r j l hl => ?_
    rw [GO_at σ p f q i 3 r j l hl]
    exact out_ok B 3 (lds_ok _ ![3, 0, 0] inb_S8x128x128_S1x128x128_3_0_0 3 rfl rfl rfl (st 3)) r j
  · refine pieceO _ 2 _ inb_S1x128x1024_S1x128x128_0_0_256 _ rfl rfl rfl fun r j l hl => ?_
    rw [GO_at σ p f q i 2 r j l hl]
    exact out_ok B 2 (lds_ok _ ![2, 0, 0] inb_S8x128x128_S1x128x128_2_0_0 2 rfl rfl rfl (st 2)) r j
  · refine pieceO _ 1 _ inb_S1x128x1024_S1x128x128_0_0_128 _ rfl rfl rfl fun r j l hl => ?_
    rw [GO_at σ p f q i 1 r j l hl]
    exact out_ok B 1 (lds_ok _ ![1, 0, 0] inb_S8x128x128_S1x128x128_1_0_0 1 rfl rfl rfl (st 1)) r j
  · refine pieceO _ 0 _ inb_S1x128x1024_S1x128x128_0_0_0 _ rfl rfl rfl fun r j l hl => ?_
    rw [GO_at σ p f q i 0 r j l hl]
    exact out_ok B 0 (lds_ok _ ![0, 0, 0] inb_S8x128x128_S1x128x128_0_0_0 0 rfl rfl rfl (st 0)) r j

/-- The states after the first chunk of a sequence. -/
theorem stepA_S (c : Dev nD) (t : Fin cfg0.N)
    (B : Blocks σ p f q i (iblk m c 0 t) (iblk m c 1 t) (iblk m c 2 t) (iblk m c 3 t) (iblk m c 4 t) (iblk m c 5 t) (iblk m c 6 t))
    (ht : t.val % 64 = 0) (st : ∀ h e j, (k0_pay2 (F := Ideal)) (ix3 h e j) = ((S (f h) (i h) p e j : ℝ) : EReal)) (y) :
    (outsAt0 m c t.val t.isLt).2 y = (GS (p + 128) f i) y := by
  rw [outsAt0_A m c t ‹_›]
  dsimp only
  frame_open
  simp (disch := decide) only [↓ View.readCov_skip, ↓ View.readCov_fill]
  frame_out
  refine View.canon_append_of_piecesOf (Val := Elt Ideal) (e := .f32) (GS (p + 128) f i) [_] [_, _, _, _, _, _, _, _] ⟨?_, ?_, ?_, ?_, ?_, ?_, ?_, ?_, trivial⟩ _
    (View.cover_of_tiledL _ ![1, 128, 128] rfl _)
  · refine pieceS _ 7 _ inb_S8x128x128_S1x128x128_7_0_0 _ rfl rfl rfl fun e j => ?_
    exact st_ok B 7 (lds_ok _ ![7, 0, 0] inb_S8x128x128_S1x128x128_7_0_0 7 rfl rfl rfl (st 7)) e j
  · refine pieceS _ 6 _ inb_S8x128x128_S1x128x128_6_0_0 _ rfl rfl rfl fun e j => ?_
    exact st_ok B 6 (lds_ok _ ![6, 0, 0] inb_S8x128x128_S1x128x128_6_0_0 6 rfl rfl rfl (st 6)) e j
  · refine pieceS _ 5 _ inb_S8x128x128_S1x128x128_5_0_0 _ rfl rfl rfl fun e j => ?_
    exact st_ok B 5 (lds_ok _ ![5, 0, 0] inb_S8x128x128_S1x128x128_5_0_0 5 rfl rfl rfl (st 5)) e j
  · refine pieceS _ 4 _ inb_S8x128x128_S1x128x128_4_0_0 _ rfl rfl rfl fun e j => ?_
    exact st_ok B 4 (lds_ok _ ![4, 0, 0] inb_S8x128x128_S1x128x128_4_0_0 4 rfl rfl rfl (st 4)) e j
  · refine pieceS _ 3 _ inb_S8x128x128_S1x128x128_3_0_0 _ rfl rfl rfl fun e j => ?_
    exact st_ok B 3 (lds_ok _ ![3, 0, 0] inb_S8x128x128_S1x128x128_3_0_0 3 rfl rfl rfl (st 3)) e j
  · refine pieceS _ 2 _ inb_S8x128x128_S1x128x128_2_0_0 _ rfl rfl rfl fun e j => ?_
    exact st_ok B 2 (lds_ok _ ![2, 0, 0] inb_S8x128x128_S1x128x128_2_0_0 2 rfl rfl rfl (st 2)) e j
  · refine pieceS _ 1 _ inb_S8x128x128_S1x128x128_1_0_0 _ rfl rfl rfl fun e j => ?_
    exact st_ok B 1 (lds_ok _ ![1, 0, 0] inb_S8x128x128_S1x128x128_1_0_0 1 rfl rfl rfl (st 1)) e j
  · refine pieceS _ 0 _ inb_S8x128x128_S1x128x128_0_0_0 _ rfl rfl rfl fun e j => ?_
    exact st_ok B 0 (lds_ok _ ![0, 0, 0] inb_S8x128x128_S1x128x128_0_0_0 0 rfl rfl rfl (st 0)) e j
/-- The output block after the first chunk of a sequence. -/
theorem stepA_O (c : Dev nD) (t : Fin cfg0.N)
    (B : Blocks σ p f q i (iblk m c 0 t) (iblk m c 1 t) (iblk m c 2 t) (iblk m c 3 t) (iblk m c 4 t) (iblk m c 5 t) (iblk m c 6 t))
    (ht : t.val % 64 = 0) (st : ∀ h e j, (k0_pay2 (F := Ideal)) (ix3 h e j) = ((S (f h) (i h) p e j : ℝ) : EReal)) (y) :
    (outsAt0 m c t.val t.isLt).1 y = (GO σ p f q i) y := by
  rw [outsAt0_A m c t ‹_›]
  dsimp only
  frame_open
  simp (disch := decide) only [↓ View.readCov_skip, ↓ View.readCov_fill]
  frame_out
  refine View.canon_append_of_piecesOf (Val := Elt Ideal) (e := .f32) (GO σ p f q i) [] [_, _, _, _, _, _, _, _] ⟨?_, ?_, ?_, ?_, ?_, ?_, ?_, ?_, trivial⟩ _
    (View.cover_of_tiledL _ ![1, 128, 128] rfl _)
  · refine pieceO _ 7 _ inb_S1x128x1024_S1x128x128_0_0_896 _ rfl rfl rfl fun r j l hl => ?_
    rw [GO_at σ p f q i 7 r j l hl]
    exact out_ok B 7 (lds_ok _ ![7, 0, 0] inb_S8x128x128_S1x128x128_7_0_0 7 rfl rfl rfl (st 7)) r j
  · refine pieceO _ 6 _ inb_S1x128x1024_S1x128x128_0_0_768 _ rfl rfl rfl fun r j l hl => ?_
    rw [GO_at σ p f q i 6 r j l hl]
    exact out_ok B 6 (lds_ok _ ![6, 0, 0] inb_S8x128x128_S1x128x128_6_0_0 6 rfl rfl rfl (st 6)) r j
  · refine pieceO _ 5 _ inb_S1x128x1024_S1x128x128_0_0_640 _ rfl rfl rfl fun r j l hl => ?_
    rw [GO_at σ p f q i 5 r j l hl]
    exact out_ok B 5 (lds_ok _ ![5, 0, 0] inb_S8x128x128_S1x128x128_5_0_0 5 rfl rfl rfl (st 5)) r j
  · refine pieceO _ 4 _ inb_S1x128x1024_S1x128x128_0_0_512 _ rfl rfl rfl fun r j l hl => ?_
    rw [GO_at σ p f q i 4 r j l hl]
    exact out_ok B 4 (lds_ok _ ![4, 0, 0] inb_S8x128x128_S1x128x128_4_0_0 4 rfl rfl rfl (st 4)) r j
  · refine pieceO _ 3 _ inb_S1x128x1024_S1x128x128_0_0_384 _ rfl rfl rfl fun r j l hl => ?_
    rw [GO_at σ p f q i 3 r j l hl]
    exact out_ok B 3 (lds_ok _ ![3, 0, 0] inb_S8x128x128_S1x128x128_3_0_0 3 rfl rfl rfl (st 3)) r j
  · refine pieceO _ 2 _ inb_S1x128x1024_S1x128x128_0_0_256 _ rfl rfl rfl fun r j l hl => ?_
    rw [GO_at σ p f q i 2 r j l hl]
    exact out_ok B 2 (lds_ok _ ![2, 0, 0] inb_S8x128x128_S1x128x128_2_0_0 2 rfl rfl rfl (st 2)) r j
  · refine pieceO _ 1 _ inb_S1x128x1024_S1x128x128_0_0_128 _ rfl rfl rfl fun r j l hl => ?_
    rw [GO_at σ p f q i 1 r j l hl]
    exact out_ok B 1 (lds_ok _ ![1, 0, 0] inb_S8x128x128_S1x128x128_1_0_0 1 rfl rfl rfl (st 1)) r j
  · refine pieceO _ 0 _ inb_S1x128x1024_S1x128x128_0_0_0 _ rfl rfl rfl fun r j l hl => ?_
    rw [GO_at σ p f q i 0 r j l hl]
    exact out_ok B 0 (lds_ok _ ![0, 0, 0] inb_S8x128x128_S1x128x128_0_0_0 0 rfl rfl rfl (st 0)) r j

end Cert.HgrnIdeal.Head
-- ==== Proof.HgrnSeq.lean ====
/-
  The sequences that the HGRN2 scan's arguments hold: one per direction, batch row and head, in the order in which the
  recurrence reads them. The second direction reads a batch row from its end.
-/
module

public import proofs.«01_k».proof.Proof.HgrnMath
public import proofs.«01_k».proof.Proof.MlstmSeq

@[expose] public section

noncomputable section

namespace Cert.HgrnSeq

open Cert.HgrnMath Cert.MlstmSeq

/-- A forget gate from its lower bound and the projection's entry. -/
def gate (l z : ℝ) : ℝ := l + (1 - l) * ((1 + Real.exp (-z))⁻¹)

/-- A gate whose lower bound is at least zero is positive. -/
theorem gate_pos (l z : ℝ) (hl : 0 ≤ l) : 0 < gate l z := by
  have h1 : 0 < Real.exp (-z) := Real.exp_pos _
  have h2 : gate l z = (1 + l * Real.exp (-z)) / (1 + Real.exp (-z)) := by
    unfold gate
    field_simp
    ring
  rw [h2]
  positivity

/-- The query of a head at a position. -/
def qS (y : Fin 16384 → Fin 12288 → EReal) (d b : Fin 2) (h : Fin 8) (s : ℕ) (e : Fin 128) : ℝ :=
  (y (rowAt d b s) ⟨3072 + 128 * h.val + e.val, by omega⟩).toReal
/-- The input of a head at a position. -/
def iS (y : Fin 16384 → Fin 12288 → EReal) (d b : Fin 2) (h : Fin 8) (s : ℕ) (e : Fin 128) : ℝ :=
  (y (rowAt d b s) ⟨6144 + 128 * h.val + e.val, by omega⟩).toReal
/-- The forget gate of a head at a position. -/
def fS (y : Fin 16384 → Fin 12288 → EReal) (w : Fin 2 → Fin 1024 → EReal) (d b : Fin 2) (h : Fin 8) (s : ℕ) (e : Fin 128) : ℝ :=
  gate (w d ⟨128 * h.val + e.val, by omega⟩).toReal (y (rowAt d b s) ⟨4096 + 1024 * d.val + 128 * h.val + e.val, by omega⟩).toReal

/-- Every entry that the call reads is a real number, and the gates' lower bounds are at least zero. -/
structure Real (y : Fin 16384 → Fin 12288 → EReal) (w : Fin 2 → Fin 1024 → EReal) : Prop where
  y : ∀ r (c : Fin 12288), 3072 ≤ c.val → c.val < 7168 → (((y r c).toReal : ℝ) : EReal) = y r c
  l : ∀ d c, (((w d c).toReal : ℝ) : EReal) = w d c
  pos : ∀ d c, 0 ≤ (w d c).toReal

/-- The output of the recurrence at a position of a head. -/
def outS (y : Fin 16384 → Fin 12288 → EReal) (w : Fin 2 → Fin 1024 → EReal) (d b : Fin 2) (h : Fin 8) (s : ℕ) (j : Fin 128) : ℝ :=
  out (fS y w d b h) (qS y d b h) (iS y d b h) s j

/-- The call's result at an array row and a column. -/
def res (y : Fin 16384 → Fin 12288 → EReal) (w : Fin 2 → Fin 1024 → EReal) (d : Fin 2) (r : Fin 16384) (c : Fin 1024) : ℝ :=
  outS y w d ⟨r.val / 8192, by omega⟩ ⟨c.val / 128, by omega⟩ (if d = 0 then r.val % 8192 else 8191 - r.val % 8192) ⟨c.val % 128, by omega⟩

end Cert.HgrnSeq

end
-- ==== Proof.HgrnBlocks.lean ====
/-
  The blocks the HGRN2 kernel stages at a grid point, read at an index.
-/
module

public import proofs.«01_k».proof.Proof.HgrnStep
public import proofs.«01_k».proof.Proof.HgrnSeq
public import Idealize.ShloMosaic.Lib.Claim

@[expose] public section

set_option maxRecDepth 16384

noncomputable section

namespace Cert.HgrnIdeal.Value

open Cert.HgrnIdeal Cert.HgrnIdeal.Gen Idealize.ShloMosaic Idealize.ShloMosaic.TcCoe Idealize.SL.Sem
open Cert.MlstmSeq Cert.HgrnSeq Cert.HgrnMath Cert.HgrnIdeal.Head

variable (m : (ℓ : Loc nD τ sig) → Buf (Elt Ideal) ℓ)

/-- A grid point's number lies inside the grid. -/
theorem lt_N (t : Fin cfg0.N) : t.val < 256 := lt_of_lt_of_eq t.isLt N_0

/-- The chunk of the batch row that a point stages: the second direction counts from the end. -/
abbrev chunkOf (t : ℕ) : ℕ := if t / 128 = 0 then t % 64 else 63 - t % 64

/-- Every window's block index at a point: direction `t / 128`, batch row `t / 64 % 2`, chunk `t % 64` of the recurrence. -/
theorem idx : ∀ t : Fin cfg0.N, win0_0.index t = ![64 * (t.val / 64 % 2) + chunkOf t.val, 3]
    ∧ win0_1.index t = ![64 * (t.val / 64 % 2) + chunkOf t.val, 4 + t.val / 128]
    ∧ win0_2.index t = ![64 * (t.val / 64 % 2) + chunkOf t.val, 6]
    ∧ win0_3.index t = ![t.val / 128, 0, 0]
    ∧ win0_4.index t = ![t.val / 128, 0, 0]
    ∧ win0_5.index t = ![t.val / 128, 0, 0, 0]
    ∧ win0_6.index t = ![t.val / 128, 0, 0, 0]
    ∧ win0_7.index t = ![t.val / 128, 64 * (t.val / 64 % 2) + chunkOf t.val, 0] :=
  (by decide +kernel : ∀ t : Fin grid0.N, _)

/-- The array row of a row of a point's block. -/
abbrev rowOf (t : Fin cfg0.N) (r : Fin 128) : Fin 16384 :=
  ⟨(64 * (t.val / 64 % 2) + chunkOf t.val) * 128 + r.val, by have := r.isLt; unfold chunkOf; split <;> omega⟩

/-- The row in the first direction. -/
theorem rowOf_zero (t : Fin cfg0.N) (r : Fin 128) (h : t.val / 128 = 0) :
    (rowOf t r).val = (64 * (t.val / 64 % 2) + t.val % 64) * 128 + r.val := by
  show (64 * (t.val / 64 % 2) + chunkOf t.val) * 128 + r.val = _
  unfold chunkOf
  rw [if_pos h]

/-- The row in the second direction. -/
theorem rowOf_one (t : Fin cfg0.N) (r : Fin 128) (h : ¬ t.val / 128 = 0) :
    (rowOf t r).val = (64 * (t.val / 64 % 2) + (63 - t.val % 64)) * 128 + r.val := by
  show (64 * (t.val / 64 % 2) + chunkOf t.val) * 128 + r.val = _
  unfold chunkOf
  rw [if_neg h]

/-- The queries' block. -/
theorem iblk0 (c : Dev nD) (t : Fin cfg0.N) (r : Fin 128) (l : Fin 1024) :
    iblk m c 0 t (ix2 r l) = m ((c : Thread nD τ).loc main_arg0) (ix2 (rowOf t r) ⟨3072 + l.val, by omega⟩) := by
  have h1 := lt_N t
  blk_ext! [iblk, V, idx t]

/-- The forget gates' block. -/
theorem iblk1 (c : Dev nD) (t : Fin cfg0.N) (r : Fin 128) (l : Fin 1024) :
    iblk m c 1 t (ix2 r l) = m ((c : Thread nD τ).loc main_arg0) (ix2 (rowOf t r) ⟨4096 + 1024 * (t.val / 128) + l.val, by have := lt_N t; omega⟩) := by
  have h1 := lt_N t
  blk_ext! [iblk, V, idx t]

/-- The inputs' block. -/
theorem iblk2 (c : Dev nD) (t : Fin cfg0.N) (r : Fin 128) (l : Fin 1024) :
    iblk m c 2 t (ix2 r l) = m ((c : Thread nD τ).loc main_arg0) (ix2 (rowOf t r) ⟨6144 + l.val, by omega⟩) := by
  have h1 := lt_N t
  blk_ext! [iblk, V, idx t]

/-- The block of the gates' lower bounds. -/
theorem iblk3 (c : Dev nD) (t : Fin cfg0.N) (l : Fin 1024) :
    iblk m c 3 t (ix3 0 0 l) = m ((c : Thread nD τ).loc main_arg1) (ix3 (⟨t.val / 128, by have := lt_N t; omega⟩ : Fin 2) 0 l) := by
  have h1 := lt_N t
  blk_ext! [iblk, V, idx t]

/-- The table of the sums' members. -/
theorem iblk4 (c : Dev nD) (t : Fin cfg0.N) (u : Fin 896) (v : Fin 256) :
    iblk m c 4 t (ix3 0 u v) = V m c main_v62 (ix3 (⟨t.val / 128, by have := lt_N t; omega⟩ : Fin 2) u v) := by
  have h1 := lt_N t
  blk_ext [iblk, idx t]

/-- The table of the pairs that each level takes. -/
theorem iblk5 (c : Dev nD) (t : Fin cfg0.N) (g : Fin 8) (r u : Fin 128) :
    iblk m c 5 t (ix4 0 g r u) = V m c main_v63 (ix4 (⟨t.val / 128, by have := lt_N t; omega⟩ : Fin 2) g r u) := by
  have h1 := lt_N t
  blk_ext [iblk, idx t]

/-- The table of the rows that each level takes as later ones. -/
theorem iblk6 (c : Dev nD) (t : Fin cfg0.N) (g : Fin 7) (r u : Fin 128) :
    iblk m c 6 t (ix4 0 g r u) = V m c main_v64 (ix4 (⟨t.val / 128, by have := lt_N t; omega⟩ : Fin 2) g r u) := by
  have h1 := lt_N t
  blk_ext [iblk, idx t]

/-- Where a row of a block stands in its chunk: the second direction reads a block from its last row. -/
def ord (d : Fin 2) : Equiv.Perm (Fin 128) := if d = 0 then Equiv.refl _ else Fin.revPerm

/-- The first direction's order. -/
theorem ord_zero (d : Fin 2) (h : d = 0) (r : Fin 128) : (ord d r).val = r.val := by
  unfold ord
  rw [if_pos h]
  rfl

/-- The second direction's order. -/
theorem ord_one (d : Fin 2) (h : ¬ d = 0) (r : Fin 128) : (ord d r).val = 127 - r.val := by
  unfold ord
  rw [if_neg h]
  show 128 - (r.val + 1) = 127 - r.val
  omega

/-- A row's place in its chunk as the tables' host operations compute it. -/
theorem place (d : Fin 2) (r : Fin 128) (k : ℕ) (hk : k = r.val) :
    (if _ : d.val < 1 then BitVec.ofNat 32 k else IntOp.subi (127#32) (BitVec.ofNat 32 k)) = BitVec.ofNat 32 (ord d r).val := by
  subst hk
  by_cases hd : d.val < 1
  · rw [dif_pos hd, ord_zero d (Fin.ext (by show d.val = 0; omega))]
  · rw [dif_neg hd, ord_one d (fun h => hd (by rw [h]; decide))]
    exact (by decide +kernel : ∀ r : Fin 128, IntOp.subi (127#32) (BitVec.ofNat 32 r.val) = BitVec.ofNat 32 (127 - r.val)) r

/-- A position's bit, by operations on words. -/
theorem bit_word : ∀ (g : Fin 7) (t : Fin 128),
    IntOp.cmpi .ne (IntOp.andi (BitVec.ofNat 32 t.val) (IntOp.shli ArithUnit.host (1#32) (BitVec.ofNat 32 g.val))) 0#32 = BitVec.ofBool (decide (bit g.val t.val)) := by
  decide +kernel
/-- The order of two positions, by operations on words. -/
theorem le_word : ∀ t u : Fin 128, IntOp.cmpi .sle (BitVec.ofNat 32 u.val) (BitVec.ofNat 32 t.val) = BitVec.ofBool (decide (u.val ≤ t.val)) := by
  decide +kernel
/-- The equality of two positions, by operations on words. -/
theorem eq_word : ∀ t u : Fin 128, IntOp.cmpi .eq (BitVec.ofNat 32 t.val) (BitVec.ofNat 32 u.val) = BitVec.ofBool (decide (t.val = u.val)) := by
  decide +kernel
/-- Two positions in one half block, by operations on words. -/
theorem half_word : ∀ (g : Fin 7) (t u : Fin 128),
    IntOp.cmpi .eq (IntOp.andi (IntOp.xori (BitVec.ofNat 32 t.val) (BitVec.ofNat 32 u.val)) (-IntOp.shli ArithUnit.host (1#32) (BitVec.ofNat 32 g.val))) 0#32
      = BitVec.ofBool (decide (u.val / 2 ^ g.val = t.val / 2 ^ g.val)) := by
  decide +kernel
/-- Two positions in one block, by operations on words. -/
theorem block_word : ∀ (g : Fin 7) (t u : Fin 128),
    IntOp.cmpi .eq (IntOp.andi (IntOp.xori (BitVec.ofNat 32 t.val) (BitVec.ofNat 32 u.val))
      (IntOp.subi (-IntOp.shli ArithUnit.host (1#32) (BitVec.ofNat 32 g.val)) (IntOp.shli ArithUnit.host (1#32) (BitVec.ofNat 32 g.val)))) 0#32
      = BitVec.ofBool (decide (t.val / 2 ^ (g.val + 1) = u.val / 2 ^ (g.val + 1))) := by
  decide +kernel

/-- A truth value as a number. -/
theorem flag_num (φ : FTy) (b : Bool) : FloatOps.uitofp (F := Ideal) φ (BitVec.ofBool b) = (((if b then 1 else 0 : ℕ) : ℝ) : EReal) := by
  cases b <;> rfl

/-- The table of the rows that each level takes as later ones. -/
theorem flags (c : Dev nD) (d : Fin 2) (g : Fin 7) (r u : Fin 128) :
    V m c main_v64 (ix4 d g r u) = (((if bit g.val (ord d r).val then 1 else 0 : ℕ) : ℝ) : EReal) := by
  unfold V
  entry_read
  pointwise
  rw [place d r _ rfl, bit_word g (ord d r)]
  refine (flag_num _ _).trans ?_
  simp only [decide_eq_true_eq]

/-- The table of the pairs that each level takes. -/
theorem masks (c : Dev nD) (d : Fin 2) (g : Fin 8) (r u : Fin 128) :
    V m c main_v63 (ix4 d g r u) = (((if maskAt g (ord d r).val (ord d u).val then 1 else 0 : ℕ) : ℝ) : EReal) := by
  unfold V
  entry_read
  pointwise
  rw [place d r _ rfl, place d u _ rfl]
  by_cases hg : g.val < 1
  · rw [dif_pos hg, eq_word (ord d r) (ord d u)]
    refine (flag_num _ _).trans ?_
    unfold maskAt
    simp only [decide_eq_true_eq, if_pos (show g.val = 0 by omega)]
  · have e1 := bit_word ⟨g.val - 1, by omega⟩
    have e2 := block_word ⟨g.val - 1, by omega⟩ (ord d r) (ord d u)
    rw [dif_neg hg, e1 (ord d r), e1 (ord d u), e2]
    have e : ∀ x y z : Bool, IntOp.andi (IntOp.andi (BitVec.ofBool x) (BitVec.ofBool y)) (~~~ BitVec.ofBool z) = BitVec.ofBool (x && y && !z) := by decide
    rw [e]
    refine (flag_num _ _).trans ?_
    unfold maskAt pair
    simp only [if_neg (show ¬ g.val = 0 by omega), Bool.and_eq_true, decide_eq_true_eq, Bool.not_eq_true', decide_eq_false_iff_not, and_assoc]

/-- The table of the sums' members. -/
theorem sums (c : Dev nD) (d : Fin 2) (g : Fin 7) (r u : Fin 128) (t : Fin 896) (v : Fin 256) (ht : t.val = 128 * g.val + r.val) (hv : v.val % 128 = u.val) :
    V m c main_v62 (ix3 d t v) = (((if sumAt g (ord d r).val (ord d u).val then 1 else 0 : ℕ) : ℝ) : EReal) := by
  have e1 : t.val % 128 = r.val := by omega
  have e2 : t.val / 128 = g.val := by omega
  have key : ∀ k : ℕ, k = u.val → FloatOps.uitofp (F := Ideal) FTy.bf16 (if _ : t.val / 128 < 1 then
          IntOp.cmpi CmpIPredicate.sle
            (if _ : d.val < 1 then BitVec.ofNat 32 k else IntOp.subi (127#32) (BitVec.ofNat 32 k))
            (if _ : d.val < 1 then BitVec.ofNat 32 (t.val % 128) else IntOp.subi (127#32) (BitVec.ofNat 32 (t.val % 128)))
        else
          IntOp.andi
            (IntOp.cmpi CmpIPredicate.eq
              (IntOp.andi
                (IntOp.xori
                  (if _ : d.val < 1 then BitVec.ofNat 32 (t.val % 128) else IntOp.subi (127#32) (BitVec.ofNat 32 (t.val % 128)))
                  (if _ : d.val < 1 then BitVec.ofNat 32 k else IntOp.subi (127#32) (BitVec.ofNat 32 k)))
                (-IntOp.shli ArithUnit.host (1#32) (BitVec.ofNat 32 (1 + (t.val / 128 - 1)))))
              0#32)
            (IntOp.cmpi CmpIPredicate.eq
              (IntOp.cmpi CmpIPredicate.sle
                (if _ : d.val < 1 then BitVec.ofNat 32 k else IntOp.subi (127#32) (BitVec.ofNat 32 k))
                (if _ : d.val < 1 then BitVec.ofNat 32 (t.val % 128) else IntOp.subi (127#32) (BitVec.ofNat 32 (t.val % 128))))
              (IntOp.cmpi CmpIPredicate.ne
                (IntOp.andi
                  (if _ : d.val < 1 then BitVec.ofNat 32 (t.val % 128) else IntOp.subi (127#32) (BitVec.ofNat 32 (t.val % 128)))
                  (IntOp.shli ArithUnit.host (1#32) (BitVec.ofNat 32 (1 + (t.val / 128 - 1)))))
                0#32))) = (((if sumAt g (ord d r).val (ord d u).val then 1 else 0 : ℕ) : ℝ) : EReal) := by
    intro k hk
    rw [place d r _ e1, place d u _ hk]
    by_cases hg : g.val < 1
    · rw [dif_pos (by omega), le_word (ord d r) (ord d u)]
      refine (flag_num _ _).trans ?_
      unfold sumAt
      simp only [decide_eq_true_eq, if_pos (show g.val = 0 by omega)]
    · rw [dif_neg (by omega), show 1 + (t.val / 128 - 1) = g.val by omega, bit_word g (ord d r), half_word g (ord d r) (ord d u), le_word (ord d r) (ord d u)]
      have e : ∀ x y z : Bool, IntOp.andi (BitVec.ofBool x) (IntOp.cmpi .eq (BitVec.ofBool y) (BitVec.ofBool z)) = BitVec.ofBool (x && (y == z)) := by decide
      rw [e]
      refine (flag_num _ _).trans ?_
      unfold sumAt near
      simp only [if_neg (show ¬ g.val = 0 by omega), Bool.and_eq_true, decide_eq_true_eq, beq_iff_eq, decide_eq_decide]
  unfold V
  entry_read
  pointwise
  by_cases h : v.val < 128
  · rw [dif_pos h]
    exact key v.val (by omega)
  · rw [dif_neg h]
    exact key (v.val - 128) (by omega)

end Cert.HgrnIdeal.Value

end
-- ==== Proof.HgrnValue.lean ====
/-
  What the HGRN2 kernel leaves in its result array: the recurrence's output, at every index.
-/
module

public import proofs.«01_k».proof.Proof.HgrnBlocks

@[expose] public section

set_option maxRecDepth 16384

noncomputable section

namespace Cert.HgrnIdeal.Value

open Cert.HgrnIdeal Cert.HgrnIdeal.Gen Cert.HgrnIdeal.Head Idealize.ShloMosaic Idealize.ShloMosaic.TcCoe Idealize.SL.Sem
open Idealize.ShloMosaic.Tactic
open Cert.MlstmSeq (rowAt rowAt_zero rowAt_one)
open Cert.HgrnSeq Cert.HgrnMath

variable (m : (ℓ : Loc nD τ sig) → Buf (Elt Ideal) ℓ) (c : Dev nD)

/-- The first argument by coordinates. -/
abbrev ya (r : Fin 16384) (l : Fin 12288) : EReal := m ((c : Thread nD τ).loc main_arg0) (ix2 r l)
/-- The second argument by coordinates. -/
abbrev la (d : Fin 2) (l : Fin 1024) : EReal := m ((c : Thread nD τ).loc main_arg1) (ix3 d 0 l)

/-- The direction of a grid point. -/
abbrev dOf (n : ℕ) : Fin 2 := ⟨n / 128 % 2, by omega⟩
/-- The batch row of a grid point. -/
abbrev bOf (n : ℕ) : Fin 2 := ⟨n / 64 % 2, by omega⟩
/-- The first position of a grid point's chunk. -/
abbrev pOf (n : ℕ) : ℕ := 128 * (n % 64)

/-- A block's row is the array row of its position. -/
theorem row_eq (t : Fin cfg0.N) (r : Fin 128) : rowAt (dOf t.val) (bOf t.val) (pOf t.val + (ord (dOf t.val) r).val) = rowOf t r := by
  have h1 := lt_N t
  have h2 := r.isLt
  apply Fin.ext
  by_cases h : t.val / 128 = 0
  · have hd : dOf t.val = 0 := Fin.ext (by show t.val / 128 % 2 = 0; omega)
    rw [ord_zero _ hd, rowAt_zero _ _ _ hd, rowOf_zero t r h]
    show 8192 * (t.val / 64 % 2) + (128 * (t.val % 64) + r.val) % 8192 = _
    omega
  · have hd : ¬ dOf t.val = 0 := fun e => h (by have : t.val / 128 % 2 = 0 := congrArg Fin.val e; omega)
    rw [ord_one _ hd, rowAt_one _ _ _ hd, rowOf_one t r h]
    show 8192 * (t.val / 64 % 2) + (8191 - (128 * (t.val % 64) + (127 - r.val)) % 8192) = _
    omega

/-- A point's direction as the windows count it. -/
theorem d_eq (t : Fin cfg0.N) (h : t.val / 128 < 2) : (⟨t.val / 128, h⟩ : Fin 2) = dOf t.val :=
  Fin.ext (by show t.val / 128 = t.val / 128 % 2; omega)

/-- The kernel's gate of real entries. -/
theorem gate_coe (l z : ℝ) (x y : EReal) (hx : ((l : ℝ) : EReal) = x) (hy : ((z : ℝ) : EReal) = y) :
    x + (1 - x) * Ideal.logistic y = ((gate l z : ℝ) : EReal) := by
  rw [← hx, ← hy, Ideal.logistic_coe, ← EReal.coe_one, ← EReal.coe_sub, ← EReal.coe_mul, ← EReal.coe_add]
  rfl

/-- The kernel's gates at an index. -/
theorem pay4_at (x : Vec Ideal S1x1x1024 .f32) (y : Vec Ideal S128x1024 .f32) (r : Fin 128) (l : Fin 1024) :
    k0_pay4 x y (ix2 r l) = x (ix3 0 0 l) + (1 - x (ix3 0 0 l)) * Ideal.logistic (y (ix2 r l)) := by
  unfold k0_pay4
  pointwise

variable (hR : Real (ya m c) (la m c))
include hR

/-- A point's blocks hold its chunk of the sequences. -/
theorem blocks (t : Fin cfg0.N) :
    Blocks (ord (dOf t.val)) (pOf t.val) (fS (ya m c) (la m c) (dOf t.val) (bOf t.val)) (qS (ya m c) (dOf t.val) (bOf t.val))
      (iS (ya m c) (dOf t.val) (bOf t.val))
      (iblk m c 0 t) (iblk m c 1 t) (iblk m c 2 t) (iblk m c 3 t) (iblk m c 4 t) (iblk m c 5 t) (iblk m c 6 t) where
  pos h n e := gate_pos _ _ (hR.pos _ _)
  q h r e l hl := by
    rw [iblk0]
    unfold qS
    rw [row_eq, hR.y _ _ (by show 3072 ≤ 3072 + 128 * h.val + e.val; omega) (by show 3072 + 128 * h.val + e.val < 7168; omega)]
    exact congrArg (ya m c (rowOf t r)) (Fin.ext (by show 3072 + l.val = 3072 + 128 * h.val + e.val; omega))
  f h r e l hl := by
    have h1 := lt_N t
    rw [pay4_at, iblk3, iblk1]
    unfold fS
    rw [row_eq]
    refine gate_coe _ _ _ _ ?_ ?_
    · rw [hR.l]
      exact congrArg₂ (la m c) (d_eq t (by omega)).symm (Fin.ext hl.symm)
    · rw [hR.y _ _ (by show 3072 ≤ 4096 + 1024 * (t.val / 128 % 2) + 128 * h.val + e.val; omega) (by show 4096 + 1024 * (t.val / 128 % 2) + 128 * h.val + e.val < 7168; omega)]
      exact congrArg (ya m c (rowOf t r)) (Fin.ext (by show 4096 + 1024 * (t.val / 128 % 2) + 128 * h.val + e.val = 4096 + 1024 * (t.val / 128) + l.val; omega))
  i h r e l hl := by
    rw [iblk2]
    unfold iS
    rw [row_eq, hR.y _ _ (by show 3072 ≤ 6144 + 128 * h.val + e.val; omega) (by show 6144 + 128 * h.val + e.val < 7168; omega)]
    exact congrArg (ya m c (rowOf t r)) (Fin.ext (by show 6144 + l.val = 6144 + 128 * h.val + e.val; omega))
  sums g r u x v hx hv := by
    rw [iblk4, sums m c _ g r u x v hx hv, d_eq]
  mask g r u := by
    rw [iblk5, masks, d_eq]
  flag g r u := by
    rw [iblk6, flags, d_eq]

omit hR in
/-- The zeros that a batch row starts from are the state after no positions. -/
theorem start (f i : Fin 8 → ℕ → Fin 128 → ℝ) (h : Fin 8) (e j : Fin 128) : (k0_pay2 (F := Ideal)) (ix3 h e j) = ((S (f h) (i h) 0 e j : ℝ) : EReal) := by
  unfold k0_pay2
  pointwise
  rfl

/-- The state and the output that a point leaves: the recurrence's after its chunk. -/
theorem state (n : ℕ) (hn : n < cfg0.N) :
    (outsAt0 m c n hn).2 = GS (pOf n + 128) (fS (ya m c) (la m c) (dOf n) (bOf n)) (iS (ya m c) (dOf n) (bOf n))
    ∧ (outsAt0 m c n hn).1 = GO (ord (dOf n)) (pOf n) (fS (ya m c) (la m c) (dOf n) (bOf n)) (qS (ya m c) (dOf n) (bOf n)) (iS (ya m c) (dOf n) (bOf n)) := by
  have B := blocks m c hR ⟨n, hn⟩
  by_cases h : n % 64 = 0
  · have S := start (fS (ya m c) (la m c) (dOf n) (bOf n)) (iS (ya m c) (dOf n) (bOf n))
    have h0 : pOf n = 0 := by show 128 * (n % 64) = 0; omega
    rw [← h0] at S
    exact ⟨funext (stepA_S m c ⟨n, hn⟩ B h S), funext (stepA_O m c ⟨n, hn⟩ B h S)⟩
  · have hn' : n - 1 < cfg0.N := by omega
    obtain ⟨e1, -⟩ := state (n - 1) hn'
    have hd : dOf (n - 1) = dOf n := Fin.ext (by show (n - 1) / 128 % 2 = n / 128 % 2; omega)
    have hb : bOf (n - 1) = bOf n := Fin.ext (by show (n - 1) / 64 % 2 = n / 64 % 2; omega)
    have hp : pOf (n - 1) + 128 = pOf n := by show 128 * ((n - 1) % 64) + 128 = 128 * (n % 64); omega
    rw [hd, hb, hp] at e1
    have S : ∀ h e j, (outsAt0 m c (n - 1) hn').2 (ix3 h e j) = ((S (fS (ya m c) (la m c) (dOf n) (bOf n) h) (iS (ya m c) (dOf n) (bOf n) h) (pOf n) e j : ℝ) : EReal) :=
      fun h e j => by rw [e1]; rfl
    exact ⟨funext (stepB_S m c ⟨n, hn⟩ B h S), funext (stepB_O m c ⟨n, hn⟩ B h S)⟩
termination_by n
decreasing_by omega

omit hR in
/-- The result array at an index. -/
def G (i : S2x16384x1024.Idx) : EReal := ((res (ya m c) (la m c) (i 0) (i 1) (i 2) : ℝ) : EReal)

/-- The result array after the run. -/
theorem final : (dats m 0 c).arrAt 7 cfg0.N = G m c := by
  refine (dats m 0 c).arrAt_eq_of_covers 7 _ (by decide +kernel) fun t hf y => ?_
  blk_simp
  rw [after0_7]
  have h1 := lt_N t
  obtain ⟨z, r, l, rfl⟩ : ∃ (z : Fin 1) (r : Fin 128) (l : Fin 1024), y = ix3 z r l := ⟨y 0, y 1, y 2, eq_ix3 y⟩
  obtain rfl : z = 0 := by omega
  obtain ⟨-, -, -, -, -, -, -, h5⟩ := idx t
  have hr : ((View.whole main_v65).slice (win0_7.rect t)).emb (ix3 0 r l) = ix3 (dOf t.val) (rowOf t r) l := by
    funext a
    apply Fin.ext
    match a with
    | ⟨0, _⟩ =>
      show win0_7.index t 0 * 1 + 1 * 0 = t.val / 128 % 2
      rw [h5]
      show t.val / 128 * 1 + 1 * 0 = t.val / 128 % 2
      omega
    | ⟨1, _⟩ =>
      show win0_7.index t 1 * 128 + 1 * r.val = (64 * (t.val / 64 % 2) + chunkOf t.val) * 128 + r.val
      rw [h5]
      show (64 * (t.val / 64 % 2) + chunkOf t.val) * 128 + 1 * r.val = _
      omega
    | ⟨2, _⟩ =>
      show win0_7.index t 2 * 1024 + 1 * l.val = l.val
      rw [h5]
      show 0 * 1024 + 1 * l.val = l.val
      omega
  rw [hr, (state m c hR t.val t.isLt).2, GO_at (ord (dOf t.val)) _ _ _ _ ⟨l.val / 128, by omega⟩ r ⟨l.val % 128, by omega⟩ l (by show l.val = 128 * (l.val / 128) + l.val % 128; omega)]
  have hb : (⟨(rowOf t r).val / 8192, by omega⟩ : Fin 2) = bOf t.val := by
    apply Fin.ext
    show (rowOf t r).val / 8192 = t.val / 64 % 2
    by_cases h : t.val / 128 = 0
    · rw [rowOf_zero t r h]
      omega
    · rw [rowOf_one t r h]
      omega
  have hs : (if dOf t.val = 0 then (rowOf t r).val % 8192 else 8191 - (rowOf t r).val % 8192) = pOf t.val + (ord (dOf t.val) r).val := by
    by_cases h : t.val / 128 = 0
    · have hd : dOf t.val = 0 := Fin.ext (by show t.val / 128 % 2 = 0; omega)
      rw [if_pos hd, ord_zero _ hd, rowOf_zero t r h]
      show _ = 128 * (t.val % 64) + r.val
      omega
    · have hd : ¬ dOf t.val = 0 := fun e => h (by have : t.val / 128 % 2 = 0 := congrArg Fin.val e; omega)
      rw [if_neg hd, ord_one _ hd, rowOf_one t r h]
      show _ = 128 * (t.val % 64) + (127 - r.val)
      omega
  show _ = ((outS (ya m c) (la m c) (dOf t.val) ⟨(rowOf t r).val / 8192, _⟩ ⟨l.val / 128, _⟩
    (if dOf t.val = 0 then (rowOf t r).val % 8192 else 8191 - (rowOf t r).val % 8192) ⟨l.val % 128, _⟩ : ℝ) : EReal)
  rw [hb, hs]
  rfl

end Cert.HgrnIdeal.Value

end
-- ==== Proof.HgrnTrip.lean ====
/-
  What one trip of the reference's loop makes of the carried arrays, read at an index.
-/
module

public import proofs.«01_k».proof.Proof.Gen.HgrnRefIdeal.Run
public import proofs.«01_k».proof.Proof.MlstmCumsum
public import proofs.«01_k».proof.Proof.HgrnSeq
public import Idealize.ShloMosaic.Lib.WordCmp

@[expose] public section

set_option maxRecDepth 16384

noncomputable section

namespace Cert.HgrnRefIdeal.Value

open Cert.HgrnRefIdeal Cert.HgrnRefIdeal.Gen Idealize.ShloMosaic Idealize.ShloMosaic.TcCoe Idealize.SL.Sem
open Idealize.ShloMosaic.Tactic Cert.HgrnMath
open Cert.MlstmMath (neg_inf coe_sum)
open Cert.MlstmRefIdeal.Value (window_sum windowed)

/-- The running sum along the positions of a chunk. -/
theorem cumsum (h : S4x8x64x128.ReduceWindows ![1, 1, 64, 1] ![1, 1, 1, 1] ![0, 0, 63, 0] ![0, 0, 0, 0] S4x8x64x128) (x : FVec Ideal S4x8x64x128 .f32)
    (f : ℕ → ℝ) (n : Fin 4) (k : Fin 8) (e : Fin 128) (hx : ∀ s : Fin 64, x (ix4 n k s e) = ((f s.val : ℝ) : EReal)) (z : EReal) (hz : z = 0) (r : Fin 64) :
    Ideal.hostReduceWindowAdd ![1, 1, 64, 1] ![1, 1, 1, 1] ![0, 0, 63, 0] ![0, 0, 0, 0] h x z (ix4 n k r e)
      = ((∑ s ∈ Finset.range (r.val + 1), f s : ℝ) : EReal) := by
  subst hz
  rw [← window_sum f r.val r.isLt, ← coe_sum]
  rw [windowed]
  refine (sum_idx4 (n0 := 1) (n1 := 1) (n2 := 64) (n3 := 1) _).trans ?_
  rw [Fin.sum_univ_one, Fin.sum_univ_one]
  refine Finset.sum_congr rfl fun w _ => ?_
  rw [Fin.sum_univ_one]
  have hw := w.isLt
  have hr := r.isLt
  have he := e.isLt
  by_cases hc : 63 ≤ r.val + w.val
  · rw [if_pos hc, dif_pos (fun a => ?_)]
    · rw [← hx ⟨r.val + w.val - 63, by omega⟩]
      congr 1
      funext a
      apply Fin.ext
      match a with
      | ⟨0, _⟩ => show n.val * 1 + 0 - 0 = n.val; omega
      | ⟨1, _⟩ => show k.val * 1 + 0 - 0 = k.val; omega
      | ⟨2, _⟩ => show r.val * 1 + w.val - 63 = r.val + w.val - 63; omega
      | ⟨3, _⟩ => show e.val * 1 + 0 - 0 = e.val; omega
    · match a with
      | ⟨0, _⟩ => show 0 ≤ n.val * 1 + 0 ∧ n.val * 1 + 0 - 0 < 4; omega
      | ⟨1, _⟩ => show 0 ≤ k.val * 1 + 0 ∧ k.val * 1 + 0 - 0 < 8; omega
      | ⟨2, _⟩ => show 63 ≤ r.val * 1 + w.val ∧ r.val * 1 + w.val - 63 < 64; omega
      | ⟨3, _⟩ => show 0 ≤ e.val * 1 + 0 ∧ e.val * 1 + 0 - 0 < 128; omega
  · rw [if_neg hc, dif_neg (fun hin => hc (by have := (hin 2).1; have : 63 ≤ r.val * 1 + w.val := this; omega))]
    simp

/-- The running sum of the gates' logarithms in a chunk that starts at `p`. -/
def LB (f : ℕ → Fin 128 → ℝ) (p t : ℕ) (e : Fin 128) : ℝ := ∑ s ∈ Finset.range (t + 1), Real.log (f (p + s) e)

/-- The exponential of a running sum is the product of the gates. -/
theorem exp_LB (f : ℕ → Fin 128 → ℝ) (hf : ∀ n e, 0 < f n e) (p t : ℕ) (e : Fin 128) : Real.exp (LB f p t e) = PR f p (p + t + 1) e := by
  unfold LB PR
  rw [Real.exp_sum, Finset.prod_Ico_eq_prod_range, show p + t + 1 - p = t + 1 by omega]
  exact Finset.prod_congr rfl fun s _ => Real.exp_log (hf _ _)

/-- The exponential of a difference of running sums is the product of the gates between. -/
theorem exp_LB_sub (f : ℕ → Fin 128 → ℝ) (hf : ∀ n e, 0 < f n e) (p t s : ℕ) (h : s ≤ t) (e : Fin 128) :
    Real.exp (LB f p t e - LB f p s e) = PR f (p + s + 1) (p + t + 1) e := by
  rw [Real.exp_sub, exp_LB f hf, exp_LB f hf, ← PR_mul f (show p ≤ p + s + 1 by omega) (show p + s + 1 ≤ p + t + 1 by omega)]
  exact mul_div_cancel_left₀ _ (ne_of_gt (PR_pos f hf _ _ _))

/-- The queries that the loop carries. -/
abbrev bq (V0 : Valuation τ sig (Elt Ideal)) : FVec Ideal S128x4x8x64x128 .f32 := V0 (Proc.devRef .tc main_v45_0)
/-- The inputs. -/
abbrev bi (V0 : Valuation τ sig (Elt Ideal)) : FVec Ideal S128x4x8x64x128 .f32 := V0 (Proc.devRef .tc main_v45_1)
/-- The forget gates. -/
abbrev bf (V0 : Valuation τ sig (Elt Ideal)) : FVec Ideal S128x4x8x64x128 .f32 := V0 (Proc.devRef .tc main_v45_2)
/-- The lower triangle. -/
abbrev btri (V0 : Valuation τ sig (Elt Ideal)) : IVec S64x64x1 1 := V0 (Proc.devRef .tc main_v45_3)
/-- The counter. -/
abbrev bctr (V0 : Valuation τ sig (Elt Ideal)) : IVec S_ 32 := V0 (Proc.devRef .tc main_v45_4)
/-- The states. -/
abbrev bS (V0 : Valuation τ sig (Elt Ideal)) : FVec Ideal S4x8x128x128 .f32 := V0 (Proc.devRef .tc main_v45_5)
/-- The outputs. -/
abbrev bo (V0 : Valuation τ sig (Elt Ideal)) : FVec Ideal S128x4x8x64x128 .f32 := V0 (Proc.devRef .tc main_v45_6)

/-- Before trip `t` the carried arrays hold the chunk's sequences and the state after the chunks before it, at the pair
    `n`, `h` of a sequence's number and a head. -/
structure Before (V0 : Valuation τ sig (Elt Ideal)) (t : ℕ) (n : Fin 4) (h : Fin 8) (f q i : ℕ → Fin 128 → ℝ) : Prop where
  ctr : bctr V0 = fun _ => BitVec.ofNat 32 t
  lt : t < 128
  pos : ∀ n e, 0 < f n e
  hq : ∀ r e, bq V0 (ix5 ⟨t, lt⟩ n h r e) = ((q (64 * t + r.val) e : ℝ) : EReal)
  hi : ∀ r e, bi V0 (ix5 ⟨t, lt⟩ n h r e) = ((i (64 * t + r.val) e : ℝ) : EReal)
  hf : ∀ r e, bf V0 (ix5 ⟨t, lt⟩ n h r e) = ((f (64 * t + r.val) e : ℝ) : EReal)
  htri : ∀ r s, btri V0 (ix3 r s 0) = if s ≤ r then 1#1 else 0#1
  hS : ∀ e j, bS V0 (ix4 n h e j) = ((S f i (64 * t) e j : ℝ) : EReal)

variable {V0 : Valuation τ sig (Elt Ideal)} {t : ℕ} {n : Fin 4} {h : Fin 8} {f q i : ℕ → Fin 128 → ℝ}

/-- The slice of a chunk starts at the chunk's number. -/
theorem start5 (t : ℕ) (lt : t < 128) (w : IVec S_ 32) (hw : w = fun _ => BitVec.ofNat 32 t) (a : Fin 5) :
    ((![w, constantI S_ 32 0#32, constantI S_ 32 0#32, constantI S_ 32 0#32, constantI S_ 32 0#32] : Fin 5 → IVec S_ 32) a (Shape.Idx.first h_S_)).toInt
      = (((![t, 0, 0, 0, 0] : Fin 5 → ℕ) a : ℕ) : ℤ) := by
  subst hw
  match a with
  | 0 => exact WordCmp.toInt_ofNat_of_lt (w := 32) (by omega)
  | 1 => rfl
  | 2 => rfl
  | 3 => rfl
  | 4 => rfl

/-- A chunk's slice lies inside the array. -/
theorem fits (lt : t < 128) : S128x4x8x64x128.Slices ![t, 0, 0, 0, 0] S1x4x8x64x128 :=
  ⟨rfl, fun a => by
    match a with
    | 0 => exact Nat.succ_le_of_lt lt
    | 1 => exact (Nat.zero_add _).le
    | 2 => exact (Nat.zero_add _).le
    | 3 => exact (Nat.zero_add _).le
    | 4 => exact (Nat.zero_add _).le⟩

/-- A sum of products of real numbers. -/
theorem sum_mul_coe {n : ℕ} {x y : Fin n → EReal} {f g : Fin n → ℝ} (hx : ∀ e, x e = (f e : EReal)) (hy : ∀ e, y e = (g e : EReal)) :
    ∑ e, x e * y e = ((∑ e, f e * g e : ℝ) : EReal) := by
  rw [← coe_sum]
  exact Finset.sum_congr rfl fun e _ => by rw [hx, hy, EReal.coe_mul]

/-- A sum of real numbers. -/
theorem sum_coe {n : ℕ} {x : Fin n → EReal} {f : Fin n → ℝ} (hx : ∀ e, x e = (f e : EReal)) : ∑ e, x e = ((∑ e, f e : ℝ) : EReal) := by
  rw [← coe_sum]
  exact Finset.sum_congr rfl fun e _ => hx e

/-- A chunk of an array. -/
theorem chunk (x : FVec Ideal S128x4x8x64x128 .f32) (w : IVec S_ 32) (lt : t < 128) (hw : w = fun _ => BitVec.ofNat 32 t) (n : Fin 4) (h : Fin 8) (r : Fin 64) (e : Fin 128) :
    shapeCast S4x8x64x128 (Host.dynamicSlice S1x4x8x64x128 x (fun k => (((![w, constantI S_ 32 0#32, constantI S_ 32 0#32, constantI S_ 32 0#32, constantI S_ 32 0#32] : Fin 5 → IVec S_ 32)) k (Shape.Idx.first h_S_)).toInt) sliceFits_S128x4x8x64x128_S1x4x8x64x128) shapeCasts_S1x4x8x64x128_S4x8x64x128 (ix4 n h r e) = x (ix5 ⟨t, lt⟩ n h r e) := by
  rw [WordCmp.dynamicSlice_eq_extract S1x4x8x64x128 x _ _ ![t, 0, 0, 0, 0] (fits lt) (start5 t lt _ hw)]
  pointwise

/-- The update writes the chunk's rows at its own number. -/
theorem put_at (x : FVec Ideal S128x4x8x64x128 .f32) (u : FVec Ideal S1x4x8x64x128 .f32) (w : IVec S_ 32) (lt : t < 128) (hw : w = fun _ => BitVec.ofNat 32 t) (n : Fin 4) (h : Fin 8) (r : Fin 64) (e : Fin 128) :
    Host.dynamicUpdateSlice x u (fun k => (((![w, constantI S_ 32 0#32, constantI S_ 32 0#32, constantI S_ 32 0#32, constantI S_ 32 0#32] : Fin 5 → IVec S_ 32)) k (Shape.Idx.first h_S_)).toInt) updateFits_S128x4x8x64x128_S1x4x8x64x128 (ix5 ⟨t, lt⟩ n h r e) = u (ix5 0 n h r e) := by
  rw [WordCmp.dynamicUpdateSlice_eq_update x u _ _ ![t, 0, 0, 0, 0] (fits lt) (start5 t lt _ hw)]
  pointwise
  rw [dif_pos ⟨le_refl t, Nat.lt_succ_self t⟩]
  exact congrArg (fun z => u (ix5 z n h r e)) (Fin.ext (Nat.sub_self t))
/-- The update leaves the rows of the other chunks. -/
theorem put_ne (x : FVec Ideal S128x4x8x64x128 .f32) (u : FVec Ideal S1x4x8x64x128 .f32) (w : IVec S_ 32) (lt : t < 128) (hw : w = fun _ => BitVec.ofNat 32 t) (a : Fin 128) (ha : a.val ≠ t) (n : Fin 4) (h : Fin 8) (r : Fin 64) (e : Fin 128) :
    Host.dynamicUpdateSlice x u (fun k => (((![w, constantI S_ 32 0#32, constantI S_ 32 0#32, constantI S_ 32 0#32, constantI S_ 32 0#32] : Fin 5 → IVec S_ 32)) k (Shape.Idx.first h_S_)).toInt) updateFits_S128x4x8x64x128_S1x4x8x64x128 (ix5 a n h r e) = x (ix5 a n h r e) := by
  rw [WordCmp.dynamicUpdateSlice_eq_update x u _ _ ![t, 0, 0, 0, 0] (fits lt) (start5 t lt _ hw)]
  pointwise
  rw [dif_neg (by omega)]

/-- The rows that a trip writes, from the queries, the keys, the running sums, the triangle, the inputs and the states. -/
def outRow (qq kk bb : FVec Ideal S4x8x64x128 .f32) (tri : IVec S64x64x1 1) (vv : FVec Ideal S4x8x64x128 .f32) (SS : FVec Ideal S4x8x128x128 .f32) : FVec Ideal S1x4x8x64x128 .f32 :=
  broadcastInDim S1x4x8x64x128 ![1, 2, 3, 4] bcast_S4x8x64x128_S1x4x8x64x128_1_2_3_4 (addf (Host.dotGeneral dot_S4x8x64x64_S4x8x64x128_S4x8x64x128_3_2_2_3_01_01 none (Host.reduceAdd (mulf (mulf (broadcastInDim S4x8x64x64x128 ![0, 1, 2, 3, 4] bcast_S4x8x64x1x128_S4x8x64x64x128_0_1_2_3_4 (broadcastInDim S4x8x64x1x128 ![0, 1, 2, 4] bcast_S4x8x64x128_S4x8x64x1x128_0_1_2_4 qq)) (broadcastInDim S4x8x64x64x128 ![0, 1, 2, 3, 4] bcast_S4x8x1x64x128_S4x8x64x64x128_0_1_2_3_4 (broadcastInDim S4x8x1x64x128 ![0, 1, 3, 4] bcast_S4x8x64x128_S4x8x1x64x128_0_1_3_4 kk))) (Host.exp (select (broadcastInDim S4x8x64x64x128 ![2, 3, 4] bcast_S64x64x1_S4x8x64x64x128_2_3_4 tri) (subf (broadcastInDim S4x8x64x64x128 ![0, 1, 2, 3, 4] bcast_S4x8x64x1x128_S4x8x64x64x128_0_1_2_3_4 (broadcastInDim S4x8x64x1x128 ![0, 1, 2, 4] bcast_S4x8x64x128_S4x8x64x1x128_0_1_2_4 bb)) (broadcastInDim S4x8x64x64x128 ![0, 1, 2, 3, 4] bcast_S4x8x1x64x128_S4x8x64x64x128_0_1_2_3_4 (broadcastInDim S4x8x1x64x128 ![0, 1, 3, 4] bcast_S4x8x64x128_S4x8x1x64x128_0_1_3_4 bb))) (broadcastInDim S4x8x64x64x128 ![] bcast_S_S4x8x64x64x128 (id (constant S_ .f32 0xFF800000#32)))))) (constant S_ .f32 0x00000000#32) reducesTo_S4x8x64x64x128_S4x8x64x64_d4 h_S_) vv) (Host.dotGeneral dot_S4x8x64x128_S4x8x128x128_S4x8x64x128_3_2_2_3_01_01 none (mulf qq (Host.exp bb)) SS))
/-- An entry of the rows that a trip writes. -/
theorem outRow_at (qq kk bb tri vv SS) (n : Fin 4) (h : Fin 8) (r : Fin 64) (j : Fin 128) : outRow qq kk bb tri vv SS (ix5 0 n h r j) =
    (∑ x : Fin 64, (∑ e : Fin 128, qq (ix4 n h r e) * kk (ix4 n h x e) * Ideal.exp (Scalar.select (tri (ix3 r x 0)) (bb (ix4 n h r e) - bb (ix4 n h x e)) (Ideal.ofBits .f32 0xFF800000#32))) * vv (ix4 n h x j))
      + ∑ e : Fin 128, (qq (ix4 n h r e) * Ideal.exp (bb (ix4 n h r e))) * SS (ix4 n h e j) := by
  unfold outRow
  pointwise
  rfl

variable (B : Before V0 t n h f q i)
include B

/-- The chunk's queries. -/
theorem q_at (r : Fin 64) (e : Fin 128) : (res_main_while0b_v56 V0 : FVec Ideal S4x8x64x128 .f32) (ix4 n h r e) = ((q (64 * t + r.val) e : ℝ) : EReal) :=
  (chunk (bq V0) _ B.lt B.ctr n h r e).trans (B.hq r e)
/-- The chunk's inputs. -/
theorem i_at (r : Fin 64) (e : Fin 128) : (res_main_while0b_v57 V0 : FVec Ideal S4x8x64x128 .f32) (ix4 n h r e) = ((i (64 * t + r.val) e : ℝ) : EReal) :=
  (chunk (bi V0) _ B.lt B.ctr n h r e).trans (B.hi r e)
/-- The chunk's forget gates. -/
theorem f_at (r : Fin 64) (e : Fin 128) : (res_main_while0b_v58 V0 : FVec Ideal S4x8x64x128 .f32) (ix4 n h r e) = ((f (64 * t + r.val) e : ℝ) : EReal) :=
  (chunk (bf V0) _ B.lt B.ctr n h r e).trans (B.hf r e)
/-- The chunk's keys. -/
theorem k_at (r : Fin 64) (e : Fin 128) : (res_main_while0b_v60 V0 : FVec Ideal S4x8x64x128 .f32) (ix4 n h r e) = ((1 - f (64 * t + r.val) e : ℝ) : EReal) := by
  unfold res_main_while0b_v60
  pointwise
  erw [f_at B]
  rw [← EReal.coe_one, ← EReal.coe_sub]
/-- The running sums of the gates' logarithms. -/
theorem b_at (r : Fin 64) (e : Fin 128) : (res_main_while0b_v62 V0 : FVec Ideal S4x8x64x128 .f32) (ix4 n h r e) = ((LB f (64 * t) r.val e : ℝ) : EReal) := by
  unfold res_main_while0b_v62
  refine cumsum reduceWindows_S4x8x64x128_S4x8x64x128_w1s1p0_0_w1s1p0_0_w64s1p63_0_w1s1p0_0 _ (fun s => Real.log (f (64 * t + s) e)) n h e (fun s => ?_) _ ?_ r
  · pointwise
    erw [f_at B s e]
    rw [Ideal.log_coe, if_neg (not_le.2 (B.pos _ _))]
  · pointwise
/-- The last running sum. -/
theorem l_at (e : Fin 128) : (res_main_while0b_v82 V0 : FVec Ideal S4x8x1x128 .f32) (ix4 n h 0 e) = ((LB f (64 * t) 63 e : ℝ) : EReal) := by
  unfold res_main_while0b_v82
  pointwise
  exact b_at B 63 e
/-- The state after the trip. -/
theorem S_next (e j : Fin 128) : (step_main_v45_5 V0 : FVec Ideal S4x8x128x128 .f32) (ix4 n h e j) = ((S f i (64 * t + 64) e j : ℝ) : EReal) := by
  unfold step_main_v45_5
  rw [id_eq]
  pointwise
  erw [l_at B e]
  refine (congrArg₂ (· + ·) (congrArg (Ideal.exp ((LB f (64 * t) 63 e : ℝ) : EReal) * ·) (B.hS e j))
    (sum_mul_coe (fun r => show _ = (((1 - f (64 * t + r.val) e) * PR f (64 * t + r.val + 1) (64 * t + 64) e : ℝ) : EReal) by
      erw [k_at B r e, b_at B r e]
      rw [← EReal.coe_sub, Ideal.exp_coe, exp_LB_sub f B.pos (64 * t) 63 r.val (by omega) e, ← EReal.coe_mul]) fun r => i_at B r j)).trans ?_
  rw [Ideal.exp_coe, exp_LB f B.pos, ← EReal.coe_mul, ← EReal.coe_add]
  exact congrArg _ (state_chunk f i (Equiv.refl (Fin 64)) (64 * t) e j).symm
/-- The rows that the trip writes. -/
theorem out_at (r : Fin 64) (j : Fin 128) : outRow (res_main_while0b_v56 V0) (res_main_while0b_v60 V0) (res_main_while0b_v62 V0) (btri V0) (res_main_while0b_v57 V0) (bS V0)
    (ix5 0 n h r j) = ((out f q i (64 * t + r.val) j : ℝ) : EReal) := by
  rw [outRow_at, sum_mul_coe (f := fun x : Fin 64 => if x.val ≤ r.val then W f q (64 * t + r.val) (64 * t + x.val) else 0) (fun x => ?_) fun x => i_at B x j,
    sum_mul_coe (f := fun e => q (64 * t + r.val) e * PR f (64 * t) (64 * t + r.val + 1) e) (fun e => ?_) fun e => B.hS e j, ← EReal.coe_add]
  · exact congrArg _ (out_chunk f q i (Equiv.refl (Fin 64)) (64 * t) r j).symm
  · rw [q_at B, b_at B, Ideal.exp_coe, exp_LB f B.pos, ← EReal.coe_mul]
  · by_cases hx : x.val ≤ r.val
    · rw [if_pos hx, W]
      refine sum_coe fun e => ?_
      rw [q_at B, k_at B, b_at B, b_at B, B.htri, if_pos (Fin.le_def.2 hx), Scalar.select, if_pos (by decide), ← EReal.coe_sub, Ideal.exp_coe,
        exp_LB_sub f B.pos _ _ _ hx, ← EReal.coe_mul, ← EReal.coe_mul]
    · rw [if_neg hx, EReal.coe_zero]
      refine Finset.sum_eq_zero fun e _ => ?_
      rw [B.htri, if_neg (fun h => hx (Fin.le_def.1 h)), Scalar.select, if_neg (by decide), neg_inf, Ideal.exp_bot, mul_zero]
/-- After the trip the outputs' array holds the chunk's rows. -/
theorem O_next (r : Fin 64) (j : Fin 128) : (step_main_v45_6 V0 : FVec Ideal S128x4x8x64x128 .f32) (ix5 ⟨t, B.lt⟩ n h r j) = ((out f q i (64 * t + r.val) j : ℝ) : EReal) :=
  (put_at (bo V0) _ _ B.lt B.ctr n h r j).trans (out_at B r j)
/-- The trip leaves the outputs of the other chunks. -/
theorem O_rest (a : Fin 128) (ha : a.val ≠ t) (r : Fin 64) (j : Fin 128) : (step_main_v45_6 V0 : FVec Ideal S128x4x8x64x128 .f32) (ix5 a n h r j) = bo V0 (ix5 a n h r j) :=
  put_ne (bo V0) _ _ B.lt B.ctr a ha n h r j
end Cert.HgrnRefIdeal.Value

end
-- ==== Proof.HgrnEntry.lean ====
/-
  What the reference's loop carries at its entry, read at an index.
-/
module

public import proofs.«01_k».proof.Proof.HgrnTrip

@[expose] public section

set_option maxRecDepth 16384

noncomputable section

namespace Cert.HgrnRefIdeal.Value

open Cert.HgrnRefIdeal Cert.HgrnRefIdeal.Gen Idealize.ShloMosaic Idealize.ShloMosaic.TcCoe Idealize.SL.Sem
open Idealize.ShloMosaic.Tactic Cert.HgrnMath Cert.HgrnSeq Idealize.ShloMosaic.StableHlo HostLoop
open Cert.MlstmSeq (rowAt rowAt_zero rowAt_one)

/-- Position `p` of a batch row as a direction reads it. -/
def dirPos (d : Fin 2) (p : Fin 8192) : Fin 8192 := if d = 0 then p else p.rev

/-- The position of a chunk's row. -/
def at' (a : Fin 128) (r : Fin 64) : Fin 8192 := ⟨64 * a.val + r.val, by omega⟩

/-- The sequence number of a direction and a batch row. -/
def sq (d b : Fin 2) : Fin 4 := ⟨2 * d.val + b.val, by omega⟩

/-- The array made of the sequences `x` of the first direction and `y` of the second, by chunks. -/
def bufTwo (x y : FVec Ideal S2x8192x8x128 .f32) : FVec Ideal S128x4x8x64x128 .f32 :=
  transpose S128x4x8x64x128 [0, 1, 3, 2, 4] (transpose S128x4x64x8x128 [1, 0, 2, 3, 4] (shapeCast S4x128x64x8x128
    (concatenate S4x8192x8x128 0 [⟨S2x8192x8x128, x⟩, ⟨S2x8192x8x128, Host.reverse [1] y⟩] concatenates_S2x8192x8x128_S2x8192x8x128_S4x8192x8x128_d0)
    shapeCasts_S4x8192x8x128_S4x128x64x8x128) transposes_S4x128x64x8x128_S128x4x64x8x128_1_0_2_3_4) transposes_S128x4x64x8x128_S128x4x8x64x128_0_1_3_2_4

/-- The two transpositions. -/
theorem orderTwo (x : FVec Ideal S4x128x64x8x128 .f32) (a : Fin 128) (n : Fin 4) (h : Fin 8) (r : Fin 64) (e : Fin 128) :
    transpose S128x4x8x64x128 [0, 1, 3, 2, 4] (transpose S128x4x64x8x128 [1, 0, 2, 3, 4] x transposes_S4x128x64x8x128_S128x4x64x8x128_1_0_2_3_4) transposes_S128x4x64x8x128_S128x4x8x64x128_0_1_3_2_4 (ix5 a n h r e)
      = x (ix5 n a r h e) := by
  pointwise
/-- The cut into chunks. -/
theorem cutTwo (x : FVec Ideal S4x8192x8x128 .f32) (a : Fin 128) (n : Fin 4) (h : Fin 8) (r : Fin 64) (e : Fin 128) :
    shapeCast S4x128x64x8x128 x shapeCasts_S4x8192x8x128_S4x128x64x8x128 (ix5 n a r h e) = x (ix4 n (at' a r) h e) := by
  pointwise
  exact congrArg (fun p => x (ix4 n p h e)) (Fin.ext (by show a.val * 64 + r.val = 64 * a.val + r.val; omega))
/-- The two directions, one behind the other. -/
theorem bothTwo (x y : FVec Ideal S2x8192x8x128 .f32) (n : Fin 4) (h : Fin 8) (p : Fin 8192) (e : Fin 128) :
    concatenate S4x8192x8x128 0 [⟨S2x8192x8x128, x⟩, ⟨S2x8192x8x128, y⟩] concatenates_S2x8192x8x128_S2x8192x8x128_S4x8192x8x128_d0 (ix4 n p h e) =
      if h0 : n.val < 2 then x (ix4 ⟨n.val, h0⟩ p h e) else y (ix4 ⟨n.val - 2, by omega⟩ p h e) := by
  pointwise
/-- The reversal of the positions. -/
theorem flipTwo (x : FVec Ideal S2x8192x8x128 .f32) (n : Fin 2) (h : Fin 8) (p : Fin 8192) (e : Fin 128) :
    Host.reverse [1] x (ix4 n p h e) = x (ix4 n p.rev h e) := by
  pointwise
  rfl
/-- An entry of the carried array. -/
theorem bufTwo_at (x y : FVec Ideal S2x8192x8x128 .f32) (a : Fin 128) (d b : Fin 2) (h : Fin 8) (r : Fin 64) (e : Fin 128) :
    bufTwo x y (ix5 a (sq d b) h r e) = if d = 0 then x (ix4 b (dirPos d (at' a r)) h e) else y (ix4 b (dirPos d (at' a r)) h e) := by
  unfold bufTwo
  rw [orderTwo, cutTwo, bothTwo]
  match d with
  | 0 =>
    rw [dif_pos (show (sq 0 b).val < 2 by show 0 + b.val < 2; omega), if_pos rfl]
    exact congrArg (fun z => x (ix4 z (at' a r) h e)) (Fin.ext (Nat.zero_add b.val))
  | 1 =>
    rw [dif_neg (show ¬ (sq 1 b).val < 2 by show ¬ 2 + b.val < 2; omega), flipTwo, if_neg (by decide)]
    exact congrArg (fun z => y (ix4 z (at' a r).rev h e)) (Fin.ext (Nat.add_sub_cancel_left 2 b.val))

variable (m : (ℓ : Loc nD τ sig) → Buf (Elt Ideal) ℓ) (c : Dev nD)

/-- The first argument. -/
abbrev a0 : FVec Ideal S16384x12288 .f32 := m ((c.tc : Thread nD τ).loc main_arg0)
/-- The second argument. -/
abbrev a1 : FVec Ideal S2x1x1024 .f32 := m ((c.tc : Thread nD τ).loc main_arg1)

/-- The queries by batch row, position and head. -/
def q4 : FVec Ideal S2x8192x8x128 .f32 := shapeCast S2x8192x8x128 (extractStridedSlice S16384x1024 ![0, 3072] (a0 m c) slices_S16384x12288_S16384x1024_0_3072) shapeCasts_S16384x1024_S2x8192x8x128
/-- An entry of that array. -/
theorem q4_at (b : Fin 2) (p : Fin 8192) (h : Fin 8) (e : Fin 128) : q4 m c (ix4 b p h e) = a0 m c (ix2 ⟨8192 * b.val + p.val, by omega⟩ ⟨3072 + 128 * h.val + e.val, by omega⟩) := by
  unfold q4
  pointwise
  exact congrArg₂ (fun r l => a0 m c (ix2 r l)) (Fin.ext (by show b.val * 8192 + p.val = 8192 * b.val + p.val; omega))
    (Fin.ext (by show 3072 + (h.val * 128 + e.val) = 3072 + 128 * h.val + e.val; omega))
/-- The inputs by batch row, position and head. -/
def i4 : FVec Ideal S2x8192x8x128 .f32 := shapeCast S2x8192x8x128 (extractStridedSlice S16384x1024 ![0, 6144] (a0 m c) slices_S16384x12288_S16384x1024_0_6144) shapeCasts_S16384x1024_S2x8192x8x128
/-- An entry of that array. -/
theorem i4_at (b : Fin 2) (p : Fin 8192) (h : Fin 8) (e : Fin 128) : i4 m c (ix4 b p h e) = a0 m c (ix2 ⟨8192 * b.val + p.val, by omega⟩ ⟨6144 + 128 * h.val + e.val, by omega⟩) := by
  unfold i4
  pointwise
  exact congrArg₂ (fun r l => a0 m c (ix2 r l)) (Fin.ext (by show b.val * 8192 + p.val = 8192 * b.val + p.val; omega))
    (Fin.ext (by show 6144 + (h.val * 128 + e.val) = 6144 + 128 * h.val + e.val; omega))
/-- The forget gates' arguments by batch row, position, direction and head. -/
def z5 : FVec Ideal S2x8192x2x8x128 .f32 := shapeCast S2x8192x2x8x128 (extractStridedSlice S16384x2048 ![0, 4096] (a0 m c) slices_S16384x12288_S16384x2048_0_4096) shapeCasts_S16384x2048_S2x8192x2x8x128
/-- An entry of that array. -/
theorem z5_at (b : Fin 2) (p : Fin 8192) (d : Fin 2) (h : Fin 8) (e : Fin 128) : z5 m c (ix5 b p d h e) = a0 m c (ix2 ⟨8192 * b.val + p.val, by omega⟩ ⟨4096 + 1024 * d.val + 128 * h.val + e.val, by omega⟩) := by
  unfold z5
  pointwise
  exact congrArg₂ (fun r l => a0 m c (ix2 r l)) (Fin.ext (by show b.val * 8192 + p.val = 8192 * b.val + p.val; omega))
    (Fin.ext (by show 4096 + (d.val * 1024 + h.val * 128 + e.val) = 4096 + 1024 * d.val + 128 * h.val + e.val; omega))
/-- The lower bounds by direction and head. -/
def w3 : FVec Ideal S2x8x128 .f32 := shapeCast S2x8x128 (a1 m c) shapeCasts_S2x1x1024_S2x8x128
/-- An entry of that array. -/
theorem w3_at (d : Fin 2) (h : Fin 8) (e : Fin 128) : w3 m c (ix3 d h e) = a1 m c (ix3 d 0 ⟨128 * h.val + e.val, by omega⟩) := by
  unfold w3
  pointwise
  exact congrArg (fun l => a1 m c (ix3 d 0 l)) (Fin.ext (by show h.val * 128 + e.val = 128 * h.val + e.val; omega))
/-- The forget gates as the reference takes them. -/
def gates (w : FVec Ideal S2x8x128 .f32) (z : FVec Ideal S2x8192x2x8x128 .f32) : FVec Ideal S2x8192x2x8x128 .f32 :=
  addf (broadcastInDim S2x8192x2x8x128 ![0, 1, 2, 3, 4] bcast_S1x1x2x8x128_S2x8192x2x8x128_0_1_2_3_4 (broadcastInDim S1x1x2x8x128 ![2, 3, 4] bcast_S2x8x128_S1x1x2x8x128_2_3_4 w))
    (mulf (broadcastInDim S2x8192x2x8x128 ![0, 1, 2, 3, 4] bcast_S1x1x2x8x128_S2x8192x2x8x128_0_1_2_3_4 (broadcastInDim S1x1x2x8x128 ![2, 3, 4] bcast_S2x8x128_S1x1x2x8x128_2_3_4
        (subf (broadcastInDim S2x8x128 ![] bcast_S_S2x8x128 (constant S_ .f32 0x3F800000#32)) w)))
      (divf (broadcastInDim S2x8192x2x8x128 ![] bcast_S_S2x8192x2x8x128 (constant S_ .f32 0x3F800000#32))
        (addf (broadcastInDim S2x8192x2x8x128 ![] bcast_S_S2x8192x2x8x128 (constant S_ .f32 0x3F800000#32)) (Host.exp (Host.negf z)))))
/-- A forget gate of real numbers. -/
theorem gates_at (w : FVec Ideal S2x8x128 .f32) (z : FVec Ideal S2x8192x2x8x128 .f32) (x y : ℝ) (b : Fin 2) (p : Fin 8192) (d : Fin 2) (h : Fin 8) (e : Fin 128)
    (hw : w (ix3 d h e) = (x : EReal)) (hz : z (ix5 b p d h e) = (y : EReal)) : gates w z (ix5 b p d h e) = ((gate x y : ℝ) : EReal) := by
  have hp : (1 : ℝ) + Real.exp (-y) ≠ 0 := by positivity
  unfold gates
  pointwise
  rw [hw, hz, ← EReal.coe_neg, Ideal.exp_coe, ← EReal.coe_one, ← EReal.coe_add, ← EReal.coe_sub, Ideal.div_coe hp, ← EReal.coe_mul, ← EReal.coe_mul, ← EReal.coe_add, gate, one_mul, one_div]
/-- The first direction's gates. -/
def g0 (x : FVec Ideal S2x8192x2x8x128 .f32) : FVec Ideal S2x8192x8x128 .f32 := shapeCast S2x8192x8x128 (extractStridedSlice S2x8192x1x8x128 ![0, 0, 0, 0, 0] x slices_S2x8192x2x8x128_S2x8192x1x8x128_0_0_0_0_0) shapeCasts_S2x8192x1x8x128_S2x8192x8x128
/-- The second direction's gates. -/
def g1 (x : FVec Ideal S2x8192x2x8x128 .f32) : FVec Ideal S2x8192x8x128 .f32 := shapeCast S2x8192x8x128 (extractStridedSlice S2x8192x1x8x128 ![0, 0, 1, 0, 0] x slices_S2x8192x2x8x128_S2x8192x1x8x128_0_0_1_0_0) shapeCasts_S2x8192x1x8x128_S2x8192x8x128
/-- An entry of the first direction's gates. -/
theorem g0_at (x : FVec Ideal S2x8192x2x8x128 .f32) (b : Fin 2) (p : Fin 8192) (h : Fin 8) (e : Fin 128) : g0 x (ix4 b p h e) = x (ix5 b p 0 h e) := by
  unfold g0
  pointwise
/-- An entry of the second direction's gates. -/
theorem g1_at (x : FVec Ideal S2x8192x2x8x128 .f32) (b : Fin 2) (p : Fin 8192) (h : Fin 8) (e : Fin 128) : g1 x (ix4 b p h e) = x (ix5 b p 1 h e) := by
  unfold g1
  pointwise

/-- An entry of the gates' carried array. -/
theorem bufGate_at (x : FVec Ideal S2x8192x2x8x128 .f32) (a : Fin 128) (d b : Fin 2) (h : Fin 8) (r : Fin 64) (e : Fin 128) :
    bufTwo (g0 x) (g1 x) (ix5 a (sq d b) h r e) = x (ix5 b (dirPos d (at' a r)) d h e) := by
  rw [bufTwo_at, g0_at, g1_at]
  generalize dirPos d (at' a r) = p
  match d with
  | 0 => exact if_pos rfl
  | 1 => exact if_neg (by decide)

/-- The lower triangle as the reference makes it. -/
def tri2 : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- What the carried array 0 starts with. -/
theorem entry_q : entryContents preI m c (Proc.devRef .tc main_v45_0) = bufTwo (q4 m c) (q4 m c) := by
  unfold bufTwo q4
  simp only [entryContents, afterL_cons, afterL_nil, hostOps0, hostOps0_1, hostOps0_2, hostOps0_3, hostOps0_4, hostOps0_5, hostOps0_6, hostOps0_7, hostOps0_8]
  after_results_entrywise []
/-- What the carried array 1 starts with. -/
theorem entry_i : entryContents preI m c (Proc.devRef .tc main_v45_1) = bufTwo (i4 m c) (i4 m c) := by
  unfold bufTwo i4
  simp only [entryContents, afterL_cons, afterL_nil, hostOps0, hostOps0_1, hostOps0_2, hostOps0_3, hostOps0_4, hostOps0_5, hostOps0_6, hostOps0_7, hostOps0_8]
  after_results_entrywise []
/-- What the carried array 2 starts with. -/
theorem entry_f : entryContents preI m c (Proc.devRef .tc main_v45_2) = bufTwo (g0 (gates (w3 m c) (z5 m c))) (g1 (gates (w3 m c) (z5 m c))) := by
  unfold bufTwo g0 g1 gates w3 z5
  simp only [entryContents, afterL_cons, afterL_nil, hostOps0, hostOps0_1, hostOps0_2, hostOps0_3, hostOps0_4, hostOps0_5, hostOps0_6, hostOps0_7, hostOps0_8]
  after_results_entrywise []
/-- What the carried array 3 starts with. -/
theorem entry_tri : entryContents preI m c (Proc.devRef .tc main_v45_3) = broadcastInDim S64x64x1 ![0, 1] bcast_S64x64_S64x64x1_0_1 tri2 := by
  unfold tri2
  simp only [entryContents, afterL_cons, afterL_nil, hostOps0, hostOps0_1, hostOps0_2, hostOps0_3, hostOps0_4, hostOps0_5, hostOps0_6, hostOps0_7, hostOps0_8]
  after_results_entrywise []
/-- What the carried array 5 starts with. -/
theorem entry_S : entryContents preI m c (Proc.devRef .tc main_v45_5) = broadcastInDim S4x8x128x128 ![] bcast_S_S4x8x128x128 (constant (F := Ideal) S_ .f32 0x00000000#32) := by
  simp only [entryContents, afterL_cons, afterL_nil, hostOps0, hostOps0_1, hostOps0_2, hostOps0_3, hostOps0_4, hostOps0_5, hostOps0_6, hostOps0_7, hostOps0_8]
  after_results_entrywise []

/-- The triangle by coordinates. -/
theorem tri2_at (r s : Fin 64) : tri2 (ix2 r s) = if s ≤ r then 1#1 else 0#1 := by
  unfold tri2
  pointwise
  rw [show IntOp.addi (BitVec.ofNat 32 r.val) 0#32 = BitVec.ofNat 32 r.val from BitVec.add_zero _,
    WordCmp.cmpi_sge_ofNat (by omega) (by omega)]
  by_cases h : s ≤ r
  · rw [if_pos h, decide_eq_true (show s.val ≤ r.val from h)]
    rfl
  · rw [if_neg h, decide_eq_false (show ¬ s.val ≤ r.val from h)]
    rfl
/-- The carried triangle by coordinates. -/
theorem tri3_at (r s : Fin 64) : broadcastInDim S64x64x1 ![0, 1] bcast_S64x64_S64x64x1_0_1 tri2 (ix3 r s 0) = if s ≤ r then 1#1 else 0#1 := by
  pointwise
  exact tri2_at r s

/-- The array row of a position as a direction reads it. -/
theorem row_eq (d b : Fin 2) (a : Fin 128) (r : Fin 64) :
    (⟨8192 * b.val + (dirPos d (at' a r)).val, by omega⟩ : Fin 16384) = rowAt d b (64 * a.val + r.val) := by
  refine Fin.ext ?_
  have ht : (at' a r).val = 64 * a.val + r.val := rfl
  by_cases hd : d = 0
  · have e : dirPos d (at' a r) = at' a r := if_pos hd
    rw [rowAt_zero d b _ hd]
    show 8192 * b.val + (dirPos d (at' a r)).val = _
    rw [e]
    omega
  · have e : dirPos d (at' a r) = (at' a r).rev := if_neg hd
    rw [rowAt_one d b _ hd]
    show 8192 * b.val + (dirPos d (at' a r)).val = _
    rw [e, Fin.val_rev]
    omega

/-- The first argument by coordinates. -/
def yr (r : Fin 16384) (l : Fin 12288) : EReal := a0 m c (ix2 r l)
/-- The second argument by coordinates. -/
def wr (d : Fin 2) (l : Fin 1024) : EReal := a1 m c (ix3 d 0 l)

section
variable (hR : HgrnSeq.Real (yr m c) (wr m c)) (a : Fin 128) (d b : Fin 2) (h : Fin 8) (r : Fin 64)
include hR
/-- The carried queries. -/
theorem q_in (e : Fin 128) : bufTwo (q4 m c) (q4 m c) (ix5 a (sq d b) h r e) = ((qS (yr m c) d b h (64 * a.val + r.val) e : ℝ) : EReal) := by
  rw [bufTwo_at, ite_self, q4_at, row_eq]
  exact (hR.y _ _ (by show 3072 ≤ 3072 + 128 * h.val + e.val; omega) (by show 3072 + 128 * h.val + e.val < 7168; omega)).symm
/-- The carried inputs. -/
theorem i_in (e : Fin 128) : bufTwo (i4 m c) (i4 m c) (ix5 a (sq d b) h r e) = ((iS (yr m c) d b h (64 * a.val + r.val) e : ℝ) : EReal) := by
  rw [bufTwo_at, ite_self, i4_at, row_eq]
  exact (hR.y _ _ (by show 3072 ≤ 6144 + 128 * h.val + e.val; omega) (by show 6144 + 128 * h.val + e.val < 7168; omega)).symm
/-- The carried forget gates. -/
theorem f_in (e : Fin 128) : bufTwo (g0 (gates (w3 m c) (z5 m c))) (g1 (gates (w3 m c) (z5 m c))) (ix5 a (sq d b) h r e)
    = ((fS (yr m c) (wr m c) d b h (64 * a.val + r.val) e : ℝ) : EReal) := by
  have hg : gates (w3 m c) (z5 m c) (ix5 b (dirPos d (at' a r)) d h e) = ((fS (yr m c) (wr m c) d b h (64 * a.val + r.val) e : ℝ) : EReal) := by
    refine gates_at _ _ _ _ _ _ _ _ _ ?_ ?_
    · rw [w3_at]
      exact (hR.l _ _).symm
    · rw [z5_at, row_eq]
      exact (hR.y _ _ (by show 3072 ≤ 4096 + 1024 * d.val + 128 * h.val + e.val; omega) (by show 4096 + 1024 * d.val + 128 * h.val + e.val < 7168; omega)).symm
  exact (bufGate_at _ a d b h r e).trans hg
end
end Cert.HgrnRefIdeal.Value
-- ==== Proof.HgrnRef.lean ====
/-
  What the reference computes: the carried arrays after any number of trips, and the result made of the last ones.
-/
module

public import proofs.«01_k».proof.Proof.HgrnEntry

@[expose] public section

set_option maxRecDepth 16384

noncomputable section

namespace Cert.HgrnRefIdeal.Value

open Cert.HgrnRefIdeal Cert.HgrnRefIdeal.Gen Idealize.ShloMosaic Idealize.ShloMosaic.TcCoe Idealize.SL.Sem
open Idealize.ShloMosaic.Tactic Cert.HgrnMath Cert.HgrnSeq Idealize.ShloMosaic.StableHlo HostLoop

variable (m : (ℓ : Loc nD τ sig) → Buf (Elt Ideal) ℓ) (c : Dev nD)

/-- After `k` trips the loop carries the sequences, the counter, the states at the chunk's end and the outputs of the
    chunks before. -/
structure Inv (k : ℕ) (V : Valuation τ sig (Elt Ideal)) : Prop where
  hq : bq V = bufTwo (q4 m c) (q4 m c)
  hi : bi V = bufTwo (i4 m c) (i4 m c)
  hf : bf V = bufTwo (g0 (gates (w3 m c) (z5 m c))) (g1 (gates (w3 m c) (z5 m c)))
  ht : btri V = broadcastInDim S64x64x1 ![0, 1] bcast_S64x64_S64x64x1_0_1 tri2
  ctr : bctr V = fun _ => BitVec.ofNat 32 k
  hS : ∀ d b h e j, bS V (ix4 (sq d b) h e j) = ((S (fS (yr m c) (wr m c) d b h) (iS (yr m c) d b h) (64 * k) e j : ℝ) : EReal)
  ho : ∀ (a : Fin 128), a.val < k → ∀ d b h r j, bo V (ix5 a (sq d b) h r j) =
    ((outS (yr m c) (wr m c) d b h (64 * a.val + r.val) j : ℝ) : EReal)

/-- The start. -/
theorem inv_zero : Inv m c 0 (entryContents preI m c) where
  hq := entry_q m c
  hi := entry_i m c
  hf := entry_f m c
  ht := entry_tri m c
  ctr := ctr_entry m c
  hS d b h e j := by
    show (entryContents preI m c (Proc.devRef .tc main_v45_5) : FVec Ideal S4x8x128x128 .f32) _ = _
    rw [entry_S]
    pointwise
    rfl
  ho a h := absurd h (Nat.not_lt_zero _)

variable {m c} (hR : HgrnSeq.Real (yr m c) (wr m c)) {k : ℕ} {V : Valuation τ sig (Elt Ideal)}
include hR

/-- What a trip finds. -/
theorem Inv.before (I : Inv m c k V) (hk : k < 128) (d b : Fin 2) (h : Fin 8) :
    Before V k (sq d b) h (fS (yr m c) (wr m c) d b h) (qS (yr m c) d b h) (iS (yr m c) d b h) where
  ctr := I.ctr
  lt := hk
  pos n e := gate_pos _ _ (hR.pos _ _)
  hq r e := by rw [I.hq]; exact q_in m c hR ⟨k, hk⟩ d b h r e
  hi r e := by rw [I.hi]; exact i_in m c hR ⟨k, hk⟩ d b h r e
  hf r e := by rw [I.hf]; exact f_in m c hR ⟨k, hk⟩ d b h r e
  htri r s := by rw [I.ht]; exact tri3_at r s
  hS := I.hS d b h

/-- A trip. -/
theorem Inv.next (I : Inv m c k V) (hk : k < 128) : Inv m c (k + 1) (STEP V) where
  hq := (STEP_main_v45_0 V).trans I.hq
  hi := (STEP_main_v45_1 V).trans I.hi
  hf := (STEP_main_v45_2 V).trans I.hf
  ht := (STEP_main_v45_3 V).trans I.ht
  ctr := (STEP_main_v45_4 V).trans (by
    show addi (bctr V) (constantI S_ 32 1#32) = _
    rw [I.ctr]
    funext i
    exact (BitVec.ofNat_add k 1).symm)
  hS d b h e j := (congrFun (STEP_main_v45_5 V) _).trans (S_next (I.before hR hk d b h) e j)
  ho a ha d b h r j := by
    refine (congrFun (STEP_main_v45_6 V) _).trans ?_
    by_cases hak : a.val = k
    · subst hak
      exact O_next (I.before hR hk d b h) r j
    · exact (O_rest (I.before hR hk d b h) a hak r j).trans (I.ho a (by omega) d b h r j)

/-- All trips. -/
theorem inv_all : ∀ k, k ≤ 128 → Inv m c k (STEP^[k] (entryContents preI m c))
  | 0, _ => inv_zero m c
  | k + 1, hk => by
    rw [Function.iterate_succ_apply']
    exact (inv_all k (by omega)).next hR (by omega)

omit hR

/-- The result made of the carried outputs. -/
def outOf (o : FVec Ideal S128x4x8x64x128 .f32) : FVec Ideal S2x16384x1024 .f32 :=
  shapeCast S2x16384x1024 (concatenate S2x2x8192x8x128 0 [⟨S1x2x8192x8x128, (broadcastInDim S1x2x8192x8x128 ![1, 2, 3, 4] bcast_S2x8192x8x128_S1x2x8192x8x128_1_2_3_4 (extractStridedSlice S2x8192x8x128 ![0, 0, 0, 0] (shapeCast S4x8192x8x128 (transpose S4x128x64x8x128 [1, 0, 2, 3, 4] (transpose S128x4x64x8x128 [0, 1, 3, 2, 4] o transposes_S128x4x8x64x128_S128x4x64x8x128_0_1_3_2_4) transposes_S128x4x64x8x128_S4x128x64x8x128_1_0_2_3_4) shapeCasts_S4x128x64x8x128_S4x8192x8x128) slices_S4x8192x8x128_S2x8192x8x128_0_0_0_0))⟩, ⟨S1x2x8192x8x128, (broadcastInDim S1x2x8192x8x128 ![1, 2, 3, 4] bcast_S2x8192x8x128_S1x2x8192x8x128_1_2_3_4 (Host.reverse [1] (extractStridedSlice S2x8192x8x128 ![2, 0, 0, 0] (shapeCast S4x8192x8x128 (transpose S4x128x64x8x128 [1, 0, 2, 3, 4] (transpose S128x4x64x8x128 [0, 1, 3, 2, 4] o transposes_S128x4x8x64x128_S128x4x64x8x128_0_1_3_2_4) transposes_S128x4x64x8x128_S4x128x64x8x128_1_0_2_3_4) shapeCasts_S4x128x64x8x128_S4x8192x8x128) slices_S4x8192x8x128_S2x8192x8x128_2_0_0_0)))⟩] concatenates_S1x2x8192x8x128_S1x2x8192x8x128_S2x2x8192x8x128_d0) shapeCasts_S2x2x8192x8x128_S2x16384x1024

/-- The result's rows and columns, apart. -/
theorem split_at (x : FVec Ideal S2x2x8192x8x128 .f32) (d : Fin 2) (r : Fin 16384) (l : Fin 1024) :
    shapeCast S2x16384x1024 x shapeCasts_S2x2x8192x8x128_S2x16384x1024 (ix3 d r l) =
      x (ix5 d ⟨r.val / 8192, by omega⟩ ⟨r.val % 8192, by omega⟩ ⟨l.val / 128, by omega⟩ ⟨l.val % 128, by omega⟩) := by
  pointwise
/-- The directions, one behind the other. -/
theorem dirs_at (x y : FVec Ideal S2x8192x8x128 .f32) (d b : Fin 2) (p : Fin 8192) (h : Fin 8) (j : Fin 128) :
    concatenate S2x2x8192x8x128 0 [⟨S1x2x8192x8x128, broadcastInDim S1x2x8192x8x128 ![1, 2, 3, 4] bcast_S2x8192x8x128_S1x2x8192x8x128_1_2_3_4 x⟩, ⟨S1x2x8192x8x128, broadcastInDim S1x2x8192x8x128 ![1, 2, 3, 4] bcast_S2x8192x8x128_S1x2x8192x8x128_1_2_3_4 y⟩] concatenates_S1x2x8192x8x128_S1x2x8192x8x128_S2x2x8192x8x128_d0
      (ix5 d b p h j) = if d = 0 then x (ix4 b p h j) else y (ix4 b p h j) := by
  pointwise
  by_cases hd : d = 0
  · subst hd
    rfl
  · rw [if_neg hd, dif_neg (by have := Fin.val_ne_of_ne hd; simp only [Fin.val_zero] at this; omega)]
/-- The first direction's sequences. -/
theorem half0_at (x : FVec Ideal S4x8192x8x128 .f32) (b : Fin 2) (p : Fin 8192) (h : Fin 8) (j : Fin 128) :
    extractStridedSlice S2x8192x8x128 ![0, 0, 0, 0] x slices_S4x8192x8x128_S2x8192x8x128_0_0_0_0 (ix4 b p h j) = x (ix4 (sq 0 b) p h j) := by
  pointwise
  exact congrArg (fun z => x (ix4 z p h j)) (Fin.ext (Nat.zero_add b.val).symm)
/-- The second direction's sequences. -/
theorem half1_at (x : FVec Ideal S4x8192x8x128 .f32) (b : Fin 2) (p : Fin 8192) (h : Fin 8) (j : Fin 128) :
    extractStridedSlice S2x8192x8x128 ![2, 0, 0, 0] x slices_S4x8192x8x128_S2x8192x8x128_2_0_0_0 (ix4 b p h j) = x (ix4 (sq 1 b) p h j) := by
  pointwise
  rfl
/-- A position as a chunk's row. -/
theorem join_at (x : FVec Ideal S4x128x64x8x128 .f32) (n : Fin 4) (p : Fin 8192) (h : Fin 8) (j : Fin 128) :
    shapeCast S4x8192x8x128 x shapeCasts_S4x128x64x8x128_S4x8192x8x128 (ix4 n p h j) = x (ix5 n ⟨p.val / 64, by omega⟩ ⟨p.val % 64, by omega⟩ h j) := by
  pointwise
/-- The two transpositions. -/
theorem back_at (o : FVec Ideal S128x4x8x64x128 .f32) (n : Fin 4) (a : Fin 128) (r : Fin 64) (h : Fin 8) (j : Fin 128) :
    transpose S4x128x64x8x128 [1, 0, 2, 3, 4] (transpose S128x4x64x8x128 [0, 1, 3, 2, 4] o transposes_S128x4x8x64x128_S128x4x64x8x128_0_1_3_2_4) transposes_S128x4x64x8x128_S4x128x64x8x128_1_0_2_3_4 (ix5 n a r h j) = o (ix5 a n h r j) := by
  pointwise

/-- The outputs of one direction in the order of its positions. -/
theorem line_at (o : FVec Ideal S128x4x8x64x128 .f32) (f : Fin 2 → Fin 2 → Fin 8 → ℕ → Fin 128 → ℝ)
    (ho : ∀ a d b h r j, o (ix5 a (sq d b) h r j) = ((f d b h (64 * a.val + r.val) j : ℝ) : EReal)) (d b : Fin 2) (p : Fin 8192) (h : Fin 8) (j : Fin 128) :
    shapeCast S4x8192x8x128 (transpose S4x128x64x8x128 [1, 0, 2, 3, 4] (transpose S128x4x64x8x128 [0, 1, 3, 2, 4] o transposes_S128x4x8x64x128_S128x4x64x8x128_0_1_3_2_4) transposes_S128x4x64x8x128_S4x128x64x8x128_1_0_2_3_4) shapeCasts_S4x128x64x8x128_S4x8192x8x128
      (ix4 (sq d b) p h j) = ((f d b h p.val j : ℝ) : EReal) := by
  rw [join_at, back_at, ho]
  exact congrArg (fun s => ((f d b h s j : ℝ) : EReal)) (Nat.div_add_mod p.val 64)

/-- The result by coordinates. -/
theorem outOf_at (o : FVec Ideal S128x4x8x64x128 .f32) (f : Fin 2 → Fin 2 → Fin 8 → ℕ → Fin 128 → ℝ)
    (ho : ∀ a d b h r j, o (ix5 a (sq d b) h r j) = ((f d b h (64 * a.val + r.val) j : ℝ) : EReal)) (d : Fin 2) (r : Fin 16384) (l : Fin 1024) :
    outOf o (ix3 d r l) = ((f d ⟨r.val / 8192, by omega⟩ ⟨l.val / 128, by omega⟩ (if d = 0 then r.val % 8192 else 8191 - r.val % 8192) ⟨l.val % 128, by omega⟩ : ℝ) : EReal) := by
  unfold outOf
  rw [split_at, dirs_at]
  match d with
  | 0 =>
    rw [if_pos rfl, if_pos rfl, half0_at, line_at o f ho]
  | 1 =>
    rw [if_neg (by decide), if_neg (by decide), flipTwo, half1_at, line_at o f ho]
    refine congrArg (fun s => ((f 1 _ _ s _ : ℝ) : EReal)) ?_
    rw [Fin.val_rev]
    show 8192 - (r.val % 8192 + 1) = 8191 - r.val % 8192
    omega

include hR
/-- The reference's result. -/
theorem result : out_main_v55 (STEP^[128] (entryContents preI m c)) =
    fun i : S2x16384x1024.Idx => ((res (yr m c) (wr m c) (i 0) (i 1) (i 2) : ℝ) : EReal) := by
  have I := inv_all hR 128 le_rfl
  show outOf (bo (STEP^[128] (entryContents preI m c))) = _
  funext i
  obtain ⟨d, r, l, rfl⟩ : ∃ (d : Fin 2) (r : Fin 16384) (l : Fin 1024), i = ix3 d r l := ⟨i 0, i 1, i 2, eq_ix3 i⟩
  exact outOf_at _ (fun d b h s j => outS (yr m c) (wr m c) d b h s j) (fun a => I.ho a a.isLt) d r l

end Cert.HgrnRefIdeal.Value
-- ==== Proof.HgrnPre.lean ====
/-
  What the condition on the arguments says: every entry that the call reads is a real number, and the lower bounds of the
  gates are not negative.
-/
module

public import proofs.«01_k».proof.Pre_positive_hgrn
public import proofs.«01_k».proof.Proof.HgrnSeq
public import Idealize.ShloMosaic.Lib.Pointwise

@[expose] public section

set_option maxRecDepth 16384

noncomputable section

namespace Cert.Pre_positive_hgrn

open Idealize.ShloMosaic Idealize.ShloMosaic.Tactic

/-- The side conditions of the condition's own operations. -/
theorem facts : Facts := ⟨by decide, by decide, by decide⟩

/-- A number whose absolute value is below infinity is real. -/
theorem real_of_lt (x : EReal) (h : max x (-x) < ⊤) : ((x.toReal : ℝ) : EReal) = x := by
  refine EReal.coe_toReal (fun e => ?_) fun e => ?_
  · subst e; simp at h
  · subst e; simp at h

/-- The pattern of infinity. -/
theorem top_bits : Ideal.ofBits .f32 0x7F800000#32 = ⊤ := by
  simp [Ideal.ofBits, Ideal.ieee]

variable [Facts]

section
variable {y : FVec Ideal S16384x12288 .f32} {w : FVec Ideal S2x1x1024 .f32}

/-- Each of the columns that are read is real. -/
theorem real_entry (h : (fn y w).1 = fun _ => 1#1) (r : Fin 16384) (l : Fin 4096) (z : EReal) (hz : y (ix2 r ⟨3072 + l.val, by omega⟩) = z) :
    ((z.toReal : ℝ) : EReal) = z := by
  have e := congrFun h (ix2 r l)
  unfold fn at e
  revert e
  pointwise
  intro e
  subst hz
  refine real_of_lt _ ?_
  rw [top_bits] at e
  by_contra hn
  rw [decide_eq_false (by exact hn)] at e
  exact absurd e (by decide)

/-- Two bits that are both set. -/
theorem both (p q : Prop) [Decidable p] [Decidable q] (e : IntOp.andi (BitVec.ofBool (decide p)) (BitVec.ofBool (decide q)) = 1#1) : p ∧ q := by
  by_cases hp : p
  · by_cases hq : q
    · exact ⟨hp, hq⟩
    · rw [decide_eq_true hp, decide_eq_false hq] at e
      exact absurd e (by decide)
  · rw [decide_eq_false hp] at e
    by_cases hq : q
    · rw [decide_eq_true hq] at e
      exact absurd e (by decide)
    · rw [decide_eq_false hq] at e
      exact absurd e (by decide)

/-- Each lower bound is at least zero and below infinity. -/
theorem bound (h : (fn y w).2 = fun _ => 1#1) (d : Fin 2) (l : Fin 1024) : 0 ≤ w (ix3 d 0 l) ∧ w (ix3 d 0 l) < ⊤ := by
  have e := congrFun h (ix3 d 0 l)
  unfold fn at e
  revert e
  pointwise
  intro e
  rw [top_bits] at e
  exact both _ _ e

/-- The condition makes every entry that is read a real number, and the lower bounds at least zero. -/
theorem real (h : (fn y w).1 = fun _ => 1#1) (h' : (fn y w).2 = fun _ => 1#1) : HgrnSeq.Real (fun r l => y (ix2 r l)) (fun d l => w (ix3 d 0 l)) where
  y r l h1 h2 := real_entry h r ⟨l.val - 3072, by omega⟩ _ (congrArg (fun z => y (ix2 r z)) (Fin.ext (by show 3072 + (l.val - 3072) = l.val; omega)))
  l d l := EReal.coe_toReal (ne_of_lt (bound h' d l).2) (ne_of_gt (lt_of_lt_of_le (by simp) (bound h' d l).1))
  pos d l := EReal.toReal_nonneg (bound h' d l).1
end

end Cert.Pre_positive_hgrn

end
-- ==== Proof.lean ====
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.Inproj.Frame
public import proofs.«01_k».proof.Proof.Gen.InprojIdeal.Value
public import proofs.«01_k».proof.Proof.Gen.InprojRefIdeal.Run
public import proofs.«01_k».proof.Proof.InprojRef
public import proofs.«01_k».proof.Proof.Gen.Mlstm.Frame
public import proofs.«01_k».proof.Proof.Gen.MlstmIdeal.Value
public import proofs.«01_k».proof.Proof.Gen.MlstmRefIdeal.Run
public import proofs.«01_k».proof.Proof.Gen.Post.Frame
public import proofs.«01_k».proof.Proof.Gen.PostIdeal.Value
public import proofs.«01_k».proof.Proof.Gen.PostRefIdeal.Run
public import proofs.«01_k».proof.Proof.Gen.Ln.Frame
public import proofs.«01_k».proof.Proof.Gen.LnIdeal.Value
public import proofs.«01_k».proof.Proof.Gen.LnRefIdeal.Run
public import proofs.«01_k».proof.Proof.Gen.Conv.Frame
public import proofs.«01_k».proof.Proof.Gen.ConvIdeal.Value
public import proofs.«01_k».proof.Proof.Gen.ConvRefIdeal.Run
public import proofs.«01_k».proof.Proof.Gen.Hgrn.Frame
public import proofs.«01_k».proof.Proof.Gen.HgrnIdeal.Value
public import proofs.«01_k».proof.Proof.Gen.HgrnRefIdeal.Run
public import Idealize.ShloMosaic.Adequacy
public import Idealize.ShloMosaic.Init
public import Idealize.ShloMosaic.Lib.Quiescent
public import proofs.«01_k».proof.Proof.FfnValue
public import proofs.«01_k».proof.Proof.FfnRef
public import proofs.«01_k».proof.Proof.MlstmValue
public import proofs.«01_k».proof.Proof.MlstmRef
public import proofs.«01_k».proof.Proof.MlstmPre
public import proofs.«01_k».proof.Proof.PostValue
public import proofs.«01_k».proof.Proof.PostRef
public import proofs.«01_k».proof.Proof.PostPre
public import proofs.«01_k».proof.Proof.LnValue
public import proofs.«01_k».proof.Proof.LnRef
public import proofs.«01_k».proof.Proof.LnPre
public import proofs.«01_k».proof.Proof.ConvValue
public import proofs.«01_k».proof.Proof.ConvRef
public import proofs.«01_k».proof.Proof.HgrnValue
public import proofs.«01_k».proof.Proof.HgrnRef
public import proofs.«01_k».proof.Proof.HgrnPre

@[expose] public section

noncomputable section

namespace Cert.Proof

open Idealize.ShloMosaic Idealize.SL.Sem

/-- The feed-forward reference ends. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The feed-forward call and its reference have the same value. -/
theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  simp only [hagree c]
  funext i
  obtain ⟨b, e, r, d, rfl⟩ : ∃ (b : Fin 2) (e : Fin 16) (r : Fin 1024) (d : Fin 2048), i = ix4 b e r d := ⟨i 0, i 1, i 2, i 3, eq_ix4 i⟩
  exact (Cert.FfnRefIdeal.Value.ref_apply _ _ _ _ _ b e r d).trans (Cert.FfnIdeal.Value.G5_apply m c b e r d).symm

/-- The projection's reference ends. -/
theorem quiescent_InprojRefIdeal : quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

/-- The input projection's result array holds, at every index, what its reference computes. -/
theorem algebraic_InprojIdeal_InprojRefIdeal : algebraic_InprojIdeal_InprojRefIdeal := by
  intro m ρ m' ρ' _ hagree
  refine ⟨_, Cert.InprojIdeal.Value.run_blocks (F := Ideal) m ρ, ?_⟩
  refine (θ_run Cert.InprojRefIdeal.defs _ _).mono (fun _ h c => ⟨?_, (h c).2⟩) (Cert.InprojRefIdeal.Value.run (F := Ideal) m' ρ')
  rw [(h c).1, Cert.InprojIdeal.Value.final m c]
  obtain ⟨h0, h1, h2⟩ := hagree c
  funext i
  obtain ⟨r, e, rfl⟩ : ∃ (r : Fin 16384) (e : Fin 12288), i = ix2 r e := ⟨i 0, i 1, eq_ix2 i⟩
  refine (Cert.InprojRefIdeal.Value.cut_apply _ r e).trans ((Cert.InprojRefIdeal.Value.full_apply _ _ _ r _).trans ?_)
  rw [h0, h1, h2]
  rfl

/-- The mLSTM reference ends. -/
theorem quiescent_MlstmRefIdeal : quiescent_MlstmRefIdeal := fun m ρ _ =>
  (θ_run Cert.MlstmRefIdeal.defs _ _).mono (fun r h => ⟨fun c => (h c).2, sem_eq_zero_of_no_sems (by decide) r.2⟩)
    (Cert.MlstmRefIdeal.Value.run (F := Ideal) m ρ)

/-- The gated recurrence's result array holds, at every index, what its reference computes, where every entry that the
    call reads is a real number. -/
theorem algebraic_MlstmIdeal_MlstmRefIdeal [Cert.Pre_finite_mlstm.Facts] : algebraic_MlstmIdeal_MlstmRefIdeal_pre_finite_mlstm := by
  intro m ρ m' ρ' hpre hagree
  refine ⟨_, Cert.MlstmIdeal.Value.run_blocks (F := Ideal) m ρ, ?_⟩
  refine (θ_run Cert.MlstmRefIdeal.defs _ _).mono (fun _ h c => ⟨?_, (h c).2⟩) (Cert.MlstmRefIdeal.Value.run (F := Ideal) m' ρ')
  obtain ⟨h0, h1, h2⟩ := hagree c
  have hR : Cert.MlstmSeq.Real (Cert.MlstmIdeal.Value.xa m c) (Cert.MlstmIdeal.Value.ya m c) (Cert.MlstmIdeal.Value.ga m c) :=
    Cert.Pre_finite_mlstm.real (hpre c)
  have ex : Cert.MlstmRefIdeal.Value.xr m' c = Cert.MlstmIdeal.Value.xa m c := funext fun r => funext fun l => congrFun h0 (ix2 r l)
  have ey : Cert.MlstmRefIdeal.Value.yr m' c = Cert.MlstmIdeal.Value.ya m c := funext fun r => funext fun l => congrFun h1 (ix2 r l)
  have eg : Cert.MlstmRefIdeal.Value.gr m' c = Cert.MlstmIdeal.Value.ga m c := funext fun r => funext fun l => congrFun h2 (ix2 r l)
  rw [(h c).1, Cert.MlstmIdeal.Value.final m c hR, Cert.MlstmRefIdeal.Value.result (by rw [ex, ey, eg]; exact hR), ex, ey, eg]
  rfl

/-- The reference of the mixer's end ends. -/
theorem quiescent_PostRefIdeal : quiescent_PostRefIdeal := fun m ρ _ =>
  (θ_run Cert.PostRefIdeal.defs _ _).mono (fun r h => ⟨fun c => (h c).2.2.2, sem_eq_zero_of_no_sems (by decide) r.2⟩)
    (Cert.PostRefIdeal.Value.run (F := Ideal) m ρ)

/-- The three result arrays of the mixer's end hold, at every index, what its reference computes, where the norm's
    scales and offsets and the router's weights are real numbers. -/
theorem algebraic_PostIdeal_PostRefIdeal [Cert.Pre_finite_post.Facts] : algebraic_PostIdeal_PostRefIdeal_pre_finite_post := by
  intro m ρ m' ρ' hpre hagree
  refine ⟨_, _, _, Cert.PostIdeal.Value.run_blocks (F := Ideal) m ρ, ?_⟩
  refine (θ_run Cert.PostRefIdeal.defs _ _).mono (fun _ h c => ?_) (Cert.PostRefIdeal.Value.run (F := Ideal) m' ρ')
  obtain ⟨h0, h1, h2, h3, h4, h5, h6, h7, h8, h9, h10, h11⟩ := hagree c
  have hA : (Cert.PostIdeal.Value.args m c).Real := Cert.Pre_finite_post.real _ (hpre c)
  have e : Cert.PostRefIdeal.Value.args (StableHlo.launchContents m' c) = Cert.PostIdeal.Value.args m c := by
    refine (Cert.PostMath.Args.mk.injEq _ _ _ _ _ _ _ _ _ _ _ _ _ _ _ _ _ _ _ _ _ _ _ _).mpr ?_
    exact ⟨h0, h1, h2, h3, h4, h5, h6, h7, h8, h9, h10, h11⟩
  refine ⟨?_, ?_, ?_, (h c).2.2.2⟩
  · rw [(h c).1, Cert.PostIdeal.Value.final16 m c, ← e]
    funext i
    obtain ⟨r, d, rfl⟩ : ∃ (r : Fin 16384) (d : Fin 2048), i = ix2 r d := ⟨i 0, i 1, eq_ix2 i⟩
    exact Cert.PostRefIdeal.Value.v106_apply _ r d
  · rw [(h c).2.1, Cert.PostIdeal.Value.final17 m c, ← e]
    funext i
    obtain ⟨r, d, rfl⟩ : ∃ (r : Fin 16384) (d : Fin 2048), i = ix2 r d := ⟨i 0, i 1, eq_ix2 i⟩
    exact Cert.PostRefIdeal.Value.v106_apply _ r d
  · rw [(h c).2.2.1, Cert.PostIdeal.Value.final18 m c hA, ← e]
    funext i
    obtain ⟨r, d, rfl⟩ : ∃ (r : Fin 16384) (d : Fin 128), i = ix2 r d := ⟨i 0, i 1, eq_ix2 i⟩
    exact Cert.PostRefIdeal.Value.aff_apply _ r _ (Cert.PostRefIdeal.Value.soft_apply _ r) d

/-- The entry norm's reference ends. -/
theorem quiescent_LnRefIdeal : quiescent_LnRefIdeal := fun m ρ _ =>
  (θ_run Cert.LnRefIdeal.defs _ _).mono (fun r h => ⟨fun c => (h c).2.2.2, sem_eq_zero_of_no_sems (by decide) r.2⟩)
    (Cert.LnRefIdeal.Value.run (F := Ideal) m ρ)

/-- The three result arrays of the entry norm hold, at every index, what its reference computes, where the norm's scales and
    offsets and the gates' weights are real numbers. -/
theorem algebraic_LnIdeal_LnRefIdeal [Cert.Pre_finite_ln.Facts] : algebraic_LnIdeal_LnRefIdeal_pre_finite_ln := by
  intro m ρ m' ρ' hpre hagree
  refine ⟨_, _, _, Cert.LnIdeal.Value.run_blocks (F := Ideal) m ρ, ?_⟩
  refine (θ_run Cert.LnRefIdeal.defs _ _).mono (fun _ h c => ?_) (Cert.LnRefIdeal.Value.run (F := Ideal) m' ρ')
  obtain ⟨h0, h1, h2, h3, h4⟩ := hagree c
  have hA : (Cert.LnIdeal.Value.args m c).Real := Cert.Pre_finite_ln.real _ (hpre c)
  refine ⟨?_, ?_, ?_, (h c).2.2.2⟩
  · rw [(h c).1, Cert.LnIdeal.Value.final6 m c, h0, h1, h2]
    funext i
    obtain ⟨r, d, rfl⟩ : ∃ (r : Fin 16384) (d : Fin 2048), i = ix2 r d := ⟨i 0, i 1, eq_ix2 i⟩
    exact Cert.LnRefIdeal.Value.h_apply (Cert.LnIdeal.Value.args m c) r d
  · rw [(h c).2.1, Cert.LnIdeal.Value.final7 m c, h0, h1, h2]
    funext i
    obtain ⟨r, d, rfl⟩ : ∃ (r : Fin 16384) (d : Fin 2048), i = ix2 r d := ⟨i 0, i 1, eq_ix2 i⟩
    exact Cert.LnRefIdeal.Value.h_apply (Cert.LnIdeal.Value.args m c) r d
  · rw [(h c).2.2.1, Cert.LnIdeal.Value.final8 m c hA, h0, h1, h2, h3, h4]
    funext i
    obtain ⟨r, d, rfl⟩ : ∃ (r : Fin 16384) (d : Fin 128), i = ix2 r d := ⟨i 0, i 1, eq_ix2 i⟩
    exact Cert.LnRefIdeal.Value.gates_apply (Cert.LnIdeal.Value.args m c) r d

/-- The convolution's reference ends. -/
theorem quiescent_ConvRefIdeal : quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The convolution's result array holds, at every index, what its reference computes. -/
theorem algebraic_ConvIdeal_ConvRefIdeal : algebraic_ConvIdeal_ConvRefIdeal := by
  intro m ρ m' ρ' _ hagree
  refine ⟨_, Cert.ConvIdeal.Value.run_blocks (F := Ideal) m ρ, ?_⟩
  refine (θ_run Cert.ConvRefIdeal.defs _ _).mono (fun _ h c => ⟨?_, (h c).2⟩) (Cert.ConvRefIdeal.Value.run (F := Ideal) m' ρ')
  obtain ⟨h0, h1⟩ := hagree c
  rw [(h c).1, Cert.ConvIdeal.Value.final m c]
  unfold Cert.ConvRefIdeal.Value.res_main_v46
  rw [h0, h1]
  funext i
  obtain ⟨r, l, rfl⟩ : ∃ (r : Fin 16384) (l : Fin 1024), i = ix2 r l := ⟨i 0, i 1, eq_ix2 i⟩
  exact Cert.ConvRefIdeal.Value.out_apply (Cert.ConvIdeal.Value.args m c) r l

/-- The gated scan's reference ends. -/
theorem quiescent_HgrnRefIdeal : quiescent_HgrnRefIdeal := fun m ρ _ =>
  (θ_run Cert.HgrnRefIdeal.defs _ _).mono (fun r h => ⟨fun c => (h c).2, sem_eq_zero_of_no_sems (by decide) r.2⟩)
    (Cert.HgrnRefIdeal.Value.run (F := Ideal) m ρ)

/-- The gated scan's result array holds, at every index, what its reference computes, where every entry that the call reads
    is a real number and the gates' lower bounds are at least zero. -/
theorem algebraic_HgrnIdeal_HgrnRefIdeal [Cert.Pre_positive_hgrn.Facts] : algebraic_HgrnIdeal_HgrnRefIdeal_pre_positive_hgrn := by
  intro m ρ m' ρ' hpre hagree
  refine ⟨_, Cert.HgrnIdeal.Value.run_blocks (F := Ideal) m ρ, ?_⟩
  refine (θ_run Cert.HgrnRefIdeal.defs _ _).mono (fun _ h c => ⟨?_, (h c).2⟩) (Cert.HgrnRefIdeal.Value.run (F := Ideal) m' ρ')
  obtain ⟨h0, h1⟩ := hagree c
  have hR : Cert.HgrnSeq.Real (Cert.HgrnIdeal.Value.ya m c) (Cert.HgrnIdeal.Value.la m c) :=
    Cert.Pre_positive_hgrn.real (hpre c).1 (hpre c).2
  have ey : Cert.HgrnRefIdeal.Value.yr m' c = Cert.HgrnIdeal.Value.ya m c := funext fun r => funext fun l => congrFun h0 (ix2 r l)
  have ew : Cert.HgrnRefIdeal.Value.wr m' c = Cert.HgrnIdeal.Value.la m c := funext fun d => funext fun l => congrFun h1 (ix3 d 0 l)
  rw [(h c).1, Cert.HgrnIdeal.Value.final m c hR, Cert.HgrnRefIdeal.Value.result (by rw [ey, ew]; exact hR), ey, ew]
  rfl

/-- All the claims. -/
theorem claim : Cert.Claim := ⟨Cert.Ffn.Gen.facts, Cert.FfnIdeal.Gen.facts, Cert.FfnRefIdeal.Gen.facts,
  Cert.Inproj.Gen.facts, Cert.InprojIdeal.Gen.facts, Cert.InprojRefIdeal.Gen.facts,
  Cert.Mlstm.Gen.facts, Cert.MlstmIdeal.Gen.facts, Cert.MlstmRefIdeal.Gen.facts,
  Cert.Post.Gen.facts, Cert.PostIdeal.Gen.facts, Cert.PostRefIdeal.Gen.facts,
  Cert.Ln.Gen.facts, Cert.LnIdeal.Gen.facts, Cert.LnRefIdeal.Gen.facts,
  Cert.Conv.Gen.facts, Cert.ConvIdeal.Gen.facts, Cert.ConvRefIdeal.Gen.facts,
  Cert.Hgrn.Gen.facts, Cert.HgrnIdeal.Gen.facts, Cert.HgrnRefIdeal.Gen.facts,
  Cert.Pre_finite_mlstm.facts, Cert.Pre_finite_post.facts, Cert.Pre_finite_ln.facts, Cert.Pre_positive_hgrn.facts,
  fun m ρ _ => Cert.Ffn.Gen.frame m ρ, fun m ρ _ => Cert.FfnIdeal.Gen.frame m ρ, quiescent_FfnRefIdeal,
  fun m ρ _ => Cert.Inproj.Gen.frame m ρ, fun m ρ _ => Cert.InprojIdeal.Gen.frame m ρ, quiescent_InprojRefIdeal,
  fun m ρ _ => Cert.Mlstm.Gen.frame m ρ, fun m ρ _ => Cert.MlstmIdeal.Gen.frame m ρ, fun m ρ _ => Cert.MlstmIdeal.Gen.frame m ρ,
  quiescent_MlstmRefIdeal, fun m ρ _ => quiescent_MlstmRefIdeal m ρ trivial,
  fun m ρ _ => Cert.Post.Gen.frame m ρ, fun m ρ _ => Cert.PostIdeal.Gen.frame m ρ, fun m ρ _ => Cert.PostIdeal.Gen.frame m ρ,
  quiescent_PostRefIdeal, fun m ρ _ => quiescent_PostRefIdeal m ρ trivial,
  fun m ρ _ => Cert.Ln.Gen.frame m ρ, fun m ρ _ => Cert.LnIdeal.Gen.frame m ρ, fun m ρ _ => Cert.LnIdeal.Gen.frame m ρ,
  quiescent_LnRefIdeal, fun m ρ _ => quiescent_LnRefIdeal m ρ trivial,
  fun m ρ _ => Cert.Conv.Gen.frame m ρ, fun m ρ _ => Cert.ConvIdeal.Gen.frame m ρ, quiescent_ConvRefIdeal,
  fun m ρ _ => Cert.Hgrn.Gen.frame m ρ, fun m ρ _ => Cert.HgrnIdeal.Gen.frame m ρ, fun m ρ _ => Cert.HgrnIdeal.Gen.frame m ρ,
  quiescent_HgrnRefIdeal, fun m ρ _ => quiescent_HgrnRefIdeal m ρ trivial,
  (trivial : preserves_Ffn_FfnIdeal), algebraic_FfnIdeal_FfnRefIdeal,
  (trivial : preserves_Inproj_InprojIdeal), algebraic_InprojIdeal_InprojRefIdeal,
  (trivial : preserves_Mlstm_MlstmIdeal), @algebraic_MlstmIdeal_MlstmRefIdeal Cert.Pre_finite_mlstm.facts,
  (trivial : preserves_Post_PostIdeal), @algebraic_PostIdeal_PostRefIdeal Cert.Pre_finite_post.facts,
  (trivial : preserves_Ln_LnIdeal), @algebraic_LnIdeal_LnRefIdeal Cert.Pre_finite_ln.facts,
  (trivial : preserves_Conv_ConvIdeal), algebraic_ConvIdeal_ConvRefIdeal,
  (trivial : preserves_Hgrn_HgrnIdeal), @algebraic_HgrnIdeal_HgrnRefIdeal Cert.Pre_positive_hgrn.facts⟩

end Cert.Proof

end
